-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.bf16_pair.BufferStatement Cert.KernelIdeal.S2x512x2x512 Cert.KernelIdeal.S2x512x1x512
  ∧ IdealRules.bf16_pair.Statement Cert.KernelIdeal.S1x512x2x512 Cert.KernelIdeal.S1x512x1x512
  ∧ IdealRules.bf16_pair.SelectZeroStatement Cert.KernelIdeal.S1x512x512
  ∧ IdealRules.bf16_pair.Statement Cert.KernelIdeal.S1x256x2x256 Cert.KernelIdeal.S1x256x1x256
  ∧ IdealRules.bf16_pair.Statement Cert.KernelIdeal.S512x256 Cert.KernelIdeal.S256x256
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S1x8x2x128 Cert.KernelIdeal.S1x8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)) (v4 : (c : Dev Cert.Kernel2Ideal.nD) → Buf (Elt Ideal) ((c.tc : Thread Cert.Kernel2Ideal.nD Cert.Kernel2Ideal.τ).loc Cert.Kernel2Ideal.main_v20_4)) (v5 : (c : Dev Cert.Kernel2Ideal.nD) → Buf (Elt Ideal) ((c.tc : Thread Cert.Kernel2Ideal.nD Cert.Kernel2Ideal.τ).loc Cert.Kernel2Ideal.main_v20_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_v20_4) = v4 c
          ∧ r.2.mem ((c.tc : Thread Cert.Kernel2Ideal.nD Cert.Kernel2Ideal.τ).loc Cert.Kernel2Ideal.main_v20_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v78) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_v114) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S512x65536 : Shape := ⟨2, ![512, 65536]⟩
abbrev S8192x1024 : Shape := ⟨2, ![8192, 1024]⟩
abbrev S16x512x1024 : Shape := ⟨3, ![16, 512, 1024]⟩
abbrev S512x1024x128 : Shape := ⟨3, ![512, 1024, 128]⟩
abbrev S8x8192x1024 : Shape := ⟨3, ![8, 8192, 1024]⟩
abbrev S1024 : Shape := ⟨1, ![1024]⟩
abbrev S1x1024 : Shape := ⟨2, ![1, 1024]⟩
abbrev S8x1024 : Shape := ⟨2, ![8, 1024]⟩
abbrev S65536x1024 : Shape := ⟨2, ![65536, 1024]⟩
abbrev S512x512 : Shape := ⟨2, ![512, 512]⟩
abbrev S512x1024 : Shape := ⟨2, ![512, 1024]⟩
abbrev S1x512x1024 : Shape := ⟨3, ![1, 512, 1024]⟩
abbrev S4x1024x128 : Shape := ⟨3, ![4, 1024, 128]⟩
abbrev S1024x512 : Shape := ⟨2, ![1024, 512]⟩
abbrev S2x256x512 : Shape := ⟨3, ![2, 256, 512]⟩
abbrev S2x512x512 : Shape := ⟨3, ![2, 512, 512]⟩
abbrev S1x512x512 : Shape := ⟨3, ![1, 512, 512]⟩
abbrev S128x1024 : Shape := ⟨2, ![128, 1024]⟩
abbrev S256x1024 : Shape := ⟨2, ![256, 1024]⟩
abbrev S512x256 : Shape := ⟨2, ![512, 256]⟩
abbrev S1024x256 : Shape := ⟨2, ![1024, 256]⟩
abbrev S256x256 : Shape := ⟨2, ![256, 256]⟩
abbrev S1x256x256 : Shape := ⟨3, ![1, 256, 256]⟩
abbrev S1x256x512 : Shape := ⟨3, ![1, 256, 512]⟩
abbrev S256x512 : Shape := ⟨2, ![256, 512]⟩
abbrev S8x128 : Shape := ⟨2, ![8, 128]⟩
abbrev S16x128 : Shape := ⟨2, ![16, 128]⟩
abbrev S1x8x128 : Shape := ⟨3, ![1, 8, 128]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S512x65536, .i32⟩
  | .hbm, ⟨1, _⟩ => ⟨S8192x1024, .i32⟩
  | .hbm, ⟨2, _⟩ => ⟨S16x512x1024, .i32⟩
  | .hbm, ⟨3, _⟩ => ⟨S512x1024x128, .i32⟩
  | .hbm, ⟨4, _⟩ => ⟨S512x1024x128, .i32⟩
  | .hbm, ⟨5, _⟩ => ⟨S512x65536, .i32⟩
  | .hbm, ⟨6, _⟩ => ⟨S8x8192x1024, .f32⟩
  | .hbm, ⟨7, _⟩ => ⟨S1024, .f32⟩
  | .hbm, ⟨8, _⟩ => ⟨S1x1024, .f32⟩
  | .hbm, ⟨9, _⟩ => ⟨S8x1024, .f32⟩
  | .hbm, ⟨10, _⟩ => ⟨S65536x1024, .f32⟩
  | .hbm, ⟨11, _⟩ => ⟨S65536x1024, .f32⟩
  | .local _ .vmem, ⟨0, _⟩ => ⟨S512x512, .i32⟩
  | .local _ .vmem, ⟨1, _⟩ => ⟨S512x512, .i32⟩
  | .local _ .vmem, ⟨2, _⟩ => ⟨S512x1024, .i32⟩
  | .local _ .vmem, ⟨3, _⟩ => ⟨S512x1024, .i32⟩
  | .local _ .vmem, ⟨4, _⟩ => ⟨S1x512x1024, .i32⟩
  | .local _ .vmem, ⟨5, _⟩ => ⟨S1x512x1024, .i32⟩
  | .local _ .vmem, ⟨6, _⟩ => ⟨S4x1024x128, .i32⟩
  | .local _ .vmem, ⟨7, _⟩ => ⟨S4x1024x128, .i32⟩
  | .local _ .vmem, ⟨8, _⟩ => ⟨S4x1024x128, .i32⟩
  | .local _ .vmem, ⟨9, _⟩ => ⟨S4x1024x128, .i32⟩
  | .local _ .vmem, ⟨10, _⟩ => ⟨S512x512, .i32⟩
  | .local _ .vmem, ⟨11, _⟩ => ⟨S512x512, .i32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .f32⟩
  | .local _ .vmem, ⟨18, _⟩ => ⟨S2x256x512, .f32⟩
  | .local _ .vmem, ⟨19, _⟩ => ⟨S2x512x512, .i32⟩
  | _, _ => ⟨S512x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![2049], ![false]⟩

def k0_off1 (i : grid0.Coords) : Fin 3 → Nat :=
  let c1_i32_31 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v50 : BitVec 32 := Scalar.subi c1_i32_31 v19
  let v51 : Index := Scalar.indexCast v50
  let c0_32 : Index := 0#32
  let c0_33 : Index := 0#32
  ![v51.toNat, 0, 0]
@[reducible] def k0_t1_loop : Scf.Loop 32 :=
  let c0_i32_44 : BitVec 32 := 0#32
  let c16_i32_45 : BitVec 32 := 16#32
  let v68 : BitVec 32 := Scalar.addi c0_i32_44 c16_i32_45
  let c1_i32_46 : BitVec 32 := 1#32
  ⟨c0_i32_44, v68, c1_i32_46⟩
def k0_mult1 (k0_t1 : Fin k0_t1_loop.trips) : BitVec 32 :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult2 (k0_t1 : Fin k0_t1_loop.trips) : BitVec 32 :=
  let c0_i32_222 : BitVec 32 := 0#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off2 (k0_t1 : Fin k0_t1_loop.trips) (c0_i32_222 : BitVec 32) : Fin 2 → Nat :=
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off3 (i : grid0.Coords) (k0_t1 : Fin k0_t1_loop.trips) (c0_i32_224 : BitVec 32) : Fin 3 → Nat :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c0_i32_220 : BitVec 32 := 0#32
  let c4_i32 : BitVec 32 := 4#32
  let v234 : BitVec 32 := Scalar.divsi v232 c4_i32
  let v238 : BitVec 32 := Scalar.addi c0_i32_220 v234
  let v248 : BitVec 32 := Scalar.addi v247 v238
  let v250 : Index := Scalar.indexCast v248
  let c0_225 : Index := 0#32
  ![v249.toNat, v250.toNat, 0]
def k0_mult3 (k0_t1 : Fin k0_t1_loop.trips) : BitVec 32 :=
  let c64_i32 : BitVec 32 := 64#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult4 (k0_t1 : Fin k0_t1_loop.trips) : BitVec 32 :=
  let c128_i32_239 : BitVec 32 := 128#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult5 (k0_t1 : Fin k0_t1_loop.trips) : BitVec 32 :=
  let c192_i32 : BitVec 32 := 192#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult6 (k0_t1 : Fin k0_t1_loop.trips) : BitVec 32 :=
  let c256_i32_254 : BitVec 32 := 256#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult7 (k0_t1 : Fin k0_t1_loop.trips) : BitVec 32 :=
  let c320_i32 : BitVec 32 := 320#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult8 (k0_t1 : Fin k0_t1_loop.trips) : BitVec 32 :=
  let c384_i32_269 : BitVec 32 := 384#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult9 (k0_t1 : Fin k0_t1_loop.trips) : BitVec 32 :=
  let c448_i32 : BitVec 32 := 448#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult10 (k0_t1 : Fin k0_t1_loop.trips) : BitVec 32 :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off4 (k0_t1 : Fin k0_t1_loop.trips) (c0_i32_285 : BitVec 32) : Fin 3 → Nat :=
  let c0_287 : Index := 0#32
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult11 (k0_t1 : Fin k0_t1_loop.trips) : BitVec 32 :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult12 (k0_t1 : Fin k0_t1_loop.trips) : BitVec 32 :=
  let c0_i32_296 : BitVec 32 := 0#32
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off5 (i : grid0.Coords) (k0_t1 : Fin k0_t1_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c0_i32_296 : BitVec 32 := 0#32
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t2_loop : Scf.Loop 32 :=
  let c16_i32_64 : BitVec 32 := 16#32
  let c32_i32 : BitVec 32 := 32#32
  let v91 : BitVec 32 := Scalar.addi c16_i32_64 c32_i32
  let c1_i32_65 : BitVec 32 := 1#32
  ⟨c16_i32_64, v91, c1_i32_65⟩
def k0_mult13 (k0_t2 : Fin k0_t2_loop.trips) : BitVec 32 :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult14 (k0_t2 : Fin k0_t2_loop.trips) : BitVec 32 :=
  let c0_i32_222 : BitVec 32 := 0#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off6 (k0_t2 : Fin k0_t2_loop.trips) (c0_i32_222 : BitVec 32) : Fin 2 → Nat :=
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off7 (i : grid0.Coords) (k0_t2 : Fin k0_t2_loop.trips) (c0_i32_224 : BitVec 32) : Fin 3 → Nat :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c0_i32_220 : BitVec 32 := 0#32
  let c4_i32 : BitVec 32 := 4#32
  let v234 : BitVec 32 := Scalar.divsi v232 c4_i32
  let v238 : BitVec 32 := Scalar.addi c0_i32_220 v234
  let v248 : BitVec 32 := Scalar.addi v247 v238
  let v250 : Index := Scalar.indexCast v248
  let c0_225 : Index := 0#32
  ![v249.toNat, v250.toNat, 0]
def k0_mult15 (k0_t2 : Fin k0_t2_loop.trips) : BitVec 32 :=
  let c64_i32 : BitVec 32 := 64#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult16 (k0_t2 : Fin k0_t2_loop.trips) : BitVec 32 :=
  let c128_i32_239 : BitVec 32 := 128#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult17 (k0_t2 : Fin k0_t2_loop.trips) : BitVec 32 :=
  let c192_i32 : BitVec 32 := 192#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult18 (k0_t2 : Fin k0_t2_loop.trips) : BitVec 32 :=
  let c256_i32_254 : BitVec 32 := 256#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult19 (k0_t2 : Fin k0_t2_loop.trips) : BitVec 32 :=
  let c320_i32 : BitVec 32 := 320#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult20 (k0_t2 : Fin k0_t2_loop.trips) : BitVec 32 :=
  let c384_i32_269 : BitVec 32 := 384#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult21 (k0_t2 : Fin k0_t2_loop.trips) : BitVec 32 :=
  let c448_i32 : BitVec 32 := 448#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult22 (k0_t2 : Fin k0_t2_loop.trips) : BitVec 32 :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off8 (k0_t2 : Fin k0_t2_loop.trips) (c0_i32_285 : BitVec 32) : Fin 3 → Nat :=
  let c0_287 : Index := 0#32
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult23 (k0_t2 : Fin k0_t2_loop.trips) : BitVec 32 :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult24 (k0_t2 : Fin k0_t2_loop.trips) : BitVec 32 :=
  let c0_i32_296 : BitVec 32 := 0#32
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off9 (i : grid0.Coords) (k0_t2 : Fin k0_t2_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c0_i32_296 : BitVec 32 := 0#32
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
def k0_off10 (i : grid0.Coords) : Fin 3 → Nat :=
  let c1_i32_72 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v96 : BitVec 32 := Scalar.subi c1_i32_72 v19
  let v97 : Index := Scalar.indexCast v96
  let c0_73 : Index := 0#32
  let c256_74 : Index := 256#32
  ![v97.toNat, 0, 256]
@[reducible] def k0_t3_loop : Scf.Loop 32 :=
  let c48_i32 : BitVec 32 := 48#32
  let c16_i32_86 : BitVec 32 := 16#32
  let v114 : BitVec 32 := Scalar.addi c48_i32 c16_i32_86
  let c1_i32_87 : BitVec 32 := 1#32
  ⟨c48_i32, v114, c1_i32_87⟩
def k0_mult25 (k0_t3 : Fin k0_t3_loop.trips) : BitVec 32 :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult26 (k0_t3 : Fin k0_t3_loop.trips) : BitVec 32 :=
  let c0_i32_222 : BitVec 32 := 0#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off11 (k0_t3 : Fin k0_t3_loop.trips) (c0_i32_222 : BitVec 32) : Fin 2 → Nat :=
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off12 (i : grid0.Coords) (k0_t3 : Fin k0_t3_loop.trips) (c0_i32_224 : BitVec 32) : Fin 3 → Nat :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c0_i32_220 : BitVec 32 := 0#32
  let c4_i32 : BitVec 32 := 4#32
  let v234 : BitVec 32 := Scalar.divsi v232 c4_i32
  let v238 : BitVec 32 := Scalar.addi c0_i32_220 v234
  let v248 : BitVec 32 := Scalar.addi v247 v238
  let v250 : Index := Scalar.indexCast v248
  let c0_225 : Index := 0#32
  ![v249.toNat, v250.toNat, 0]
def k0_mult27 (k0_t3 : Fin k0_t3_loop.trips) : BitVec 32 :=
  let c64_i32 : BitVec 32 := 64#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult28 (k0_t3 : Fin k0_t3_loop.trips) : BitVec 32 :=
  let c128_i32_239 : BitVec 32 := 128#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult29 (k0_t3 : Fin k0_t3_loop.trips) : BitVec 32 :=
  let c192_i32 : BitVec 32 := 192#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult30 (k0_t3 : Fin k0_t3_loop.trips) : BitVec 32 :=
  let c256_i32_254 : BitVec 32 := 256#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult31 (k0_t3 : Fin k0_t3_loop.trips) : BitVec 32 :=
  let c320_i32 : BitVec 32 := 320#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult32 (k0_t3 : Fin k0_t3_loop.trips) : BitVec 32 :=
  let c384_i32_269 : BitVec 32 := 384#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult33 (k0_t3 : Fin k0_t3_loop.trips) : BitVec 32 :=
  let c448_i32 : BitVec 32 := 448#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult34 (k0_t3 : Fin k0_t3_loop.trips) : BitVec 32 :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off13 (k0_t3 : Fin k0_t3_loop.trips) (c0_i32_285 : BitVec 32) : Fin 3 → Nat :=
  let c0_287 : Index := 0#32
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult35 (k0_t3 : Fin k0_t3_loop.trips) : BitVec 32 :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult36 (k0_t3 : Fin k0_t3_loop.trips) : BitVec 32 :=
  let c0_i32_296 : BitVec 32 := 0#32
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off14 (i : grid0.Coords) (k0_t3 : Fin k0_t3_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c0_i32_296 : BitVec 32 := 0#32
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t4_loop : Scf.Loop 32 :=
  let c0_i32_89 : BitVec 32 := 0#32
  let c16_i32_90 : BitVec 32 := 16#32
  let v115 : BitVec 32 := Scalar.addi c0_i32_89 c16_i32_90
  let c1_i32_91 : BitVec 32 := 1#32
  ⟨c0_i32_89, v115, c1_i32_91⟩
def k0_mult37 (k0_t4 : Fin k0_t4_loop.trips) : BitVec 32 :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult38 (k0_t4 : Fin k0_t4_loop.trips) : BitVec 32 :=
  let c0_i32_222 : BitVec 32 := 0#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off15 (k0_t4 : Fin k0_t4_loop.trips) (c0_i32_222 : BitVec 32) : Fin 2 → Nat :=
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off16 (i : grid0.Coords) (k0_t4 : Fin k0_t4_loop.trips) (c0_i32_224 : BitVec 32) : Fin 3 → Nat :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult39 (k0_t4 : Fin k0_t4_loop.trips) : BitVec 32 :=
  let c64_i32 : BitVec 32 := 64#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult40 (k0_t4 : Fin k0_t4_loop.trips) : BitVec 32 :=
  let c128_i32_239 : BitVec 32 := 128#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult41 (k0_t4 : Fin k0_t4_loop.trips) : BitVec 32 :=
  let c192_i32 : BitVec 32 := 192#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult42 (k0_t4 : Fin k0_t4_loop.trips) : BitVec 32 :=
  let c256_i32_254 : BitVec 32 := 256#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult43 (k0_t4 : Fin k0_t4_loop.trips) : BitVec 32 :=
  let c320_i32 : BitVec 32 := 320#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult44 (k0_t4 : Fin k0_t4_loop.trips) : BitVec 32 :=
  let c384_i32_269 : BitVec 32 := 384#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult45 (k0_t4 : Fin k0_t4_loop.trips) : BitVec 32 :=
  let c448_i32 : BitVec 32 := 448#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult46 (k0_t4 : Fin k0_t4_loop.trips) : BitVec 32 :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off17 (k0_t4 : Fin k0_t4_loop.trips) (c0_i32_285 : BitVec 32) : Fin 3 → Nat :=
  let c1_287 : Index := 1#32
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult47 (k0_t4 : Fin k0_t4_loop.trips) : BitVec 32 :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult48 (k0_t4 : Fin k0_t4_loop.trips) : BitVec 32 :=
  let c2_i32_296 : BitVec 32 := 2#32
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off18 (i : grid0.Coords) (k0_t4 : Fin k0_t4_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t5_loop : Scf.Loop 32 :=
  let c16_i32_101 : BitVec 32 := 16#32
  let c16_i32_102 : BitVec 32 := 16#32
  let v124 : BitVec 32 := Scalar.addi c16_i32_101 c16_i32_102
  let c1_i32_103 : BitVec 32 := 1#32
  ⟨c16_i32_101, v124, c1_i32_103⟩
def k0_mult49 (k0_t5 : Fin k0_t5_loop.trips) : BitVec 32 :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult50 (k0_t5 : Fin k0_t5_loop.trips) : BitVec 32 :=
  let c0_i32_222 : BitVec 32 := 0#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off19 (k0_t5 : Fin k0_t5_loop.trips) (c0_i32_222 : BitVec 32) : Fin 2 → Nat :=
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off20 (i : grid0.Coords) (k0_t5 : Fin k0_t5_loop.trips) (c0_i32_224 : BitVec 32) : Fin 3 → Nat :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult51 (k0_t5 : Fin k0_t5_loop.trips) : BitVec 32 :=
  let c64_i32 : BitVec 32 := 64#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult52 (k0_t5 : Fin k0_t5_loop.trips) : BitVec 32 :=
  let c128_i32_239 : BitVec 32 := 128#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult53 (k0_t5 : Fin k0_t5_loop.trips) : BitVec 32 :=
  let c192_i32 : BitVec 32 := 192#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult54 (k0_t5 : Fin k0_t5_loop.trips) : BitVec 32 :=
  let c256_i32_254 : BitVec 32 := 256#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult55 (k0_t5 : Fin k0_t5_loop.trips) : BitVec 32 :=
  let c320_i32 : BitVec 32 := 320#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult56 (k0_t5 : Fin k0_t5_loop.trips) : BitVec 32 :=
  let c384_i32_269 : BitVec 32 := 384#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult57 (k0_t5 : Fin k0_t5_loop.trips) : BitVec 32 :=
  let c448_i32 : BitVec 32 := 448#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult58 (k0_t5 : Fin k0_t5_loop.trips) : BitVec 32 :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off21 (k0_t5 : Fin k0_t5_loop.trips) (c0_i32_285 : BitVec 32) : Fin 3 → Nat :=
  let c1_287 : Index := 1#32
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult59 (k0_t5 : Fin k0_t5_loop.trips) : BitVec 32 :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult60 (k0_t5 : Fin k0_t5_loop.trips) : BitVec 32 :=
  let c2_i32_296 : BitVec 32 := 2#32
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off22 (i : grid0.Coords) (k0_t5 : Fin k0_t5_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t6_loop : Scf.Loop 32 :=
  let c32_i32_116 : BitVec 32 := 32#32
  let c16_i32_117 : BitVec 32 := 16#32
  let v139 : BitVec 32 := Scalar.addi c32_i32_116 c16_i32_117
  let c1_i32_118 : BitVec 32 := 1#32
  ⟨c32_i32_116, v139, c1_i32_118⟩
def k0_mult61 (k0_t6 : Fin k0_t6_loop.trips) : BitVec 32 :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult62 (k0_t6 : Fin k0_t6_loop.trips) : BitVec 32 :=
  let c0_i32_222 : BitVec 32 := 0#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off23 (k0_t6 : Fin k0_t6_loop.trips) (c0_i32_222 : BitVec 32) : Fin 2 → Nat :=
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off24 (i : grid0.Coords) (k0_t6 : Fin k0_t6_loop.trips) (c0_i32_224 : BitVec 32) : Fin 3 → Nat :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult63 (k0_t6 : Fin k0_t6_loop.trips) : BitVec 32 :=
  let c64_i32 : BitVec 32 := 64#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult64 (k0_t6 : Fin k0_t6_loop.trips) : BitVec 32 :=
  let c128_i32_239 : BitVec 32 := 128#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult65 (k0_t6 : Fin k0_t6_loop.trips) : BitVec 32 :=
  let c192_i32 : BitVec 32 := 192#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult66 (k0_t6 : Fin k0_t6_loop.trips) : BitVec 32 :=
  let c256_i32_254 : BitVec 32 := 256#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult67 (k0_t6 : Fin k0_t6_loop.trips) : BitVec 32 :=
  let c320_i32 : BitVec 32 := 320#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult68 (k0_t6 : Fin k0_t6_loop.trips) : BitVec 32 :=
  let c384_i32_269 : BitVec 32 := 384#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult69 (k0_t6 : Fin k0_t6_loop.trips) : BitVec 32 :=
  let c448_i32 : BitVec 32 := 448#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult70 (k0_t6 : Fin k0_t6_loop.trips) : BitVec 32 :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off25 (k0_t6 : Fin k0_t6_loop.trips) (c0_i32_285 : BitVec 32) : Fin 3 → Nat :=
  let c1_287 : Index := 1#32
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult71 (k0_t6 : Fin k0_t6_loop.trips) : BitVec 32 :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult72 (k0_t6 : Fin k0_t6_loop.trips) : BitVec 32 :=
  let c2_i32_296 : BitVec 32 := 2#32
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off26 (i : grid0.Coords) (k0_t6 : Fin k0_t6_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t7_loop : Scf.Loop 32 :=
  let c48_i32_128 : BitVec 32 := 48#32
  let c16_i32_129 : BitVec 32 := 16#32
  let v148 : BitVec 32 := Scalar.addi c48_i32_128 c16_i32_129
  let c1_i32_130 : BitVec 32 := 1#32
  ⟨c48_i32_128, v148, c1_i32_130⟩
def k0_mult73 (k0_t7 : Fin k0_t7_loop.trips) : BitVec 32 :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult74 (k0_t7 : Fin k0_t7_loop.trips) : BitVec 32 :=
  let c0_i32_222 : BitVec 32 := 0#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off27 (k0_t7 : Fin k0_t7_loop.trips) (c0_i32_222 : BitVec 32) : Fin 2 → Nat :=
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off28 (i : grid0.Coords) (k0_t7 : Fin k0_t7_loop.trips) (c0_i32_224 : BitVec 32) : Fin 3 → Nat :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult75 (k0_t7 : Fin k0_t7_loop.trips) : BitVec 32 :=
  let c64_i32 : BitVec 32 := 64#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult76 (k0_t7 : Fin k0_t7_loop.trips) : BitVec 32 :=
  let c128_i32_239 : BitVec 32 := 128#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult77 (k0_t7 : Fin k0_t7_loop.trips) : BitVec 32 :=
  let c192_i32 : BitVec 32 := 192#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult78 (k0_t7 : Fin k0_t7_loop.trips) : BitVec 32 :=
  let c256_i32_254 : BitVec 32 := 256#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult79 (k0_t7 : Fin k0_t7_loop.trips) : BitVec 32 :=
  let c320_i32 : BitVec 32 := 320#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult80 (k0_t7 : Fin k0_t7_loop.trips) : BitVec 32 :=
  let c384_i32_269 : BitVec 32 := 384#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult81 (k0_t7 : Fin k0_t7_loop.trips) : BitVec 32 :=
  let c448_i32 : BitVec 32 := 448#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult82 (k0_t7 : Fin k0_t7_loop.trips) : BitVec 32 :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off29 (k0_t7 : Fin k0_t7_loop.trips) (c0_i32_285 : BitVec 32) : Fin 3 → Nat :=
  let c1_287 : Index := 1#32
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult83 (k0_t7 : Fin k0_t7_loop.trips) : BitVec 32 :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult84 (k0_t7 : Fin k0_t7_loop.trips) : BitVec 32 :=
  let c2_i32_296 : BitVec 32 := 2#32
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off30 (i : grid0.Coords) (k0_t7 : Fin k0_t7_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t8_loop : Scf.Loop 32 :=
  let c0_i32_132 : BitVec 32 := 0#32
  let c16_i32_133 : BitVec 32 := 16#32
  let v149 : BitVec 32 := Scalar.addi c0_i32_132 c16_i32_133
  let c1_i32_134 : BitVec 32 := 1#32
  ⟨c0_i32_132, v149, c1_i32_134⟩
def k0_mult85 (k0_t8 : Fin k0_t8_loop.trips) : BitVec 32 :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult86 (k0_t8 : Fin k0_t8_loop.trips) : BitVec 32 :=
  let c0_i32_222 : BitVec 32 := 0#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off31 (k0_t8 : Fin k0_t8_loop.trips) (c0_i32_222 : BitVec 32) : Fin 2 → Nat :=
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off32 (i : grid0.Coords) (k0_t8 : Fin k0_t8_loop.trips) (c0_i32_224 : BitVec 32) : Fin 3 → Nat :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c4_i32_220 : BitVec 32 := 4#32
  let c4_i32 : BitVec 32 := 4#32
  let v234 : BitVec 32 := Scalar.divsi v232 c4_i32
  let v238 : BitVec 32 := Scalar.addi c4_i32_220 v234
  let v248 : BitVec 32 := Scalar.addi v247 v238
  let v250 : Index := Scalar.indexCast v248
  let c0_225 : Index := 0#32
  ![v249.toNat, v250.toNat, 0]
def k0_mult87 (k0_t8 : Fin k0_t8_loop.trips) : BitVec 32 :=
  let c64_i32 : BitVec 32 := 64#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult88 (k0_t8 : Fin k0_t8_loop.trips) : BitVec 32 :=
  let c128_i32_239 : BitVec 32 := 128#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult89 (k0_t8 : Fin k0_t8_loop.trips) : BitVec 32 :=
  let c192_i32 : BitVec 32 := 192#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult90 (k0_t8 : Fin k0_t8_loop.trips) : BitVec 32 :=
  let c256_i32_254 : BitVec 32 := 256#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult91 (k0_t8 : Fin k0_t8_loop.trips) : BitVec 32 :=
  let c320_i32 : BitVec 32 := 320#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult92 (k0_t8 : Fin k0_t8_loop.trips) : BitVec 32 :=
  let c384_i32_269 : BitVec 32 := 384#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult93 (k0_t8 : Fin k0_t8_loop.trips) : BitVec 32 :=
  let c448_i32 : BitVec 32 := 448#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult94 (k0_t8 : Fin k0_t8_loop.trips) : BitVec 32 :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off33 (k0_t8 : Fin k0_t8_loop.trips) (c0_i32_285 : BitVec 32) : Fin 3 → Nat :=
  let c0_287 : Index := 0#32
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult95 (k0_t8 : Fin k0_t8_loop.trips) : BitVec 32 :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult96 (k0_t8 : Fin k0_t8_loop.trips) : BitVec 32 :=
  let c4_i32_296 : BitVec 32 := 4#32
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off34 (i : grid0.Coords) (k0_t8 : Fin k0_t8_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c4_i32_296 : BitVec 32 := 4#32
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
def k0_off35 (i : grid0.Coords) : Fin 3 → Nat :=
  let c1_i32_141 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v154 : BitVec 32 := Scalar.subi c1_i32_141 v19
  let v155 : Index := Scalar.indexCast v154
  let c256_142 : Index := 256#32
  let c0_143 : Index := 0#32
  ![v155.toNat, 256, 0]
@[reducible] def k0_t9_loop : Scf.Loop 32 :=
  let c16_i32_154 : BitVec 32 := 16#32
  let c32_i32_155 : BitVec 32 := 32#32
  let v172 : BitVec 32 := Scalar.addi c16_i32_154 c32_i32_155
  let c1_i32_156 : BitVec 32 := 1#32
  ⟨c16_i32_154, v172, c1_i32_156⟩
def k0_mult97 (k0_t9 : Fin k0_t9_loop.trips) : BitVec 32 :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult98 (k0_t9 : Fin k0_t9_loop.trips) : BitVec 32 :=
  let c0_i32_222 : BitVec 32 := 0#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off36 (k0_t9 : Fin k0_t9_loop.trips) (c0_i32_222 : BitVec 32) : Fin 2 → Nat :=
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off37 (i : grid0.Coords) (k0_t9 : Fin k0_t9_loop.trips) (c0_i32_224 : BitVec 32) : Fin 3 → Nat :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c4_i32_220 : BitVec 32 := 4#32
  let c4_i32 : BitVec 32 := 4#32
  let v234 : BitVec 32 := Scalar.divsi v232 c4_i32
  let v238 : BitVec 32 := Scalar.addi c4_i32_220 v234
  let v248 : BitVec 32 := Scalar.addi v247 v238
  let v250 : Index := Scalar.indexCast v248
  let c0_225 : Index := 0#32
  ![v249.toNat, v250.toNat, 0]
def k0_mult99 (k0_t9 : Fin k0_t9_loop.trips) : BitVec 32 :=
  let c64_i32 : BitVec 32 := 64#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult100 (k0_t9 : Fin k0_t9_loop.trips) : BitVec 32 :=
  let c128_i32_239 : BitVec 32 := 128#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult101 (k0_t9 : Fin k0_t9_loop.trips) : BitVec 32 :=
  let c192_i32 : BitVec 32 := 192#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult102 (k0_t9 : Fin k0_t9_loop.trips) : BitVec 32 :=
  let c256_i32_254 : BitVec 32 := 256#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult103 (k0_t9 : Fin k0_t9_loop.trips) : BitVec 32 :=
  let c320_i32 : BitVec 32 := 320#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult104 (k0_t9 : Fin k0_t9_loop.trips) : BitVec 32 :=
  let c384_i32_269 : BitVec 32 := 384#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult105 (k0_t9 : Fin k0_t9_loop.trips) : BitVec 32 :=
  let c448_i32 : BitVec 32 := 448#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult106 (k0_t9 : Fin k0_t9_loop.trips) : BitVec 32 :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off38 (k0_t9 : Fin k0_t9_loop.trips) (c0_i32_285 : BitVec 32) : Fin 3 → Nat :=
  let c0_287 : Index := 0#32
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult107 (k0_t9 : Fin k0_t9_loop.trips) : BitVec 32 :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult108 (k0_t9 : Fin k0_t9_loop.trips) : BitVec 32 :=
  let c4_i32_296 : BitVec 32 := 4#32
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off39 (i : grid0.Coords) (k0_t9 : Fin k0_t9_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c4_i32_296 : BitVec 32 := 4#32
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t10_loop : Scf.Loop 32 :=
  let c48_i32_177 : BitVec 32 := 48#32
  let c16_i32_178 : BitVec 32 := 16#32
  let v195 : BitVec 32 := Scalar.addi c48_i32_177 c16_i32_178
  let c1_i32_179 : BitVec 32 := 1#32
  ⟨c48_i32_177, v195, c1_i32_179⟩
def k0_mult109 (k0_t10 : Fin k0_t10_loop.trips) : BitVec 32 :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult110 (k0_t10 : Fin k0_t10_loop.trips) : BitVec 32 :=
  let c0_i32_222 : BitVec 32 := 0#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off40 (k0_t10 : Fin k0_t10_loop.trips) (c0_i32_222 : BitVec 32) : Fin 2 → Nat :=
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off41 (i : grid0.Coords) (k0_t10 : Fin k0_t10_loop.trips) (c0_i32_224 : BitVec 32) : Fin 3 → Nat :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c4_i32_220 : BitVec 32 := 4#32
  let c4_i32 : BitVec 32 := 4#32
  let v234 : BitVec 32 := Scalar.divsi v232 c4_i32
  let v238 : BitVec 32 := Scalar.addi c4_i32_220 v234
  let v248 : BitVec 32 := Scalar.addi v247 v238
  let v250 : Index := Scalar.indexCast v248
  let c0_225 : Index := 0#32
  ![v249.toNat, v250.toNat, 0]
def k0_mult111 (k0_t10 : Fin k0_t10_loop.trips) : BitVec 32 :=
  let c64_i32 : BitVec 32 := 64#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult112 (k0_t10 : Fin k0_t10_loop.trips) : BitVec 32 :=
  let c128_i32_239 : BitVec 32 := 128#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult113 (k0_t10 : Fin k0_t10_loop.trips) : BitVec 32 :=
  let c192_i32 : BitVec 32 := 192#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult114 (k0_t10 : Fin k0_t10_loop.trips) : BitVec 32 :=
  let c256_i32_254 : BitVec 32 := 256#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult115 (k0_t10 : Fin k0_t10_loop.trips) : BitVec 32 :=
  let c320_i32 : BitVec 32 := 320#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult116 (k0_t10 : Fin k0_t10_loop.trips) : BitVec 32 :=
  let c384_i32_269 : BitVec 32 := 384#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult117 (k0_t10 : Fin k0_t10_loop.trips) : BitVec 32 :=
  let c448_i32 : BitVec 32 := 448#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult118 (k0_t10 : Fin k0_t10_loop.trips) : BitVec 32 :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off42 (k0_t10 : Fin k0_t10_loop.trips) (c0_i32_285 : BitVec 32) : Fin 3 → Nat :=
  let c0_287 : Index := 0#32
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult119 (k0_t10 : Fin k0_t10_loop.trips) : BitVec 32 :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult120 (k0_t10 : Fin k0_t10_loop.trips) : BitVec 32 :=
  let c4_i32_296 : BitVec 32 := 4#32
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off43 (i : grid0.Coords) (k0_t10 : Fin k0_t10_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c4_i32_296 : BitVec 32 := 4#32
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t11_loop : Scf.Loop 32 :=
  let c0_i32_181 : BitVec 32 := 0#32
  let c16_i32_182 : BitVec 32 := 16#32
  let v196 : BitVec 32 := Scalar.addi c0_i32_181 c16_i32_182
  let c1_i32_183 : BitVec 32 := 1#32
  ⟨c0_i32_181, v196, c1_i32_183⟩
def k0_mult121 (k0_t11 : Fin k0_t11_loop.trips) : BitVec 32 :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult122 (k0_t11 : Fin k0_t11_loop.trips) : BitVec 32 :=
  let c0_i32_221 : BitVec 32 := 0#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  v240
def k0_off44 (k0_t11 : Fin k0_t11_loop.trips) (c0_i32_221 : BitVec 32) : Fin 2 → Nat :=
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off45 (i : grid0.Coords) (k0_t11 : Fin k0_t11_loop.trips) (c0_i32_223 : BitVec 32) : Fin 3 → Nat :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_222 : BitVec 32 := 8#32
  let v246 : BitVec 32 := Scalar.muli v9 c8_i32_222
  let v247 : BitVec 32 := Scalar.addi c0_i32_223 v246
  let c6_i32 : BitVec 32 := 6#32
  let c4_i32 : BitVec 32 := 4#32
  let v234 : BitVec 32 := Scalar.divsi v232 c4_i32
  let v238 : BitVec 32 := Scalar.addi c6_i32 v234
  let v248 : BitVec 32 := Scalar.addi v247 v238
  let v250 : Index := Scalar.indexCast v248
  let c0_224 : Index := 0#32
  ![v249.toNat, v250.toNat, 0]
def k0_mult123 (k0_t11 : Fin k0_t11_loop.trips) : BitVec 32 :=
  let c64_i32 : BitVec 32 := 64#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_229 : BitVec 32 := 8#32
  let v266 : BitVec 32 := Scalar.muli v233 c8_i32_229
  let v267 : BitVec 32 := Scalar.addi c64_i32 v266
  v267
def k0_mult124 (k0_t11 : Fin k0_t11_loop.trips) : BitVec 32 :=
  let c128_i32_238 : BitVec 32 := 128#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_237 : BitVec 32 := 8#32
  let v294 : BitVec 32 := Scalar.muli v233 c8_i32_237
  let v295 : BitVec 32 := Scalar.addi c128_i32_238 v294
  v295
def k0_mult125 (k0_t11 : Fin k0_t11_loop.trips) : BitVec 32 :=
  let c192_i32 : BitVec 32 := 192#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_245 : BitVec 32 := 8#32
  let v322 : BitVec 32 := Scalar.muli v233 c8_i32_245
  let v323 : BitVec 32 := Scalar.addi c192_i32 v322
  v323
def k0_mult126 (k0_t11 : Fin k0_t11_loop.trips) : BitVec 32 :=
  let c256_i32_253 : BitVec 32 := 256#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_252 : BitVec 32 := 8#32
  let v350 : BitVec 32 := Scalar.muli v233 c8_i32_252
  let v351 : BitVec 32 := Scalar.addi c256_i32_253 v350
  v351
def k0_mult127 (k0_t11 : Fin k0_t11_loop.trips) : BitVec 32 :=
  let c320_i32 : BitVec 32 := 320#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_260 : BitVec 32 := 8#32
  let v378 : BitVec 32 := Scalar.muli v233 c8_i32_260
  let v379 : BitVec 32 := Scalar.addi c320_i32 v378
  v379
def k0_mult128 (k0_t11 : Fin k0_t11_loop.trips) : BitVec 32 :=
  let c384_i32_268 : BitVec 32 := 384#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_267 : BitVec 32 := 8#32
  let v406 : BitVec 32 := Scalar.muli v233 c8_i32_267
  let v407 : BitVec 32 := Scalar.addi c384_i32_268 v406
  v407
def k0_mult129 (k0_t11 : Fin k0_t11_loop.trips) : BitVec 32 :=
  let c448_i32 : BitVec 32 := 448#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_275 : BitVec 32 := 8#32
  let v434 : BitVec 32 := Scalar.muli v233 c8_i32_275
  let v435 : BitVec 32 := Scalar.addi c448_i32 v434
  v435
def k0_mult130 (k0_t11 : Fin k0_t11_loop.trips) : BitVec 32 :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let c0_i32_284 : BitVec 32 := 0#32
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  v469
def k0_off46 (k0_t11 : Fin k0_t11_loop.trips) (c0_i32_284 : BitVec 32) : Fin 3 → Nat :=
  let c1_286 : Index := 1#32
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult131 (k0_t11 : Fin k0_t11_loop.trips) : BitVec 32 :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let c128_i32_289 : BitVec 32 := 128#32
  let v485 : BitVec 32 := Scalar.muli v234 c128_i32_289
  let c64_i32_290 : BitVec 32 := 64#32
  let v486 : BitVec 32 := Scalar.addi v485 c64_i32_290
  let c8_i32_218 : BitVec 32 := 8#32
  let v233 : BitVec 32 := Scalar.remsi arg13 c8_i32_218
  let c8_i32_291 : BitVec 32 := 8#32
  let v487 : BitVec 32 := Scalar.muli v233 c8_i32_291
  let v488 : BitVec 32 := Scalar.addi v486 v487
  v488
def k0_mult132 (k0_t11 : Fin k0_t11_loop.trips) : BitVec 32 :=
  let c6_i32_295 : BitVec 32 := 6#32
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  v504
def k0_off47 (i : grid0.Coords) (k0_t11 : Fin k0_t11_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c6_i32_295 : BitVec 32 := 6#32
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
def k0_off48 (i : grid0.Coords) : Fin 3 → Nat :=
  let c1_i32_190 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v201 : BitVec 32 := Scalar.subi c1_i32_190 v19
  let v202 : Index := Scalar.indexCast v201
  let c256_191 : Index := 256#32
  let c256_192 : Index := 256#32
  ![v202.toNat, 256, 256]
@[reducible] def k0_t12_loop : Scf.Loop 32 :=
  let c16_i32_196 : BitVec 32 := 16#32
  let c32_i32_197 : BitVec 32 := 32#32
  let v211 : BitVec 32 := Scalar.addi c16_i32_196 c32_i32_197
  let c1_i32_198 : BitVec 32 := 1#32
  ⟨c16_i32_196, v211, c1_i32_198⟩
def k0_mult133 (k0_t12 : Fin k0_t12_loop.trips) : BitVec 32 :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult134 (k0_t12 : Fin k0_t12_loop.trips) : BitVec 32 :=
  let c0_i32_221 : BitVec 32 := 0#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  v240
def k0_off49 (k0_t12 : Fin k0_t12_loop.trips) (c0_i32_221 : BitVec 32) : Fin 2 → Nat :=
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off50 (i : grid0.Coords) (k0_t12 : Fin k0_t12_loop.trips) (c0_i32_223 : BitVec 32) : Fin 3 → Nat :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_222 : BitVec 32 := 8#32
  let v246 : BitVec 32 := Scalar.muli v9 c8_i32_222
  let v247 : BitVec 32 := Scalar.addi c0_i32_223 v246
  let c6_i32 : BitVec 32 := 6#32
  let c4_i32 : BitVec 32 := 4#32
  let v234 : BitVec 32 := Scalar.divsi v232 c4_i32
  let v238 : BitVec 32 := Scalar.addi c6_i32 v234
  let v248 : BitVec 32 := Scalar.addi v247 v238
  let v250 : Index := Scalar.indexCast v248
  let c0_224 : Index := 0#32
  ![v249.toNat, v250.toNat, 0]
def k0_mult135 (k0_t12 : Fin k0_t12_loop.trips) : BitVec 32 :=
  let c64_i32 : BitVec 32 := 64#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_229 : BitVec 32 := 8#32
  let v266 : BitVec 32 := Scalar.muli v233 c8_i32_229
  let v267 : BitVec 32 := Scalar.addi c64_i32 v266
  v267
def k0_mult136 (k0_t12 : Fin k0_t12_loop.trips) : BitVec 32 :=
  let c128_i32_238 : BitVec 32 := 128#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_237 : BitVec 32 := 8#32
  let v294 : BitVec 32 := Scalar.muli v233 c8_i32_237
  let v295 : BitVec 32 := Scalar.addi c128_i32_238 v294
  v295
def k0_mult137 (k0_t12 : Fin k0_t12_loop.trips) : BitVec 32 :=
  let c192_i32 : BitVec 32 := 192#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_245 : BitVec 32 := 8#32
  let v322 : BitVec 32 := Scalar.muli v233 c8_i32_245
  let v323 : BitVec 32 := Scalar.addi c192_i32 v322
  v323
def k0_mult138 (k0_t12 : Fin k0_t12_loop.trips) : BitVec 32 :=
  let c256_i32_253 : BitVec 32 := 256#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_252 : BitVec 32 := 8#32
  let v350 : BitVec 32 := Scalar.muli v233 c8_i32_252
  let v351 : BitVec 32 := Scalar.addi c256_i32_253 v350
  v351
def k0_mult139 (k0_t12 : Fin k0_t12_loop.trips) : BitVec 32 :=
  let c320_i32 : BitVec 32 := 320#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_260 : BitVec 32 := 8#32
  let v378 : BitVec 32 := Scalar.muli v233 c8_i32_260
  let v379 : BitVec 32 := Scalar.addi c320_i32 v378
  v379
def k0_mult140 (k0_t12 : Fin k0_t12_loop.trips) : BitVec 32 :=
  let c384_i32_268 : BitVec 32 := 384#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_267 : BitVec 32 := 8#32
  let v406 : BitVec 32 := Scalar.muli v233 c8_i32_267
  let v407 : BitVec 32 := Scalar.addi c384_i32_268 v406
  v407
def k0_mult141 (k0_t12 : Fin k0_t12_loop.trips) : BitVec 32 :=
  let c448_i32 : BitVec 32 := 448#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_275 : BitVec 32 := 8#32
  let v434 : BitVec 32 := Scalar.muli v233 c8_i32_275
  let v435 : BitVec 32 := Scalar.addi c448_i32 v434
  v435
def k0_mult142 (k0_t12 : Fin k0_t12_loop.trips) : BitVec 32 :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let c0_i32_284 : BitVec 32 := 0#32
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  v469
def k0_off51 (k0_t12 : Fin k0_t12_loop.trips) (c0_i32_284 : BitVec 32) : Fin 3 → Nat :=
  let c1_286 : Index := 1#32
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult143 (k0_t12 : Fin k0_t12_loop.trips) : BitVec 32 :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let c128_i32_289 : BitVec 32 := 128#32
  let v485 : BitVec 32 := Scalar.muli v234 c128_i32_289
  let c64_i32_290 : BitVec 32 := 64#32
  let v486 : BitVec 32 := Scalar.addi v485 c64_i32_290
  let c8_i32_218 : BitVec 32 := 8#32
  let v233 : BitVec 32 := Scalar.remsi arg13 c8_i32_218
  let c8_i32_291 : BitVec 32 := 8#32
  let v487 : BitVec 32 := Scalar.muli v233 c8_i32_291
  let v488 : BitVec 32 := Scalar.addi v486 v487
  v488
def k0_mult144 (k0_t12 : Fin k0_t12_loop.trips) : BitVec 32 :=
  let c6_i32_295 : BitVec 32 := 6#32
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  v504
def k0_off52 (i : grid0.Coords) (k0_t12 : Fin k0_t12_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c6_i32_295 : BitVec 32 := 6#32
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
@[reducible] def k0_t13_loop : Scf.Loop 32 :=
  let c48_i32_211 : BitVec 32 := 48#32
  let c16_i32_212 : BitVec 32 := 16#32
  let v226 : BitVec 32 := Scalar.addi c48_i32_211 c16_i32_212
  let c1_i32_213 : BitVec 32 := 1#32
  ⟨c48_i32_211, v226, c1_i32_213⟩
def k0_mult145 (k0_t13 : Fin k0_t13_loop.trips) : BitVec 32 :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult146 (k0_t13 : Fin k0_t13_loop.trips) : BitVec 32 :=
  let c0_i32_221 : BitVec 32 := 0#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  v240
def k0_off53 (k0_t13 : Fin k0_t13_loop.trips) (c0_i32_221 : BitVec 32) : Fin 2 → Nat :=
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off54 (i : grid0.Coords) (k0_t13 : Fin k0_t13_loop.trips) (c0_i32_223 : BitVec 32) : Fin 3 → Nat :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_222 : BitVec 32 := 8#32
  let v246 : BitVec 32 := Scalar.muli v9 c8_i32_222
  let v247 : BitVec 32 := Scalar.addi c0_i32_223 v246
  let c6_i32 : BitVec 32 := 6#32
  let c4_i32 : BitVec 32 := 4#32
  let v234 : BitVec 32 := Scalar.divsi v232 c4_i32
  let v238 : BitVec 32 := Scalar.addi c6_i32 v234
  let v248 : BitVec 32 := Scalar.addi v247 v238
  let v250 : Index := Scalar.indexCast v248
  let c0_224 : Index := 0#32
  ![v249.toNat, v250.toNat, 0]
def k0_mult147 (k0_t13 : Fin k0_t13_loop.trips) : BitVec 32 :=
  let c64_i32 : BitVec 32 := 64#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_229 : BitVec 32 := 8#32
  let v266 : BitVec 32 := Scalar.muli v233 c8_i32_229
  let v267 : BitVec 32 := Scalar.addi c64_i32 v266
  v267
def k0_mult148 (k0_t13 : Fin k0_t13_loop.trips) : BitVec 32 :=
  let c128_i32_238 : BitVec 32 := 128#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_237 : BitVec 32 := 8#32
  let v294 : BitVec 32 := Scalar.muli v233 c8_i32_237
  let v295 : BitVec 32 := Scalar.addi c128_i32_238 v294
  v295
def k0_mult149 (k0_t13 : Fin k0_t13_loop.trips) : BitVec 32 :=
  let c192_i32 : BitVec 32 := 192#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_245 : BitVec 32 := 8#32
  let v322 : BitVec 32 := Scalar.muli v233 c8_i32_245
  let v323 : BitVec 32 := Scalar.addi c192_i32 v322
  v323
def k0_mult150 (k0_t13 : Fin k0_t13_loop.trips) : BitVec 32 :=
  let c256_i32_253 : BitVec 32 := 256#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_252 : BitVec 32 := 8#32
  let v350 : BitVec 32 := Scalar.muli v233 c8_i32_252
  let v351 : BitVec 32 := Scalar.addi c256_i32_253 v350
  v351
def k0_mult151 (k0_t13 : Fin k0_t13_loop.trips) : BitVec 32 :=
  let c320_i32 : BitVec 32 := 320#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_260 : BitVec 32 := 8#32
  let v378 : BitVec 32 := Scalar.muli v233 c8_i32_260
  let v379 : BitVec 32 := Scalar.addi c320_i32 v378
  v379
def k0_mult152 (k0_t13 : Fin k0_t13_loop.trips) : BitVec 32 :=
  let c384_i32_268 : BitVec 32 := 384#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_267 : BitVec 32 := 8#32
  let v406 : BitVec 32 := Scalar.muli v233 c8_i32_267
  let v407 : BitVec 32 := Scalar.addi c384_i32_268 v406
  v407
def k0_mult153 (k0_t13 : Fin k0_t13_loop.trips) : BitVec 32 :=
  let c448_i32 : BitVec 32 := 448#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_275 : BitVec 32 := 8#32
  let v434 : BitVec 32 := Scalar.muli v233 c8_i32_275
  let v435 : BitVec 32 := Scalar.addi c448_i32 v434
  v435
def k0_mult154 (k0_t13 : Fin k0_t13_loop.trips) : BitVec 32 :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let c0_i32_284 : BitVec 32 := 0#32
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  v469
def k0_off55 (k0_t13 : Fin k0_t13_loop.trips) (c0_i32_284 : BitVec 32) : Fin 3 → Nat :=
  let c1_286 : Index := 1#32
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult155 (k0_t13 : Fin k0_t13_loop.trips) : BitVec 32 :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let c128_i32_289 : BitVec 32 := 128#32
  let v485 : BitVec 32 := Scalar.muli v234 c128_i32_289
  let c64_i32_290 : BitVec 32 := 64#32
  let v486 : BitVec 32 := Scalar.addi v485 c64_i32_290
  let c8_i32_218 : BitVec 32 := 8#32
  let v233 : BitVec 32 := Scalar.remsi arg13 c8_i32_218
  let c8_i32_291 : BitVec 32 := 8#32
  let v487 : BitVec 32 := Scalar.muli v233 c8_i32_291
  let v488 : BitVec 32 := Scalar.addi v486 v487
  v488
def k0_mult156 (k0_t13 : Fin k0_t13_loop.trips) : BitVec 32 :=
  let c6_i32_295 : BitVec 32 := 6#32
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  v504
def k0_off56 (i : grid0.Coords) (k0_t13 : Fin k0_t13_loop.trips) : Fin 3 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c6_i32_295 : BitVec 32 := 6#32
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, v509.toNat]
def k0_cond3 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_215 : BitVec 32 := 0#32
  let v227 : BitVec 1 := Scalar.cmpi .eq v9 c0_i32_215
  let c0_i32_216 : BitVec 32 := 0#32
  let v228 : BitVec 1 := Scalar.cmpi .sgt arg0 c0_i32_216
  let v229 : BitVec 1 := Scalar.andi v227 v228
  let v230 : BitVec 32 := Scalar.extui v229
  let c0_i32_217 : BitVec 32 := 0#32
  let v231 : BitVec 1 := Scalar.cmpi .ne v230 c0_i32_217
  v231

def cc0_transform_0 (i : grid0.Coords) : Fin 2 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_1 (i : grid0.Coords) : Fin 2 → Nat :=
  let arg0 : BitVec 32 := BitVec.ofNat 32 (i 0).val
  let c2047_i32 : BitVec 32 := 2047#32
  let v0 : BitVec 32 := Scalar.minsi arg0 c2047_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 3 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let c0_i32 : BitVec 32 := 0#32
  let v2 : BitVec 1 := Scalar.cmpi .eq c16_i32 c0_i32
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, c0_i32_6.toNat]

def cc0_transform_3 (i : grid0.Coords) : Fin 3 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_6 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S512x65536 : Shape := ⟨2, ![512, 65536]⟩
abbrev S8192x1024 : Shape := ⟨2, ![8192, 1024]⟩
abbrev S16x512x1024 : Shape := ⟨3, ![16, 512, 1024]⟩
abbrev S512x1024x128 : Shape := ⟨3, ![512, 1024, 128]⟩
abbrev S8x8192x1024 : Shape := ⟨3, ![8, 8192, 1024]⟩
abbrev S1024 : Shape := ⟨1, ![1024]⟩
abbrev S1x1024 : Shape := ⟨2, ![1, 1024]⟩
abbrev S8x1024 : Shape := ⟨2, ![8, 1024]⟩
abbrev S65536x1024 : Shape := ⟨2, ![65536, 1024]⟩
abbrev S512x512 : Shape := ⟨2, ![512, 512]⟩
abbrev S512x1024 : Shape := ⟨2, ![512, 1024]⟩
abbrev S1x512x1024 : Shape := ⟨3, ![1, 512, 1024]⟩
abbrev S4x1024x128 : Shape := ⟨3, ![4, 1024, 128]⟩
abbrev S1024x512 : Shape := ⟨2, ![1024, 512]⟩
abbrev S2x256x512 : Shape := ⟨3, ![2, 256, 512]⟩
abbrev S2x512x512 : Shape := ⟨3, ![2, 512, 512]⟩
abbrev S2x512x2x512 : Shape := ⟨4, ![2, 512, 2, 512]⟩
abbrev S2x512x1x512 : Shape := ⟨4, ![2, 512, 1, 512]⟩
abbrev S1x512x512 : Shape := ⟨3, ![1, 512, 512]⟩
abbrev S1x512x2x512 : Shape := ⟨4, ![1, 512, 2, 512]⟩
abbrev S1x512x1x512 : Shape := ⟨4, ![1, 512, 1, 512]⟩
abbrev S128x1024 : Shape := ⟨2, ![128, 1024]⟩
abbrev S256x1024 : Shape := ⟨2, ![256, 1024]⟩
abbrev S512x256 : Shape := ⟨2, ![512, 256]⟩
abbrev S1024x256 : Shape := ⟨2, ![1024, 256]⟩
abbrev S256x256 : Shape := ⟨2, ![256, 256]⟩
abbrev S1x256x256 : Shape := ⟨3, ![1, 256, 256]⟩
abbrev S1x256x512 : Shape := ⟨3, ![1, 256, 512]⟩
abbrev S256x512 : Shape := ⟨2, ![256, 512]⟩
abbrev S1x256x2x256 : Shape := ⟨4, ![1, 256, 2, 256]⟩
abbrev S1x256x1x256 : Shape := ⟨4, ![1, 256, 1, 256]⟩
abbrev S8x128 : Shape := ⟨2, ![8, 128]⟩
abbrev S16x128 : Shape := ⟨2, ![16, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S512 : Shape := ⟨1, ![512]⟩
abbrev S512x1 : Shape := ⟨2, ![512, 1]⟩

abbrev nBuf : Space → Nat
  | .hbm => 12
  | .vmem => 20
  | .smem => 0
  | _ => 0

abbrev bufTy : (tb : Table) → Fin (tcTables nBuf tb) → BufTy
  | .hbm, ⟨0, _⟩ => ⟨S512x65536, .i32⟩
  | .hbm, ⟨1, _⟩ => ⟨S8192x1024, .i32⟩
  | .hbm, ⟨2, _⟩ => ⟨S16x512x1024, .i32⟩
  | .hbm, ⟨3, _⟩ => ⟨S512x1024x128, .i32⟩
  | .hbm, ⟨4, _⟩ => ⟨S512x1024x128, .i32⟩
  | .hbm, ⟨5, _⟩ => ⟨S512x65536, .i32⟩
  | .hbm, ⟨6, _⟩ => ⟨S8x8192x1024, .f32⟩
  | .hbm, ⟨7, _⟩ => ⟨S1024, .f32⟩
  | .hbm, ⟨8, _⟩ => ⟨S1x1024, .f32⟩
  | .hbm, ⟨9, _⟩ => ⟨S8x1024, .f32⟩
  | .hbm, ⟨10, _⟩ => ⟨S65536x1024, .f32⟩
  | .hbm, ⟨11, _⟩ => ⟨S65536x1024, .f32⟩
  | .local _ .vmem, ⟨0, _⟩ => ⟨S512x512, .i32⟩
  | .local _ .vmem, ⟨1, _⟩ => ⟨S512x512, .i32⟩
  | .local _ .vmem, ⟨2, _⟩ => ⟨S512x1024, .i32⟩
  | .local _ .vmem, ⟨3, _⟩ => ⟨S512x1024, .i32⟩
  | .local _ .vmem, ⟨4, _⟩ => ⟨S1x512x1024, .i32⟩
  | .local _ .vmem, ⟨5, _⟩ => ⟨S1x512x1024, .i32⟩
  | .local _ .vmem, ⟨6, _⟩ => ⟨S4x1024x128, .i32⟩
  | .local _ .vmem, ⟨7, _⟩ => ⟨S4x1024x128, .i32⟩
  | .local _ .vmem, ⟨8, _⟩ => ⟨S4x1024x128, .i32⟩
  | .local _ .vmem, ⟨9, _⟩ => ⟨S4x1024x128, .i32⟩
  | .local _ .vmem, ⟨10, _⟩ => ⟨S512x512, .i32⟩
  | .local _ .vmem, ⟨11, _⟩ => ⟨S512x512, .i32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .f32⟩
  | .local _ .vmem, ⟨16, _⟩ => ⟨S512x1024, .f32⟩
  | .local _ .vmem, ⟨17, _⟩ => ⟨S1024x512, .f32⟩
  | .local _ .vmem, ⟨18, _⟩ => ⟨S2x256x512, .f32⟩
  | .local _ .vmem, ⟨19, _⟩ => ⟨S2x512x2x512, .bf16⟩
  | _, _ => ⟨S512x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2049], ![false]⟩

def k0_off1 (i : grid0.Coords) : Fin 4 → Nat :=
  let c1_i32_31 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v50 : BitVec 32 := Scalar.subi c1_i32_31 v19
  let v51 : Index := Scalar.indexCast v50
  let c0_32 : Index := 0#32
  let c0_33 : Index := 0#32
  ![v51.toNat, 0, 0, 0]
@[reducible] def k0_t1_loop : Scf.Loop 32 :=
  let c0_i32_44 : BitVec 32 := 0#32
  let c16_i32_45 : BitVec 32 := 16#32
  let v68 : BitVec 32 := Scalar.addi c0_i32_44 c16_i32_45
  let c1_i32_46 : BitVec 32 := 1#32
  ⟨c0_i32_44, v68, c1_i32_46⟩
def k0_mult1 (k0_t1 : Fin k0_t1_loop.trips) : BitVec 32 :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult2 (k0_t1 : Fin k0_t1_loop.trips) : BitVec 32 :=
  let c0_i32_222 : BitVec 32 := 0#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off2 (k0_t1 : Fin k0_t1_loop.trips) (c0_i32_222 : BitVec 32) : Fin 2 → Nat :=
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off3 (i : grid0.Coords) (k0_t1 : Fin k0_t1_loop.trips) (c0_i32_224 : BitVec 32) : Fin 3 → Nat :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c0_i32_220 : BitVec 32 := 0#32
  let c4_i32 : BitVec 32 := 4#32
  let v234 : BitVec 32 := Scalar.divsi v232 c4_i32
  let v238 : BitVec 32 := Scalar.addi c0_i32_220 v234
  let v248 : BitVec 32 := Scalar.addi v247 v238
  let v250 : Index := Scalar.indexCast v248
  let c0_225 : Index := 0#32
  ![v249.toNat, v250.toNat, 0]
def k0_mult3 (k0_t1 : Fin k0_t1_loop.trips) : BitVec 32 :=
  let c64_i32 : BitVec 32 := 64#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult4 (k0_t1 : Fin k0_t1_loop.trips) : BitVec 32 :=
  let c128_i32_239 : BitVec 32 := 128#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult5 (k0_t1 : Fin k0_t1_loop.trips) : BitVec 32 :=
  let c192_i32 : BitVec 32 := 192#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult6 (k0_t1 : Fin k0_t1_loop.trips) : BitVec 32 :=
  let c256_i32_254 : BitVec 32 := 256#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult7 (k0_t1 : Fin k0_t1_loop.trips) : BitVec 32 :=
  let c320_i32 : BitVec 32 := 320#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult8 (k0_t1 : Fin k0_t1_loop.trips) : BitVec 32 :=
  let c384_i32_269 : BitVec 32 := 384#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult9 (k0_t1 : Fin k0_t1_loop.trips) : BitVec 32 :=
  let c448_i32 : BitVec 32 := 448#32
  let c0_i32_44 : BitVec 32 := 0#32
  let c1_i32_46 : BitVec 32 := 1#32
  let arg13 : BitVec 32 := Scf.iv c0_i32_44 c1_i32_46 k0_t1
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult10 (k0_t1 : Fin k0_t1_loop.trips) : BitVec 32 :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off4 (k0_t1 : Fin k0_t1_loop.trips) (c0_i32_285 : BitVec 32) : Fin 3 → Nat :=
  let c0_287 : Index := 0#32
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult11 (k0_t1 : Fin k0_t1_loop.trips) : BitVec 32 :=
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult12 (k0_t1 : Fin k0_t1_loop.trips) : BitVec 32 :=
  let c0_i32_296 : BitVec 32 := 0#32
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off5 (i : grid0.Coords) (k0_t1 : Fin k0_t1_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c0_i32_296 : BitVec 32 := 0#32
  let c0_i32_44 : BitVec 32 := 0#32
  let c1_i32_46 : BitVec 32 := 1#32
  let arg13 : BitVec 32 := Scf.iv c0_i32_44 c1_i32_46 k0_t1
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t2_loop : Scf.Loop 32 :=
  let c16_i32_64 : BitVec 32 := 16#32
  let c32_i32 : BitVec 32 := 32#32
  let v91 : BitVec 32 := Scalar.addi c16_i32_64 c32_i32
  let c1_i32_65 : BitVec 32 := 1#32
  ⟨c16_i32_64, v91, c1_i32_65⟩
def k0_mult13 (k0_t2 : Fin k0_t2_loop.trips) : BitVec 32 :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult14 (k0_t2 : Fin k0_t2_loop.trips) : BitVec 32 :=
  let c0_i32_222 : BitVec 32 := 0#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off6 (k0_t2 : Fin k0_t2_loop.trips) (c0_i32_222 : BitVec 32) : Fin 2 → Nat :=
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off7 (i : grid0.Coords) (k0_t2 : Fin k0_t2_loop.trips) (c0_i32_224 : BitVec 32) : Fin 3 → Nat :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c0_i32_220 : BitVec 32 := 0#32
  let c4_i32 : BitVec 32 := 4#32
  let v234 : BitVec 32 := Scalar.divsi v232 c4_i32
  let v238 : BitVec 32 := Scalar.addi c0_i32_220 v234
  let v248 : BitVec 32 := Scalar.addi v247 v238
  let v250 : Index := Scalar.indexCast v248
  let c0_225 : Index := 0#32
  ![v249.toNat, v250.toNat, 0]
def k0_mult15 (k0_t2 : Fin k0_t2_loop.trips) : BitVec 32 :=
  let c64_i32 : BitVec 32 := 64#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult16 (k0_t2 : Fin k0_t2_loop.trips) : BitVec 32 :=
  let c128_i32_239 : BitVec 32 := 128#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult17 (k0_t2 : Fin k0_t2_loop.trips) : BitVec 32 :=
  let c192_i32 : BitVec 32 := 192#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult18 (k0_t2 : Fin k0_t2_loop.trips) : BitVec 32 :=
  let c256_i32_254 : BitVec 32 := 256#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult19 (k0_t2 : Fin k0_t2_loop.trips) : BitVec 32 :=
  let c320_i32 : BitVec 32 := 320#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult20 (k0_t2 : Fin k0_t2_loop.trips) : BitVec 32 :=
  let c384_i32_269 : BitVec 32 := 384#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult21 (k0_t2 : Fin k0_t2_loop.trips) : BitVec 32 :=
  let c448_i32 : BitVec 32 := 448#32
  let c16_i32_64 : BitVec 32 := 16#32
  let c1_i32_65 : BitVec 32 := 1#32
  let arg13 : BitVec 32 := Scf.iv c16_i32_64 c1_i32_65 k0_t2
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult22 (k0_t2 : Fin k0_t2_loop.trips) : BitVec 32 :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off8 (k0_t2 : Fin k0_t2_loop.trips) (c0_i32_285 : BitVec 32) : Fin 3 → Nat :=
  let c0_287 : Index := 0#32
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult23 (k0_t2 : Fin k0_t2_loop.trips) : BitVec 32 :=
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult24 (k0_t2 : Fin k0_t2_loop.trips) : BitVec 32 :=
  let c0_i32_296 : BitVec 32 := 0#32
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off9 (i : grid0.Coords) (k0_t2 : Fin k0_t2_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c0_i32_296 : BitVec 32 := 0#32
  let c16_i32_64 : BitVec 32 := 16#32
  let c1_i32_65 : BitVec 32 := 1#32
  let arg13 : BitVec 32 := Scf.iv c16_i32_64 c1_i32_65 k0_t2
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
def k0_off10 (i : grid0.Coords) : Fin 4 → Nat :=
  let c1_i32_72 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v96 : BitVec 32 := Scalar.subi c1_i32_72 v19
  let v97 : Index := Scalar.indexCast v96
  let c0_73 : Index := 0#32
  let c256_74 : Index := 256#32
  ![v97.toNat, 0, 0, 256]
@[reducible] def k0_t3_loop : Scf.Loop 32 :=
  let c48_i32 : BitVec 32 := 48#32
  let c16_i32_86 : BitVec 32 := 16#32
  let v114 : BitVec 32 := Scalar.addi c48_i32 c16_i32_86
  let c1_i32_87 : BitVec 32 := 1#32
  ⟨c48_i32, v114, c1_i32_87⟩
def k0_mult25 (k0_t3 : Fin k0_t3_loop.trips) : BitVec 32 :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult26 (k0_t3 : Fin k0_t3_loop.trips) : BitVec 32 :=
  let c0_i32_222 : BitVec 32 := 0#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off11 (k0_t3 : Fin k0_t3_loop.trips) (c0_i32_222 : BitVec 32) : Fin 2 → Nat :=
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off12 (i : grid0.Coords) (k0_t3 : Fin k0_t3_loop.trips) (c0_i32_224 : BitVec 32) : Fin 3 → Nat :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c0_i32_220 : BitVec 32 := 0#32
  let c4_i32 : BitVec 32 := 4#32
  let v234 : BitVec 32 := Scalar.divsi v232 c4_i32
  let v238 : BitVec 32 := Scalar.addi c0_i32_220 v234
  let v248 : BitVec 32 := Scalar.addi v247 v238
  let v250 : Index := Scalar.indexCast v248
  let c0_225 : Index := 0#32
  ![v249.toNat, v250.toNat, 0]
def k0_mult27 (k0_t3 : Fin k0_t3_loop.trips) : BitVec 32 :=
  let c64_i32 : BitVec 32 := 64#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult28 (k0_t3 : Fin k0_t3_loop.trips) : BitVec 32 :=
  let c128_i32_239 : BitVec 32 := 128#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult29 (k0_t3 : Fin k0_t3_loop.trips) : BitVec 32 :=
  let c192_i32 : BitVec 32 := 192#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult30 (k0_t3 : Fin k0_t3_loop.trips) : BitVec 32 :=
  let c256_i32_254 : BitVec 32 := 256#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult31 (k0_t3 : Fin k0_t3_loop.trips) : BitVec 32 :=
  let c320_i32 : BitVec 32 := 320#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult32 (k0_t3 : Fin k0_t3_loop.trips) : BitVec 32 :=
  let c384_i32_269 : BitVec 32 := 384#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult33 (k0_t3 : Fin k0_t3_loop.trips) : BitVec 32 :=
  let c448_i32 : BitVec 32 := 448#32
  let c48_i32 : BitVec 32 := 48#32
  let c1_i32_87 : BitVec 32 := 1#32
  let arg13 : BitVec 32 := Scf.iv c48_i32 c1_i32_87 k0_t3
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult34 (k0_t3 : Fin k0_t3_loop.trips) : BitVec 32 :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off13 (k0_t3 : Fin k0_t3_loop.trips) (c0_i32_285 : BitVec 32) : Fin 3 → Nat :=
  let c0_287 : Index := 0#32
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult35 (k0_t3 : Fin k0_t3_loop.trips) : BitVec 32 :=
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult36 (k0_t3 : Fin k0_t3_loop.trips) : BitVec 32 :=
  let c0_i32_296 : BitVec 32 := 0#32
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off14 (i : grid0.Coords) (k0_t3 : Fin k0_t3_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c0_i32_296 : BitVec 32 := 0#32
  let c48_i32 : BitVec 32 := 48#32
  let c1_i32_87 : BitVec 32 := 1#32
  let arg13 : BitVec 32 := Scf.iv c48_i32 c1_i32_87 k0_t3
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c0_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t4_loop : Scf.Loop 32 :=
  let c0_i32_89 : BitVec 32 := 0#32
  let c16_i32_90 : BitVec 32 := 16#32
  let v115 : BitVec 32 := Scalar.addi c0_i32_89 c16_i32_90
  let c1_i32_91 : BitVec 32 := 1#32
  ⟨c0_i32_89, v115, c1_i32_91⟩
def k0_mult37 (k0_t4 : Fin k0_t4_loop.trips) : BitVec 32 :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult38 (k0_t4 : Fin k0_t4_loop.trips) : BitVec 32 :=
  let c0_i32_222 : BitVec 32 := 0#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off15 (k0_t4 : Fin k0_t4_loop.trips) (c0_i32_222 : BitVec 32) : Fin 2 → Nat :=
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off16 (i : grid0.Coords) (k0_t4 : Fin k0_t4_loop.trips) (c0_i32_224 : BitVec 32) : Fin 3 → Nat :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult39 (k0_t4 : Fin k0_t4_loop.trips) : BitVec 32 :=
  let c64_i32 : BitVec 32 := 64#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult40 (k0_t4 : Fin k0_t4_loop.trips) : BitVec 32 :=
  let c128_i32_239 : BitVec 32 := 128#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult41 (k0_t4 : Fin k0_t4_loop.trips) : BitVec 32 :=
  let c192_i32 : BitVec 32 := 192#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult42 (k0_t4 : Fin k0_t4_loop.trips) : BitVec 32 :=
  let c256_i32_254 : BitVec 32 := 256#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult43 (k0_t4 : Fin k0_t4_loop.trips) : BitVec 32 :=
  let c320_i32 : BitVec 32 := 320#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult44 (k0_t4 : Fin k0_t4_loop.trips) : BitVec 32 :=
  let c384_i32_269 : BitVec 32 := 384#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult45 (k0_t4 : Fin k0_t4_loop.trips) : BitVec 32 :=
  let c448_i32 : BitVec 32 := 448#32
  let c0_i32_89 : BitVec 32 := 0#32
  let c1_i32_91 : BitVec 32 := 1#32
  let arg13 : BitVec 32 := Scf.iv c0_i32_89 c1_i32_91 k0_t4
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult46 (k0_t4 : Fin k0_t4_loop.trips) : BitVec 32 :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off17 (k0_t4 : Fin k0_t4_loop.trips) (c0_i32_285 : BitVec 32) : Fin 3 → Nat :=
  let c1_287 : Index := 1#32
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult47 (k0_t4 : Fin k0_t4_loop.trips) : BitVec 32 :=
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult48 (k0_t4 : Fin k0_t4_loop.trips) : BitVec 32 :=
  let c2_i32_296 : BitVec 32 := 2#32
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off18 (i : grid0.Coords) (k0_t4 : Fin k0_t4_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c0_i32_89 : BitVec 32 := 0#32
  let c1_i32_91 : BitVec 32 := 1#32
  let arg13 : BitVec 32 := Scf.iv c0_i32_89 c1_i32_91 k0_t4
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t5_loop : Scf.Loop 32 :=
  let c16_i32_101 : BitVec 32 := 16#32
  let c16_i32_102 : BitVec 32 := 16#32
  let v124 : BitVec 32 := Scalar.addi c16_i32_101 c16_i32_102
  let c1_i32_103 : BitVec 32 := 1#32
  ⟨c16_i32_101, v124, c1_i32_103⟩
def k0_mult49 (k0_t5 : Fin k0_t5_loop.trips) : BitVec 32 :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult50 (k0_t5 : Fin k0_t5_loop.trips) : BitVec 32 :=
  let c0_i32_222 : BitVec 32 := 0#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off19 (k0_t5 : Fin k0_t5_loop.trips) (c0_i32_222 : BitVec 32) : Fin 2 → Nat :=
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off20 (i : grid0.Coords) (k0_t5 : Fin k0_t5_loop.trips) (c0_i32_224 : BitVec 32) : Fin 3 → Nat :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult51 (k0_t5 : Fin k0_t5_loop.trips) : BitVec 32 :=
  let c64_i32 : BitVec 32 := 64#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult52 (k0_t5 : Fin k0_t5_loop.trips) : BitVec 32 :=
  let c128_i32_239 : BitVec 32 := 128#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult53 (k0_t5 : Fin k0_t5_loop.trips) : BitVec 32 :=
  let c192_i32 : BitVec 32 := 192#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult54 (k0_t5 : Fin k0_t5_loop.trips) : BitVec 32 :=
  let c256_i32_254 : BitVec 32 := 256#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult55 (k0_t5 : Fin k0_t5_loop.trips) : BitVec 32 :=
  let c320_i32 : BitVec 32 := 320#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult56 (k0_t5 : Fin k0_t5_loop.trips) : BitVec 32 :=
  let c384_i32_269 : BitVec 32 := 384#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult57 (k0_t5 : Fin k0_t5_loop.trips) : BitVec 32 :=
  let c448_i32 : BitVec 32 := 448#32
  let c16_i32_101 : BitVec 32 := 16#32
  let c1_i32_103 : BitVec 32 := 1#32
  let arg13 : BitVec 32 := Scf.iv c16_i32_101 c1_i32_103 k0_t5
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult58 (k0_t5 : Fin k0_t5_loop.trips) : BitVec 32 :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off21 (k0_t5 : Fin k0_t5_loop.trips) (c0_i32_285 : BitVec 32) : Fin 3 → Nat :=
  let c1_287 : Index := 1#32
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult59 (k0_t5 : Fin k0_t5_loop.trips) : BitVec 32 :=
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult60 (k0_t5 : Fin k0_t5_loop.trips) : BitVec 32 :=
  let c2_i32_296 : BitVec 32 := 2#32
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off22 (i : grid0.Coords) (k0_t5 : Fin k0_t5_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c16_i32_101 : BitVec 32 := 16#32
  let c1_i32_103 : BitVec 32 := 1#32
  let arg13 : BitVec 32 := Scf.iv c16_i32_101 c1_i32_103 k0_t5
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t6_loop : Scf.Loop 32 :=
  let c32_i32_116 : BitVec 32 := 32#32
  let c16_i32_117 : BitVec 32 := 16#32
  let v139 : BitVec 32 := Scalar.addi c32_i32_116 c16_i32_117
  let c1_i32_118 : BitVec 32 := 1#32
  ⟨c32_i32_116, v139, c1_i32_118⟩
def k0_mult61 (k0_t6 : Fin k0_t6_loop.trips) : BitVec 32 :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult62 (k0_t6 : Fin k0_t6_loop.trips) : BitVec 32 :=
  let c0_i32_222 : BitVec 32 := 0#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off23 (k0_t6 : Fin k0_t6_loop.trips) (c0_i32_222 : BitVec 32) : Fin 2 → Nat :=
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off24 (i : grid0.Coords) (k0_t6 : Fin k0_t6_loop.trips) (c0_i32_224 : BitVec 32) : Fin 3 → Nat :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult63 (k0_t6 : Fin k0_t6_loop.trips) : BitVec 32 :=
  let c64_i32 : BitVec 32 := 64#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult64 (k0_t6 : Fin k0_t6_loop.trips) : BitVec 32 :=
  let c128_i32_239 : BitVec 32 := 128#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult65 (k0_t6 : Fin k0_t6_loop.trips) : BitVec 32 :=
  let c192_i32 : BitVec 32 := 192#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult66 (k0_t6 : Fin k0_t6_loop.trips) : BitVec 32 :=
  let c256_i32_254 : BitVec 32 := 256#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult67 (k0_t6 : Fin k0_t6_loop.trips) : BitVec 32 :=
  let c320_i32 : BitVec 32 := 320#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult68 (k0_t6 : Fin k0_t6_loop.trips) : BitVec 32 :=
  let c384_i32_269 : BitVec 32 := 384#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult69 (k0_t6 : Fin k0_t6_loop.trips) : BitVec 32 :=
  let c448_i32 : BitVec 32 := 448#32
  let c32_i32_116 : BitVec 32 := 32#32
  let c1_i32_118 : BitVec 32 := 1#32
  let arg13 : BitVec 32 := Scf.iv c32_i32_116 c1_i32_118 k0_t6
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult70 (k0_t6 : Fin k0_t6_loop.trips) : BitVec 32 :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off25 (k0_t6 : Fin k0_t6_loop.trips) (c0_i32_285 : BitVec 32) : Fin 3 → Nat :=
  let c1_287 : Index := 1#32
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult71 (k0_t6 : Fin k0_t6_loop.trips) : BitVec 32 :=
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult72 (k0_t6 : Fin k0_t6_loop.trips) : BitVec 32 :=
  let c2_i32_296 : BitVec 32 := 2#32
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off26 (i : grid0.Coords) (k0_t6 : Fin k0_t6_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c32_i32_116 : BitVec 32 := 32#32
  let c1_i32_118 : BitVec 32 := 1#32
  let arg13 : BitVec 32 := Scf.iv c32_i32_116 c1_i32_118 k0_t6
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t7_loop : Scf.Loop 32 :=
  let c48_i32_128 : BitVec 32 := 48#32
  let c16_i32_129 : BitVec 32 := 16#32
  let v148 : BitVec 32 := Scalar.addi c48_i32_128 c16_i32_129
  let c1_i32_130 : BitVec 32 := 1#32
  ⟨c48_i32_128, v148, c1_i32_130⟩
def k0_mult73 (k0_t7 : Fin k0_t7_loop.trips) : BitVec 32 :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult74 (k0_t7 : Fin k0_t7_loop.trips) : BitVec 32 :=
  let c0_i32_222 : BitVec 32 := 0#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off27 (k0_t7 : Fin k0_t7_loop.trips) (c0_i32_222 : BitVec 32) : Fin 2 → Nat :=
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off28 (i : grid0.Coords) (k0_t7 : Fin k0_t7_loop.trips) (c0_i32_224 : BitVec 32) : Fin 3 → Nat :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c2_i32_220 : BitVec 32 := 2#32
  let c4_i32 : BitVec 32 := 4#32
  let v234 : BitVec 32 := Scalar.divsi v232 c4_i32
  let v238 : BitVec 32 := Scalar.addi c2_i32_220 v234
  let v248 : BitVec 32 := Scalar.addi v247 v238
  let v250 : Index := Scalar.indexCast v248
  let c0_225 : Index := 0#32
  ![v249.toNat, v250.toNat, 0]
def k0_mult75 (k0_t7 : Fin k0_t7_loop.trips) : BitVec 32 :=
  let c64_i32 : BitVec 32 := 64#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult76 (k0_t7 : Fin k0_t7_loop.trips) : BitVec 32 :=
  let c128_i32_239 : BitVec 32 := 128#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult77 (k0_t7 : Fin k0_t7_loop.trips) : BitVec 32 :=
  let c192_i32 : BitVec 32 := 192#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult78 (k0_t7 : Fin k0_t7_loop.trips) : BitVec 32 :=
  let c256_i32_254 : BitVec 32 := 256#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult79 (k0_t7 : Fin k0_t7_loop.trips) : BitVec 32 :=
  let c320_i32 : BitVec 32 := 320#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult80 (k0_t7 : Fin k0_t7_loop.trips) : BitVec 32 :=
  let c384_i32_269 : BitVec 32 := 384#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult81 (k0_t7 : Fin k0_t7_loop.trips) : BitVec 32 :=
  let c448_i32 : BitVec 32 := 448#32
  let c48_i32_128 : BitVec 32 := 48#32
  let c1_i32_130 : BitVec 32 := 1#32
  let arg13 : BitVec 32 := Scf.iv c48_i32_128 c1_i32_130 k0_t7
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult82 (k0_t7 : Fin k0_t7_loop.trips) : BitVec 32 :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off29 (k0_t7 : Fin k0_t7_loop.trips) (c0_i32_285 : BitVec 32) : Fin 3 → Nat :=
  let c1_287 : Index := 1#32
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult83 (k0_t7 : Fin k0_t7_loop.trips) : BitVec 32 :=
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult84 (k0_t7 : Fin k0_t7_loop.trips) : BitVec 32 :=
  let c2_i32_296 : BitVec 32 := 2#32
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off30 (i : grid0.Coords) (k0_t7 : Fin k0_t7_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c2_i32_296 : BitVec 32 := 2#32
  let c48_i32_128 : BitVec 32 := 48#32
  let c1_i32_130 : BitVec 32 := 1#32
  let arg13 : BitVec 32 := Scf.iv c48_i32_128 c1_i32_130 k0_t7
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c2_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t8_loop : Scf.Loop 32 :=
  let c0_i32_132 : BitVec 32 := 0#32
  let c16_i32_133 : BitVec 32 := 16#32
  let v149 : BitVec 32 := Scalar.addi c0_i32_132 c16_i32_133
  let c1_i32_134 : BitVec 32 := 1#32
  ⟨c0_i32_132, v149, c1_i32_134⟩
def k0_mult85 (k0_t8 : Fin k0_t8_loop.trips) : BitVec 32 :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult86 (k0_t8 : Fin k0_t8_loop.trips) : BitVec 32 :=
  let c0_i32_222 : BitVec 32 := 0#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off31 (k0_t8 : Fin k0_t8_loop.trips) (c0_i32_222 : BitVec 32) : Fin 2 → Nat :=
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off32 (i : grid0.Coords) (k0_t8 : Fin k0_t8_loop.trips) (c0_i32_224 : BitVec 32) : Fin 3 → Nat :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c4_i32_220 : BitVec 32 := 4#32
  let c4_i32 : BitVec 32 := 4#32
  let v234 : BitVec 32 := Scalar.divsi v232 c4_i32
  let v238 : BitVec 32 := Scalar.addi c4_i32_220 v234
  let v248 : BitVec 32 := Scalar.addi v247 v238
  let v250 : Index := Scalar.indexCast v248
  let c0_225 : Index := 0#32
  ![v249.toNat, v250.toNat, 0]
def k0_mult87 (k0_t8 : Fin k0_t8_loop.trips) : BitVec 32 :=
  let c64_i32 : BitVec 32 := 64#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult88 (k0_t8 : Fin k0_t8_loop.trips) : BitVec 32 :=
  let c128_i32_239 : BitVec 32 := 128#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult89 (k0_t8 : Fin k0_t8_loop.trips) : BitVec 32 :=
  let c192_i32 : BitVec 32 := 192#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult90 (k0_t8 : Fin k0_t8_loop.trips) : BitVec 32 :=
  let c256_i32_254 : BitVec 32 := 256#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult91 (k0_t8 : Fin k0_t8_loop.trips) : BitVec 32 :=
  let c320_i32 : BitVec 32 := 320#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult92 (k0_t8 : Fin k0_t8_loop.trips) : BitVec 32 :=
  let c384_i32_269 : BitVec 32 := 384#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult93 (k0_t8 : Fin k0_t8_loop.trips) : BitVec 32 :=
  let c448_i32 : BitVec 32 := 448#32
  let c0_i32_132 : BitVec 32 := 0#32
  let c1_i32_134 : BitVec 32 := 1#32
  let arg13 : BitVec 32 := Scf.iv c0_i32_132 c1_i32_134 k0_t8
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult94 (k0_t8 : Fin k0_t8_loop.trips) : BitVec 32 :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off33 (k0_t8 : Fin k0_t8_loop.trips) (c0_i32_285 : BitVec 32) : Fin 3 → Nat :=
  let c0_287 : Index := 0#32
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult95 (k0_t8 : Fin k0_t8_loop.trips) : BitVec 32 :=
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult96 (k0_t8 : Fin k0_t8_loop.trips) : BitVec 32 :=
  let c4_i32_296 : BitVec 32 := 4#32
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off34 (i : grid0.Coords) (k0_t8 : Fin k0_t8_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c4_i32_296 : BitVec 32 := 4#32
  let c0_i32_132 : BitVec 32 := 0#32
  let c1_i32_134 : BitVec 32 := 1#32
  let arg13 : BitVec 32 := Scf.iv c0_i32_132 c1_i32_134 k0_t8
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
def k0_off35 (i : grid0.Coords) : Fin 4 → Nat :=
  let c1_i32_141 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v154 : BitVec 32 := Scalar.subi c1_i32_141 v19
  let v155 : Index := Scalar.indexCast v154
  let c256_142 : Index := 256#32
  let c0_143 : Index := 0#32
  ![v155.toNat, 256, 0, 0]
@[reducible] def k0_t9_loop : Scf.Loop 32 :=
  let c16_i32_154 : BitVec 32 := 16#32
  let c32_i32_155 : BitVec 32 := 32#32
  let v172 : BitVec 32 := Scalar.addi c16_i32_154 c32_i32_155
  let c1_i32_156 : BitVec 32 := 1#32
  ⟨c16_i32_154, v172, c1_i32_156⟩
def k0_mult97 (k0_t9 : Fin k0_t9_loop.trips) : BitVec 32 :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult98 (k0_t9 : Fin k0_t9_loop.trips) : BitVec 32 :=
  let c0_i32_222 : BitVec 32 := 0#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off36 (k0_t9 : Fin k0_t9_loop.trips) (c0_i32_222 : BitVec 32) : Fin 2 → Nat :=
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off37 (i : grid0.Coords) (k0_t9 : Fin k0_t9_loop.trips) (c0_i32_224 : BitVec 32) : Fin 3 → Nat :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c4_i32_220 : BitVec 32 := 4#32
  let c4_i32 : BitVec 32 := 4#32
  let v234 : BitVec 32 := Scalar.divsi v232 c4_i32
  let v238 : BitVec 32 := Scalar.addi c4_i32_220 v234
  let v248 : BitVec 32 := Scalar.addi v247 v238
  let v250 : Index := Scalar.indexCast v248
  let c0_225 : Index := 0#32
  ![v249.toNat, v250.toNat, 0]
def k0_mult99 (k0_t9 : Fin k0_t9_loop.trips) : BitVec 32 :=
  let c64_i32 : BitVec 32 := 64#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult100 (k0_t9 : Fin k0_t9_loop.trips) : BitVec 32 :=
  let c128_i32_239 : BitVec 32 := 128#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult101 (k0_t9 : Fin k0_t9_loop.trips) : BitVec 32 :=
  let c192_i32 : BitVec 32 := 192#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult102 (k0_t9 : Fin k0_t9_loop.trips) : BitVec 32 :=
  let c256_i32_254 : BitVec 32 := 256#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult103 (k0_t9 : Fin k0_t9_loop.trips) : BitVec 32 :=
  let c320_i32 : BitVec 32 := 320#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult104 (k0_t9 : Fin k0_t9_loop.trips) : BitVec 32 :=
  let c384_i32_269 : BitVec 32 := 384#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult105 (k0_t9 : Fin k0_t9_loop.trips) : BitVec 32 :=
  let c448_i32 : BitVec 32 := 448#32
  let c16_i32_154 : BitVec 32 := 16#32
  let c1_i32_156 : BitVec 32 := 1#32
  let arg13 : BitVec 32 := Scf.iv c16_i32_154 c1_i32_156 k0_t9
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult106 (k0_t9 : Fin k0_t9_loop.trips) : BitVec 32 :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off38 (k0_t9 : Fin k0_t9_loop.trips) (c0_i32_285 : BitVec 32) : Fin 3 → Nat :=
  let c0_287 : Index := 0#32
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult107 (k0_t9 : Fin k0_t9_loop.trips) : BitVec 32 :=
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult108 (k0_t9 : Fin k0_t9_loop.trips) : BitVec 32 :=
  let c4_i32_296 : BitVec 32 := 4#32
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off39 (i : grid0.Coords) (k0_t9 : Fin k0_t9_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c4_i32_296 : BitVec 32 := 4#32
  let c16_i32_154 : BitVec 32 := 16#32
  let c1_i32_156 : BitVec 32 := 1#32
  let arg13 : BitVec 32 := Scf.iv c16_i32_154 c1_i32_156 k0_t9
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t10_loop : Scf.Loop 32 :=
  let c48_i32_177 : BitVec 32 := 48#32
  let c16_i32_178 : BitVec 32 := 16#32
  let v195 : BitVec 32 := Scalar.addi c48_i32_177 c16_i32_178
  let c1_i32_179 : BitVec 32 := 1#32
  ⟨c48_i32_177, v195, c1_i32_179⟩
def k0_mult109 (k0_t10 : Fin k0_t10_loop.trips) : BitVec 32 :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult110 (k0_t10 : Fin k0_t10_loop.trips) : BitVec 32 :=
  let c0_i32_222 : BitVec 32 := 0#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  v240
def k0_off40 (k0_t10 : Fin k0_t10_loop.trips) (c0_i32_222 : BitVec 32) : Fin 2 → Nat :=
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_221 : BitVec 32 := 8#32
  let v239 : BitVec 32 := Scalar.muli v233 c8_i32_221
  let v240 : BitVec 32 := Scalar.addi c0_i32_222 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off41 (i : grid0.Coords) (k0_t10 : Fin k0_t10_loop.trips) (c0_i32_224 : BitVec 32) : Fin 3 → Nat :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_223 : BitVec 32 := 8#32
  let v246 : BitVec 32 := Scalar.muli v9 c8_i32_223
  let v247 : BitVec 32 := Scalar.addi c0_i32_224 v246
  let c4_i32_220 : BitVec 32 := 4#32
  let c4_i32 : BitVec 32 := 4#32
  let v234 : BitVec 32 := Scalar.divsi v232 c4_i32
  let v238 : BitVec 32 := Scalar.addi c4_i32_220 v234
  let v248 : BitVec 32 := Scalar.addi v247 v238
  let v250 : Index := Scalar.indexCast v248
  let c0_225 : Index := 0#32
  ![v249.toNat, v250.toNat, 0]
def k0_mult111 (k0_t10 : Fin k0_t10_loop.trips) : BitVec 32 :=
  let c64_i32 : BitVec 32 := 64#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_230 : BitVec 32 := 8#32
  let v266 : BitVec 32 := Scalar.muli v233 c8_i32_230
  let v267 : BitVec 32 := Scalar.addi c64_i32 v266
  v267
def k0_mult112 (k0_t10 : Fin k0_t10_loop.trips) : BitVec 32 :=
  let c128_i32_239 : BitVec 32 := 128#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_238 : BitVec 32 := 8#32
  let v294 : BitVec 32 := Scalar.muli v233 c8_i32_238
  let v295 : BitVec 32 := Scalar.addi c128_i32_239 v294
  v295
def k0_mult113 (k0_t10 : Fin k0_t10_loop.trips) : BitVec 32 :=
  let c192_i32 : BitVec 32 := 192#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_246 : BitVec 32 := 8#32
  let v322 : BitVec 32 := Scalar.muli v233 c8_i32_246
  let v323 : BitVec 32 := Scalar.addi c192_i32 v322
  v323
def k0_mult114 (k0_t10 : Fin k0_t10_loop.trips) : BitVec 32 :=
  let c256_i32_254 : BitVec 32 := 256#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_253 : BitVec 32 := 8#32
  let v350 : BitVec 32 := Scalar.muli v233 c8_i32_253
  let v351 : BitVec 32 := Scalar.addi c256_i32_254 v350
  v351
def k0_mult115 (k0_t10 : Fin k0_t10_loop.trips) : BitVec 32 :=
  let c320_i32 : BitVec 32 := 320#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_261 : BitVec 32 := 8#32
  let v378 : BitVec 32 := Scalar.muli v233 c8_i32_261
  let v379 : BitVec 32 := Scalar.addi c320_i32 v378
  v379
def k0_mult116 (k0_t10 : Fin k0_t10_loop.trips) : BitVec 32 :=
  let c384_i32_269 : BitVec 32 := 384#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_268 : BitVec 32 := 8#32
  let v406 : BitVec 32 := Scalar.muli v233 c8_i32_268
  let v407 : BitVec 32 := Scalar.addi c384_i32_269 v406
  v407
def k0_mult117 (k0_t10 : Fin k0_t10_loop.trips) : BitVec 32 :=
  let c448_i32 : BitVec 32 := 448#32
  let c48_i32_177 : BitVec 32 := 48#32
  let c1_i32_179 : BitVec 32 := 1#32
  let arg13 : BitVec 32 := Scf.iv c48_i32_177 c1_i32_179 k0_t10
  let c8_i32_218 : BitVec 32 := 8#32
  let v233 : BitVec 32 := Scalar.remsi arg13 c8_i32_218
  let c8_i32_276 : BitVec 32 := 8#32
  let v434 : BitVec 32 := Scalar.muli v233 c8_i32_276
  let v435 : BitVec 32 := Scalar.addi c448_i32 v434
  v435
def k0_mult118 (k0_t10 : Fin k0_t10_loop.trips) : BitVec 32 :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let c0_i32_285 : BitVec 32 := 0#32
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  v469
def k0_off42 (k0_t10 : Fin k0_t10_loop.trips) (c0_i32_285 : BitVec 32) : Fin 3 → Nat :=
  let c0_287 : Index := 0#32
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let c128_i32_284 : BitVec 32 := 128#32
  let v466 : BitVec 32 := Scalar.muli v234 c128_i32_284
  let v467 : BitVec 32 := Scalar.addi v466 c0_i32_285
  let c8_i32_218 : BitVec 32 := 8#32
  let v233 : BitVec 32 := Scalar.remsi arg13 c8_i32_218
  let c8_i32_286 : BitVec 32 := 8#32
  let v468 : BitVec 32 := Scalar.muli v233 c8_i32_286
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![0, v471.toNat, v472.toNat]
def k0_mult119 (k0_t10 : Fin k0_t10_loop.trips) : BitVec 32 :=
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let c128_i32_290 : BitVec 32 := 128#32
  let v485 : BitVec 32 := Scalar.muli v234 c128_i32_290
  let c64_i32_291 : BitVec 32 := 64#32
  let v486 : BitVec 32 := Scalar.addi v485 c64_i32_291
  let c8_i32_218 : BitVec 32 := 8#32
  let v233 : BitVec 32 := Scalar.remsi arg13 c8_i32_218
  let c8_i32_292 : BitVec 32 := 8#32
  let v487 : BitVec 32 := Scalar.muli v233 c8_i32_292
  let v488 : BitVec 32 := Scalar.addi v486 v487
  v488
def k0_mult120 (k0_t10 : Fin k0_t10_loop.trips) : BitVec 32 :=
  let c4_i32_296 : BitVec 32 := 4#32
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  v504
def k0_off43 (i : grid0.Coords) (k0_t10 : Fin k0_t10_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c4_i32_296 : BitVec 32 := 4#32
  let c48_i32_177 : BitVec 32 := 48#32
  let c1_i32_179 : BitVec 32 := 1#32
  let arg13 : BitVec 32 := Scf.iv c48_i32_177 c1_i32_179 k0_t10
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c4_i32_296 v234
  let c64_i32_297 : BitVec 32 := 64#32
  let v502 : BitVec 32 := Scalar.muli v501 c64_i32_297
  let c8_i32_218 : BitVec 32 := 8#32
  let v233 : BitVec 32 := Scalar.remsi arg13 c8_i32_218
  let c8_i32_298 : BitVec 32 := 8#32
  let v503 : BitVec 32 := Scalar.muli v233 c8_i32_298
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t11_loop : Scf.Loop 32 :=
  let c0_i32_181 : BitVec 32 := 0#32
  let c16_i32_182 : BitVec 32 := 16#32
  let v196 : BitVec 32 := Scalar.addi c0_i32_181 c16_i32_182
  let c1_i32_183 : BitVec 32 := 1#32
  ⟨c0_i32_181, v196, c1_i32_183⟩
def k0_mult121 (k0_t11 : Fin k0_t11_loop.trips) : BitVec 32 :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult122 (k0_t11 : Fin k0_t11_loop.trips) : BitVec 32 :=
  let c0_i32_221 : BitVec 32 := 0#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  v240
def k0_off44 (k0_t11 : Fin k0_t11_loop.trips) (c0_i32_221 : BitVec 32) : Fin 2 → Nat :=
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off45 (i : grid0.Coords) (k0_t11 : Fin k0_t11_loop.trips) (c0_i32_223 : BitVec 32) : Fin 3 → Nat :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_222 : BitVec 32 := 8#32
  let v246 : BitVec 32 := Scalar.muli v9 c8_i32_222
  let v247 : BitVec 32 := Scalar.addi c0_i32_223 v246
  let c6_i32 : BitVec 32 := 6#32
  let c4_i32 : BitVec 32 := 4#32
  let v234 : BitVec 32 := Scalar.divsi v232 c4_i32
  let v238 : BitVec 32 := Scalar.addi c6_i32 v234
  let v248 : BitVec 32 := Scalar.addi v247 v238
  let v250 : Index := Scalar.indexCast v248
  let c0_224 : Index := 0#32
  ![v249.toNat, v250.toNat, 0]
def k0_mult123 (k0_t11 : Fin k0_t11_loop.trips) : BitVec 32 :=
  let c64_i32 : BitVec 32 := 64#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_229 : BitVec 32 := 8#32
  let v266 : BitVec 32 := Scalar.muli v233 c8_i32_229
  let v267 : BitVec 32 := Scalar.addi c64_i32 v266
  v267
def k0_mult124 (k0_t11 : Fin k0_t11_loop.trips) : BitVec 32 :=
  let c128_i32_238 : BitVec 32 := 128#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_237 : BitVec 32 := 8#32
  let v294 : BitVec 32 := Scalar.muli v233 c8_i32_237
  let v295 : BitVec 32 := Scalar.addi c128_i32_238 v294
  v295
def k0_mult125 (k0_t11 : Fin k0_t11_loop.trips) : BitVec 32 :=
  let c192_i32 : BitVec 32 := 192#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_245 : BitVec 32 := 8#32
  let v322 : BitVec 32 := Scalar.muli v233 c8_i32_245
  let v323 : BitVec 32 := Scalar.addi c192_i32 v322
  v323
def k0_mult126 (k0_t11 : Fin k0_t11_loop.trips) : BitVec 32 :=
  let c256_i32_253 : BitVec 32 := 256#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_252 : BitVec 32 := 8#32
  let v350 : BitVec 32 := Scalar.muli v233 c8_i32_252
  let v351 : BitVec 32 := Scalar.addi c256_i32_253 v350
  v351
def k0_mult127 (k0_t11 : Fin k0_t11_loop.trips) : BitVec 32 :=
  let c320_i32 : BitVec 32 := 320#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_260 : BitVec 32 := 8#32
  let v378 : BitVec 32 := Scalar.muli v233 c8_i32_260
  let v379 : BitVec 32 := Scalar.addi c320_i32 v378
  v379
def k0_mult128 (k0_t11 : Fin k0_t11_loop.trips) : BitVec 32 :=
  let c384_i32_268 : BitVec 32 := 384#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_267 : BitVec 32 := 8#32
  let v406 : BitVec 32 := Scalar.muli v233 c8_i32_267
  let v407 : BitVec 32 := Scalar.addi c384_i32_268 v406
  v407
def k0_mult129 (k0_t11 : Fin k0_t11_loop.trips) : BitVec 32 :=
  let c448_i32 : BitVec 32 := 448#32
  let c0_i32_181 : BitVec 32 := 0#32
  let c1_i32_183 : BitVec 32 := 1#32
  let arg13 : BitVec 32 := Scf.iv c0_i32_181 c1_i32_183 k0_t11
  let c8_i32_218 : BitVec 32 := 8#32
  let v233 : BitVec 32 := Scalar.remsi arg13 c8_i32_218
  let c8_i32_275 : BitVec 32 := 8#32
  let v434 : BitVec 32 := Scalar.muli v233 c8_i32_275
  let v435 : BitVec 32 := Scalar.addi c448_i32 v434
  v435
def k0_mult130 (k0_t11 : Fin k0_t11_loop.trips) : BitVec 32 :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let c0_i32_284 : BitVec 32 := 0#32
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  v469
def k0_off46 (k0_t11 : Fin k0_t11_loop.trips) (c0_i32_284 : BitVec 32) : Fin 3 → Nat :=
  let c1_286 : Index := 1#32
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult131 (k0_t11 : Fin k0_t11_loop.trips) : BitVec 32 :=
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let c128_i32_289 : BitVec 32 := 128#32
  let v485 : BitVec 32 := Scalar.muli v234 c128_i32_289
  let c64_i32_290 : BitVec 32 := 64#32
  let v486 : BitVec 32 := Scalar.addi v485 c64_i32_290
  let c8_i32_218 : BitVec 32 := 8#32
  let v233 : BitVec 32 := Scalar.remsi arg13 c8_i32_218
  let c8_i32_291 : BitVec 32 := 8#32
  let v487 : BitVec 32 := Scalar.muli v233 c8_i32_291
  let v488 : BitVec 32 := Scalar.addi v486 v487
  v488
def k0_mult132 (k0_t11 : Fin k0_t11_loop.trips) : BitVec 32 :=
  let c6_i32_295 : BitVec 32 := 6#32
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  v504
def k0_off47 (i : grid0.Coords) (k0_t11 : Fin k0_t11_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c6_i32_295 : BitVec 32 := 6#32
  let c0_i32_181 : BitVec 32 := 0#32
  let c1_i32_183 : BitVec 32 := 1#32
  let arg13 : BitVec 32 := Scf.iv c0_i32_181 c1_i32_183 k0_t11
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
def k0_off48 (i : grid0.Coords) : Fin 4 → Nat :=
  let c1_i32_190 : BitVec 32 := 1#32
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v201 : BitVec 32 := Scalar.subi c1_i32_190 v19
  let v202 : Index := Scalar.indexCast v201
  let c256_191 : Index := 256#32
  let c256_192 : Index := 256#32
  ![v202.toNat, 256, 0, 256]
@[reducible] def k0_t12_loop : Scf.Loop 32 :=
  let c16_i32_196 : BitVec 32 := 16#32
  let c32_i32_197 : BitVec 32 := 32#32
  let v211 : BitVec 32 := Scalar.addi c16_i32_196 c32_i32_197
  let c1_i32_198 : BitVec 32 := 1#32
  ⟨c16_i32_196, v211, c1_i32_198⟩
def k0_mult133 (k0_t12 : Fin k0_t12_loop.trips) : BitVec 32 :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult134 (k0_t12 : Fin k0_t12_loop.trips) : BitVec 32 :=
  let c0_i32_221 : BitVec 32 := 0#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  v240
def k0_off49 (k0_t12 : Fin k0_t12_loop.trips) (c0_i32_221 : BitVec 32) : Fin 2 → Nat :=
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off50 (i : grid0.Coords) (k0_t12 : Fin k0_t12_loop.trips) (c0_i32_223 : BitVec 32) : Fin 3 → Nat :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_222 : BitVec 32 := 8#32
  let v246 : BitVec 32 := Scalar.muli v9 c8_i32_222
  let v247 : BitVec 32 := Scalar.addi c0_i32_223 v246
  let c6_i32 : BitVec 32 := 6#32
  let c4_i32 : BitVec 32 := 4#32
  let v234 : BitVec 32 := Scalar.divsi v232 c4_i32
  let v238 : BitVec 32 := Scalar.addi c6_i32 v234
  let v248 : BitVec 32 := Scalar.addi v247 v238
  let v250 : Index := Scalar.indexCast v248
  let c0_224 : Index := 0#32
  ![v249.toNat, v250.toNat, 0]
def k0_mult135 (k0_t12 : Fin k0_t12_loop.trips) : BitVec 32 :=
  let c64_i32 : BitVec 32 := 64#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_229 : BitVec 32 := 8#32
  let v266 : BitVec 32 := Scalar.muli v233 c8_i32_229
  let v267 : BitVec 32 := Scalar.addi c64_i32 v266
  v267
def k0_mult136 (k0_t12 : Fin k0_t12_loop.trips) : BitVec 32 :=
  let c128_i32_238 : BitVec 32 := 128#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_237 : BitVec 32 := 8#32
  let v294 : BitVec 32 := Scalar.muli v233 c8_i32_237
  let v295 : BitVec 32 := Scalar.addi c128_i32_238 v294
  v295
def k0_mult137 (k0_t12 : Fin k0_t12_loop.trips) : BitVec 32 :=
  let c192_i32 : BitVec 32 := 192#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_245 : BitVec 32 := 8#32
  let v322 : BitVec 32 := Scalar.muli v233 c8_i32_245
  let v323 : BitVec 32 := Scalar.addi c192_i32 v322
  v323
def k0_mult138 (k0_t12 : Fin k0_t12_loop.trips) : BitVec 32 :=
  let c256_i32_253 : BitVec 32 := 256#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_252 : BitVec 32 := 8#32
  let v350 : BitVec 32 := Scalar.muli v233 c8_i32_252
  let v351 : BitVec 32 := Scalar.addi c256_i32_253 v350
  v351
def k0_mult139 (k0_t12 : Fin k0_t12_loop.trips) : BitVec 32 :=
  let c320_i32 : BitVec 32 := 320#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_260 : BitVec 32 := 8#32
  let v378 : BitVec 32 := Scalar.muli v233 c8_i32_260
  let v379 : BitVec 32 := Scalar.addi c320_i32 v378
  v379
def k0_mult140 (k0_t12 : Fin k0_t12_loop.trips) : BitVec 32 :=
  let c384_i32_268 : BitVec 32 := 384#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_267 : BitVec 32 := 8#32
  let v406 : BitVec 32 := Scalar.muli v233 c8_i32_267
  let v407 : BitVec 32 := Scalar.addi c384_i32_268 v406
  v407
def k0_mult141 (k0_t12 : Fin k0_t12_loop.trips) : BitVec 32 :=
  let c448_i32 : BitVec 32 := 448#32
  let c16_i32_196 : BitVec 32 := 16#32
  let c1_i32_198 : BitVec 32 := 1#32
  let arg13 : BitVec 32 := Scf.iv c16_i32_196 c1_i32_198 k0_t12
  let c8_i32_218 : BitVec 32 := 8#32
  let v233 : BitVec 32 := Scalar.remsi arg13 c8_i32_218
  let c8_i32_275 : BitVec 32 := 8#32
  let v434 : BitVec 32 := Scalar.muli v233 c8_i32_275
  let v435 : BitVec 32 := Scalar.addi c448_i32 v434
  v435
def k0_mult142 (k0_t12 : Fin k0_t12_loop.trips) : BitVec 32 :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let c0_i32_284 : BitVec 32 := 0#32
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  v469
def k0_off51 (k0_t12 : Fin k0_t12_loop.trips) (c0_i32_284 : BitVec 32) : Fin 3 → Nat :=
  let c1_286 : Index := 1#32
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult143 (k0_t12 : Fin k0_t12_loop.trips) : BitVec 32 :=
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let c128_i32_289 : BitVec 32 := 128#32
  let v485 : BitVec 32 := Scalar.muli v234 c128_i32_289
  let c64_i32_290 : BitVec 32 := 64#32
  let v486 : BitVec 32 := Scalar.addi v485 c64_i32_290
  let c8_i32_218 : BitVec 32 := 8#32
  let v233 : BitVec 32 := Scalar.remsi arg13 c8_i32_218
  let c8_i32_291 : BitVec 32 := 8#32
  let v487 : BitVec 32 := Scalar.muli v233 c8_i32_291
  let v488 : BitVec 32 := Scalar.addi v486 v487
  v488
def k0_mult144 (k0_t12 : Fin k0_t12_loop.trips) : BitVec 32 :=
  let c6_i32_295 : BitVec 32 := 6#32
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  v504
def k0_off52 (i : grid0.Coords) (k0_t12 : Fin k0_t12_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c6_i32_295 : BitVec 32 := 6#32
  let c16_i32_196 : BitVec 32 := 16#32
  let c1_i32_198 : BitVec 32 := 1#32
  let arg13 : BitVec 32 := Scf.iv c16_i32_196 c1_i32_198 k0_t12
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
@[reducible] def k0_t13_loop : Scf.Loop 32 :=
  let c48_i32_211 : BitVec 32 := 48#32
  let c16_i32_212 : BitVec 32 := 16#32
  let v226 : BitVec 32 := Scalar.addi c48_i32_211 c16_i32_212
  let c1_i32_213 : BitVec 32 := 1#32
  ⟨c48_i32_211, v226, c1_i32_213⟩
def k0_mult145 (k0_t13 : Fin k0_t13_loop.trips) : BitVec 32 :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  v236
def k0_mult146 (k0_t13 : Fin k0_t13_loop.trips) : BitVec 32 :=
  let c0_i32_221 : BitVec 32 := 0#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  v240
def k0_off53 (k0_t13 : Fin k0_t13_loop.trips) (c0_i32_221 : BitVec 32) : Fin 2 → Nat :=
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_220 : BitVec 32 := 8#32
  let v239 : BitVec 32 := Scalar.muli v233 c8_i32_220
  let v240 : BitVec 32 := Scalar.addi c0_i32_221 v239
  let v241 : BitVec 32 := v240
  let v242 : Index := Scalar.indexCast v241
  let c8_i32 : BitVec 32 := 8#32
  let v232 : BitVec 32 := Scalar.divsi arg13 c8_i32
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v243 : Index := Scalar.indexCast v237
  ![v242.toNat, v243.toNat]
def k0_off54 (i : grid0.Coords) (k0_t13 : Fin k0_t13_loop.trips) (c0_i32_223 : BitVec 32) : Fin 3 → Nat :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32_219 : BitVec 32 := 4#32
  let v235 : BitVec 32 := Scalar.remsi v232 c4_i32_219
  let v249 : Index := Scalar.indexCast v235
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_222 : BitVec 32 := 8#32
  let v246 : BitVec 32 := Scalar.muli v9 c8_i32_222
  let v247 : BitVec 32 := Scalar.addi c0_i32_223 v246
  let c6_i32 : BitVec 32 := 6#32
  let c4_i32 : BitVec 32 := 4#32
  let v234 : BitVec 32 := Scalar.divsi v232 c4_i32
  let v238 : BitVec 32 := Scalar.addi c6_i32 v234
  let v248 : BitVec 32 := Scalar.addi v247 v238
  let v250 : Index := Scalar.indexCast v248
  let c0_224 : Index := 0#32
  ![v249.toNat, v250.toNat, 0]
def k0_mult147 (k0_t13 : Fin k0_t13_loop.trips) : BitVec 32 :=
  let c64_i32 : BitVec 32 := 64#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_229 : BitVec 32 := 8#32
  let v266 : BitVec 32 := Scalar.muli v233 c8_i32_229
  let v267 : BitVec 32 := Scalar.addi c64_i32 v266
  v267
def k0_mult148 (k0_t13 : Fin k0_t13_loop.trips) : BitVec 32 :=
  let c128_i32_238 : BitVec 32 := 128#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_237 : BitVec 32 := 8#32
  let v294 : BitVec 32 := Scalar.muli v233 c8_i32_237
  let v295 : BitVec 32 := Scalar.addi c128_i32_238 v294
  v295
def k0_mult149 (k0_t13 : Fin k0_t13_loop.trips) : BitVec 32 :=
  let c192_i32 : BitVec 32 := 192#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_245 : BitVec 32 := 8#32
  let v322 : BitVec 32 := Scalar.muli v233 c8_i32_245
  let v323 : BitVec 32 := Scalar.addi c192_i32 v322
  v323
def k0_mult150 (k0_t13 : Fin k0_t13_loop.trips) : BitVec 32 :=
  let c256_i32_253 : BitVec 32 := 256#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_252 : BitVec 32 := 8#32
  let v350 : BitVec 32 := Scalar.muli v233 c8_i32_252
  let v351 : BitVec 32 := Scalar.addi c256_i32_253 v350
  v351
def k0_mult151 (k0_t13 : Fin k0_t13_loop.trips) : BitVec 32 :=
  let c320_i32 : BitVec 32 := 320#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_260 : BitVec 32 := 8#32
  let v378 : BitVec 32 := Scalar.muli v233 c8_i32_260
  let v379 : BitVec 32 := Scalar.addi c320_i32 v378
  v379
def k0_mult152 (k0_t13 : Fin k0_t13_loop.trips) : BitVec 32 :=
  let c384_i32_268 : BitVec 32 := 384#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_267 : BitVec 32 := 8#32
  let v406 : BitVec 32 := Scalar.muli v233 c8_i32_267
  let v407 : BitVec 32 := Scalar.addi c384_i32_268 v406
  v407
def k0_mult153 (k0_t13 : Fin k0_t13_loop.trips) : BitVec 32 :=
  let c448_i32 : BitVec 32 := 448#32
  let c48_i32_211 : BitVec 32 := 48#32
  let c1_i32_213 : BitVec 32 := 1#32
  let arg13 : BitVec 32 := Scf.iv c48_i32_211 c1_i32_213 k0_t13
  let c8_i32_218 : BitVec 32 := 8#32
  let v233 : BitVec 32 := Scalar.remsi arg13 c8_i32_218
  let c8_i32_275 : BitVec 32 := 8#32
  let v434 : BitVec 32 := Scalar.muli v233 c8_i32_275
  let v435 : BitVec 32 := Scalar.addi c448_i32 v434
  v435
def k0_mult154 (k0_t13 : Fin k0_t13_loop.trips) : BitVec 32 :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let c0_i32_284 : BitVec 32 := 0#32
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  v469
def k0_off55 (k0_t13 : Fin k0_t13_loop.trips) (c0_i32_284 : BitVec 32) : Fin 3 → Nat :=
  let c1_286 : Index := 1#32
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let c128_i32_283 : BitVec 32 := 128#32
  let v466 : BitVec 32 := Scalar.muli v234 c128_i32_283
  let v467 : BitVec 32 := Scalar.addi v466 c0_i32_284
  let c8_i32_218 : BitVec 32 := 8#32
  let v233 : BitVec 32 := Scalar.remsi arg13 c8_i32_218
  let c8_i32_285 : BitVec 32 := 8#32
  let v468 : BitVec 32 := Scalar.muli v233 c8_i32_285
  let v469 : BitVec 32 := Scalar.addi v467 v468
  let v470 : BitVec 32 := v469
  let v471 : Index := Scalar.indexCast v470
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v472 : Index := Scalar.indexCast v237
  ![1, v471.toNat, v472.toNat]
def k0_mult155 (k0_t13 : Fin k0_t13_loop.trips) : BitVec 32 :=
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let c128_i32_289 : BitVec 32 := 128#32
  let v485 : BitVec 32 := Scalar.muli v234 c128_i32_289
  let c64_i32_290 : BitVec 32 := 64#32
  let v486 : BitVec 32 := Scalar.addi v485 c64_i32_290
  let c8_i32_218 : BitVec 32 := 8#32
  let v233 : BitVec 32 := Scalar.remsi arg13 c8_i32_218
  let c8_i32_291 : BitVec 32 := 8#32
  let v487 : BitVec 32 := Scalar.muli v233 c8_i32_291
  let v488 : BitVec 32 := Scalar.addi v486 v487
  v488
def k0_mult156 (k0_t13 : Fin k0_t13_loop.trips) : BitVec 32 :=
  let c6_i32_295 : BitVec 32 := 6#32
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  v504
def k0_off56 (i : grid0.Coords) (k0_t13 : Fin k0_t13_loop.trips) : Fin 4 → Nat :=
  let arg0 : BitVec 32 := BitVec.ofNat 32 (i 0).val
  let c2_i32 : BitVec 32 := 2#32
  let c0_i32_3 : BitVec 32 := 0#32
  let v10 : BitVec 1 := Scalar.cmpi .eq c2_i32 c0_i32_3
  let c1_i32_4 : BitVec 32 := 1#32
  let v11 : BitVec 32 := Scalar.select v10 c1_i32_4 c2_i32
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let v507 : Index := Scalar.indexCast v19
  let c6_i32_295 : BitVec 32 := 6#32
  let c48_i32_211 : BitVec 32 := 48#32
  let c1_i32_213 : BitVec 32 := 1#32
  let arg13 : BitVec 32 := Scf.iv c48_i32_211 c1_i32_213 k0_t13
  let c8_i32 : BitVec 32 := 8#32
  let v232 : BitVec 32 := Scalar.divsi arg13 c8_i32
  let c4_i32 : BitVec 32 := 4#32
  let v234 : BitVec 32 := Scalar.divsi v232 c4_i32
  let v501 : BitVec 32 := Scalar.addi c6_i32_295 v234
  let c64_i32_296 : BitVec 32 := 64#32
  let v502 : BitVec 32 := Scalar.muli v501 c64_i32_296
  let c8_i32_218 : BitVec 32 := 8#32
  let v233 : BitVec 32 := Scalar.remsi arg13 c8_i32_218
  let c8_i32_297 : BitVec 32 := 8#32
  let v503 : BitVec 32 := Scalar.muli v233 c8_i32_297
  let v504 : BitVec 32 := Scalar.addi v502 v503
  let v506 : BitVec 32 := v504
  let v508 : Index := Scalar.indexCast v506
  let c4_i32_219 : BitVec 32 := 4#32
  let v235 : BitVec 32 := Scalar.remsi v232 c4_i32_219
  let c128_i32 : BitVec 32 := 128#32
  let v236 : BitVec 32 := Scalar.muli v235 c128_i32
  let v237 : BitVec 32 := v236
  let v509 : Index := Scalar.indexCast v237
  ![v507.toNat, v508.toNat, 0, v509.toNat]
def k0_cond3 (i : grid0.Coords) : BitVec 1 :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_215 : BitVec 32 := 0#32
  let v227 : BitVec 1 := Scalar.cmpi .eq v9 c0_i32_215
  let c0_i32_216 : BitVec 32 := 0#32
  let v228 : BitVec 1 := Scalar.cmpi .sgt arg0 c0_i32_216
  let v229 : BitVec 1 := Scalar.andi v227 v228
  let v230 : BitVec 32 := Scalar.extui v229
  let c0_i32_217 : BitVec 32 := 0#32
  let v231 : BitVec 1 := Scalar.cmpi .ne v230 c0_i32_217
  v231

def cc0_transform_0 (i : grid0.Coords) : Fin 2 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_1 (i : grid0.Coords) : Fin 2 → Nat :=
  let arg0 : BitVec 32 := BitVec.ofNat 32 (i 0).val
  let c2047_i32 : BitVec 32 := 2047#32
  let v0 : BitVec 32 := Scalar.minsi arg0 c2047_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_2 (i : grid0.Coords) : Fin 3 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let c0_i32 : BitVec 32 := 0#32
  let v2 : BitVec 1 := Scalar.cmpi .eq c16_i32 c0_i32
  let c1_i32_1 : BitVec 32 := 1#32
  let v3 : BitVec 32 := Scalar.select v2 c1_i32_1 c16_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, c0_i32_6.toNat]

def cc0_transform_3 (i : grid0.Coords) : Fin 3 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c2047_i32 : BitVec 32 := 2047#32
  let v0 : BitVec 32 := Scalar.minsi arg0 c2047_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_6 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.maxsi arg0 c1_i32
  let c1_i32_0 : BitVec 32 := 1#32
  let v1 : BitVec 32 := Scalar.subi v0 c1_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S512x65536 : Shape := ⟨2, ![512, 65536]⟩
abbrev S8192x1024 : Shape := ⟨2, ![8192, 1024]⟩
abbrev S16x512x1024 : Shape := ⟨3, ![16, 512, 1024]⟩
abbrev S512x1024x128 : Shape := ⟨3, ![512, 1024, 128]⟩
abbrev S8x8192x1024 : Shape := ⟨3, ![8, 8192, 1024]⟩
abbrev S1024 : Shape := ⟨1, ![1024]⟩
abbrev S512x65536x2 : Shape := ⟨3, ![512, 65536, 2]⟩
abbrev S65536x512x2 : Shape := ⟨3, ![65536, 512, 2]⟩
abbrev S65536x1024 : Shape := ⟨2, ![65536, 1024]⟩
abbrev S8192x1024x2 : Shape := ⟨3, ![8192, 1024, 2]⟩
abbrev S8192x2x1024 : Shape := ⟨3, ![8192, 2, 1024]⟩
abbrev S16384x1024 : Shape := ⟨2, ![16384, 1024]⟩
abbrev S16x512x1024x2 : Shape := ⟨4, ![16, 512, 1024, 2]⟩
abbrev S16x512x8x8x8x2x2 : Shape := ⟨7, ![16, 512, 8, 8, 8, 2, 2]⟩
abbrev S16x8x2x8x8x512x2 : Shape := ⟨7, ![16, 8, 2, 8, 8, 512, 2]⟩
abbrev S512x1024x128x2 : Shape := ⟨4, ![512, 1024, 128, 2]⟩
abbrev S512x8x128x128x2 : Shape := ⟨5, ![512, 8, 128, 128, 2]⟩
abbrev S512x128x8x128x2 : Shape := ⟨5, ![512, 128, 8, 128, 2]⟩
abbrev S65536x8x128x2 : Shape := ⟨4, ![65536, 8, 128, 2]⟩
abbrev S8x64x65536x2 : Shape := ⟨4, ![8, 64, 65536, 2]⟩
abbrev S65536x8x2x64 : Shape := ⟨4, ![65536, 8, 2, 64]⟩
abbrev S65536x16384 : Shape := ⟨2, ![65536, 16384]⟩
abbrev S_ : Shape := ⟨0, ![]⟩
abbrev S65536x8x1x2x64 : Shape := ⟨5, ![65536, 8, 1, 2, 64]⟩
abbrev S65536x8x128x2x1 : Shape := ⟨5, ![65536, 8, 128, 2, 1]⟩
abbrev S65536x8x128x2x64 : Shape := ⟨5, ![65536, 8, 128, 2, 64]⟩
abbrev S65536x128x2x64 : Shape := ⟨4, ![65536, 128, 2, 64]⟩
abbrev S65536 : Shape := ⟨1, ![65536]⟩
abbrev S65536x1 : Shape := ⟨2, ![65536, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S512x65536, .i32⟩
  | .hbm, ⟨1, _⟩ => ⟨S8192x1024, .i32⟩
  | .hbm, ⟨2, _⟩ => ⟨S16x512x1024, .i32⟩
  | .hbm, ⟨3, _⟩ => ⟨S512x1024x128, .i32⟩
  | .hbm, ⟨4, _⟩ => ⟨S512x1024x128, .i32⟩
  | .hbm, ⟨5, _⟩ => ⟨S512x65536, .i32⟩
  | .hbm, ⟨6, _⟩ => ⟨S8x8192x1024, .f32⟩
  | .hbm, ⟨7, _⟩ => ⟨S1024, .f32⟩
  | .hbm, ⟨8, _⟩ => ⟨S512x65536x2, .bf16⟩
  | .hbm, ⟨9, _⟩ => ⟨S512x65536x2, .f32⟩
  | .hbm, ⟨10, _⟩ => ⟨S65536x512x2, .f32⟩
  | .hbm, ⟨11, _⟩ => ⟨S65536x1024, .f32⟩
  | .hbm, ⟨12, _⟩ => ⟨S8192x1024x2, .bf16⟩
  | .hbm, ⟨13, _⟩ => ⟨S8192x1024x2, .f32⟩
  | .hbm, ⟨14, _⟩ => ⟨S8192x2x1024, .f32⟩
  | .hbm, ⟨15, _⟩ => ⟨S16384x1024, .f32⟩
  | .hbm, ⟨16, _⟩ => ⟨S16x512x1024x2, .bf16⟩
  | .hbm, ⟨17, _⟩ => ⟨S16x512x1024x2, .f32⟩
  | .hbm, ⟨18, _⟩ => ⟨S16x512x8x8x8x2x2, .f32⟩
  | .hbm, ⟨19, _⟩ => ⟨S16x8x2x8x8x512x2, .f32⟩
  | .hbm, ⟨20, _⟩ => ⟨S16384x1024, .f32⟩
  | .hbm, ⟨21, _⟩ => ⟨S512x1024x128x2, .bf16⟩
  | .hbm, ⟨22, _⟩ => ⟨S512x1024x128x2, .f32⟩
  | .hbm, ⟨23, _⟩ => ⟨S512x8x128x128x2, .f32⟩
  | .hbm, ⟨24, _⟩ => ⟨S512x128x8x128x2, .f32⟩
  | .hbm, ⟨25, _⟩ => ⟨S65536x8x128x2, .f32⟩
  | .hbm, ⟨26, _⟩ => ⟨S512x1024x128x2, .bf16⟩
  | .hbm, ⟨27, _⟩ => ⟨S512x1024x128x2, .f32⟩
  | .hbm, ⟨28, _⟩ => ⟨S512x8x128x128x2, .f32⟩
  | .hbm, ⟨29, _⟩ => ⟨S512x128x8x128x2, .f32⟩
  | .hbm, ⟨30, _⟩ => ⟨S65536x8x128x2, .f32⟩
  | .hbm, ⟨31, _⟩ => ⟨S512x65536x2, .bf16⟩
  | .hbm, ⟨32, _⟩ => ⟨S512x65536x2, .f32⟩
  | .hbm, ⟨33, _⟩ => ⟨S8x64x65536x2, .f32⟩
  | .hbm, ⟨34, _⟩ => ⟨S65536x8x2x64, .f32⟩
  | .hbm, ⟨35, _⟩ => ⟨S65536x16384, .f32⟩
  | .hbm, ⟨36, _⟩ => ⟨S_, .f32⟩
  | .hbm, ⟨37, _⟩ => ⟨S65536x16384, .f32⟩
  | .hbm, ⟨38, _⟩ => ⟨S65536x16384, .f32⟩
  | .hbm, ⟨39, _⟩ => ⟨S65536x16384, .f32⟩
  | .hbm, ⟨40, _⟩ => ⟨S_, .f32⟩
  | .hbm, ⟨41, _⟩ => ⟨S65536x16384, .f32⟩
  | .hbm, ⟨42, _⟩ => ⟨S65536x16384, .f32⟩
  | .hbm, ⟨43, _⟩ => ⟨S65536x16384, .f32⟩
  | .hbm, ⟨44, _⟩ => ⟨S65536x8x1x2x64, .f32⟩
  | .hbm, ⟨45, _⟩ => ⟨S65536x8x128x2x1, .f32⟩
  | .hbm, ⟨46, _⟩ => ⟨S65536x8x128x2x64, .f32⟩
  | .hbm, ⟨47, _⟩ => ⟨S65536x8x128x2x64, .f32⟩
  | .hbm, ⟨48, _⟩ => ⟨S65536x8x128x2x64, .i1⟩
  | .hbm, ⟨49, _⟩ => ⟨S65536x8x128x2x1, .f32⟩
  | .hbm, ⟨50, _⟩ => ⟨S65536x8x128x2x64, .f32⟩
  | .hbm, ⟨51, _⟩ => ⟨S65536x8x128x2x64, .f32⟩
  | .hbm, ⟨52, _⟩ => ⟨S65536x8x128x2x64, .f32⟩
  | .hbm, ⟨53, _⟩ => ⟨S_, .f32⟩
  | .hbm, ⟨54, _⟩ => ⟨S_, .f32⟩
  | .hbm, ⟨55, _⟩ => ⟨S65536x8x128x2x64, .f32⟩
  | .hbm, ⟨56, _⟩ => ⟨S65536x8x128x2x64, .f32⟩
  | .hbm, ⟨57, _⟩ => ⟨S_, .f32⟩
  | .hbm, ⟨58, _⟩ => ⟨S65536x128x2x64, .f32⟩
  | .hbm, ⟨59, _⟩ => ⟨S65536x16384, .f32⟩
  | .hbm, ⟨60, _⟩ => ⟨S65536x16384, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S_, .f32⟩
  | .hbm, ⟨66, _⟩ => ⟨S65536, .f32⟩
  | .hbm, ⟨67, _⟩ => ⟨S65536x1, .f32⟩
  | .hbm, ⟨68, _⟩ => ⟨S_, .f32⟩
  | .hbm, ⟨69, _⟩ => ⟨S65536x1, .f32⟩
  | .hbm, ⟨70, _⟩ => ⟨S65536x1, .f32⟩
  | .hbm, ⟨71, _⟩ => ⟨S_, .f32⟩
  | .hbm, ⟨72, _⟩ => ⟨S65536x1, .f32⟩
  | .hbm, ⟨73, _⟩ => ⟨S65536x1, .f32⟩
  | .hbm, ⟨74, _⟩ => ⟨S65536x1, .f32⟩
  | .hbm, ⟨75, _⟩ => ⟨S65536x1024, .f32⟩
  | .hbm, ⟨76, _⟩ => ⟨S65536x1024, .f32⟩
  | .hbm, ⟨77, _⟩ => ⟨S1x1024, .f32⟩
  | .hbm, ⟨78, _⟩ => ⟨S65536x1024, .f32⟩
  | .hbm, ⟨79, _⟩ => ⟨S65536x1024, .f32⟩
  | _, _ => ⟨S512x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_1 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel2.lean ====
abbrev S8x8192x1024 : Shape := ⟨3, ![8, 8192, 1024]⟩
abbrev S1x1024 : Shape := ⟨2, ![1, 1024]⟩
abbrev S1x1024x2568 : Shape := ⟨3, ![1, 1024, 2568]⟩
abbrev S1x4x1536 : Shape := ⟨3, ![1, 4, 1536]⟩
abbrev S1x4 : Shape := ⟨2, ![1, 4]⟩
abbrev S1024x2568 : Shape := ⟨2, ![1024, 2568]⟩
abbrev S1024x2048 : Shape := ⟨2, ![1024, 2048]⟩
abbrev S1024x512 : Shape := ⟨2, ![1024, 512]⟩
abbrev S1024x2560 : Shape := ⟨2, ![1024, 2560]⟩
abbrev S1024x8 : Shape := ⟨2, ![1024, 8]⟩
abbrev S_ : Shape := ⟨0, ![]⟩
abbrev S1024x128 : Shape := ⟨2, ![1024, 128]⟩
abbrev S4 : Shape := ⟨1, ![4]⟩
abbrev S8 : Shape := ⟨1, ![8]⟩
abbrev S128 : Shape := ⟨1, ![128]⟩
abbrev S1x128 : Shape := ⟨2, ![1, 128]⟩
abbrev S1024 : Shape := ⟨1, ![1024]⟩
abbrev S4x1536 : Shape := ⟨2, ![4, 1536]⟩
abbrev S8x8192x512 : Shape := ⟨3, ![8, 8192, 512]⟩
abbrev S8x8192x128 : Shape := ⟨3, ![8, 8192, 128]⟩
abbrev S1x512x1024 : Shape := ⟨3, ![1, 512, 1024]⟩
abbrev S1x512x512 : Shape := ⟨3, ![1, 512, 512]⟩
abbrev S1x512x128 : Shape := ⟨3, ![1, 512, 128]⟩
abbrev S8x1536 : Shape := ⟨2, ![8, 1536]⟩
abbrev S128x128 : Shape := ⟨2, ![128, 128]⟩
abbrev S1x128x1024 : Shape := ⟨3, ![1, 128, 1024]⟩
abbrev S128x1024 : Shape := ⟨2, ![128, 1024]⟩
abbrev S128x1 : Shape := ⟨2, ![128, 1]⟩
abbrev S128x2560 : Shape := ⟨2, ![128, 2560]⟩
abbrev S128x1536 : Shape := ⟨2, ![128, 1536]⟩
abbrev S128x512 : Shape := ⟨2, ![128, 512]⟩
abbrev S1x128x512 : Shape := ⟨3, ![1, 128, 512]⟩
abbrev S136x1536 : Shape := ⟨2, ![136, 1536]⟩
abbrev S1x1536 : Shape := ⟨2, ![1, 1536]⟩
abbrev S1x128x128 : Shape := ⟨3, ![1, 128, 128]⟩

abbrev nBuf : Space → Nat
  | .hbm => 39
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2568, .f32⟩
  | .hbm, ⟨3, _⟩ => ⟨S1x4x1536, .f32⟩
  | .hbm, ⟨4, _⟩ => ⟨S1x4, .f32⟩
  | .hbm, ⟨5, _⟩ => ⟨S1x4, .f32⟩
  | .hbm, ⟨6, _⟩ => ⟨S1024x2568, .f32⟩
  | .hbm, ⟨7, _⟩ => ⟨S1024x2048, .f32⟩
  | .hbm, ⟨8, _⟩ => ⟨S1024x512, .f32⟩
  | .hbm, ⟨9, _⟩ => ⟨S1024x2560, .f32⟩
  | .hbm, ⟨10, _⟩ => ⟨S1024x2560, .bf16⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S8, .f32⟩
  | .hbm, ⟨20, _⟩ => ⟨S4, .f32⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1024, .f32⟩
  | .hbm, ⟨31, _⟩ => ⟨S1x1024, .f32⟩
  | .hbm, ⟨32, _⟩ => ⟨S4x1536, .f32⟩
  | .hbm, ⟨33, _⟩ => ⟨S8x8192x512, .f32⟩
  | .hbm, ⟨34, _⟩ => ⟨S8x8192x512, .f32⟩
  | .hbm, ⟨35, _⟩ => ⟨S8x8192x512, .f32⟩
  | .hbm, ⟨36, _⟩ => ⟨S8x8192x512, .f32⟩
  | .hbm, ⟨37, _⟩ => ⟨S8x8192x512, .f32⟩
  | .hbm, ⟨38, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S1024x128, .bf16⟩
  | .local _ .vmem, ⟨5, _⟩ => ⟨S4x1536, .f32⟩
  | .local _ .vmem, ⟨6, _⟩ => ⟨S1x128, .f32⟩
  | .local _ .vmem, ⟨7, _⟩ => ⟨S1x128, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x128, .f32⟩
  | .local _ .vmem, ⟨19, _⟩ => ⟨S1x512x128, .f32⟩
  | .local _ .vmem, ⟨20, _⟩ => ⟨S8x1536, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x8192x1024 : Shape := ⟨3, ![8, 8192, 1024]⟩
abbrev S1x1024 : Shape := ⟨2, ![1, 1024]⟩
abbrev S1x1024x2568 : Shape := ⟨3, ![1, 1024, 2568]⟩
abbrev S1x4x1536 : Shape := ⟨3, ![1, 4, 1536]⟩
abbrev S1x4 : Shape := ⟨2, ![1, 4]⟩
abbrev S_ : Shape := ⟨0, ![]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩
abbrev S1024x2568 : Shape := ⟨2, ![1024, 2568]⟩
abbrev S8x8192x2568 : Shape := ⟨3, ![8, 8192, 2568]⟩
abbrev S8x8192x1536 : Shape := ⟨3, ![8, 8192, 1536]⟩
abbrev S8x8192x512 : Shape := ⟨3, ![8, 8192, 512]⟩
abbrev S8x8192x8 : Shape := ⟨3, ![8, 8192, 8]⟩
abbrev S8x8195x1536 : Shape := ⟨3, ![8, 8195, 1536]⟩
abbrev S1x1x1536 : Shape := ⟨3, ![1, 1, 1536]⟩
abbrev S1536 : Shape := ⟨1, ![1536]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S8x8192x128 : Shape := ⟨3, ![8, 8192, 128]⟩
abbrev S4 : Shape := ⟨1, ![4]⟩
abbrev S128 : Shape := ⟨1, ![128]⟩
abbrev S1x1x128 : Shape := ⟨3, ![1, 1, 128]⟩
abbrev S8x128x1x64x128 : Shape := ⟨5, ![8, 128, 1, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x1x64x64x1 : Shape := ⟨5, ![1, 1, 64, 64, 1]⟩
abbrev S8x128x64x64x128 : Shape := ⟨5, ![8, 128, 64, 64, 128]⟩
abbrev S8x128x64x128 : Shape := ⟨4, ![8, 128, 64, 128]⟩

abbrev nBuf : Space → Nat
  | .hbm => 162
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x2568, .f32⟩
  | 3 => ⟨S1x4x1536, .f32⟩
  | 4 => ⟨S1x4, .f32⟩
  | 5 => ⟨S1x4, .f32⟩
  | 6 => ⟨S8x8192x1024, .f32⟩
  | 7 => ⟨S_, .f32⟩
  | 8 => ⟨S8x8192, .f32⟩
  | 9 => ⟨S8x8192x1, .f32⟩
  | 10 => ⟨S_, .f32⟩
  | 11 => ⟨S8x8192x1, .f32⟩
  | 12 => ⟨S8x8192x1, .f32⟩
  | 13 => ⟨S_, .f32⟩
  | 14 => ⟨S8x8192x1, .f32⟩
  | 15 => ⟨S8x8192x1, .f32⟩
  | 16 => ⟨S8x8192x1, .f32⟩
  | 17 => ⟨S8x8192x1024, .f32⟩
  | 18 => ⟨S8x8192x1024, .f32⟩
  | 19 => ⟨S1024, .f32⟩
  | 20 => ⟨S1x1x1024, .f32⟩
  | 21 => ⟨S8x8192x1024, .f32⟩
  | 22 => ⟨S8x8192x1024, .f32⟩
  | 23 => ⟨S1024x2568, .f32⟩
  | 24 => ⟨S8x8192x2568, .f32⟩
  | 25 => ⟨S8x8192x1536, .f32⟩
  | 26 => ⟨S8x8192x512, .f32⟩
  | 27 => ⟨S8x8192x8, .f32⟩
  | 28 => ⟨S8x8192x512, .f32⟩
  | 29 => ⟨S_, .i32⟩
  | 30 => ⟨S_, .f32⟩
  | 31 => ⟨S8x8195x1536, .f32⟩
  | 32 => ⟨S8x8192x1536, .f32⟩
  | 33 => ⟨S1x1x1536, .f32⟩
  | 34 => ⟨S1536, .f32⟩
  | 35 => ⟨S1x1x1536, .f32⟩
  | 36 => ⟨S8x8192x1536, .f32⟩
  | 37 => ⟨S8x8192x1536, .f32⟩
  | 38 => ⟨S8x8192x1536, .f32⟩
  | 39 => ⟨S1x1x1536, .f32⟩
  | 40 => ⟨S1536, .f32⟩
  | 41 => ⟨S1x1x1536, .f32⟩
  | 42 => ⟨S8x8192x1536, .f32⟩
  | 43 => ⟨S8x8192x1536, .f32⟩
  | 44 => ⟨S8x8192x1536, .f32⟩
  | 45 => ⟨S8x8192x1536, .f32⟩
  | 46 => ⟨S1x1x1536, .f32⟩
  | 47 => ⟨S1536, .f32⟩
  | 48 => ⟨S1x1x1536, .f32⟩
  | 49 => ⟨S8x8192x1536, .f32⟩
  | 50 => ⟨S8x8192x1536, .f32⟩
  | 51 => ⟨S8x8192x1536, .f32⟩
  | 52 => ⟨S8x8192x1536, .f32⟩
  | 53 => ⟨S1x1x1536, .f32⟩
  | 54 => ⟨S1536, .f32⟩
  | 55 => ⟨S1x1x1536, .f32⟩
  | 56 => ⟨S8x8192x1536, .f32⟩
  | 57 => ⟨S8x8192x1536, .f32⟩
  | 58 => ⟨S8x8192x1536, .f32⟩
  | 59 => ⟨S8x8192x1536, .f32⟩
  | 60 => ⟨S8x8192x1536, .f32⟩
  | 61 => ⟨S_, .f32⟩
  | 62 => ⟨S8x8192x1536, .f32⟩
  | 63 => ⟨S8x8192x1536, .f32⟩
  | 64 => ⟨S_, .f32⟩
  | 65 => ⟨S8x8192x1536, .f32⟩
  | 66 => ⟨S8x8192x1536, .f32⟩
  | 67 => ⟨S8x8192x1536, .f32⟩
  | 68 => ⟨S8x8192x512, .f32⟩
  | 69 => ⟨S8x8192x4x128, .f32⟩
  | 70 => ⟨S8x8192x4x128, .f32⟩
  | 71 => ⟨S_, .f32⟩
  | 72 => ⟨S8x8192x4, .f32⟩
  | 73 => ⟨S8x8192x4x1, .f32⟩
  | 74 => ⟨S_, .f32⟩
  | 75 => ⟨S8x8192x4x1, .f32⟩
  | 76 => ⟨S8x8192x4x1, .f32⟩
  | 77 => ⟨S8x8192x4x1, .f32⟩
  | 78 => ⟨S8x8192x4x128, .f32⟩
  | 79 => ⟨S8x8192x4x128, .f32⟩
  | 80 => ⟨S_, .f32⟩
  | 81 => ⟨S8x8192x4x128, .f32⟩
  | 82 => ⟨S8x8192x4x128, .f32⟩
  | 83 => ⟨S8x8192x512, .f32⟩
  | 84 => ⟨S8x8192x512, .f32⟩
  | 85 => ⟨S8x8192x4x128, .f32⟩
  | 86 => ⟨S8x8192x4x128, .f32⟩
  | 87 => ⟨S_, .f32⟩
  | 88 => ⟨S8x8192x4, .f32⟩
  | 89 => ⟨S8x8192x4x1, .f32⟩
  | 90 => ⟨S_, .f32⟩
  | 91 => ⟨S8x8192x4x1, .f32⟩
  | 92 => ⟨S8x8192x4x1, .f32⟩
  | 93 => ⟨S8x8192x4x1, .f32⟩
  | 94 => ⟨S8x8192x4x128, .f32⟩
  | 95 => ⟨S8x8192x4x128, .f32⟩
  | 96 => ⟨S8x8192x512, .f32⟩
  | 97 => ⟨S8x8192x512, .f32⟩
  | 98 => ⟨S_, .i32⟩
  | 99 => ⟨S_, .f32⟩
  | 100 => ⟨S8x8192x128, .f32⟩
  | 101 => ⟨S4, .f32⟩
  | 102 => ⟨S_, .i32⟩
  | 103 => ⟨S_, .f32⟩
  | 104 => ⟨S128, .f32⟩
  | 105 => ⟨S4, .f32⟩
  | 106 => ⟨S_, .i32⟩
  | 107 => ⟨S_, .f32⟩
  | 108 => ⟨S128, .f32⟩
  | 109 => ⟨S128, .f32⟩
  | 110 => ⟨S128, .f32⟩
  | 111 => ⟨S1x1x128, .f32⟩
  | 112 => ⟨S8x8192x128, .f32⟩
  | 113 => ⟨S8x8192x128, .f32⟩
  | 114 => ⟨S_, .f32⟩
  | 115 => ⟨S8x8192x128, .f32⟩
  | 116 => ⟨S8x8192x128, .f32⟩
  | 117 => ⟨S8x8192x128, .f32⟩
  | 118 => ⟨S8x8192x128, .f32⟩
  | 119 => ⟨S8x8192x128, .i1⟩
  | 120 => ⟨S8x8192x128, .f32⟩
  | 121 => ⟨S8x8192x128, .f32⟩
  | 122 => ⟨S8x8192x128, .f32⟩
  | 123 => ⟨S8x8192x128, .f32⟩
  | 124 => ⟨S8x8192x128, .f32⟩
  | 125 => ⟨S8x8192x128, .f32⟩
  | 126 => ⟨S8x8192x128, .f32⟩
  | 127 => ⟨S8x8192x128, .f32⟩
  | _ => ⟨S8x8192x1024, .f32⟩

abbrev hbmTy0_1 (i : Nat) : BufTy := match i % 128 with
  | 0 => ⟨S1x1x128, .f32⟩
  | 1 => ⟨S8x8192x128, .f32⟩
  | 2 => ⟨S8x8192x128, .f32⟩
  | 3 => ⟨S8x128x1x64x128, .f32⟩
  | 4 => ⟨S64, .i32⟩
  | 5 => ⟨S64x1, .i32⟩
  | 6 => ⟨S1x64, .i32⟩
  | 7 => ⟨S64x64, .i32⟩
  | 8 => ⟨S64x64, .i32⟩
  | 9 => ⟨S64x64, .i1⟩
  | 10 => ⟨S1x1x64x64x1, .i1⟩
  | 11 => ⟨S_, .f32⟩
  | 12 => ⟨S_, .f32⟩
  | 13 => ⟨S8x128x64x64x128, .i1⟩
  | 14 => ⟨S8x128x64x64x128, .f32⟩
  | 15 => ⟨S8x128x64x64x128, .f32⟩
  | 16 => ⟨S8x128x64x64x128, .f32⟩
  | 17 => ⟨S_, .f32⟩
  | 18 => ⟨S8x128x64x128, .f32⟩
  | 19 => ⟨S8x8192x128, .f32⟩
  | 20 => ⟨S128, .i32⟩
  | 21 => ⟨S_, .i32⟩
  | 22 => ⟨S128, .i32⟩
  | 23 => ⟨S128, .i1⟩
  | 24 => ⟨S8x8192x128, .f32⟩
  | 25 => ⟨S8x8192x128, .f32⟩
  | 26 => ⟨S_, .f32⟩
  | 27 => ⟨S8x8192x128, .f32⟩
  | 28 => ⟨S8x8192x128, .f32⟩
  | 29 => ⟨S_, .f32⟩
  | 30 => ⟨S8x8192x128, .f32⟩
  | 31 => ⟨S8x8192x128, .f32⟩
  | 32 => ⟨S8x8192x128, .i1⟩
  | 33 => ⟨S8x8192x128, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_7 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_9 : Ref sig .tc := ⟨.hbm, 98, rfl⟩
abbrev main_call1_v0 : Ref sig .tc := ⟨.hbm, 99, rfl⟩
abbrev main_v80 : Ref sig .tc := ⟨.hbm, 100, rfl⟩
abbrev main_v81 : Ref sig .tc := ⟨.hbm, 101, rfl⟩
abbrev main_c_10 : Ref sig .tc := ⟨.hbm, 102, rfl⟩
abbrev main_call2_v0 : Ref sig .tc := ⟨.hbm, 103, rfl⟩
abbrev main_v82 : Ref sig .tc := ⟨.hbm, 104, rfl⟩
abbrev main_v83 : Ref sig .tc := ⟨.hbm, 105, rfl⟩
abbrev main_c_11 : Ref sig .tc := ⟨.hbm, 106, rfl⟩
abbrev main_call3_v0 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_12 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_v102 : Ref sig .tc := ⟨.hbm, 144, rfl⟩
abbrev main_cst_13 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_14 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_15 : Ref sig .tc := ⟨.hbm, 154, rfl⟩
abbrev main_v110 : Ref sig .tc := ⟨.hbm, 155, rfl⟩
abbrev main_v111 : Ref sig .tc := ⟨.hbm, 156, rfl⟩
abbrev main_cst_16 : Ref sig .tc := ⟨.hbm, 157, rfl⟩
abbrev main_v112 : Ref sig .tc := ⟨.hbm, 158, rfl⟩
abbrev main_v113 : Ref sig .tc := ⟨.hbm, 159, rfl⟩
abbrev main_call6_v0 : Ref sig .tc := ⟨.hbm, 160, rfl⟩
abbrev main_v114 : Ref sig .tc := ⟨.hbm, 161, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1024x65536 : Shape := ⟨2, ![1024, 65536]⟩
abbrev S1x512x1024 : Shape := ⟨3, ![1, 512, 1024]⟩
abbrev S1x512x512 : Shape := ⟨3, ![1, 512, 512]⟩
abbrev S1024x512 : Shape := ⟨2, ![1024, 512]⟩
abbrev S16x512 : Shape := ⟨2, ![16, 512]⟩
abbrev S512x512 : Shape := ⟨2, ![512, 512]⟩
abbrev S528x512 : Shape := ⟨2, ![528, 512]⟩
abbrev S512x1 : Shape := ⟨2, ![512, 1]⟩
abbrev S528x128 : Shape := ⟨2, ![528, 128]⟩
abbrev S527x128 : Shape := ⟨2, ![527, 128]⟩
abbrev S512x128 : Shape := ⟨2, ![512, 128]⟩
abbrev S1x128x128 : Shape := ⟨3, ![1, 128, 128]⟩
abbrev S128x128 : Shape := ⟨2, ![128, 128]⟩
abbrev S525x128 : Shape := ⟨2, ![525, 128]⟩
abbrev S521x128 : Shape := ⟨2, ![521, 128]⟩
abbrev S513x128 : Shape := ⟨2, ![513, 128]⟩
abbrev S512x1024 : Shape := ⟨2, ![512, 1024]⟩

abbrev nBuf : Space → Nat
  | .hbm => 17
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S4x128x128, .f32⟩
  | .hbm, ⟨8, _⟩ => ⟨S4x128x128, .bf16⟩
  | .hbm, ⟨9, _⟩ => ⟨S512, .f32⟩
  | .hbm, ⟨10, _⟩ => ⟨S1x512, .f32⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S8x8192x1024, .f32⟩
  | .hbm, ⟨16, _⟩ => ⟨S1024x65536, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S4x128x128, .bf16⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1024x512, .bf16⟩
  | .local _ .vmem, ⟨13, _⟩ => ⟨S1024x512, .bf16⟩
  | .local _ .vmem, ⟨14, _⟩ => ⟨S16x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x8192x1024 : Shape := ⟨3, ![8, 8192, 1024]⟩
abbrev S8x8192x512 : Shape := ⟨3, ![8, 8192, 512]⟩
abbrev S1x4x128x128 : Shape := ⟨4, ![1, 4, 128, 128]⟩
abbrev S1x512 : Shape := ⟨2, ![1, 512]⟩
abbrev S1x1024x1024 : Shape := ⟨3, ![1, 1024, 1024]⟩
abbrev S1x1024 : Shape := ⟨2, ![1, 1024]⟩
abbrev S8x8192x4x128 : Shape := ⟨4, ![8, 8192, 4, 128]⟩
abbrev S_ : Shape := ⟨0, ![]⟩
abbrev S4 : Shape := ⟨1, ![4]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x1x1 : Shape := ⟨3, ![4, 1, 1]⟩
abbrev S4x1x8192 : Shape := ⟨3, ![4, 1, 8192]⟩
abbrev S4x8192x8192 : Shape := ⟨3, ![4, 8192, 8192]⟩
abbrev S4x8x128x8192 : Shape := ⟨4, ![4, 8, 128, 8192]⟩
abbrev S8192x1 : Shape := ⟨2, ![8192, 1]⟩
abbrev S1x4 : Shape := ⟨2, ![1, 4]⟩
abbrev S8192x4 : Shape := ⟨2, ![8192, 4]⟩
abbrev S1x8192x4x1 : Shape := ⟨4, ![1, 8192, 4, 1]⟩
abbrev S4x128x128 : Shape := ⟨3, ![4, 128, 128]⟩
abbrev S4x128x8x8192 : Shape := ⟨4, ![4, 128, 8, 8192]⟩
abbrev S512 : Shape := ⟨1, ![512]⟩
abbrev S1x1x512 : Shape := ⟨3, ![1, 1, 512]⟩
abbrev S1024x1024 : Shape := ⟨2, ![1024, 1024]⟩
abbrev S8x8192 : Shape := ⟨2, ![8, 8192]⟩
abbrev S8x8192x1 : Shape := ⟨3, ![8, 8192, 1]⟩
abbrev S1024 : Shape := ⟨1, ![1024]⟩
abbrev S1x1x1024 : Shape := ⟨3, ![1, 1, 1024]⟩
abbrev S65536x1024 : Shape := ⟨2, ![65536, 1024]⟩
abbrev S1024x65536 : Shape := ⟨2, ![1024, 65536]⟩

abbrev nBuf : Space → Nat
  | .hbm => 82
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S1x4x128x128, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S8x8192x4x128, .f32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S8192, .i32⟩
  | .hbm, ⟨13, _⟩ => ⟨S1x1x8192, .i32⟩
  | .hbm, ⟨14, _⟩ => ⟨S1x8192x1, .i32⟩
  | .hbm, ⟨15, _⟩ => ⟨S1x8192x8192, .i32⟩
  | .hbm, ⟨16, _⟩ => ⟨S1x8192x8192, .i32⟩
  | .hbm, ⟨17, _⟩ => ⟨S1x8192x8192, .i1⟩
  | .hbm, ⟨18, _⟩ => ⟨S1x8192x1, .i32⟩
  | .hbm, ⟨19, _⟩ => ⟨S1x1x8192, .i32⟩
  | .hbm, ⟨20, _⟩ => ⟨S4x1x1, .i32⟩
  | .hbm, ⟨21, _⟩ => ⟨S4x1x8192, .i32⟩
  | .hbm, ⟨22, _⟩ => ⟨S4x1x8192, .i32⟩
  | .hbm, ⟨23, _⟩ => ⟨S4x1x8192, .i32⟩
  | .hbm, ⟨24, _⟩ => ⟨S4x8192x8192, .i32⟩
  | .hbm, ⟨25, _⟩ => ⟨S4x8192x8192, .i32⟩
  | .hbm, ⟨26, _⟩ => ⟨S4x8192x8192, .i1⟩
  | .hbm, ⟨27, _⟩ => ⟨S4x8192x8192, .i1⟩
  | .hbm, ⟨28, _⟩ => ⟨S4x8192x8192, .i1⟩
  | .hbm, ⟨29, _⟩ => ⟨S_, .f32⟩
  | .hbm, ⟨30, _⟩ => ⟨S_, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S4x8x128x8192, .f32⟩
  | .hbm, ⟨35, _⟩ => ⟨S8x8192x4x128, .f32⟩
  | .hbm, ⟨36, _⟩ => ⟨S8192x1, .i32⟩
  | .hbm, ⟨37, _⟩ => ⟨S_, .i32⟩
  | .hbm, ⟨38, _⟩ => ⟨S8192x1, .i32⟩
  | .hbm, ⟨39, _⟩ => ⟨S8192x1, .i32⟩
  | .hbm, ⟨40, _⟩ => ⟨S1x4, .i32⟩
  | .hbm, ⟨41, _⟩ => ⟨S8192x4, .i32⟩
  | .hbm, ⟨42, _⟩ => ⟨S8192x4, .i32⟩
  | .hbm, ⟨43, _⟩ => ⟨S8192x4, .i32⟩
  | .hbm, ⟨44, _⟩ => ⟨S8192x4, .f32⟩
  | .hbm, ⟨45, _⟩ => ⟨S1x8192x4x1, .f32⟩
  | .hbm, ⟨46, _⟩ => ⟨S8x8192x4x128, .f32⟩
  | .hbm, ⟨47, _⟩ => ⟨S8x8192x4x128, .f32⟩
  | .hbm, ⟨48, _⟩ => ⟨S8x8192x4x128, .f32⟩
  | .hbm, ⟨49, _⟩ => ⟨S4x128x128, .f32⟩
  | .hbm, ⟨50, _⟩ => ⟨S4x128x8x8192, .f32⟩
  | .hbm, ⟨51, _⟩ => ⟨S8x8192x4x128, .f32⟩
  | .hbm, ⟨52, _⟩ => ⟨S8x8192x512, .f32⟩
  | .hbm, ⟨53, _⟩ => ⟨S512, .f32⟩
  | .hbm, ⟨54, _⟩ => ⟨S1x1x512, .f32⟩
  | .hbm, ⟨55, _⟩ => ⟨S8x8192x512, .f32⟩
  | .hbm, ⟨56, _⟩ => ⟨S8x8192x512, .f32⟩
  | .hbm, ⟨57, _⟩ => ⟨S8x8192x512, .f32⟩
  | .hbm, ⟨58, _⟩ => ⟨S8x8192x1024, .f32⟩
  | .hbm, ⟨59, _⟩ => ⟨S1024x1024, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x1, .f32⟩
  | .hbm, ⟨73, _⟩ => ⟨S8x8192x1024, .f32⟩
  | .hbm, ⟨74, _⟩ => ⟨S8x8192x1024, .f32⟩
  | .hbm, ⟨75, _⟩ => ⟨S1024, .f32⟩
  | .hbm, ⟨76, _⟩ => ⟨S1x1x1024, .f32⟩
  | .hbm, ⟨77, _⟩ => ⟨S8x8192x1024, .f32⟩
  | .hbm, ⟨78, _⟩ => ⟨S8x8192x1024, .f32⟩
  | .hbm, ⟨79, _⟩ => ⟨S65536x1024, .f32⟩
  | .hbm, ⟨80, _⟩ => ⟨S1024x65536, .f32⟩
  | .hbm, ⟨81, _⟩ => ⟨S1024x65536, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_2 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Proof.IdealFrame.lean ====
/-
  The frame of `KernelIdeal`: the run of its one kernel at every grid point leaves every argument array as it was and every
  semaphore at zero. The body's triple is found by one run of the body over the generated loop invariants; the output
  block and the three scratch buffers are left at contents nobody names.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

set_option maxHeartbeats 8000000 in
/-- One call of the body, for any continuation: the eight inputs owned at their contents come back as they were, the
    output and the three scratch buffers at some contents. -/
theorem kernelRun (c : Dev nD) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole)
    (x1 : S512x512.Idx → Elt F .i32) (x2 : S512x1024.Idx → Elt F .i32) (x3 : S1x512x1024.Idx → Elt F .i32) (x4 : S4x1024x128.Idx → Elt F .i32) (x5 : S4x1024x128.Idx → Elt F .i32) (x6 : S512x512.Idx → Elt F .i32) (x7 : S512x1024.Idx → Elt F .f32) (x8 : S8x1024.Idx → Elt F .f32) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)) -∗ K ⟨⟩))
      ⊢ wp frame (wpE (defs₀ (F := F)) Variants.none c none) Set.univ
          (cc0_peer_dense i arg1 harg1 arg2 harg2 arg3 harg3 arg4 harg4 arg5 harg5 arg6 harg6 arg7 harg7 arg8 harg8 arg9 harg9 arg10 harg10 arg11 harg11 arg12 harg12) K := by
  simp only [cc0_peer_dense_eq_skeleton]; unfold cc0_peer_dense_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

/-! ## The proof data -/

/-- The output window, forgotten: nothing here reads what the body leaves in it. -/
def forgets0 : Fin 9 → Bool := fun w => decide (w = 8)

variable (m : (ℓ : Loc nD τ sig) → Buf (Elt F) ℓ) (ρ : Dev nD → PrngReg)

/-- The proof data on core `c`: every array as the region finds it, every input block left in place. -/
def dats (_ : Fin 1) (c : Dev nD) : Dat τ (Elt F) Unit ℕ (UR sig nD τ) ℕ cfg0 c where
  A w := V m c (Pipeline.arrRef spec0 w)
  after := fun
    | 0, t => iblk m c 0 t
    | 1, t => iblk m c 1 t
    | 2, t => iblk m c 2 t
    | 3, t => iblk m c 3 t
    | 4, t => iblk m c 4 t
    | 5, t => iblk m c 5 t
    | 6, t => iblk m c 6 t
    | 7, t => iblk m c 7 t
    | 8, t => Pipeline.Dat.unnamed (cfg := cfg0) 8 t
    | ⟨_ + 9, h⟩, _ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare d))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ (∃ d, owns (c : Thread nD τ) (win0_8.stage (cfg0.slots t 8)) fullShare d))

/-- The invariant's parts: the three scratch buffers at some contents and the generator's register. -/
theorem ΦA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA_eq]
  simp only [before_0, before_1, before_2, before_3, before_4, before_5, before_6, before_7]
  iintro ⟨⟨⟨S0, S1, S2⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, W8⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) (iblk m c 7 t) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [S0]; · iexact S0
  isplitl [S1]; · iexact S1
  isplitl [S2]; · iexact S2
  iintro ⟨W0, W1, W2, W3, W4, W5, W6, W7, W8, S0, S1, S2⟩
  isplitl [S0 S1 S2 Hg]
  · isplitl [S0 S1 S2]
    · isplitl [S0]; · iexact S0
      isplitl [S1]; · iexact S1
      iexact S2
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  iexact W8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the output forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- From any memory with zero counters every weakly fair run ends, the input windows' arrays as the region found them. -/
theorem run_frame :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The frame: every argument array as launched, every counter zero. -/
theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩) (run_frame m ρ)

end Cert.KernelIdeal.Hand

end
-- ==== Proof.Claims.lean ====
/- The frames of the three programs and the `preserves` claim of the idealized kernel. -/
module

public import proofs.«01_k».proof.Defs
public import proofs.«01_k».proof.Proof.KernelFrame
public import proofs.«01_k».proof.Proof.IdealFrame
public import proofs.«01_k».proof.Proof.Gen.ReferenceIdeal
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

theorem frame_p : Cert.quiescent_Kernel := fun m ρ _ => Cert.Kernel.Hand.run_main (F := Bits) m ρ
theorem frame_pi : Cert.quiescent_KernelIdeal := fun m ρ _ => Cert.KernelIdeal.Hand.run_main (F := Ideal) m ρ
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The distinct statements of the ledger's sites: the scratch of words read as pairs, then each access shape's rows, the zero
    fill of one slot, and the pack of one unit of the gate. -/
theorem preserves : Cert.preserves_Kernel_KernelIdeal :=
  open Cert.KernelIdeal IdealRules.bf16_pair in
  ⟨bufferStatement S2x512x2x512 S2x512x1x512, statement S1x512x2x512 S1x512x1x512, selectZeroStatement S1x512x512,
    statement S1x256x2x256 S1x256x1x256, statement S512x256 S256x256, statement S16x128 S8x128, packStatement S8x128,
    statement S1x8x2x128 S1x8x1x128⟩

end Cert.Proof
-- ==== Proof.UnitValue.lean ====
/-
  One unit of the gate, at the ideal instance: what the eight word rows stored into the buffer of hidden values hold,
  read element by element from the loads.
-/
module

public import proofs.«01_k».proof.Proof.Gen.KernelIdeal.Skeleton
public import Idealize.ShloMosaic.Lib.Pointwise
public import Idealize.ShloMosaic.Lib.BitcastPair
public import Idealize.ShloMosaic.PureOps.Ideal

@[expose] public section

set_option maxRecDepth 16384

noncomputable section

namespace Cert.KernelIdeal.Hand

open Cert.KernelIdeal Cert.KernelIdeal.Gen
open Idealize.ShloMosaic

/-- Half `p` of a word, as the bf16 number it holds: half 0 is the low one. -/
def half (w : BitVec 32) (p : ℕ) : Ideal .bf16 := Ideal.ofBits .bf16 (w.extractLsb' (16 * p) 16)

/-- One head's term: the product of the two keys' weights where the second reaches the threshold. -/
def term (e low w : Ideal .bf16) : Ideal .bf16 := if low ≤ e then e * w else 0

/-- `x` times `1 + erf (x √½)`. -/
def act (x : Ideal .f32) : Ideal .f32 := x * (1 + FloatOps.erf (x * Ideal.ofBits .f32 0x3F3504F3#32))

/-- The eight heads' terms added, first head first. -/
def gate (e low w : Fin 8 → BitVec 32) (p : ℕ) : Ideal .bf16 :=
  term (half (e 0) p) (half (low 0) p) (half (w 0) p) + term (half (e 1) p) (half (low 1) p) (half (w 1) p)
    + term (half (e 2) p) (half (low 2) p) (half (w 2) p) + term (half (e 3) p) (half (low 3) p) (half (w 3) p)
    + term (half (e 4) p) (half (low 4) p) (half (w 4) p) + term (half (e 5) p) (half (low 5) p) (half (w 5) p)
    + term (half (e 6) p) (half (low 6) p) (half (w 6) p) + term (half (e 7) p) (half (low 7) p) (half (w 7) p)

/-- The hidden value: the activation times the gate. -/
def hidden (e low w : Fin 8 → BitVec 32) (p : ℕ) (a : Ideal .f32) : Ideal .bf16 := act a * gate e low w p

/-- Rows of words read as bf16 pairs. -/
theorem words_apply {t s : Shape} (x : IVec s 32) (h : s.Bitcasts 32 t 16) (j : t.Idx) (i : s.Idx)
    (hi : ∀ a : Fin s.rank, (i a).val = if a.val + 2 = s.rank then t.row j / 2 else (j (a.cast h.1.symm)).val) :
    Ideal.ofBits .bf16 (bitcast t 16 x h j) = half (x i) (t.row j % 2) := by
  rw [bitcast_32_16]
  unfold half
  congr 3
  funext a
  apply Fin.ext
  rw [hi a]
  split
  · next ha => rw [Shape.Bitcasts.srcIdx_row h _ _ _ a ha]
  · next ha => rw [Shape.Bitcasts.srcIdx_other h _ _ _ a ha]

theorem words8 (x : Vec Ideal S8x128 .i32) (r : Fin 16) (l : Fin 128) :
    Ideal.ofBits .bf16 (bitcast S16x128 16 x bitcasts_S8x128_w32_S16x128_w16 (ix2 r l))
      = half (x (ix2 ⟨r.val / 2, by omega⟩ l)) (r.val % 2) := by
  refine words_apply (t := S16x128) (s := S8x128) x _ _ _ ?_
  intro a
  fin_cases a <;> rfl

theorem words8_even (x : Vec Ideal S8x128 .i32) (r : Fin 8) (h : 2 * r.val < 16) (l : Fin 128) :
    Ideal.ofBits .bf16 (bitcast S16x128 16 x bitcasts_S8x128_w32_S16x128_w16 (ix2 ⟨2 * r.val, h⟩ l))
      = half (x (ix2 r l)) 0 := by
  rw [words8]
  congr 3
  · apply Fin.ext; show 2 * r.val / 2 = r.val; omega
  · show 2 * r.val % 2 = 0; omega

theorem words8_odd (x : Vec Ideal S8x128 .i32) (r : Fin 8) (h : 2 * r.val + 1 < 16) (l : Fin 128) :
    Ideal.ofBits .bf16 (bitcast S16x128 16 x bitcasts_S8x128_w32_S16x128_w16 (ix2 ⟨2 * r.val + 1, h⟩ l))
      = half (x (ix2 r l)) 1 := by
  rw [words8]
  congr 3
  · apply Fin.ext; show (2 * r.val + 1) / 2 = r.val; omega
  · show (2 * r.val + 1) % 2 = 1; omega

/-- What one unit stores, from its loads. -/
def unitPay (e0 e1 e2 e3 e4 e5 e6 e7 : Vec Ideal S8x128 .i32) (l0 l1 l2 l3 l4 l5 l6 l7 w0 w1 w2 w3 w4 w5 w6 w7 : Vec Ideal S1x8x128 .i32)
    (a0 a1 : Vec Ideal S1x8x128 .f32) : Vec Ideal S1x8x2x128 .bf16 :=
  let g6 := k0_pay14 (k0_pay13 (k0_pay10 (k0_pay6 (k0_pay4 e0 l0 w0) (k0_pay5 e1) l1 w1) (k0_pay8 e2 l2) (k0_pay9 e2 w2) e3 l3 w3)
    (k0_pay11 e4) (k0_pay12 l4) w4 e5 l5 w5) e6 l6 w6
  k0_pay231 (k0_pay18 g6 (k0_pay15 e7) (k0_pay16 e7 l7) w7 a0) (k0_pay19 g6 (k0_pay15 e7) (k0_pay16 e7 l7) w7) (k0_pay20 a1)

set_option maxHeartbeats 4000000 in
theorem unitPay_apply (e0 e1 e2 e3 e4 e5 e6 e7 : Vec Ideal S8x128 .i32) (l0 l1 l2 l3 l4 l5 l6 l7 w0 w1 w2 w3 w4 w5 w6 w7 : Vec Ideal S1x8x128 .i32)
    (a0 a1 : Vec Ideal S1x8x128 .f32) (z : Fin 1) (r : Fin 8) (p : Fin 2) (l : Fin 128) :
    unitPay e0 e1 e2 e3 e4 e5 e6 e7 l0 l1 l2 l3 l4 l5 l6 l7 w0 w1 w2 w3 w4 w5 w6 w7 a0 a1 (ix4 z r p l)
      = hidden (fun hd => ![e0, e1, e2, e3, e4, e5, e6, e7] hd (ix2 r l))
          (fun hd => ![l0, l1, l2, l3, l4, l5, l6, l7] hd (ix3 0 r l))
          (fun hd => ![w0, w1, w2, w3, w4, w5, w6, w7] hd (ix3 0 r l)) p.val
          (![a0, a1] p (ix3 0 r l)) := by
  unfold unitPay
  fin_cases p
  · simp only []
    pointwise [k0_pay231, k0_pay18, k0_pay19, k0_pay20, k0_pay17, k0_pay16, k0_pay15, k0_pay14, k0_pay13, k0_pay12, k0_pay11, k0_pay10,
      k0_pay9, k0_pay8, k0_pay7, k0_pay6, k0_pay5, k0_pay4, words8_even]
    simp only [hidden, act, gate, term, Matrix.cons_val]
    first | rfl | congr!
  · simp only []
    pointwise [k0_pay231, k0_pay18, k0_pay19, k0_pay20, k0_pay17, k0_pay16, k0_pay15, k0_pay14, k0_pay13, k0_pay12, k0_pay11, k0_pay10,
      k0_pay9, k0_pay8, k0_pay7, k0_pay6, k0_pay5, k0_pay4, words8_odd]
    simp only [hidden, act, gate, term, Matrix.cons_val]
    first | rfl | congr!

end Cert.KernelIdeal.Hand
end
-- ==== Proof.UnitWrite.lean ====
/-
  One unit's store into the buffer of hidden values: the eight word rows it covers hold the hidden values of the unit's
  experts and tokens, the rest of the buffer is as before.
-/
module

public import proofs.«01_k».proof.Proof.UnitValue
public import proofs.«01_k».proof.Proof.Gen.KernelIdeal.Loops
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic

/-- The coordinates of the buffer of hidden values: slot, word row, half, token. -/
abbrev HIdx := (S2x512x2x512 : Shape).Idx

theorem h0 (y : HIdx) : (y 0).val < 2 := (y 0).isLt
theorem h1 (y : HIdx) : (y 1).val < 512 := (y 1).isLt
theorem h2 (y : HIdx) : (y 2).val < 2 := (y 2).isLt
theorem h3 (y : HIdx) : (y 3).val < 512 := (y 3).isLt

/-- The hidden value at a place of the buffer, from the blocks of thresholds, first and second weights and the down-projection. -/
def hv (g : ℕ) (x4 x5 : S4x1024x128.Idx → BitVec 32) (x6 : S512x512.Idx → BitVec 32) (a : S2x256x512.Idx → Ideal .f32) (y : HIdx) :
    Ideal .bf16 :=
  hidden (fun hd => x6 (ix2 ⟨64 * hd.val + (y 1).val % 64, by omega⟩ ⟨(y 3).val, h3 y⟩))
    (fun hd => x4 (ix3 ⟨(y 3).val / 128, by have := h3 y; omega⟩ ⟨128 * hd.val + 8 * (g % 16) + (y 1).val / 64, by have := h1 y; omega⟩ ⟨(y 3).val % 128, by omega⟩))
    (fun hd => x5 (ix3 ⟨(y 3).val / 128, by have := h3 y; omega⟩ ⟨128 * hd.val + 8 * (g % 16) + (y 1).val / 64, by have := h1 y; omega⟩ ⟨(y 3).val % 128, by omega⟩))
    (y 2).val
    (a (ix3 ⟨(y 1).val / 128 % 2, by omega⟩ ⟨(y 1).val / 64 % 2 * 128 + (y 2).val * 64 + (y 1).val % 64, by have := h2 y; omega⟩ ⟨(y 3).val, h3 y⟩))

/-- The number of a place's unit among those of its quarter of the rows. -/
def unitOf (y : HIdx) : ℕ := 32 * ((y 1).val / 64 % 2) + 8 * ((y 3).val / 128) + (y 1).val % 64 / 8

/-- The places the units `lb ≤ u < n` of quarter `kb` write at point `g`. -/
def inUnits (g kb lb n : ℕ) (y : HIdx) : Prop := (y 0).val = g % 2 ∧ (y 1).val / 128 = kb ∧ lb ≤ unitOf y ∧ unitOf y < n

instance (g kb lb n : ℕ) (y : HIdx) : Decidable (inUnits g kb lb n y) := by unfold inUnits; infer_instance

variable (arg4 : Memref sig .tc .vmem S4x1024x128 .i32) (arg5 : Memref sig .tc .vmem S4x1024x128 .i32) (arg6 : Memref sig .tc .vmem S512x512 .i32)
  (arg11 : Memref sig .tc .vmem S2x256x512 .f32) (arg12 : Memref sig .tc .vmem S2x512x2x512 .bf16)
  (X4 : BufTy.Contents (Elt Ideal) arg4.view.ty) (X5 : BufTy.Contents (Elt Ideal) arg5.view.ty) (X6 : BufTy.Contents (Elt Ideal) arg6.view.ty)
  (X11 : BufTy.Contents (Elt Ideal) arg11.view.ty) (G f : BufTy.Contents (Elt Ideal) arg12.view.ty)

/-- What the buffer reads as after the units `lb ≤ u < n` of quarter `kb`. -/
def after (g kb lb n : ℕ) (f : BufTy.Contents (Elt Ideal) arg12.view.ty) : Prop :=
  ∀ y : HIdx, arg12.view.read (Elt Ideal) f y
    = if inUnits g kb lb n y then hv g (arg4.view.read (Elt Ideal) X4) (arg5.view.read (Elt Ideal) X5) (arg6.view.read (Elt Ideal) X6) (arg11.view.read (Elt Ideal) X11) y
      else arg12.view.read (Elt Ideal) G y

theorem load2 {A B : ℕ} {off : Fin 2 → ℕ} (inb : ∀ a, off a + S8x128.size a ≤ S512x512.size a) (hoff : off = ![A, B]) (r : Fin 8) (l : Fin 128)
    (R : Fin 512) (C : Fin 512) (hR : R.val = A + r.val) (hC : C.val = B + l.val) :
    View.readAt (Elt Ideal) arg6.view (Rect.unit (s := S512x512) off S8x128.size inb).toLoadRect X6 (ix2 r l) = arg6.view.read (Elt Ideal) X6 (ix2 R C) := by
  subst hoff
  rw [View.readAt_apply]
  congr 1
  funext a
  apply Fin.ext
  fin_cases a
  · show A + 1 * r.val = R.val; omega
  · show B + 1 * l.val = C.val; omega

theorem loadRow (M : Memref sig .tc .vmem S4x1024x128 .i32) (X : BufTy.Contents (Elt Ideal) M.view.ty) {A B : ℕ} {off : Fin 3 → ℕ}
    (inb : ∀ a, S1x8x128.size a = 0 ∨ off a + (![1, 0, 1] : Fin 3 → Nat) a * (S1x8x128.size a - 1) < S4x1024x128.size a) (hoff : off = ![A, B, 0]) (z : Fin 1) (r : Fin 8) (l : Fin 128)
    (P : Fin 4) (R : Fin 1024) (C : Fin 128) (hP : P.val = A) (hR : R.val = B) (hC : C.val = l.val) :
    View.readAt (Elt Ideal) M.view (s := S4x1024x128) ⟨off, S1x8x128.size, ![1, 0, 1], inb⟩ X (ix3 z r l) = M.view.read (Elt Ideal) X (ix3 P R C) := by
  subst hoff
  rw [View.readAt_apply]
  congr 1
  funext a
  apply Fin.ext
  fin_cases a
  · show A + 1 * z.val = P.val; omega
  · show B + 0 * r.val = R.val; omega
  · show 0 + 1 * l.val = C.val; omega

theorem load3 {S A B : ℕ} {off : Fin 3 → ℕ} (inb : ∀ a, off a + S1x8x128.size a ≤ S2x256x512.size a) (hoff : off = ![S, A, B]) (z : Fin 1) (r : Fin 8) (l : Fin 128)
    (P : Fin 2) (R : Fin 256) (C : Fin 512) (hP : P.val = S) (hR : R.val = A + r.val) (hC : C.val = B + l.val) :
    View.readAt (Elt Ideal) arg11.view (Rect.unit (s := S2x256x512) off S1x8x128.size inb).toLoadRect X11 (ix3 z r l) = arg11.view.read (Elt Ideal) X11 (ix3 P R C) := by
  subst hoff
  rw [View.readAt_apply]
  congr 1
  funext a
  apply Fin.ext
  fin_cases a
  · show S + 1 * z.val = P.val; omega
  · show A + 1 * r.val = R.val; omega
  · show B + 1 * l.val = C.val; omega

/-- The store of unit `u` carries the invariant from `u` to `u + 1`. -/
theorem unit_write (g kb lb u : ℕ) (hkb : kb < 4) (hlb : lb ≤ u) (hu : u < 64)
    (oE : Fin 8 → Fin 2 → ℕ) (iE : ∀ hd a, oE hd a + S8x128.size a ≤ S512x512.size a) (hE : ∀ hd, oE hd = ![64 * hd.val + 8 * (u % 8), 128 * (u / 8 % 4)])
    (oW : Fin 8 → Fin 3 → ℕ) (iW : ∀ hd a, S1x8x128.size a = 0 ∨ oW hd a + (![1, 0, 1] : Fin 3 → Nat) a * (S1x8x128.size a - 1) < S4x1024x128.size a)
    (hW : ∀ hd, oW hd = ![u / 8 % 4, 128 * hd.val + 8 * (g % 16) + (2 * kb + u / 32), 0])
    (oA : Fin 2 → Fin 3 → ℕ) (iA : ∀ p a, oA p a + S1x8x128.size a ≤ S2x256x512.size a)
    (hA : ∀ p, oA p = ![kb % 2, 128 * (u / 32) + 64 * p.val + 8 * (u % 8), 128 * (u / 8 % 4)])
    (oH : Fin 4 → ℕ) (iH : ∀ a, oH a + S1x8x2x128.size a ≤ S2x512x2x512.size a)
    (hH : oH = ![g % 2, 64 * (2 * kb + u / 32) + 8 * (u % 8), 0, 128 * (u / 8 % 4)])
    (h : after arg4 arg5 arg6 arg11 arg12 X4 X5 X6 X11 G g kb lb u f) :
    after arg4 arg5 arg6 arg11 arg12 X4 X5 X6 X11 G g kb lb (u + 1)
      (arg12.view.writes (Elt Ideal) f [⟨Rect.unit (s := S2x512x2x512) oH S1x8x2x128.size iH, unitPay
        (View.readAt (Elt Ideal) arg6.view (Rect.unit (s := S512x512) (oE 0) S8x128.size (iE 0)).toLoadRect X6)
        (View.readAt (Elt Ideal) arg6.view (Rect.unit (s := S512x512) (oE 1) S8x128.size (iE 1)).toLoadRect X6)
        (View.readAt (Elt Ideal) arg6.view (Rect.unit (s := S512x512) (oE 2) S8x128.size (iE 2)).toLoadRect X6)
        (View.readAt (Elt Ideal) arg6.view (Rect.unit (s := S512x512) (oE 3) S8x128.size (iE 3)).toLoadRect X6)
        (View.readAt (Elt Ideal) arg6.view (Rect.unit (s := S512x512) (oE 4) S8x128.size (iE 4)).toLoadRect X6)
        (View.readAt (Elt Ideal) arg6.view (Rect.unit (s := S512x512) (oE 5) S8x128.size (iE 5)).toLoadRect X6)
        (View.readAt (Elt Ideal) arg6.view (Rect.unit (s := S512x512) (oE 6) S8x128.size (iE 6)).toLoadRect X6)
        (View.readAt (Elt Ideal) arg6.view (Rect.unit (s := S512x512) (oE 7) S8x128.size (iE 7)).toLoadRect X6)
        (View.readAt (Elt Ideal) arg4.view (s := S4x1024x128) ⟨oW 0, S1x8x128.size, ![1, 0, 1], iW 0⟩ X4)
        (View.readAt (Elt Ideal) arg4.view (s := S4x1024x128) ⟨oW 1, S1x8x128.size, ![1, 0, 1], iW 1⟩ X4)
        (View.readAt (Elt Ideal) arg4.view (s := S4x1024x128) ⟨oW 2, S1x8x128.size, ![1, 0, 1], iW 2⟩ X4)
        (View.readAt (Elt Ideal) arg4.view (s := S4x1024x128) ⟨oW 3, S1x8x128.size, ![1, 0, 1], iW 3⟩ X4)
        (View.readAt (Elt Ideal) arg4.view (s := S4x1024x128) ⟨oW 4, S1x8x128.size, ![1, 0, 1], iW 4⟩ X4)
        (View.readAt (Elt Ideal) arg4.view (s := S4x1024x128) ⟨oW 5, S1x8x128.size, ![1, 0, 1], iW 5⟩ X4)
        (View.readAt (Elt Ideal) arg4.view (s := S4x1024x128) ⟨oW 6, S1x8x128.size, ![1, 0, 1], iW 6⟩ X4)
        (View.readAt (Elt Ideal) arg4.view (s := S4x1024x128) ⟨oW 7, S1x8x128.size, ![1, 0, 1], iW 7⟩ X4)
        (View.readAt (Elt Ideal) arg5.view (s := S4x1024x128) ⟨oW 0, S1x8x128.size, ![1, 0, 1], iW 0⟩ X5)
        (View.readAt (Elt Ideal) arg5.view (s := S4x1024x128) ⟨oW 1, S1x8x128.size, ![1, 0, 1], iW 1⟩ X5)
        (View.readAt (Elt Ideal) arg5.view (s := S4x1024x128) ⟨oW 2, S1x8x128.size, ![1, 0, 1], iW 2⟩ X5)
        (View.readAt (Elt Ideal) arg5.view (s := S4x1024x128) ⟨oW 3, S1x8x128.size, ![1, 0, 1], iW 3⟩ X5)
        (View.readAt (Elt Ideal) arg5.view (s := S4x1024x128) ⟨oW 4, S1x8x128.size, ![1, 0, 1], iW 4⟩ X5)
        (View.readAt (Elt Ideal) arg5.view (s := S4x1024x128) ⟨oW 5, S1x8x128.size, ![1, 0, 1], iW 5⟩ X5)
        (View.readAt (Elt Ideal) arg5.view (s := S4x1024x128) ⟨oW 6, S1x8x128.size, ![1, 0, 1], iW 6⟩ X5)
        (View.readAt (Elt Ideal) arg5.view (s := S4x1024x128) ⟨oW 7, S1x8x128.size, ![1, 0, 1], iW 7⟩ X5)
        (View.readAt (Elt Ideal) arg11.view (Rect.unit (s := S2x256x512) (oA 0) S1x8x128.size (iA 0)).toLoadRect X11)
        (View.readAt (Elt Ideal) arg11.view (Rect.unit (s := S2x256x512) (oA 1) S1x8x128.size (iA 1)).toLoadRect X11)⟩]) := by
  intro y
  rw [View.read_writes_cons_unit _ _ _ _ _ _ hH]
  have b0 := h0 y; have b1 := h1 y; have b2 := h2 y; have b3 := h3 y
  by_cases hy : inUnits g kb u (u + 1) y
  · obtain ⟨y0, y1, yl, yu⟩ := hy
    unfold unitOf at yl yu
    have hm : ∀ a, (![g % 2, 64 * (2 * kb + u / 32) + 8 * (u % 8), 0, 128 * (u / 8 % 4)] : Fin 4 → ℕ) a ≤ (y a).val
        ∧ (y a).val < (![g % 2, 64 * (2 * kb + u / 32) + 8 * (u % 8), 0, 128 * (u / 8 % 4)] : Fin 4 → ℕ) a + S1x8x2x128.size a := by
      intro a
      fin_cases a
      · show g % 2 ≤ (y 0).val ∧ (y 0).val < g % 2 + 1; omega
      · show 64 * (2 * kb + u / 32) + 8 * (u % 8) ≤ (y 1).val ∧ (y 1).val < 64 * (2 * kb + u / 32) + 8 * (u % 8) + 8; omega
      · show 0 ≤ (y 2).val ∧ (y 2).val < 0 + 2; omega
      · show 128 * (u / 8 % 4) ≤ (y 3).val ∧ (y 3).val < 128 * (u / 8 % 4) + 128; omega
    rw [dif_pos hm, if_pos (show inUnits g kb lb (u + 1) y from ⟨y0, y1, by unfold unitOf; omega, by unfold unitOf; omega⟩)]
    obtain ⟨r, hr⟩ : ∃ r : Fin 8, r = ⟨(y 1).val - (64 * (2 * kb + u / 32) + 8 * (u % 8)), by omega⟩ := ⟨_, rfl⟩
    obtain ⟨l, hl⟩ : ∃ l : Fin 128, l = ⟨(y 3).val - 128 * (u / 8 % 4), by omega⟩ := ⟨_, rfl⟩
    have hr' := congrArg Fin.val hr
    have hl' := congrArg Fin.val hl
    simp only [] at hr' hl'
    have e : (Rect.unitLocal (s := S2x512x2x512) y hm : S1x8x2x128.Idx)
        = ix4 (0 : Fin 1) r (⟨(y 2).val, b2⟩ : Fin 2) l := by
      subst hr hl
      funext a
      apply Fin.ext
      fin_cases a
      · show (y 0).val - g % 2 = 0; omega
      · rfl
      · show (y 2).val - 0 = (y 2).val; omega
      · rfl
    refine (congrArg _ e).trans ?_
    rw [unitPay_apply]
    unfold hv
    congr 1
    · funext hd
      refine Eq.trans (b := View.readAt (Elt Ideal) arg6.view (Rect.unit (s := S512x512) (oE hd) S8x128.size (iE hd)).toLoadRect X6 (ix2 r l))
        (by fin_cases hd <;> rfl) (load2 arg6 X6 (iE hd) (hE hd) _ _ _ _ ?_ ?_) <;> simp only [] <;> omega
    · funext hd
      refine Eq.trans (b := View.readAt (Elt Ideal) arg4.view (s := S4x1024x128) ⟨oW hd, S1x8x128.size, ![1, 0, 1], iW hd⟩ X4 (ix3 0 r l))
        (by fin_cases hd <;> rfl) (loadRow arg4 X4 (iW hd) (hW hd) _ _ _ _ _ _ ?_ ?_ ?_) <;> simp only [] <;> omega
    · funext hd
      refine Eq.trans (b := View.readAt (Elt Ideal) arg5.view (s := S4x1024x128) ⟨oW hd, S1x8x128.size, ![1, 0, 1], iW hd⟩ X5 (ix3 0 r l))
        (by fin_cases hd <;> rfl) (loadRow arg5 X5 (iW hd) (hW hd) _ _ _ _ _ _ ?_ ?_ ?_) <;> simp only [] <;> omega
    · refine Eq.trans (b := View.readAt (Elt Ideal) arg11.view (Rect.unit (s := S2x256x512) (oA ⟨(y 2).val, b2⟩) S1x8x128.size (iA ⟨(y 2).val, b2⟩)).toLoadRect X11 (ix3 0 r l))
        ?_ (load3 arg11 X11 (iA _) (hA _) _ _ _ _ _ _ ?_ ?_ ?_)
      · generalize (⟨(y 2).val, b2⟩ : Fin 2) = p
        fin_cases p <;> rfl
      all_goals (simp only [] <;> omega)
  · rw [dif_neg]
    · rw [show arg12.view.writes (Elt Ideal) f [] = f from rfl, h y]
      have : inUnits g kb lb u y ↔ inUnits g kb lb (u + 1) y := by
        unfold inUnits at *
        omega
      simp only [this]
    · intro hm
      have m0 := hm 0; have m1 := hm 1; have m3 := hm 3
      change g % 2 ≤ (y 0).val ∧ (y 0).val < g % 2 + 1 at m0
      change 64 * (2 * kb + u / 32) + 8 * (u % 8) ≤ (y 1).val ∧ (y 1).val < 64 * (2 * kb + u / 32) + 8 * (u % 8) + 8 at m1
      change 128 * (u / 8 % 4) ≤ (y 3).val ∧ (y 3).val < 128 * (u / 8 % 4) + 128 at m3
      apply hy
      unfold inUnits unitOf
      omega

end Cert.KernelIdeal.Hand
end
-- ==== Proof.Offsets.lean ====
/-
  The kernel's computed offsets in closed form: of each loop's loads and store at a trip, of the loads of the hidden
  values, and of the three conditions on the grid point.
-/
module

public import proofs.«01_k».proof.Proof.Gen.KernelIdeal

@[expose] public section

set_option maxRecDepth 16384

noncomputable section

namespace Cert.KernelIdeal.Hand

open Cert.KernelIdeal Cert.KernelIdeal.Gen
open Idealize.ShloMosaic

theorem vec3 {a b c a' b' c' : ℕ} (ha : a = a') (hb : b = b') (hc : c = c') : ![a, b, c] = ![a', b', c'] := by
  subst ha hb hc; rfl
theorem vec4 {a b c d a' b' c' d' : ℕ} (ha : a = a') (hb : b = b') (hc : c = c') (hd : d = d') :
    ![a, b, c, d] = ![a', b', c', d'] := by
  subst ha hb hc hd; rfl

theorem trips1 : k0_t1_loop.trips = 16 := by decide +kernel
theorem offE1 : ∀ (k : Fin k0_t1_loop.trips) (r : Fin 8), k0_off2 k (BitVec.ofNat 32 (64 * r.val)) = ![64 * r.val + 8 * ((0 + k.val) % 8), 128 * ((0 + k.val) / 8 % 4)] := by decide +kernel
theorem offA1 : ∀ (k : Fin k0_t1_loop.trips) (p : Fin 2), k0_off4 k (BitVec.ofNat 32 (64 * p.val)) = ![0, 128 * ((0 + k.val) / 32) + 64 * p.val + 8 * ((0 + k.val) % 8), 128 * ((0 + k.val) / 8 % 4)] := by decide +kernel
theorem offW1 : ∀ (i : grid0.Coords) (k : Fin k0_t1_loop.trips) (r : Fin 8), k0_off3 i k (BitVec.ofNat 32 (128 * r.val)) = ![(0 + k.val) / 8 % 4, 128 * r.val + 8 * ((i 0).val % 16) + (0 + (0 + k.val) / 32), 0] := by
  intro i k r
  have r_r : r.val < 8 := r.isLt
  have h_c0_i32_224 : Affine.IsInt (BitVec.ofNat 32 (128 * r.val)) (128 * (r.val : Int)) := Affine.ofNat _ (by omega)
  have h_c0_i32_44 : Affine.IsInt 0#32 (0) := Affine.ofNat _ (by omega)
  have h_c1_i32_46 : Affine.IsInt 1#32 (1) := Affine.ofNat _ (by omega)
  have r_k0_t1 : k.val < 16 := Nat.lt_of_lt_of_le k.isLt k0_t1_abs.2.1
  have h_arg13 : Affine.IsInt _ ((k.val : Int)) := Affine.iv h_c0_i32_44 h_c1_i32_46 k.val (by omega)
  have c_arg13 : (k.val : Int) ≤ 16 - 1 := Affine.iv_lt k0_t1_abs.1 k.isLt k0_t1_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32_219 : Affine.IsInt 4#32 (4) := Affine.ofNat _ (by omega)
  have h_v235 : Affine.IsInt _ (((k.val : Int) / 8)) := Affine.remsi h_v232 h_c4_i32_219 (by omega)
  have h_v249 : Affine.IsInt _ (((k.val : Int) / 8)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c0_i32_220 : Affine.IsInt 0#32 (0) := Affine.ofNat _ (by omega)
  have h_c4_i32 : Affine.IsInt 4#32 (4) := Affine.ofNat _ (by omega)
  have h_v234 : Affine.IsInt _ ((((k.val : Int) / 8) / 4)) := Affine.divsi h_v232 h_c4_i32 (by omega)
  have h_v238 : Affine.IsInt _ ((((k.val : Int) / 8) / 4)) := Affine.addi h_c0_i32_220 h_v234 (by omega)
  have h_v248 : Affine.IsInt _ (128 * (r.val : Int) + 8 * (((i 0).val : Int) % 16) + (((k.val : Int) / 8) / 4)) := Affine.addi h_v247 h_v238 (by omega)
  have h_v250 : Affine.IsInt _ (128 * (r.val : Int) + 8 * (((i 0).val : Int) % 16) + (((k.val : Int) / 8) / 4)) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH1 : ∀ (i : grid0.Coords) (k : Fin k0_t1_loop.trips), k0_off5 i k = ![(i 0).val % 2, 64 * (0 + (0 + k.val) / 32) + 8 * ((0 + k.val) % 8), 0, 128 * ((0 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c0_i32_296 : Affine.IsInt 0#32 (0) := Affine.ofNat _ (by omega)
  have h_c0_i32_44 : Affine.IsInt 0#32 (0) := Affine.ofNat _ (by omega)
  have h_c1_i32_46 : Affine.IsInt 1#32 (1) := Affine.ofNat _ (by omega)
  have r_k0_t1 : k.val < 16 := Nat.lt_of_lt_of_le k.isLt k0_t1_abs.2.1
  have h_arg13 : Affine.IsInt _ ((k.val : Int)) := Affine.iv h_c0_i32_44 h_c1_i32_46 k.val (by omega)
  have c_arg13 : (k.val : Int) ≤ 16 - 1 := Affine.iv_lt k0_t1_abs.1 k.isLt k0_t1_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32 : Affine.IsInt 4#32 (4) := Affine.ofNat _ (by omega)
  have h_v234 : Affine.IsInt _ ((((k.val : Int) / 8) / 4)) := Affine.divsi h_v232 h_c4_i32 (by omega)
  have h_v501 : Affine.IsInt _ ((((k.val : Int) / 8) / 4)) := Affine.addi h_c0_i32_296 h_v234 (by omega)
  have h_c64_i32_297 : Affine.IsInt 64#32 (64) := Affine.ofNat _ (by omega)
  have h_v502 : Affine.IsInt _ (64 * (((k.val : Int) / 8) / 4)) := Affine.muli h_v501 h_c64_i32_297 (by omega)
  have h_c8_i32_218 : Affine.IsInt 8#32 (8) := Affine.ofNat _ (by omega)
  have h_v233 : Affine.IsInt _ (((k.val : Int) % 8)) := Affine.remsi h_arg13 h_c8_i32_218 (by omega)
  have h_c8_i32_298 : Affine.IsInt 8#32 (8) := Affine.ofNat _ (by omega)
  have h_v503 : Affine.IsInt _ (8 * ((k.val : Int) % 8)) := Affine.muli h_v233 h_c8_i32_298 (by omega)
  have h_v504 : Affine.IsInt _ (64 * (((k.val : Int) / 8) / 4) + 8 * ((k.val : Int) % 8)) := Affine.addi h_v502 h_v503 (by omega)
  have h_v508 : Affine.IsInt _ (64 * (((k.val : Int) / 8) / 4) + 8 * ((k.val : Int) % 8)) := Affine.indexCast h_v504
  have h_c4_i32_219 : Affine.IsInt 4#32 (4) := Affine.ofNat _ (by omega)
  have h_v235 : Affine.IsInt _ (((k.val : Int) / 8)) := Affine.remsi h_v232 h_c4_i32_219 (by omega)
  have h_c128_i32 : Affine.IsInt 128#32 (128) := Affine.ofNat _ (by omega)
  have h_v236 : Affine.IsInt _ (128 * ((k.val : Int) / 8)) := Affine.muli h_v235 h_c128_i32 (by omega)
  have h_v509 : Affine.IsInt _ (128 * ((k.val : Int) / 8)) := Affine.indexCast h_v236
  exact vec4 (Affine.nat_eq h_v507 _ (by push_cast; omega)) (Affine.nat_eq h_v508 _ (by push_cast; omega)) rfl (Affine.nat_eq h_v509 _ (by push_cast; omega))
theorem trips2 : k0_t2_loop.trips = 32 := by decide +kernel
theorem offE2 : ∀ (k : Fin k0_t2_loop.trips) (r : Fin 8), k0_off6 k (BitVec.ofNat 32 (64 * r.val)) = ![64 * r.val + 8 * ((16 + k.val) % 8), 128 * ((16 + k.val) / 8 % 4)] := by decide +kernel
theorem offA2 : ∀ (k : Fin k0_t2_loop.trips) (p : Fin 2), k0_off8 k (BitVec.ofNat 32 (64 * p.val)) = ![0, 128 * ((16 + k.val) / 32) + 64 * p.val + 8 * ((16 + k.val) % 8), 128 * ((16 + k.val) / 8 % 4)] := by decide +kernel
theorem offW2 : ∀ (i : grid0.Coords) (k : Fin k0_t2_loop.trips) (r : Fin 8), k0_off7 i k (BitVec.ofNat 32 (128 * r.val)) = ![(16 + k.val) / 8 % 4, 128 * r.val + 8 * ((i 0).val % 16) + (0 + (16 + k.val) / 32), 0] := by
  intro i k r
  have r_r : r.val < 8 := r.isLt
  have h_c0_i32_224 : Affine.IsInt (BitVec.ofNat 32 (128 * r.val)) (128 * (r.val : Int)) := Affine.ofNat _ (by omega)
  have h_c16_i32_64 : Affine.IsInt 16#32 (16) := Affine.ofNat _ (by omega)
  have h_c1_i32_65 : Affine.IsInt 1#32 (1) := Affine.ofNat _ (by omega)
  have r_k0_t2 : k.val < 32 := Nat.lt_of_lt_of_le k.isLt k0_t2_abs.2.1
  have h_arg13 : Affine.IsInt _ ((k.val : Int) + 16) := Affine.iv h_c16_i32_64 h_c1_i32_65 k.val (by omega)
  have c_arg13 : (k.val : Int) + 16 ≤ 48 - 1 := Affine.iv_lt k0_t2_abs.1 k.isLt k0_t2_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32_219 : Affine.IsInt 4#32 (4) := Affine.ofNat _ (by omega)
  have h_v235 : Affine.IsInt _ (((((k.val : Int) + 16) / 8) % 4)) := Affine.remsi h_v232 h_c4_i32_219 (by omega)
  have h_v249 : Affine.IsInt _ (((((k.val : Int) + 16) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c0_i32_220 : Affine.IsInt 0#32 (0) := Affine.ofNat _ (by omega)
  have h_c4_i32 : Affine.IsInt 4#32 (4) := Affine.ofNat _ (by omega)
  have h_v234 : Affine.IsInt _ (((((k.val : Int) + 16) / 8) / 4)) := Affine.divsi h_v232 h_c4_i32 (by omega)
  have h_v238 : Affine.IsInt _ (((((k.val : Int) + 16) / 8) / 4)) := Affine.addi h_c0_i32_220 h_v234 (by omega)
  have h_v248 : Affine.IsInt _ (128 * (r.val : Int) + 8 * (((i 0).val : Int) % 16) + ((((k.val : Int) + 16) / 8) / 4)) := Affine.addi h_v247 h_v238 (by omega)
  have h_v250 : Affine.IsInt _ (128 * (r.val : Int) + 8 * (((i 0).val : Int) % 16) + ((((k.val : Int) + 16) / 8) / 4)) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH2 : ∀ (i : grid0.Coords) (k : Fin k0_t2_loop.trips), k0_off9 i k = ![(i 0).val % 2, 64 * (0 + (16 + k.val) / 32) + 8 * ((16 + k.val) % 8), 0, 128 * ((16 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c0_i32_296 : Affine.IsInt 0#32 (0) := Affine.ofNat _ (by omega)
  have h_c16_i32_64 : Affine.IsInt 16#32 (16) := Affine.ofNat _ (by omega)
  have h_c1_i32_65 : Affine.IsInt 1#32 (1) := Affine.ofNat _ (by omega)
  have r_k0_t2 : k.val < 32 := Nat.lt_of_lt_of_le k.isLt k0_t2_abs.2.1
  have h_arg13 : Affine.IsInt _ ((k.val : Int) + 16) := Affine.iv h_c16_i32_64 h_c1_i32_65 k.val (by omega)
  have c_arg13 : (k.val : Int) + 16 ≤ 48 - 1 := Affine.iv_lt k0_t2_abs.1 k.isLt k0_t2_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32 : Affine.IsInt 4#32 (4) := Affine.ofNat _ (by omega)
  have h_v234 : Affine.IsInt _ (((((k.val : Int) + 16) / 8) / 4)) := Affine.divsi h_v232 h_c4_i32 (by omega)
  have h_v501 : Affine.IsInt _ (((((k.val : Int) + 16) / 8) / 4)) := Affine.addi h_c0_i32_296 h_v234 (by omega)
  have h_c64_i32_297 : Affine.IsInt 64#32 (64) := Affine.ofNat _ (by omega)
  have h_v502 : Affine.IsInt _ (64 * ((((k.val : Int) + 16) / 8) / 4)) := Affine.muli h_v501 h_c64_i32_297 (by omega)
  have h_c8_i32_218 : Affine.IsInt 8#32 (8) := Affine.ofNat _ (by omega)
  have h_v233 : Affine.IsInt _ ((((k.val : Int) + 16) % 8)) := Affine.remsi h_arg13 h_c8_i32_218 (by omega)
  have h_c8_i32_298 : Affine.IsInt 8#32 (8) := Affine.ofNat _ (by omega)
  have h_v503 : Affine.IsInt _ (8 * (((k.val : Int) + 16) % 8)) := Affine.muli h_v233 h_c8_i32_298 (by omega)
  have h_v504 : Affine.IsInt _ (64 * ((((k.val : Int) + 16) / 8) / 4) + 8 * (((k.val : Int) + 16) % 8)) := Affine.addi h_v502 h_v503 (by omega)
  have h_v508 : Affine.IsInt _ (64 * ((((k.val : Int) + 16) / 8) / 4) + 8 * (((k.val : Int) + 16) % 8)) := Affine.indexCast h_v504
  have h_c4_i32_219 : Affine.IsInt 4#32 (4) := Affine.ofNat _ (by omega)
  have h_v235 : Affine.IsInt _ (((((k.val : Int) + 16) / 8) % 4)) := Affine.remsi h_v232 h_c4_i32_219 (by omega)
  have h_c128_i32 : Affine.IsInt 128#32 (128) := Affine.ofNat _ (by omega)
  have h_v236 : Affine.IsInt _ (128 * ((((k.val : Int) + 16) / 8) % 4)) := Affine.muli h_v235 h_c128_i32 (by omega)
  have h_v509 : Affine.IsInt _ (128 * ((((k.val : Int) + 16) / 8) % 4)) := Affine.indexCast h_v236
  exact vec4 (Affine.nat_eq h_v507 _ (by push_cast; omega)) (Affine.nat_eq h_v508 _ (by push_cast; omega)) rfl (Affine.nat_eq h_v509 _ (by push_cast; omega))
theorem trips3 : k0_t3_loop.trips = 16 := by decide +kernel
theorem offE3 : ∀ (k : Fin k0_t3_loop.trips) (r : Fin 8), k0_off11 k (BitVec.ofNat 32 (64 * r.val)) = ![64 * r.val + 8 * ((48 + k.val) % 8), 128 * ((48 + k.val) / 8 % 4)] := by decide +kernel
theorem offA3 : ∀ (k : Fin k0_t3_loop.trips) (p : Fin 2), k0_off13 k (BitVec.ofNat 32 (64 * p.val)) = ![0, 128 * ((48 + k.val) / 32) + 64 * p.val + 8 * ((48 + k.val) % 8), 128 * ((48 + k.val) / 8 % 4)] := by decide +kernel
theorem offW3 : ∀ (i : grid0.Coords) (k : Fin k0_t3_loop.trips) (r : Fin 8), k0_off12 i k (BitVec.ofNat 32 (128 * r.val)) = ![(48 + k.val) / 8 % 4, 128 * r.val + 8 * ((i 0).val % 16) + (0 + (48 + k.val) / 32), 0] := by
  intro i k r
  have r_r : r.val < 8 := r.isLt
  have h_c0_i32_224 : Affine.IsInt (BitVec.ofNat 32 (128 * r.val)) (128 * (r.val : Int)) := Affine.ofNat _ (by omega)
  have h_c48_i32 : Affine.IsInt 48#32 (48) := Affine.ofNat _ (by omega)
  have h_c1_i32_87 : Affine.IsInt 1#32 (1) := Affine.ofNat _ (by omega)
  have r_k0_t3 : k.val < 16 := Nat.lt_of_lt_of_le k.isLt k0_t3_abs.2.1
  have h_arg13 : Affine.IsInt _ ((k.val : Int) + 48) := Affine.iv h_c48_i32 h_c1_i32_87 k.val (by omega)
  have c_arg13 : (k.val : Int) + 48 ≤ 64 - 1 := Affine.iv_lt k0_t3_abs.1 k.isLt k0_t3_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32_219 : Affine.IsInt 4#32 (4) := Affine.ofNat _ (by omega)
  have h_v235 : Affine.IsInt _ (((((k.val : Int) + 48) / 8) % 4)) := Affine.remsi h_v232 h_c4_i32_219 (by omega)
  have h_v249 : Affine.IsInt _ (((((k.val : Int) + 48) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c0_i32_220 : Affine.IsInt 0#32 (0) := Affine.ofNat _ (by omega)
  have h_c4_i32 : Affine.IsInt 4#32 (4) := Affine.ofNat _ (by omega)
  have h_v234 : Affine.IsInt _ (((((k.val : Int) + 48) / 8) / 4)) := Affine.divsi h_v232 h_c4_i32 (by omega)
  have h_v238 : Affine.IsInt _ (((((k.val : Int) + 48) / 8) / 4)) := Affine.addi h_c0_i32_220 h_v234 (by omega)
  have h_v248 : Affine.IsInt _ (128 * (r.val : Int) + 8 * (((i 0).val : Int) % 16) + ((((k.val : Int) + 48) / 8) / 4)) := Affine.addi h_v247 h_v238 (by omega)
  have h_v250 : Affine.IsInt _ (128 * (r.val : Int) + 8 * (((i 0).val : Int) % 16) + ((((k.val : Int) + 48) / 8) / 4)) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH3 : ∀ (i : grid0.Coords) (k : Fin k0_t3_loop.trips), k0_off14 i k = ![(i 0).val % 2, 64 * (0 + (48 + k.val) / 32) + 8 * ((48 + k.val) % 8), 0, 128 * ((48 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c0_i32_296 : Affine.IsInt 0#32 (0) := Affine.ofNat _ (by omega)
  have h_c48_i32 : Affine.IsInt 48#32 (48) := Affine.ofNat _ (by omega)
  have h_c1_i32_87 : Affine.IsInt 1#32 (1) := Affine.ofNat _ (by omega)
  have r_k0_t3 : k.val < 16 := Nat.lt_of_lt_of_le k.isLt k0_t3_abs.2.1
  have h_arg13 : Affine.IsInt _ ((k.val : Int) + 48) := Affine.iv h_c48_i32 h_c1_i32_87 k.val (by omega)
  have c_arg13 : (k.val : Int) + 48 ≤ 64 - 1 := Affine.iv_lt k0_t3_abs.1 k.isLt k0_t3_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32 : Affine.IsInt 4#32 (4) := Affine.ofNat _ (by omega)
  have h_v234 : Affine.IsInt _ (((((k.val : Int) + 48) / 8) / 4)) := Affine.divsi h_v232 h_c4_i32 (by omega)
  have h_v501 : Affine.IsInt _ (((((k.val : Int) + 48) / 8) / 4)) := Affine.addi h_c0_i32_296 h_v234 (by omega)
  have h_c64_i32_297 : Affine.IsInt 64#32 (64) := Affine.ofNat _ (by omega)
  have h_v502 : Affine.IsInt _ (64 * ((((k.val : Int) + 48) / 8) / 4)) := Affine.muli h_v501 h_c64_i32_297 (by omega)
  have h_c8_i32_218 : Affine.IsInt 8#32 (8) := Affine.ofNat _ (by omega)
  have h_v233 : Affine.IsInt _ ((((k.val : Int) + 48) % 8)) := Affine.remsi h_arg13 h_c8_i32_218 (by omega)
  have h_c8_i32_298 : Affine.IsInt 8#32 (8) := Affine.ofNat _ (by omega)
  have h_v503 : Affine.IsInt _ (8 * (((k.val : Int) + 48) % 8)) := Affine.muli h_v233 h_c8_i32_298 (by omega)
  have h_v504 : Affine.IsInt _ (64 * ((((k.val : Int) + 48) / 8) / 4) + 8 * (((k.val : Int) + 48) % 8)) := Affine.addi h_v502 h_v503 (by omega)
  have h_v508 : Affine.IsInt _ (64 * ((((k.val : Int) + 48) / 8) / 4) + 8 * (((k.val : Int) + 48) % 8)) := Affine.indexCast h_v504
  have h_c4_i32_219 : Affine.IsInt 4#32 (4) := Affine.ofNat _ (by omega)
  have h_v235 : Affine.IsInt _ (((((k.val : Int) + 48) / 8) % 4)) := Affine.remsi h_v232 h_c4_i32_219 (by omega)
  have h_c128_i32 : Affine.IsInt 128#32 (128) := Affine.ofNat _ (by omega)
  have h_v236 : Affine.IsInt _ (128 * ((((k.val : Int) + 48) / 8) % 4)) := Affine.muli h_v235 h_c128_i32 (by omega)
  have h_v509 : Affine.IsInt _ (128 * ((((k.val : Int) + 48) / 8) % 4)) := Affine.indexCast h_v236
  exact vec4 (Affine.nat_eq h_v507 _ (by push_cast; omega)) (Affine.nat_eq h_v508 _ (by push_cast; omega)) rfl (Affine.nat_eq h_v509 _ (by push_cast; omega))
theorem trips4 : k0_t4_loop.trips = 16 := by decide +kernel
theorem offE4 : ∀ (k : Fin k0_t4_loop.trips) (r : Fin 8), k0_off15 k (BitVec.ofNat 32 (64 * r.val)) = ![64 * r.val + 8 * ((0 + k.val) % 8), 128 * ((0 + k.val) / 8 % 4)] := by decide +kernel
theorem offA4 : ∀ (k : Fin k0_t4_loop.trips) (p : Fin 2), k0_off17 k (BitVec.ofNat 32 (64 * p.val)) = ![1, 128 * ((0 + k.val) / 32) + 64 * p.val + 8 * ((0 + k.val) % 8), 128 * ((0 + k.val) / 8 % 4)] := by decide +kernel
theorem offW4 : ∀ (i : grid0.Coords) (k : Fin k0_t4_loop.trips) (r : Fin 8), k0_off16 i k (BitVec.ofNat 32 (128 * r.val)) = ![(0 + k.val) / 8 % 4, 128 * r.val + 8 * ((i 0).val % 16) + (2 + (0 + k.val) / 32), 0] := by
  intro i k r
  have r_r : r.val < 8 := r.isLt
  have h_c0_i32_224 : Affine.IsInt (BitVec.ofNat 32 (128 * r.val)) (128 * (r.val : Int)) := Affine.ofNat _ (by omega)
  have h_c0_i32_89 : Affine.IsInt 0#32 (0) := Affine.ofNat _ (by omega)
  have h_c1_i32_91 : Affine.IsInt 1#32 (1) := Affine.ofNat _ (by omega)
  have r_k0_t4 : k.val < 16 := Nat.lt_of_lt_of_le k.isLt k0_t4_abs.2.1
  have h_arg13 : Affine.IsInt _ ((k.val : Int)) := Affine.iv h_c0_i32_89 h_c1_i32_91 k.val (by omega)
  have c_arg13 : (k.val : Int) ≤ 16 - 1 := Affine.iv_lt k0_t4_abs.1 k.isLt k0_t4_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32_219 : Affine.IsInt 4#32 (4) := Affine.ofNat _ (by omega)
  have h_v235 : Affine.IsInt _ (((k.val : Int) / 8)) := Affine.remsi h_v232 h_c4_i32_219 (by omega)
  have h_v249 : Affine.IsInt _ (((k.val : Int) / 8)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c2_i32_220 : Affine.IsInt 2#32 (2) := Affine.ofNat _ (by omega)
  have h_c4_i32 : Affine.IsInt 4#32 (4) := Affine.ofNat _ (by omega)
  have h_v234 : Affine.IsInt _ ((((k.val : Int) / 8) / 4)) := Affine.divsi h_v232 h_c4_i32 (by omega)
  have h_v238 : Affine.IsInt _ ((((k.val : Int) / 8) / 4) + 2) := Affine.addi h_c2_i32_220 h_v234 (by omega)
  have h_v248 : Affine.IsInt _ (128 * (r.val : Int) + 8 * (((i 0).val : Int) % 16) + (((k.val : Int) / 8) / 4) + 2) := Affine.addi h_v247 h_v238 (by omega)
  have h_v250 : Affine.IsInt _ (128 * (r.val : Int) + 8 * (((i 0).val : Int) % 16) + (((k.val : Int) / 8) / 4) + 2) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH4 : ∀ (i : grid0.Coords) (k : Fin k0_t4_loop.trips), k0_off18 i k = ![(i 0).val % 2, 64 * (2 + (0 + k.val) / 32) + 8 * ((0 + k.val) % 8), 0, 128 * ((0 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c2_i32_296 : Affine.IsInt 2#32 (2) := Affine.ofNat _ (by omega)
  have h_c0_i32_89 : Affine.IsInt 0#32 (0) := Affine.ofNat _ (by omega)
  have h_c1_i32_91 : Affine.IsInt 1#32 (1) := Affine.ofNat _ (by omega)
  have r_k0_t4 : k.val < 16 := Nat.lt_of_lt_of_le k.isLt k0_t4_abs.2.1
  have h_arg13 : Affine.IsInt _ ((k.val : Int)) := Affine.iv h_c0_i32_89 h_c1_i32_91 k.val (by omega)
  have c_arg13 : (k.val : Int) ≤ 16 - 1 := Affine.iv_lt k0_t4_abs.1 k.isLt k0_t4_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32 : Affine.IsInt 4#32 (4) := Affine.ofNat _ (by omega)
  have h_v234 : Affine.IsInt _ ((((k.val : Int) / 8) / 4)) := Affine.divsi h_v232 h_c4_i32 (by omega)
  have h_v501 : Affine.IsInt _ ((((k.val : Int) / 8) / 4) + 2) := Affine.addi h_c2_i32_296 h_v234 (by omega)
  have h_c64_i32_297 : Affine.IsInt 64#32 (64) := Affine.ofNat _ (by omega)
  have h_v502 : Affine.IsInt _ (64 * (((k.val : Int) / 8) / 4) + 128) := Affine.muli h_v501 h_c64_i32_297 (by omega)
  have h_c8_i32_218 : Affine.IsInt 8#32 (8) := Affine.ofNat _ (by omega)
  have h_v233 : Affine.IsInt _ (((k.val : Int) % 8)) := Affine.remsi h_arg13 h_c8_i32_218 (by omega)
  have h_c8_i32_298 : Affine.IsInt 8#32 (8) := Affine.ofNat _ (by omega)
  have h_v503 : Affine.IsInt _ (8 * ((k.val : Int) % 8)) := Affine.muli h_v233 h_c8_i32_298 (by omega)
  have h_v504 : Affine.IsInt _ (64 * (((k.val : Int) / 8) / 4) + 8 * ((k.val : Int) % 8) + 128) := Affine.addi h_v502 h_v503 (by omega)
  have h_v508 : Affine.IsInt _ (64 * (((k.val : Int) / 8) / 4) + 8 * ((k.val : Int) % 8) + 128) := Affine.indexCast h_v504
  have h_c4_i32_219 : Affine.IsInt 4#32 (4) := Affine.ofNat _ (by omega)
  have h_v235 : Affine.IsInt _ (((k.val : Int) / 8)) := Affine.remsi h_v232 h_c4_i32_219 (by omega)
  have h_c128_i32 : Affine.IsInt 128#32 (128) := Affine.ofNat _ (by omega)
  have h_v236 : Affine.IsInt _ (128 * ((k.val : Int) / 8)) := Affine.muli h_v235 h_c128_i32 (by omega)
  have h_v509 : Affine.IsInt _ (128 * ((k.val : Int) / 8)) := Affine.indexCast h_v236
  exact vec4 (Affine.nat_eq h_v507 _ (by push_cast; omega)) (Affine.nat_eq h_v508 _ (by push_cast; omega)) rfl (Affine.nat_eq h_v509 _ (by push_cast; omega))
theorem trips5 : k0_t5_loop.trips = 16 := by decide +kernel
theorem offE5 : ∀ (k : Fin k0_t5_loop.trips) (r : Fin 8), k0_off19 k (BitVec.ofNat 32 (64 * r.val)) = ![64 * r.val + 8 * ((16 + k.val) % 8), 128 * ((16 + k.val) / 8 % 4)] := by decide +kernel
theorem offA5 : ∀ (k : Fin k0_t5_loop.trips) (p : Fin 2), k0_off21 k (BitVec.ofNat 32 (64 * p.val)) = ![1, 128 * ((16 + k.val) / 32) + 64 * p.val + 8 * ((16 + k.val) % 8), 128 * ((16 + k.val) / 8 % 4)] := by decide +kernel
theorem offW5 : ∀ (i : grid0.Coords) (k : Fin k0_t5_loop.trips) (r : Fin 8), k0_off20 i k (BitVec.ofNat 32 (128 * r.val)) = ![(16 + k.val) / 8 % 4, 128 * r.val + 8 * ((i 0).val % 16) + (2 + (16 + k.val) / 32), 0] := by
  intro i k r
  have r_r : r.val < 8 := r.isLt
  have h_c0_i32_224 : Affine.IsInt (BitVec.ofNat 32 (128 * r.val)) (128 * (r.val : Int)) := Affine.ofNat _ (by omega)
  have h_c16_i32_101 : Affine.IsInt 16#32 (16) := Affine.ofNat _ (by omega)
  have h_c1_i32_103 : Affine.IsInt 1#32 (1) := Affine.ofNat _ (by omega)
  have r_k0_t5 : k.val < 16 := Nat.lt_of_lt_of_le k.isLt k0_t5_abs.2.1
  have h_arg13 : Affine.IsInt _ ((k.val : Int) + 16) := Affine.iv h_c16_i32_101 h_c1_i32_103 k.val (by omega)
  have c_arg13 : (k.val : Int) + 16 ≤ 32 - 1 := Affine.iv_lt k0_t5_abs.1 k.isLt k0_t5_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32_219 : Affine.IsInt 4#32 (4) := Affine.ofNat _ (by omega)
  have h_v235 : Affine.IsInt _ ((((k.val : Int) + 16) / 8)) := Affine.remsi h_v232 h_c4_i32_219 (by omega)
  have h_v249 : Affine.IsInt _ ((((k.val : Int) + 16) / 8)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c2_i32_220 : Affine.IsInt 2#32 (2) := Affine.ofNat _ (by omega)
  have h_c4_i32 : Affine.IsInt 4#32 (4) := Affine.ofNat _ (by omega)
  have h_v234 : Affine.IsInt _ (((((k.val : Int) + 16) / 8) / 4)) := Affine.divsi h_v232 h_c4_i32 (by omega)
  have h_v238 : Affine.IsInt _ (((((k.val : Int) + 16) / 8) / 4) + 2) := Affine.addi h_c2_i32_220 h_v234 (by omega)
  have h_v248 : Affine.IsInt _ (128 * (r.val : Int) + 8 * (((i 0).val : Int) % 16) + ((((k.val : Int) + 16) / 8) / 4) + 2) := Affine.addi h_v247 h_v238 (by omega)
  have h_v250 : Affine.IsInt _ (128 * (r.val : Int) + 8 * (((i 0).val : Int) % 16) + ((((k.val : Int) + 16) / 8) / 4) + 2) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH5 : ∀ (i : grid0.Coords) (k : Fin k0_t5_loop.trips), k0_off22 i k = ![(i 0).val % 2, 64 * (2 + (16 + k.val) / 32) + 8 * ((16 + k.val) % 8), 0, 128 * ((16 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c2_i32_296 : Affine.IsInt 2#32 (2) := Affine.ofNat _ (by omega)
  have h_c16_i32_101 : Affine.IsInt 16#32 (16) := Affine.ofNat _ (by omega)
  have h_c1_i32_103 : Affine.IsInt 1#32 (1) := Affine.ofNat _ (by omega)
  have r_k0_t5 : k.val < 16 := Nat.lt_of_lt_of_le k.isLt k0_t5_abs.2.1
  have h_arg13 : Affine.IsInt _ ((k.val : Int) + 16) := Affine.iv h_c16_i32_101 h_c1_i32_103 k.val (by omega)
  have c_arg13 : (k.val : Int) + 16 ≤ 32 - 1 := Affine.iv_lt k0_t5_abs.1 k.isLt k0_t5_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32 : Affine.IsInt 4#32 (4) := Affine.ofNat _ (by omega)
  have h_v234 : Affine.IsInt _ (((((k.val : Int) + 16) / 8) / 4)) := Affine.divsi h_v232 h_c4_i32 (by omega)
  have h_v501 : Affine.IsInt _ (((((k.val : Int) + 16) / 8) / 4) + 2) := Affine.addi h_c2_i32_296 h_v234 (by omega)
  have h_c64_i32_297 : Affine.IsInt 64#32 (64) := Affine.ofNat _ (by omega)
  have h_v502 : Affine.IsInt _ (64 * ((((k.val : Int) + 16) / 8) / 4) + 128) := Affine.muli h_v501 h_c64_i32_297 (by omega)
  have h_c8_i32_218 : Affine.IsInt 8#32 (8) := Affine.ofNat _ (by omega)
  have h_v233 : Affine.IsInt _ ((((k.val : Int) + 16) % 8)) := Affine.remsi h_arg13 h_c8_i32_218 (by omega)
  have h_c8_i32_298 : Affine.IsInt 8#32 (8) := Affine.ofNat _ (by omega)
  have h_v503 : Affine.IsInt _ (8 * (((k.val : Int) + 16) % 8)) := Affine.muli h_v233 h_c8_i32_298 (by omega)
  have h_v504 : Affine.IsInt _ (64 * ((((k.val : Int) + 16) / 8) / 4) + 8 * (((k.val : Int) + 16) % 8) + 128) := Affine.addi h_v502 h_v503 (by omega)
  have h_v508 : Affine.IsInt _ (64 * ((((k.val : Int) + 16) / 8) / 4) + 8 * (((k.val : Int) + 16) % 8) + 128) := Affine.indexCast h_v504
  have h_c4_i32_219 : Affine.IsInt 4#32 (4) := Affine.ofNat _ (by omega)
  have h_v235 : Affine.IsInt _ ((((k.val : Int) + 16) / 8)) := Affine.remsi h_v232 h_c4_i32_219 (by omega)
  have h_c128_i32 : Affine.IsInt 128#32 (128) := Affine.ofNat _ (by omega)
  have h_v236 : Affine.IsInt _ (128 * (((k.val : Int) + 16) / 8)) := Affine.muli h_v235 h_c128_i32 (by omega)
  have h_v509 : Affine.IsInt _ (128 * (((k.val : Int) + 16) / 8)) := Affine.indexCast h_v236
  exact vec4 (Affine.nat_eq h_v507 _ (by push_cast; omega)) (Affine.nat_eq h_v508 _ (by push_cast; omega)) rfl (Affine.nat_eq h_v509 _ (by push_cast; omega))
theorem trips6 : k0_t6_loop.trips = 16 := by decide +kernel
theorem offE6 : ∀ (k : Fin k0_t6_loop.trips) (r : Fin 8), k0_off23 k (BitVec.ofNat 32 (64 * r.val)) = ![64 * r.val + 8 * ((32 + k.val) % 8), 128 * ((32 + k.val) / 8 % 4)] := by decide +kernel
theorem offA6 : ∀ (k : Fin k0_t6_loop.trips) (p : Fin 2), k0_off25 k (BitVec.ofNat 32 (64 * p.val)) = ![1, 128 * ((32 + k.val) / 32) + 64 * p.val + 8 * ((32 + k.val) % 8), 128 * ((32 + k.val) / 8 % 4)] := by decide +kernel
theorem offW6 : ∀ (i : grid0.Coords) (k : Fin k0_t6_loop.trips) (r : Fin 8), k0_off24 i k (BitVec.ofNat 32 (128 * r.val)) = ![(32 + k.val) / 8 % 4, 128 * r.val + 8 * ((i 0).val % 16) + (2 + (32 + k.val) / 32), 0] := by
  intro i k r
  have r_r : r.val < 8 := r.isLt
  have h_c0_i32_224 : Affine.IsInt (BitVec.ofNat 32 (128 * r.val)) (128 * (r.val : Int)) := Affine.ofNat _ (by omega)
  have h_c32_i32_116 : Affine.IsInt 32#32 (32) := Affine.ofNat _ (by omega)
  have h_c1_i32_118 : Affine.IsInt 1#32 (1) := Affine.ofNat _ (by omega)
  have r_k0_t6 : k.val < 16 := Nat.lt_of_lt_of_le k.isLt k0_t6_abs.2.1
  have h_arg13 : Affine.IsInt _ ((k.val : Int) + 32) := Affine.iv h_c32_i32_116 h_c1_i32_118 k.val (by omega)
  have c_arg13 : (k.val : Int) + 32 ≤ 48 - 1 := Affine.iv_lt k0_t6_abs.1 k.isLt k0_t6_abs.2.2 h_arg13
  have h_c8_i32 : Affine.IsInt 8#32 (8) := Affine.ofNat _ (by omega)
  have h_v232 : Affine.IsInt _ ((((k.val : Int) + 32) / 8)) := Affine.divsi h_arg13 h_c8_i32 (by omega)
  have h_c4_i32_219 : Affine.IsInt 4#32 (4) := Affine.ofNat _ (by omega)
  have h_v235 : Affine.IsInt _ (((((k.val : Int) + 32) / 8) % 4)) := Affine.remsi h_v232 h_c4_i32_219 (by omega)
  have h_v249 : Affine.IsInt _ (((((k.val : Int) + 32) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c2_i32_220 : Affine.IsInt 2#32 (2) := Affine.ofNat _ (by omega)
  have h_c4_i32 : Affine.IsInt 4#32 (4) := Affine.ofNat _ (by omega)
  have h_v234 : Affine.IsInt _ (((((k.val : Int) + 32) / 8) / 4)) := Affine.divsi h_v232 h_c4_i32 (by omega)
  have h_v238 : Affine.IsInt _ (((((k.val : Int) + 32) / 8) / 4) + 2) := Affine.addi h_c2_i32_220 h_v234 (by omega)
  have h_v248 : Affine.IsInt _ (128 * (r.val : Int) + 8 * (((i 0).val : Int) % 16) + ((((k.val : Int) + 32) / 8) / 4) + 2) := Affine.addi h_v247 h_v238 (by omega)
  have h_v250 : Affine.IsInt _ (128 * (r.val : Int) + 8 * (((i 0).val : Int) % 16) + ((((k.val : Int) + 32) / 8) / 4) + 2) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH6 : ∀ (i : grid0.Coords) (k : Fin k0_t6_loop.trips), k0_off26 i k = ![(i 0).val % 2, 64 * (2 + (32 + k.val) / 32) + 8 * ((32 + k.val) % 8), 0, 128 * ((32 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c2_i32_296 : Affine.IsInt 2#32 (2) := Affine.ofNat _ (by omega)
  have h_c32_i32_116 : Affine.IsInt 32#32 (32) := Affine.ofNat _ (by omega)
  have h_c1_i32_118 : Affine.IsInt 1#32 (1) := Affine.ofNat _ (by omega)
  have r_k0_t6 : k.val < 16 := Nat.lt_of_lt_of_le k.isLt k0_t6_abs.2.1
  have h_arg13 : Affine.IsInt _ ((k.val : Int) + 32) := Affine.iv h_c32_i32_116 h_c1_i32_118 k.val (by omega)
  have c_arg13 : (k.val : Int) + 32 ≤ 48 - 1 := Affine.iv_lt k0_t6_abs.1 k.isLt k0_t6_abs.2.2 h_arg13
  have h_c8_i32 : Affine.IsInt 8#32 (8) := Affine.ofNat _ (by omega)
  have h_v232 : Affine.IsInt _ ((((k.val : Int) + 32) / 8)) := Affine.divsi h_arg13 h_c8_i32 (by omega)
  have h_c4_i32 : Affine.IsInt 4#32 (4) := Affine.ofNat _ (by omega)
  have h_v234 : Affine.IsInt _ (((((k.val : Int) + 32) / 8) / 4)) := Affine.divsi h_v232 h_c4_i32 (by omega)
  have h_v501 : Affine.IsInt _ (((((k.val : Int) + 32) / 8) / 4) + 2) := Affine.addi h_c2_i32_296 h_v234 (by omega)
  have h_c64_i32_297 : Affine.IsInt 64#32 (64) := Affine.ofNat _ (by omega)
  have h_v502 : Affine.IsInt _ (64 * ((((k.val : Int) + 32) / 8) / 4) + 128) := Affine.muli h_v501 h_c64_i32_297 (by omega)
  have h_c8_i32_218 : Affine.IsInt 8#32 (8) := Affine.ofNat _ (by omega)
  have h_v233 : Affine.IsInt _ ((((k.val : Int) + 32) % 8)) := Affine.remsi h_arg13 h_c8_i32_218 (by omega)
  have h_c8_i32_298 : Affine.IsInt 8#32 (8) := Affine.ofNat _ (by omega)
  have h_v503 : Affine.IsInt _ (8 * (((k.val : Int) + 32) % 8)) := Affine.muli h_v233 h_c8_i32_298 (by omega)
  have h_v504 : Affine.IsInt _ (64 * ((((k.val : Int) + 32) / 8) / 4) + 8 * (((k.val : Int) + 32) % 8) + 128) := Affine.addi h_v502 h_v503 (by omega)
  have h_v508 : Affine.IsInt _ (64 * ((((k.val : Int) + 32) / 8) / 4) + 8 * (((k.val : Int) + 32) % 8) + 128) := Affine.indexCast h_v504
  have h_c4_i32_219 : Affine.IsInt 4#32 (4) := Affine.ofNat _ (by omega)
  have h_v235 : Affine.IsInt _ (((((k.val : Int) + 32) / 8) % 4)) := Affine.remsi h_v232 h_c4_i32_219 (by omega)
  have h_c128_i32 : Affine.IsInt 128#32 (128) := Affine.ofNat _ (by omega)
  have h_v236 : Affine.IsInt _ (128 * ((((k.val : Int) + 32) / 8) % 4)) := Affine.muli h_v235 h_c128_i32 (by omega)
  have h_v509 : Affine.IsInt _ (128 * ((((k.val : Int) + 32) / 8) % 4)) := Affine.indexCast h_v236
  exact vec4 (Affine.nat_eq h_v507 _ (by push_cast; omega)) (Affine.nat_eq h_v508 _ (by push_cast; omega)) rfl (Affine.nat_eq h_v509 _ (by push_cast; omega))
theorem trips7 : k0_t7_loop.trips = 16 := by decide +kernel
theorem offE7 : ∀ (k : Fin k0_t7_loop.trips) (r : Fin 8), k0_off27 k (BitVec.ofNat 32 (64 * r.val)) = ![64 * r.val + 8 * ((48 + k.val) % 8), 128 * ((48 + k.val) / 8 % 4)] := by decide +kernel
theorem offA7 : ∀ (k : Fin k0_t7_loop.trips) (p : Fin 2), k0_off29 k (BitVec.ofNat 32 (64 * p.val)) = ![1, 128 * ((48 + k.val) / 32) + 64 * p.val + 8 * ((48 + k.val) % 8), 128 * ((48 + k.val) / 8 % 4)] := by decide +kernel
theorem offW7 : ∀ (i : grid0.Coords) (k : Fin k0_t7_loop.trips) (r : Fin 8), k0_off28 i k (BitVec.ofNat 32 (128 * r.val)) = ![(48 + k.val) / 8 % 4, 128 * r.val + 8 * ((i 0).val % 16) + (2 + (48 + k.val) / 32), 0] := by
  intro i k r
  have r_r : r.val < 8 := r.isLt
  have h_c0_i32_224 : Affine.IsInt (BitVec.ofNat 32 (128 * r.val)) (128 * (r.val : Int)) := Affine.ofNat _ (by omega)
  have h_c48_i32_128 : Affine.IsInt 48#32 (48) := Affine.ofNat _ (by omega)
  have h_c1_i32_130 : Affine.IsInt 1#32 (1) := Affine.ofNat _ (by omega)
  have r_k0_t7 : k.val < 16 := Nat.lt_of_lt_of_le k.isLt k0_t7_abs.2.1
  have h_arg13 : Affine.IsInt _ ((k.val : Int) + 48) := Affine.iv h_c48_i32_128 h_c1_i32_130 k.val (by omega)
  have c_arg13 : (k.val : Int) + 48 ≤ 64 - 1 := Affine.iv_lt k0_t7_abs.1 k.isLt k0_t7_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32_219 : Affine.IsInt 4#32 (4) := Affine.ofNat _ (by omega)
  have h_v235 : Affine.IsInt _ (((((k.val : Int) + 48) / 8) % 4)) := Affine.remsi h_v232 h_c4_i32_219 (by omega)
  have h_v249 : Affine.IsInt _ (((((k.val : Int) + 48) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c2_i32_220 : Affine.IsInt 2#32 (2) := Affine.ofNat _ (by omega)
  have h_c4_i32 : Affine.IsInt 4#32 (4) := Affine.ofNat _ (by omega)
  have h_v234 : Affine.IsInt _ (((((k.val : Int) + 48) / 8) / 4)) := Affine.divsi h_v232 h_c4_i32 (by omega)
  have h_v238 : Affine.IsInt _ (((((k.val : Int) + 48) / 8) / 4) + 2) := Affine.addi h_c2_i32_220 h_v234 (by omega)
  have h_v248 : Affine.IsInt _ (128 * (r.val : Int) + 8 * (((i 0).val : Int) % 16) + ((((k.val : Int) + 48) / 8) / 4) + 2) := Affine.addi h_v247 h_v238 (by omega)
  have h_v250 : Affine.IsInt _ (128 * (r.val : Int) + 8 * (((i 0).val : Int) % 16) + ((((k.val : Int) + 48) / 8) / 4) + 2) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH7 : ∀ (i : grid0.Coords) (k : Fin k0_t7_loop.trips), k0_off30 i k = ![(i 0).val % 2, 64 * (2 + (48 + k.val) / 32) + 8 * ((48 + k.val) % 8), 0, 128 * ((48 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c2_i32_296 : Affine.IsInt 2#32 (2) := Affine.ofNat _ (by omega)
  have h_c48_i32_128 : Affine.IsInt 48#32 (48) := Affine.ofNat _ (by omega)
  have h_c1_i32_130 : Affine.IsInt 1#32 (1) := Affine.ofNat _ (by omega)
  have r_k0_t7 : k.val < 16 := Nat.lt_of_lt_of_le k.isLt k0_t7_abs.2.1
  have h_arg13 : Affine.IsInt _ ((k.val : Int) + 48) := Affine.iv h_c48_i32_128 h_c1_i32_130 k.val (by omega)
  have c_arg13 : (k.val : Int) + 48 ≤ 64 - 1 := Affine.iv_lt k0_t7_abs.1 k.isLt k0_t7_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32 : Affine.IsInt 4#32 (4) := Affine.ofNat _ (by omega)
  have h_v234 : Affine.IsInt _ (((((k.val : Int) + 48) / 8) / 4)) := Affine.divsi h_v232 h_c4_i32 (by omega)
  have h_v501 : Affine.IsInt _ (((((k.val : Int) + 48) / 8) / 4) + 2) := Affine.addi h_c2_i32_296 h_v234 (by omega)
  have h_c64_i32_297 : Affine.IsInt 64#32 (64) := Affine.ofNat _ (by omega)
  have h_v502 : Affine.IsInt _ (64 * ((((k.val : Int) + 48) / 8) / 4) + 128) := Affine.muli h_v501 h_c64_i32_297 (by omega)
  have h_c8_i32_218 : Affine.IsInt 8#32 (8) := Affine.ofNat _ (by omega)
  have h_v233 : Affine.IsInt _ ((((k.val : Int) + 48) % 8)) := Affine.remsi h_arg13 h_c8_i32_218 (by omega)
  have h_c8_i32_298 : Affine.IsInt 8#32 (8) := Affine.ofNat _ (by omega)
  have h_v503 : Affine.IsInt _ (8 * (((k.val : Int) + 48) % 8)) := Affine.muli h_v233 h_c8_i32_298 (by omega)
  have h_v504 : Affine.IsInt _ (64 * ((((k.val : Int) + 48) / 8) / 4) + 8 * (((k.val : Int) + 48) % 8) + 128) := Affine.addi h_v502 h_v503 (by omega)
  have h_v508 : Affine.IsInt _ (64 * ((((k.val : Int) + 48) / 8) / 4) + 8 * (((k.val : Int) + 48) % 8) + 128) := Affine.indexCast h_v504
  have h_c4_i32_219 : Affine.IsInt 4#32 (4) := Affine.ofNat _ (by omega)
  have h_v235 : Affine.IsInt _ (((((k.val : Int) + 48) / 8) % 4)) := Affine.remsi h_v232 h_c4_i32_219 (by omega)
  have h_c128_i32 : Affine.IsInt 128#32 (128) := Affine.ofNat _ (by omega)
  have h_v236 : Affine.IsInt _ (128 * ((((k.val : Int) + 48) / 8) % 4)) := Affine.muli h_v235 h_c128_i32 (by omega)
  have h_v509 : Affine.IsInt _ (128 * ((((k.val : Int) + 48) / 8) % 4)) := Affine.indexCast h_v236
  exact vec4 (Affine.nat_eq h_v507 _ (by push_cast; omega)) (Affine.nat_eq h_v508 _ (by push_cast; omega)) rfl (Affine.nat_eq h_v509 _ (by push_cast; omega))
theorem trips8 : k0_t8_loop.trips = 16 := by decide +kernel
theorem offE8 : ∀ (k : Fin k0_t8_loop.trips) (r : Fin 8), k0_off31 k (BitVec.ofNat 32 (64 * r.val)) = ![64 * r.val + 8 * ((0 + k.val) % 8), 128 * ((0 + k.val) / 8 % 4)] := by decide +kernel
theorem offA8 : ∀ (k : Fin k0_t8_loop.trips) (p : Fin 2), k0_off33 k (BitVec.ofNat 32 (64 * p.val)) = ![0, 128 * ((0 + k.val) / 32) + 64 * p.val + 8 * ((0 + k.val) % 8), 128 * ((0 + k.val) / 8 % 4)] := by decide +kernel
theorem offW8 : ∀ (i : grid0.Coords) (k : Fin k0_t8_loop.trips) (r : Fin 8), k0_off32 i k (BitVec.ofNat 32 (128 * r.val)) = ![(0 + k.val) / 8 % 4, 128 * r.val + 8 * ((i 0).val % 16) + (4 + (0 + k.val) / 32), 0] := by
  intro i k r
  have r_r : r.val < 8 := r.isLt
  have h_c0_i32_224 : Affine.IsInt (BitVec.ofNat 32 (128 * r.val)) (128 * (r.val : Int)) := Affine.ofNat _ (by omega)
  have h_c0_i32_132 : Affine.IsInt 0#32 (0) := Affine.ofNat _ (by omega)
  have h_c1_i32_134 : Affine.IsInt 1#32 (1) := Affine.ofNat _ (by omega)
  have r_k0_t8 : k.val < 16 := Nat.lt_of_lt_of_le k.isLt k0_t8_abs.2.1
  have h_arg13 : Affine.IsInt _ ((k.val : Int)) := Affine.iv h_c0_i32_132 h_c1_i32_134 k.val (by omega)
  have c_arg13 : (k.val : Int) ≤ 16 - 1 := Affine.iv_lt k0_t8_abs.1 k.isLt k0_t8_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32_219 : Affine.IsInt 4#32 (4) := Affine.ofNat _ (by omega)
  have h_v235 : Affine.IsInt _ (((k.val : Int) / 8)) := Affine.remsi h_v232 h_c4_i32_219 (by omega)
  have h_v249 : Affine.IsInt _ (((k.val : Int) / 8)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c4_i32_220 : Affine.IsInt 4#32 (4) := Affine.ofNat _ (by omega)
  have h_c4_i32 : Affine.IsInt 4#32 (4) := Affine.ofNat _ (by omega)
  have h_v234 : Affine.IsInt _ ((((k.val : Int) / 8) / 4)) := Affine.divsi h_v232 h_c4_i32 (by omega)
  have h_v238 : Affine.IsInt _ ((((k.val : Int) / 8) / 4) + 4) := Affine.addi h_c4_i32_220 h_v234 (by omega)
  have h_v248 : Affine.IsInt _ (128 * (r.val : Int) + 8 * (((i 0).val : Int) % 16) + (((k.val : Int) / 8) / 4) + 4) := Affine.addi h_v247 h_v238 (by omega)
  have h_v250 : Affine.IsInt _ (128 * (r.val : Int) + 8 * (((i 0).val : Int) % 16) + (((k.val : Int) / 8) / 4) + 4) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH8 : ∀ (i : grid0.Coords) (k : Fin k0_t8_loop.trips), k0_off34 i k = ![(i 0).val % 2, 64 * (4 + (0 + k.val) / 32) + 8 * ((0 + k.val) % 8), 0, 128 * ((0 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c4_i32_296 : Affine.IsInt 4#32 (4) := Affine.ofNat _ (by omega)
  have h_c0_i32_132 : Affine.IsInt 0#32 (0) := Affine.ofNat _ (by omega)
  have h_c1_i32_134 : Affine.IsInt 1#32 (1) := Affine.ofNat _ (by omega)
  have r_k0_t8 : k.val < 16 := Nat.lt_of_lt_of_le k.isLt k0_t8_abs.2.1
  have h_arg13 : Affine.IsInt _ ((k.val : Int)) := Affine.iv h_c0_i32_132 h_c1_i32_134 k.val (by omega)
  have c_arg13 : (k.val : Int) ≤ 16 - 1 := Affine.iv_lt k0_t8_abs.1 k.isLt k0_t8_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32 : Affine.IsInt 4#32 (4) := Affine.ofNat _ (by omega)
  have h_v234 : Affine.IsInt _ ((((k.val : Int) / 8) / 4)) := Affine.divsi h_v232 h_c4_i32 (by omega)
  have h_v501 : Affine.IsInt _ ((((k.val : Int) / 8) / 4) + 4) := Affine.addi h_c4_i32_296 h_v234 (by omega)
  have h_c64_i32_297 : Affine.IsInt 64#32 (64) := Affine.ofNat _ (by omega)
  have h_v502 : Affine.IsInt _ (64 * (((k.val : Int) / 8) / 4) + 256) := Affine.muli h_v501 h_c64_i32_297 (by omega)
  have h_c8_i32_218 : Affine.IsInt 8#32 (8) := Affine.ofNat _ (by omega)
  have h_v233 : Affine.IsInt _ (((k.val : Int) % 8)) := Affine.remsi h_arg13 h_c8_i32_218 (by omega)
  have h_c8_i32_298 : Affine.IsInt 8#32 (8) := Affine.ofNat _ (by omega)
  have h_v503 : Affine.IsInt _ (8 * ((k.val : Int) % 8)) := Affine.muli h_v233 h_c8_i32_298 (by omega)
  have h_v504 : Affine.IsInt _ (64 * (((k.val : Int) / 8) / 4) + 8 * ((k.val : Int) % 8) + 256) := Affine.addi h_v502 h_v503 (by omega)
  have h_v508 : Affine.IsInt _ (64 * (((k.val : Int) / 8) / 4) + 8 * ((k.val : Int) % 8) + 256) := Affine.indexCast h_v504
  have h_c4_i32_219 : Affine.IsInt 4#32 (4) := Affine.ofNat _ (by omega)
  have h_v235 : Affine.IsInt _ (((k.val : Int) / 8)) := Affine.remsi h_v232 h_c4_i32_219 (by omega)
  have h_c128_i32 : Affine.IsInt 128#32 (128) := Affine.ofNat _ (by omega)
  have h_v236 : Affine.IsInt _ (128 * ((k.val : Int) / 8)) := Affine.muli h_v235 h_c128_i32 (by omega)
  have h_v509 : Affine.IsInt _ (128 * ((k.val : Int) / 8)) := Affine.indexCast h_v236
  exact vec4 (Affine.nat_eq h_v507 _ (by push_cast; omega)) (Affine.nat_eq h_v508 _ (by push_cast; omega)) rfl (Affine.nat_eq h_v509 _ (by push_cast; omega))
theorem trips9 : k0_t9_loop.trips = 32 := by decide +kernel
theorem offE9 : ∀ (k : Fin k0_t9_loop.trips) (r : Fin 8), k0_off36 k (BitVec.ofNat 32 (64 * r.val)) = ![64 * r.val + 8 * ((16 + k.val) % 8), 128 * ((16 + k.val) / 8 % 4)] := by decide +kernel
theorem offA9 : ∀ (k : Fin k0_t9_loop.trips) (p : Fin 2), k0_off38 k (BitVec.ofNat 32 (64 * p.val)) = ![0, 128 * ((16 + k.val) / 32) + 64 * p.val + 8 * ((16 + k.val) % 8), 128 * ((16 + k.val) / 8 % 4)] := by decide +kernel
theorem offW9 : ∀ (i : grid0.Coords) (k : Fin k0_t9_loop.trips) (r : Fin 8), k0_off37 i k (BitVec.ofNat 32 (128 * r.val)) = ![(16 + k.val) / 8 % 4, 128 * r.val + 8 * ((i 0).val % 16) + (4 + (16 + k.val) / 32), 0] := by
  intro i k r
  have r_r : r.val < 8 := r.isLt
  have h_c0_i32_224 : Affine.IsInt (BitVec.ofNat 32 (128 * r.val)) (128 * (r.val : Int)) := Affine.ofNat _ (by omega)
  have h_c16_i32_154 : Affine.IsInt 16#32 (16) := Affine.ofNat _ (by omega)
  have h_c1_i32_156 : Affine.IsInt 1#32 (1) := Affine.ofNat _ (by omega)
  have r_k0_t9 : k.val < 32 := Nat.lt_of_lt_of_le k.isLt k0_t9_abs.2.1
  have h_arg13 : Affine.IsInt _ ((k.val : Int) + 16) := Affine.iv h_c16_i32_154 h_c1_i32_156 k.val (by omega)
  have c_arg13 : (k.val : Int) + 16 ≤ 48 - 1 := Affine.iv_lt k0_t9_abs.1 k.isLt k0_t9_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32_219 : Affine.IsInt 4#32 (4) := Affine.ofNat _ (by omega)
  have h_v235 : Affine.IsInt _ (((((k.val : Int) + 16) / 8) % 4)) := Affine.remsi h_v232 h_c4_i32_219 (by omega)
  have h_v249 : Affine.IsInt _ (((((k.val : Int) + 16) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c4_i32_220 : Affine.IsInt 4#32 (4) := Affine.ofNat _ (by omega)
  have h_c4_i32 : Affine.IsInt 4#32 (4) := Affine.ofNat _ (by omega)
  have h_v234 : Affine.IsInt _ (((((k.val : Int) + 16) / 8) / 4)) := Affine.divsi h_v232 h_c4_i32 (by omega)
  have h_v238 : Affine.IsInt _ (((((k.val : Int) + 16) / 8) / 4) + 4) := Affine.addi h_c4_i32_220 h_v234 (by omega)
  have h_v248 : Affine.IsInt _ (128 * (r.val : Int) + 8 * (((i 0).val : Int) % 16) + ((((k.val : Int) + 16) / 8) / 4) + 4) := Affine.addi h_v247 h_v238 (by omega)
  have h_v250 : Affine.IsInt _ (128 * (r.val : Int) + 8 * (((i 0).val : Int) % 16) + ((((k.val : Int) + 16) / 8) / 4) + 4) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH9 : ∀ (i : grid0.Coords) (k : Fin k0_t9_loop.trips), k0_off39 i k = ![(i 0).val % 2, 64 * (4 + (16 + k.val) / 32) + 8 * ((16 + k.val) % 8), 0, 128 * ((16 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c4_i32_296 : Affine.IsInt 4#32 (4) := Affine.ofNat _ (by omega)
  have h_c16_i32_154 : Affine.IsInt 16#32 (16) := Affine.ofNat _ (by omega)
  have h_c1_i32_156 : Affine.IsInt 1#32 (1) := Affine.ofNat _ (by omega)
  have r_k0_t9 : k.val < 32 := Nat.lt_of_lt_of_le k.isLt k0_t9_abs.2.1
  have h_arg13 : Affine.IsInt _ ((k.val : Int) + 16) := Affine.iv h_c16_i32_154 h_c1_i32_156 k.val (by omega)
  have c_arg13 : (k.val : Int) + 16 ≤ 48 - 1 := Affine.iv_lt k0_t9_abs.1 k.isLt k0_t9_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32 : Affine.IsInt 4#32 (4) := Affine.ofNat _ (by omega)
  have h_v234 : Affine.IsInt _ (((((k.val : Int) + 16) / 8) / 4)) := Affine.divsi h_v232 h_c4_i32 (by omega)
  have h_v501 : Affine.IsInt _ (((((k.val : Int) + 16) / 8) / 4) + 4) := Affine.addi h_c4_i32_296 h_v234 (by omega)
  have h_c64_i32_297 : Affine.IsInt 64#32 (64) := Affine.ofNat _ (by omega)
  have h_v502 : Affine.IsInt _ (64 * ((((k.val : Int) + 16) / 8) / 4) + 256) := Affine.muli h_v501 h_c64_i32_297 (by omega)
  have h_c8_i32_218 : Affine.IsInt 8#32 (8) := Affine.ofNat _ (by omega)
  have h_v233 : Affine.IsInt _ ((((k.val : Int) + 16) % 8)) := Affine.remsi h_arg13 h_c8_i32_218 (by omega)
  have h_c8_i32_298 : Affine.IsInt 8#32 (8) := Affine.ofNat _ (by omega)
  have h_v503 : Affine.IsInt _ (8 * (((k.val : Int) + 16) % 8)) := Affine.muli h_v233 h_c8_i32_298 (by omega)
  have h_v504 : Affine.IsInt _ (64 * ((((k.val : Int) + 16) / 8) / 4) + 8 * (((k.val : Int) + 16) % 8) + 256) := Affine.addi h_v502 h_v503 (by omega)
  have h_v508 : Affine.IsInt _ (64 * ((((k.val : Int) + 16) / 8) / 4) + 8 * (((k.val : Int) + 16) % 8) + 256) := Affine.indexCast h_v504
  have h_c4_i32_219 : Affine.IsInt 4#32 (4) := Affine.ofNat _ (by omega)
  have h_v235 : Affine.IsInt _ (((((k.val : Int) + 16) / 8) % 4)) := Affine.remsi h_v232 h_c4_i32_219 (by omega)
  have h_c128_i32 : Affine.IsInt 128#32 (128) := Affine.ofNat _ (by omega)
  have h_v236 : Affine.IsInt _ (128 * ((((k.val : Int) + 16) / 8) % 4)) := Affine.muli h_v235 h_c128_i32 (by omega)
  have h_v509 : Affine.IsInt _ (128 * ((((k.val : Int) + 16) / 8) % 4)) := Affine.indexCast h_v236
  exact vec4 (Affine.nat_eq h_v507 _ (by push_cast; omega)) (Affine.nat_eq h_v508 _ (by push_cast; omega)) rfl (Affine.nat_eq h_v509 _ (by push_cast; omega))
theorem trips10 : k0_t10_loop.trips = 16 := by decide +kernel
theorem offE10 : ∀ (k : Fin k0_t10_loop.trips) (r : Fin 8), k0_off40 k (BitVec.ofNat 32 (64 * r.val)) = ![64 * r.val + 8 * ((48 + k.val) % 8), 128 * ((48 + k.val) / 8 % 4)] := by decide +kernel
theorem offA10 : ∀ (k : Fin k0_t10_loop.trips) (p : Fin 2), k0_off42 k (BitVec.ofNat 32 (64 * p.val)) = ![0, 128 * ((48 + k.val) / 32) + 64 * p.val + 8 * ((48 + k.val) % 8), 128 * ((48 + k.val) / 8 % 4)] := by decide +kernel
theorem offW10 : ∀ (i : grid0.Coords) (k : Fin k0_t10_loop.trips) (r : Fin 8), k0_off41 i k (BitVec.ofNat 32 (128 * r.val)) = ![(48 + k.val) / 8 % 4, 128 * r.val + 8 * ((i 0).val % 16) + (4 + (48 + k.val) / 32), 0] := by
  intro i k r
  have r_r : r.val < 8 := r.isLt
  have h_c0_i32_224 : Affine.IsInt (BitVec.ofNat 32 (128 * r.val)) (128 * (r.val : Int)) := Affine.ofNat _ (by omega)
  have h_c48_i32_177 : Affine.IsInt 48#32 (48) := Affine.ofNat _ (by omega)
  have h_c1_i32_179 : Affine.IsInt 1#32 (1) := Affine.ofNat _ (by omega)
  have r_k0_t10 : k.val < 16 := Nat.lt_of_lt_of_le k.isLt k0_t10_abs.2.1
  have h_arg13 : Affine.IsInt _ ((k.val : Int) + 48) := Affine.iv h_c48_i32_177 h_c1_i32_179 k.val (by omega)
  have c_arg13 : (k.val : Int) + 48 ≤ 64 - 1 := Affine.iv_lt k0_t10_abs.1 k.isLt k0_t10_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32_219 : Affine.IsInt 4#32 (4) := Affine.ofNat _ (by omega)
  have h_v235 : Affine.IsInt _ (((((k.val : Int) + 48) / 8) % 4)) := Affine.remsi h_v232 h_c4_i32_219 (by omega)
  have h_v249 : Affine.IsInt _ (((((k.val : Int) + 48) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_223 : Affine.IsInt 8#32 (8) := Affine.ofNat _ (by omega)
  have h_v246 : Affine.IsInt _ (8 * (((i 0).val : Int) % 16)) := Affine.muli h_v9 h_c8_i32_223 (by omega)
  have h_v247 : Affine.IsInt _ (128 * (r.val : Int) + 8 * (((i 0).val : Int) % 16)) := Affine.addi h_c0_i32_224 h_v246 (by omega)
  have h_c4_i32_220 : Affine.IsInt 4#32 (4) := Affine.ofNat _ (by omega)
  have h_c4_i32 : Affine.IsInt 4#32 (4) := Affine.ofNat _ (by omega)
  have h_v234 : Affine.IsInt _ (((((k.val : Int) + 48) / 8) / 4)) := Affine.divsi h_v232 h_c4_i32 (by omega)
  have h_v238 : Affine.IsInt _ (((((k.val : Int) + 48) / 8) / 4) + 4) := Affine.addi h_c4_i32_220 h_v234 (by omega)
  have h_v248 : Affine.IsInt _ (128 * (r.val : Int) + 8 * (((i 0).val : Int) % 16) + ((((k.val : Int) + 48) / 8) / 4) + 4) := Affine.addi h_v247 h_v238 (by omega)
  have h_v250 : Affine.IsInt _ (128 * (r.val : Int) + 8 * (((i 0).val : Int) % 16) + ((((k.val : Int) + 48) / 8) / 4) + 4) := Affine.indexCast h_v248
  have h_c0_225 : Affine.IsInt 0#32 (0) := Affine.ofNat _ (by omega)
  exact vec3 (Affine.nat_eq h_v249 _ (by push_cast; omega)) (Affine.nat_eq h_v250 _ (by push_cast; omega)) rfl
theorem offH10 : ∀ (i : grid0.Coords) (k : Fin k0_t10_loop.trips), k0_off43 i k = ![(i 0).val % 2, 64 * (4 + (48 + k.val) / 32) + 8 * ((48 + k.val) % 8), 0, 128 * ((48 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c4_i32_296 : Affine.IsInt 4#32 (4) := Affine.ofNat _ (by omega)
  have h_c48_i32_177 : Affine.IsInt 48#32 (48) := Affine.ofNat _ (by omega)
  have h_c1_i32_179 : Affine.IsInt 1#32 (1) := Affine.ofNat _ (by omega)
  have r_k0_t10 : k.val < 16 := Nat.lt_of_lt_of_le k.isLt k0_t10_abs.2.1
  have h_arg13 : Affine.IsInt _ ((k.val : Int) + 48) := Affine.iv h_c48_i32_177 h_c1_i32_179 k.val (by omega)
  have c_arg13 : (k.val : Int) + 48 ≤ 64 - 1 := Affine.iv_lt k0_t10_abs.1 k.isLt k0_t10_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32 : Affine.IsInt 4#32 (4) := Affine.ofNat _ (by omega)
  have h_v234 : Affine.IsInt _ (((((k.val : Int) + 48) / 8) / 4)) := Affine.divsi h_v232 h_c4_i32 (by omega)
  have h_v501 : Affine.IsInt _ (((((k.val : Int) + 48) / 8) / 4) + 4) := Affine.addi h_c4_i32_296 h_v234 (by omega)
  have h_c64_i32_297 : Affine.IsInt 64#32 (64) := Affine.ofNat _ (by omega)
  have h_v502 : Affine.IsInt _ (64 * ((((k.val : Int) + 48) / 8) / 4) + 256) := Affine.muli h_v501 h_c64_i32_297 (by omega)
  have h_c8_i32_218 : Affine.IsInt 8#32 (8) := Affine.ofNat _ (by omega)
  have h_v233 : Affine.IsInt _ ((((k.val : Int) + 48) % 8)) := Affine.remsi h_arg13 h_c8_i32_218 (by omega)
  have h_c8_i32_298 : Affine.IsInt 8#32 (8) := Affine.ofNat _ (by omega)
  have h_v503 : Affine.IsInt _ (8 * (((k.val : Int) + 48) % 8)) := Affine.muli h_v233 h_c8_i32_298 (by omega)
  have h_v504 : Affine.IsInt _ (64 * ((((k.val : Int) + 48) / 8) / 4) + 8 * (((k.val : Int) + 48) % 8) + 256) := Affine.addi h_v502 h_v503 (by omega)
  have h_v508 : Affine.IsInt _ (64 * ((((k.val : Int) + 48) / 8) / 4) + 8 * (((k.val : Int) + 48) % 8) + 256) := Affine.indexCast h_v504
  have h_c4_i32_219 : Affine.IsInt 4#32 (4) := Affine.ofNat _ (by omega)
  have h_v235 : Affine.IsInt _ (((((k.val : Int) + 48) / 8) % 4)) := Affine.remsi h_v232 h_c4_i32_219 (by omega)
  have h_c128_i32 : Affine.IsInt 128#32 (128) := Affine.ofNat _ (by omega)
  have h_v236 : Affine.IsInt _ (128 * ((((k.val : Int) + 48) / 8) % 4)) := Affine.muli h_v235 h_c128_i32 (by omega)
  have h_v509 : Affine.IsInt _ (128 * ((((k.val : Int) + 48) / 8) % 4)) := Affine.indexCast h_v236
  exact vec4 (Affine.nat_eq h_v507 _ (by push_cast; omega)) (Affine.nat_eq h_v508 _ (by push_cast; omega)) rfl (Affine.nat_eq h_v509 _ (by push_cast; omega))
theorem trips11 : k0_t11_loop.trips = 16 := by decide +kernel
theorem offE11 : ∀ (k : Fin k0_t11_loop.trips) (r : Fin 8), k0_off44 k (BitVec.ofNat 32 (64 * r.val)) = ![64 * r.val + 8 * ((0 + k.val) % 8), 128 * ((0 + k.val) / 8 % 4)] := by decide +kernel
theorem offA11 : ∀ (k : Fin k0_t11_loop.trips) (p : Fin 2), k0_off46 k (BitVec.ofNat 32 (64 * p.val)) = ![1, 128 * ((0 + k.val) / 32) + 64 * p.val + 8 * ((0 + k.val) % 8), 128 * ((0 + k.val) / 8 % 4)] := by decide +kernel
theorem offW11 : ∀ (i : grid0.Coords) (k : Fin k0_t11_loop.trips) (r : Fin 8), k0_off45 i k (BitVec.ofNat 32 (128 * r.val)) = ![(0 + k.val) / 8 % 4, 128 * r.val + 8 * ((i 0).val % 16) + (6 + (0 + k.val) / 32), 0] := by
  intro i k r
  have r_r : r.val < 8 := r.isLt
  have h_c0_i32_223 : Affine.IsInt (BitVec.ofNat 32 (128 * r.val)) (128 * (r.val : Int)) := Affine.ofNat _ (by omega)
  have h_c0_i32_181 : Affine.IsInt 0#32 (0) := Affine.ofNat _ (by omega)
  have h_c1_i32_183 : Affine.IsInt 1#32 (1) := Affine.ofNat _ (by omega)
  have r_k0_t11 : k.val < 16 := Nat.lt_of_lt_of_le k.isLt k0_t11_abs.2.1
  have h_arg13 : Affine.IsInt _ ((k.val : Int)) := Affine.iv h_c0_i32_181 h_c1_i32_183 k.val (by omega)
  have c_arg13 : (k.val : Int) ≤ 16 - 1 := Affine.iv_lt k0_t11_abs.1 k.isLt k0_t11_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32_219 : Affine.IsInt 4#32 (4) := Affine.ofNat _ (by omega)
  have h_v235 : Affine.IsInt _ (((k.val : Int) / 8)) := Affine.remsi h_v232 h_c4_i32_219 (by omega)
  have h_v249 : Affine.IsInt _ (((k.val : Int) / 8)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_222 : Affine.IsInt 8#32 (8) := Affine.ofNat _ (by omega)
  have h_v246 : Affine.IsInt _ (8 * (((i 0).val : Int) % 16)) := Affine.muli h_v9 h_c8_i32_222 (by omega)
  have h_v247 : Affine.IsInt _ (128 * (r.val : Int) + 8 * (((i 0).val : Int) % 16)) := Affine.addi h_c0_i32_223 h_v246 (by omega)
  have h_c6_i32 : Affine.IsInt 6#32 (6) := Affine.ofNat _ (by omega)
  have h_c4_i32 : Affine.IsInt 4#32 (4) := Affine.ofNat _ (by omega)
  have h_v234 : Affine.IsInt _ ((((k.val : Int) / 8) / 4)) := Affine.divsi h_v232 h_c4_i32 (by omega)
  have h_v238 : Affine.IsInt _ ((((k.val : Int) / 8) / 4) + 6) := Affine.addi h_c6_i32 h_v234 (by omega)
  have h_v248 : Affine.IsInt _ (128 * (r.val : Int) + 8 * (((i 0).val : Int) % 16) + (((k.val : Int) / 8) / 4) + 6) := Affine.addi h_v247 h_v238 (by omega)
  have h_v250 : Affine.IsInt _ (128 * (r.val : Int) + 8 * (((i 0).val : Int) % 16) + (((k.val : Int) / 8) / 4) + 6) := Affine.indexCast h_v248
  have h_c0_224 : Affine.IsInt 0#32 (0) := Affine.ofNat _ (by omega)
  exact vec3 (Affine.nat_eq h_v249 _ (by push_cast; omega)) (Affine.nat_eq h_v250 _ (by push_cast; omega)) rfl
theorem offH11 : ∀ (i : grid0.Coords) (k : Fin k0_t11_loop.trips), k0_off47 i k = ![(i 0).val % 2, 64 * (6 + (0 + k.val) / 32) + 8 * ((0 + k.val) % 8), 0, 128 * ((0 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c6_i32_295 : Affine.IsInt 6#32 (6) := Affine.ofNat _ (by omega)
  have h_c0_i32_181 : Affine.IsInt 0#32 (0) := Affine.ofNat _ (by omega)
  have h_c1_i32_183 : Affine.IsInt 1#32 (1) := Affine.ofNat _ (by omega)
  have r_k0_t11 : k.val < 16 := Nat.lt_of_lt_of_le k.isLt k0_t11_abs.2.1
  have h_arg13 : Affine.IsInt _ ((k.val : Int)) := Affine.iv h_c0_i32_181 h_c1_i32_183 k.val (by omega)
  have c_arg13 : (k.val : Int) ≤ 16 - 1 := Affine.iv_lt k0_t11_abs.1 k.isLt k0_t11_abs.2.2 h_arg13
  have h_c8_i32 : Affine.IsInt 8#32 (8) := Affine.ofNat _ (by omega)
  have h_v232 : Affine.IsInt _ (((k.val : Int) / 8)) := Affine.divsi h_arg13 h_c8_i32 (by omega)
  have h_c4_i32 : Affine.IsInt 4#32 (4) := Affine.ofNat _ (by omega)
  have h_v234 : Affine.IsInt _ ((((k.val : Int) / 8) / 4)) := Affine.divsi h_v232 h_c4_i32 (by omega)
  have h_v501 : Affine.IsInt _ ((((k.val : Int) / 8) / 4) + 6) := Affine.addi h_c6_i32_295 h_v234 (by omega)
  have h_c64_i32_296 : Affine.IsInt 64#32 (64) := Affine.ofNat _ (by omega)
  have h_v502 : Affine.IsInt _ (64 * (((k.val : Int) / 8) / 4) + 384) := Affine.muli h_v501 h_c64_i32_296 (by omega)
  have h_c8_i32_218 : Affine.IsInt 8#32 (8) := Affine.ofNat _ (by omega)
  have h_v233 : Affine.IsInt _ (((k.val : Int) % 8)) := Affine.remsi h_arg13 h_c8_i32_218 (by omega)
  have h_c8_i32_297 : Affine.IsInt 8#32 (8) := Affine.ofNat _ (by omega)
  have h_v503 : Affine.IsInt _ (8 * ((k.val : Int) % 8)) := Affine.muli h_v233 h_c8_i32_297 (by omega)
  have h_v504 : Affine.IsInt _ (64 * (((k.val : Int) / 8) / 4) + 8 * ((k.val : Int) % 8) + 384) := Affine.addi h_v502 h_v503 (by omega)
  have h_v508 : Affine.IsInt _ (64 * (((k.val : Int) / 8) / 4) + 8 * ((k.val : Int) % 8) + 384) := Affine.indexCast h_v504
  have h_c4_i32_219 : Affine.IsInt 4#32 (4) := Affine.ofNat _ (by omega)
  have h_v235 : Affine.IsInt _ (((k.val : Int) / 8)) := Affine.remsi h_v232 h_c4_i32_219 (by omega)
  have h_c128_i32 : Affine.IsInt 128#32 (128) := Affine.ofNat _ (by omega)
  have h_v236 : Affine.IsInt _ (128 * ((k.val : Int) / 8)) := Affine.muli h_v235 h_c128_i32 (by omega)
  have h_v509 : Affine.IsInt _ (128 * ((k.val : Int) / 8)) := Affine.indexCast h_v236
  exact vec4 (Affine.nat_eq h_v507 _ (by push_cast; omega)) (Affine.nat_eq h_v508 _ (by push_cast; omega)) rfl (Affine.nat_eq h_v509 _ (by push_cast; omega))
theorem trips12 : k0_t12_loop.trips = 32 := by decide +kernel
theorem offE12 : ∀ (k : Fin k0_t12_loop.trips) (r : Fin 8), k0_off49 k (BitVec.ofNat 32 (64 * r.val)) = ![64 * r.val + 8 * ((16 + k.val) % 8), 128 * ((16 + k.val) / 8 % 4)] := by decide +kernel
theorem offA12 : ∀ (k : Fin k0_t12_loop.trips) (p : Fin 2), k0_off51 k (BitVec.ofNat 32 (64 * p.val)) = ![1, 128 * ((16 + k.val) / 32) + 64 * p.val + 8 * ((16 + k.val) % 8), 128 * ((16 + k.val) / 8 % 4)] := by decide +kernel
theorem offW12 : ∀ (i : grid0.Coords) (k : Fin k0_t12_loop.trips) (r : Fin 8), k0_off50 i k (BitVec.ofNat 32 (128 * r.val)) = ![(16 + k.val) / 8 % 4, 128 * r.val + 8 * ((i 0).val % 16) + (6 + (16 + k.val) / 32), 0] := by
  intro i k r
  have r_r : r.val < 8 := r.isLt
  have h_c0_i32_223 : Affine.IsInt (BitVec.ofNat 32 (128 * r.val)) (128 * (r.val : Int)) := Affine.ofNat _ (by omega)
  have h_c16_i32_196 : Affine.IsInt 16#32 (16) := Affine.ofNat _ (by omega)
  have h_c1_i32_198 : Affine.IsInt 1#32 (1) := Affine.ofNat _ (by omega)
  have r_k0_t12 : k.val < 32 := Nat.lt_of_lt_of_le k.isLt k0_t12_abs.2.1
  have h_arg13 : Affine.IsInt _ ((k.val : Int) + 16) := Affine.iv h_c16_i32_196 h_c1_i32_198 k.val (by omega)
  have c_arg13 : (k.val : Int) + 16 ≤ 48 - 1 := Affine.iv_lt k0_t12_abs.1 k.isLt k0_t12_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32_219 : Affine.IsInt 4#32 (4) := Affine.ofNat _ (by omega)
  have h_v235 : Affine.IsInt _ (((((k.val : Int) + 16) / 8) % 4)) := Affine.remsi h_v232 h_c4_i32_219 (by omega)
  have h_v249 : Affine.IsInt _ (((((k.val : Int) + 16) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_222 : Affine.IsInt 8#32 (8) := Affine.ofNat _ (by omega)
  have h_v246 : Affine.IsInt _ (8 * (((i 0).val : Int) % 16)) := Affine.muli h_v9 h_c8_i32_222 (by omega)
  have h_v247 : Affine.IsInt _ (128 * (r.val : Int) + 8 * (((i 0).val : Int) % 16)) := Affine.addi h_c0_i32_223 h_v246 (by omega)
  have h_c6_i32 : Affine.IsInt 6#32 (6) := Affine.ofNat _ (by omega)
  have h_c4_i32 : Affine.IsInt 4#32 (4) := Affine.ofNat _ (by omega)
  have h_v234 : Affine.IsInt _ (((((k.val : Int) + 16) / 8) / 4)) := Affine.divsi h_v232 h_c4_i32 (by omega)
  have h_v238 : Affine.IsInt _ (((((k.val : Int) + 16) / 8) / 4) + 6) := Affine.addi h_c6_i32 h_v234 (by omega)
  have h_v248 : Affine.IsInt _ (128 * (r.val : Int) + 8 * (((i 0).val : Int) % 16) + ((((k.val : Int) + 16) / 8) / 4) + 6) := Affine.addi h_v247 h_v238 (by omega)
  have h_v250 : Affine.IsInt _ (128 * (r.val : Int) + 8 * (((i 0).val : Int) % 16) + ((((k.val : Int) + 16) / 8) / 4) + 6) := Affine.indexCast h_v248
  have h_c0_224 : Affine.IsInt 0#32 (0) := Affine.ofNat _ (by omega)
  exact vec3 (Affine.nat_eq h_v249 _ (by push_cast; omega)) (Affine.nat_eq h_v250 _ (by push_cast; omega)) rfl
theorem offH12 : ∀ (i : grid0.Coords) (k : Fin k0_t12_loop.trips), k0_off52 i k = ![(i 0).val % 2, 64 * (6 + (16 + k.val) / 32) + 8 * ((16 + k.val) % 8), 0, 128 * ((16 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c6_i32_295 : Affine.IsInt 6#32 (6) := Affine.ofNat _ (by omega)
  have h_c16_i32_196 : Affine.IsInt 16#32 (16) := Affine.ofNat _ (by omega)
  have h_c1_i32_198 : Affine.IsInt 1#32 (1) := Affine.ofNat _ (by omega)
  have r_k0_t12 : k.val < 32 := Nat.lt_of_lt_of_le k.isLt k0_t12_abs.2.1
  have h_arg13 : Affine.IsInt _ ((k.val : Int) + 16) := Affine.iv h_c16_i32_196 h_c1_i32_198 k.val (by omega)
  have c_arg13 : (k.val : Int) + 16 ≤ 48 - 1 := Affine.iv_lt k0_t12_abs.1 k.isLt k0_t12_abs.2.2 h_arg13
  have h_c8_i32 : Affine.IsInt 8#32 (8) := Affine.ofNat _ (by omega)
  have h_v232 : Affine.IsInt _ ((((k.val : Int) + 16) / 8)) := Affine.divsi h_arg13 h_c8_i32 (by omega)
  have h_c4_i32 : Affine.IsInt 4#32 (4) := Affine.ofNat _ (by omega)
  have h_v234 : Affine.IsInt _ (((((k.val : Int) + 16) / 8) / 4)) := Affine.divsi h_v232 h_c4_i32 (by omega)
  have h_v501 : Affine.IsInt _ (((((k.val : Int) + 16) / 8) / 4) + 6) := Affine.addi h_c6_i32_295 h_v234 (by omega)
  have h_c64_i32_296 : Affine.IsInt 64#32 (64) := Affine.ofNat _ (by omega)
  have h_v502 : Affine.IsInt _ (64 * ((((k.val : Int) + 16) / 8) / 4) + 384) := Affine.muli h_v501 h_c64_i32_296 (by omega)
  have h_c8_i32_218 : Affine.IsInt 8#32 (8) := Affine.ofNat _ (by omega)
  have h_v233 : Affine.IsInt _ ((((k.val : Int) + 16) % 8)) := Affine.remsi h_arg13 h_c8_i32_218 (by omega)
  have h_c8_i32_297 : Affine.IsInt 8#32 (8) := Affine.ofNat _ (by omega)
  have h_v503 : Affine.IsInt _ (8 * (((k.val : Int) + 16) % 8)) := Affine.muli h_v233 h_c8_i32_297 (by omega)
  have h_v504 : Affine.IsInt _ (64 * ((((k.val : Int) + 16) / 8) / 4) + 8 * (((k.val : Int) + 16) % 8) + 384) := Affine.addi h_v502 h_v503 (by omega)
  have h_v508 : Affine.IsInt _ (64 * ((((k.val : Int) + 16) / 8) / 4) + 8 * (((k.val : Int) + 16) % 8) + 384) := Affine.indexCast h_v504
  have h_c4_i32_219 : Affine.IsInt 4#32 (4) := Affine.ofNat _ (by omega)
  have h_v235 : Affine.IsInt _ (((((k.val : Int) + 16) / 8) % 4)) := Affine.remsi h_v232 h_c4_i32_219 (by omega)
  have h_c128_i32 : Affine.IsInt 128#32 (128) := Affine.ofNat _ (by omega)
  have h_v236 : Affine.IsInt _ (128 * ((((k.val : Int) + 16) / 8) % 4)) := Affine.muli h_v235 h_c128_i32 (by omega)
  have h_v509 : Affine.IsInt _ (128 * ((((k.val : Int) + 16) / 8) % 4)) := Affine.indexCast h_v236
  exact vec4 (Affine.nat_eq h_v507 _ (by push_cast; omega)) (Affine.nat_eq h_v508 _ (by push_cast; omega)) rfl (Affine.nat_eq h_v509 _ (by push_cast; omega))
theorem trips13 : k0_t13_loop.trips = 16 := by decide +kernel
theorem offE13 : ∀ (k : Fin k0_t13_loop.trips) (r : Fin 8), k0_off53 k (BitVec.ofNat 32 (64 * r.val)) = ![64 * r.val + 8 * ((48 + k.val) % 8), 128 * ((48 + k.val) / 8 % 4)] := by decide +kernel
theorem offA13 : ∀ (k : Fin k0_t13_loop.trips) (p : Fin 2), k0_off55 k (BitVec.ofNat 32 (64 * p.val)) = ![1, 128 * ((48 + k.val) / 32) + 64 * p.val + 8 * ((48 + k.val) % 8), 128 * ((48 + k.val) / 8 % 4)] := by decide +kernel
theorem offW13 : ∀ (i : grid0.Coords) (k : Fin k0_t13_loop.trips) (r : Fin 8), k0_off54 i k (BitVec.ofNat 32 (128 * r.val)) = ![(48 + k.val) / 8 % 4, 128 * r.val + 8 * ((i 0).val % 16) + (6 + (48 + k.val) / 32), 0] := by
  intro i k r
  have r_r : r.val < 8 := r.isLt
  have h_c0_i32_223 : Affine.IsInt (BitVec.ofNat 32 (128 * r.val)) (128 * (r.val : Int)) := Affine.ofNat _ (by omega)
  have h_c48_i32_211 : Affine.IsInt 48#32 (48) := Affine.ofNat _ (by omega)
  have h_c1_i32_213 : Affine.IsInt 1#32 (1) := Affine.ofNat _ (by omega)
  have r_k0_t13 : k.val < 16 := Nat.lt_of_lt_of_le k.isLt k0_t13_abs.2.1
  have h_arg13 : Affine.IsInt _ ((k.val : Int) + 48) := Affine.iv h_c48_i32_211 h_c1_i32_213 k.val (by omega)
  have c_arg13 : (k.val : Int) + 48 ≤ 64 - 1 := Affine.iv_lt k0_t13_abs.1 k.isLt k0_t13_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32_219 : Affine.IsInt 4#32 (4) := Affine.ofNat _ (by omega)
  have h_v235 : Affine.IsInt _ (((((k.val : Int) + 48) / 8) % 4)) := Affine.remsi h_v232 h_c4_i32_219 (by omega)
  have h_v249 : Affine.IsInt _ (((((k.val : Int) + 48) / 8) % 4)) := Affine.indexCast h_v235
  have r_i0 : (i 0).val < 2049 := (i 0).isLt
  have h_arg0 : Affine.IsInt (BitVec.ofNat 32 (i 0).val) (((i 0).val : Int)) := Affine.ofNat _ (by omega)
  have h_c16_i32 : Affine.IsInt 16#32 (16) := Affine.ofNat _ (by omega)
  have h_c0_i32 : Affine.IsInt 0#32 (0) := Affine.ofNat _ (by omega)
  have h_v0 : Affine.Fails _ := Affine.eq_fails h_c16_i32 h_c0_i32 (by omega)
  have h_c1_i32 : Affine.IsInt 1#32 (1) := Affine.ofNat _ (by omega)
  have h_v1 : Affine.IsInt _ (16) := Affine.select_fails h_v0 h_c1_i32 h_c16_i32 (by omega)
  have h_v2 : Affine.IsInt _ ((((i 0).val : Int) % 16)) := Affine.remsi h_arg0 h_v1 (by omega)
  have h_c0_i32_1 : Affine.IsInt 0#32 (0) := Affine.ofNat _ (by omega)
  have h_v4 : Affine.Fails _ := Affine.slt_fails h_v2 h_c0_i32_1 (by omega)
  have h_c0_i32_2 : Affine.IsInt 0#32 (0) := Affine.ofNat _ (by omega)
  have h_v5 : Affine.Fails _ := Affine.slt_fails h_v1 h_c0_i32_2 (by omega)
  have h_v6 : Affine.Fails _ := Affine.xori_ff h_v4 h_v5
  have h_c0_i32_0 : Affine.IsInt 0#32 (0) := Affine.ofNat _ (by omega)
  have h_v3 : Affine.Term _ := Affine.cmpi_term .ne h_v2 h_c0_i32_0
  have h_v7 : Affine.Fails _ := Affine.andi_fails_left h_v6 h_v3
  have h_v8 : Affine.IsInt _ ((((i 0).val : Int) % 16) + 16) := Affine.addi h_v2 h_v1 (by omega)
  have h_v9 : Affine.IsInt _ ((((i 0).val : Int) % 16)) := Affine.select_fails h_v7 h_v8 h_v2 (by omega)
  have h_c8_i32_222 : Affine.IsInt 8#32 (8) := Affine.ofNat _ (by omega)
  have h_v246 : Affine.IsInt _ (8 * (((i 0).val : Int) % 16)) := Affine.muli h_v9 h_c8_i32_222 (by omega)
  have h_v247 : Affine.IsInt _ (128 * (r.val : Int) + 8 * (((i 0).val : Int) % 16)) := Affine.addi h_c0_i32_223 h_v246 (by omega)
  have h_c6_i32 : Affine.IsInt 6#32 (6) := Affine.ofNat _ (by omega)
  have h_c4_i32 : Affine.IsInt 4#32 (4) := Affine.ofNat _ (by omega)
  have h_v234 : Affine.IsInt _ (((((k.val : Int) + 48) / 8) / 4)) := Affine.divsi h_v232 h_c4_i32 (by omega)
  have h_v238 : Affine.IsInt _ (((((k.val : Int) + 48) / 8) / 4) + 6) := Affine.addi h_c6_i32 h_v234 (by omega)
  have h_v248 : Affine.IsInt _ (128 * (r.val : Int) + 8 * (((i 0).val : Int) % 16) + ((((k.val : Int) + 48) / 8) / 4) + 6) := Affine.addi h_v247 h_v238 (by omega)
  have h_v250 : Affine.IsInt _ (128 * (r.val : Int) + 8 * (((i 0).val : Int) % 16) + ((((k.val : Int) + 48) / 8) / 4) + 6) := Affine.indexCast h_v248
  have h_c0_224 : Affine.IsInt 0#32 (0) := Affine.ofNat _ (by omega)
  exact vec3 (Affine.nat_eq h_v249 _ (by push_cast; omega)) (Affine.nat_eq h_v250 _ (by push_cast; omega)) rfl
theorem offH13 : ∀ (i : grid0.Coords) (k : Fin k0_t13_loop.trips), k0_off56 i k = ![(i 0).val % 2, 64 * (6 + (48 + k.val) / 32) + 8 * ((48 + k.val) % 8), 0, 128 * ((48 + k.val) / 8 % 4)] := by
  intro i k
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v507 : Affine.IsInt _ ((((i 0).val : Int) % 2)) := Affine.indexCast h_v19
  have h_c6_i32_295 : Affine.IsInt 6#32 (6) := Affine.ofNat _ (by omega)
  have h_c48_i32_211 : Affine.IsInt 48#32 (48) := Affine.ofNat _ (by omega)
  have h_c1_i32_213 : Affine.IsInt 1#32 (1) := Affine.ofNat _ (by omega)
  have r_k0_t13 : k.val < 16 := Nat.lt_of_lt_of_le k.isLt k0_t13_abs.2.1
  have h_arg13 : Affine.IsInt _ ((k.val : Int) + 48) := Affine.iv h_c48_i32_211 h_c1_i32_213 k.val (by omega)
  have c_arg13 : (k.val : Int) + 48 ≤ 64 - 1 := Affine.iv_lt k0_t13_abs.1 k.isLt k0_t13_abs.2.2 h_arg13
  have h_c8_i32 : Affine.IsInt 8#32 (8) := Affine.ofNat _ (by omega)
  have h_v232 : Affine.IsInt _ ((((k.val : Int) + 48) / 8)) := Affine.divsi h_arg13 h_c8_i32 (by omega)
  have h_c4_i32 : Affine.IsInt 4#32 (4) := Affine.ofNat _ (by omega)
  have h_v234 : Affine.IsInt _ (((((k.val : Int) + 48) / 8) / 4)) := Affine.divsi h_v232 h_c4_i32 (by omega)
  have h_v501 : Affine.IsInt _ (((((k.val : Int) + 48) / 8) / 4) + 6) := Affine.addi h_c6_i32_295 h_v234 (by omega)
  have h_c64_i32_296 : Affine.IsInt 64#32 (64) := Affine.ofNat _ (by omega)
  have h_v502 : Affine.IsInt _ (64 * ((((k.val : Int) + 48) / 8) / 4) + 384) := Affine.muli h_v501 h_c64_i32_296 (by omega)
  have h_c8_i32_218 : Affine.IsInt 8#32 (8) := Affine.ofNat _ (by omega)
  have h_v233 : Affine.IsInt _ ((((k.val : Int) + 48) % 8)) := Affine.remsi h_arg13 h_c8_i32_218 (by omega)
  have h_c8_i32_297 : Affine.IsInt 8#32 (8) := Affine.ofNat _ (by omega)
  have h_v503 : Affine.IsInt _ (8 * (((k.val : Int) + 48) % 8)) := Affine.muli h_v233 h_c8_i32_297 (by omega)
  have h_v504 : Affine.IsInt _ (64 * ((((k.val : Int) + 48) / 8) / 4) + 8 * (((k.val : Int) + 48) % 8) + 384) := Affine.addi h_v502 h_v503 (by omega)
  have h_v508 : Affine.IsInt _ (64 * ((((k.val : Int) + 48) / 8) / 4) + 8 * (((k.val : Int) + 48) % 8) + 384) := Affine.indexCast h_v504
  have h_c4_i32_219 : Affine.IsInt 4#32 (4) := Affine.ofNat _ (by omega)
  have h_v235 : Affine.IsInt _ (((((k.val : Int) + 48) / 8) % 4)) := Affine.remsi h_v232 h_c4_i32_219 (by omega)
  have h_c128_i32 : Affine.IsInt 128#32 (128) := Affine.ofNat _ (by omega)
  have h_v236 : Affine.IsInt _ (128 * ((((k.val : Int) + 48) / 8) % 4)) := Affine.muli h_v235 h_c128_i32 (by omega)
  have h_v509 : Affine.IsInt _ (128 * ((((k.val : Int) + 48) / 8) % 4)) := Affine.indexCast h_v236
  exact vec4 (Affine.nat_eq h_v507 _ (by push_cast; omega)) (Affine.nat_eq h_v508 _ (by push_cast; omega)) rfl (Affine.nat_eq h_v509 _ (by push_cast; omega))
theorem off1_eq : ∀ (i : grid0.Coords), k0_off1 i = ![1 - (i 0).val % 2, 0, 0, 0] := by
  intro i
  have h_c1_i32_31 : Affine.IsInt 1#32 (1) := Affine.ofNat _ (by omega)
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v50 : Affine.IsInt _ (-(((i 0).val : Int) % 2) + 1) := Affine.subi h_c1_i32_31 h_v19 (by omega)
  have h_v51 : Affine.IsInt _ (-(((i 0).val : Int) % 2) + 1) := Affine.indexCast h_v50
  have h_c0_32 : Affine.IsInt 0#32 (0) := Affine.ofNat _ (by omega)
  have h_c0_33 : Affine.IsInt 0#32 (0) := Affine.ofNat _ (by omega)
  exact vec4 (Affine.nat_eq h_v51 _ (by push_cast; omega)) rfl rfl rfl
theorem off10_eq : ∀ (i : grid0.Coords), k0_off10 i = ![1 - (i 0).val % 2, 0, 0, 256] := by
  intro i
  have h_c1_i32_72 : Affine.IsInt 1#32 (1) := Affine.ofNat _ (by omega)
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v96 : Affine.IsInt _ (-(((i 0).val : Int) % 2) + 1) := Affine.subi h_c1_i32_72 h_v19 (by omega)
  have h_v97 : Affine.IsInt _ (-(((i 0).val : Int) % 2) + 1) := Affine.indexCast h_v96
  have h_c0_73 : Affine.IsInt 0#32 (0) := Affine.ofNat _ (by omega)
  have h_c256_74 : Affine.IsInt 256#32 (256) := Affine.ofNat _ (by omega)
  exact vec4 (Affine.nat_eq h_v97 _ (by push_cast; omega)) rfl rfl rfl
theorem off35_eq : ∀ (i : grid0.Coords), k0_off35 i = ![1 - (i 0).val % 2, 256, 0, 0] := by
  intro i
  have h_c1_i32_141 : Affine.IsInt 1#32 (1) := Affine.ofNat _ (by omega)
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v154 : Affine.IsInt _ (-(((i 0).val : Int) % 2) + 1) := Affine.subi h_c1_i32_141 h_v19 (by omega)
  have h_v155 : Affine.IsInt _ (-(((i 0).val : Int) % 2) + 1) := Affine.indexCast h_v154
  have h_c256_142 : Affine.IsInt 256#32 (256) := Affine.ofNat _ (by omega)
  have h_c0_143 : Affine.IsInt 0#32 (0) := Affine.ofNat _ (by omega)
  exact vec4 (Affine.nat_eq h_v155 _ (by push_cast; omega)) rfl rfl rfl
theorem off48_eq : ∀ (i : grid0.Coords), k0_off48 i = ![1 - (i 0).val % 2, 256, 0, 256] := by
  intro i
  have h_c1_i32_190 : Affine.IsInt 1#32 (1) := Affine.ofNat _ (by omega)
  have r_i0 : (i 0).val < 2049 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v10 : Affine.Fails _ := Affine.eq_fails h_c2_i32 h_c0_i32_3 (by omega)
  have h_c1_i32_4 : Affine.IsInt 1#32 (1) := Affine.ofNat _ (by omega)
  have h_v11 : Affine.IsInt _ (2) := Affine.select_fails h_v10 h_c1_i32_4 h_c2_i32 (by omega)
  have h_v12 : Affine.IsInt _ ((((i 0).val : Int) % 2)) := Affine.remsi h_arg0 h_v11 (by omega)
  have h_c0_i32_6 : Affine.IsInt 0#32 (0) := Affine.ofNat _ (by omega)
  have h_v14 : Affine.Fails _ := Affine.slt_fails h_v12 h_c0_i32_6 (by omega)
  have h_c0_i32_7 : Affine.IsInt 0#32 (0) := Affine.ofNat _ (by omega)
  have h_v15 : Affine.Fails _ := Affine.slt_fails h_v11 h_c0_i32_7 (by omega)
  have h_v16 : Affine.Fails _ := Affine.xori_ff h_v14 h_v15
  have h_c0_i32_5 : Affine.IsInt 0#32 (0) := Affine.ofNat _ (by omega)
  have h_v13 : Affine.Term _ := Affine.cmpi_term .ne h_v12 h_c0_i32_5
  have h_v17 : Affine.Fails _ := Affine.andi_fails_left h_v16 h_v13
  have h_v18 : Affine.IsInt _ ((((i 0).val : Int) % 2) + 2) := Affine.addi h_v12 h_v11 (by omega)
  have h_v19 : Affine.IsInt _ ((((i 0).val : Int) % 2)) := Affine.select_fails h_v17 h_v18 h_v12 (by omega)
  have h_v201 : Affine.IsInt _ (-(((i 0).val : Int) % 2) + 1) := Affine.subi h_c1_i32_190 h_v19 (by omega)
  have h_v202 : Affine.IsInt _ (-(((i 0).val : Int) % 2) + 1) := Affine.indexCast h_v201
  have h_c256_191 : Affine.IsInt 256#32 (256) := Affine.ofNat _ (by omega)
  have h_c256_192 : Affine.IsInt 256#32 (256) := Affine.ofNat _ (by omega)
  exact vec4 (Affine.nat_eq h_v202 _ (by push_cast; omega)) rfl rfl rfl

end Cert.KernelIdeal.Hand
end
-- ==== Proof.IdealLoops.lean ====
/-
  The thirteen loops of gate units at the ideal instance: what each leaves in the buffer of hidden values.
-/
module

public import proofs.«01_k».proof.Proof.UnitWrite
public import proofs.«01_k».proof.Proof.Offsets

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-- Before the first unit of a loop the buffer is as the loop found it. -/
theorem after_zero (arg4 arg5 : Memref sig .tc .vmem S4x1024x128 .i32)
    (arg6 : Memref sig .tc .vmem S512x512 .i32) (arg11 : Memref sig .tc .vmem S2x256x512 .f32) (arg12 : Memref sig .tc .vmem S2x512x2x512 .bf16)
    (X4 : BufTy.Contents (Elt Ideal) arg4.view.ty) (X5 : BufTy.Contents (Elt Ideal) arg5.view.ty) (X6 : BufTy.Contents (Elt Ideal) arg6.view.ty)
    (X11 : BufTy.Contents (Elt Ideal) arg11.view.ty) (G : BufTy.Contents (Elt Ideal) arg12.view.ty) (g kb lb : ℕ) :
    after arg4 arg5 arg6 arg11 arg12 X4 X5 X6 X11 G g kb lb (lb + 0) G := by
  intro y
  rw [if_neg (by unfold inUnits; omega)]

/-- Loop 1: quarter 0, units 0 to 15. -/
theorem units1 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (v61 : FVec Ideal S256x1024 .bf16) (v63 : FVec Ideal S1024x256 .bf16) (cst_40 : FVec Ideal S256x256 .f32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 0 0 (0 + n)
      (arg12.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v9 v19 v61 v63 cst_40 X_arg4 X_arg5 X_arg6 X_arg11 n)) := by
  induction n with
  | zero => exact after_zero arg4 arg5 arg6 arg11 arg12 X_arg4 X_arg5 X_arg6 X_arg11 G (i 0).val 0 0
  | succ n ih =>
    obtain ⟨k, rfl⟩ : ∃ k : Fin k0_t1_loop.trips, k.val = n := ⟨⟨n, by rw [trips1]; omega⟩, rfl⟩
    rw [pb_k0_t1_succ, View.writes_append]
    unfold tripL_k0_t1 trip_k0_t1
    exact unit_write arg4 arg5 arg6 arg11 arg12 X_arg4 X_arg5 X_arg6 X_arg11 G _ (i 0).val 0 0 (0 + k.val) (by omega) (by omega) (by omega)
      (fun r => k0_off2 k (BitVec.ofNat 32 (64 * r.val))) (k0_off2_inb k) (offE1 k)
      (fun r => k0_off3 i k (BitVec.ofNat 32 (128 * r.val))) (k0_off3_inb i k) (offW1 i k)
      (fun p => k0_off4 k (BitVec.ofNat 32 (64 * p.val))) (k0_off4_inb k) (offA1 k)
      (k0_off5 i k) (k0_off5_inb i k) (offH1 i k) (ih (by omega))

/-- Loop 2: quarter 0, units 16 to 47. -/
theorem units2 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 32) :
    after arg4 arg5 arg6 arg11 arg12 X_arg4 X_arg5 X_arg6 X_arg11 G (i 0).val 0 16 (16 + n)
      (arg12.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 n)) := by
  induction n with
  | zero => exact after_zero arg4 arg5 arg6 arg11 arg12 X_arg4 X_arg5 X_arg6 X_arg11 G (i 0).val 0 16
  | succ n ih =>
    obtain ⟨k, rfl⟩ : ∃ k : Fin k0_t2_loop.trips, k.val = n := ⟨⟨n, by rw [trips2]; omega⟩, rfl⟩
    rw [pb_k0_t2_succ, View.writes_append]
    unfold tripL_k0_t2 trip_k0_t2
    exact unit_write arg4 arg5 arg6 arg11 arg12 X_arg4 X_arg5 X_arg6 X_arg11 G _ (i 0).val 0 16 (16 + k.val) (by omega) (by omega) (by omega)
      (fun r => k0_off6 k (BitVec.ofNat 32 (64 * r.val))) (k0_off6_inb k) (offE2 k)
      (fun r => k0_off7 i k (BitVec.ofNat 32 (128 * r.val))) (k0_off7_inb i k) (offW2 i k)
      (fun p => k0_off8 k (BitVec.ofNat 32 (64 * p.val))) (k0_off8_inb k) (offA2 k)
      (k0_off9 i k) (k0_off9_inb i k) (offH2 i k) (ih (by omega))

/-- Loop 3: quarter 0, units 48 to 63. -/
theorem units3 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 0 48 (48 + n)
      (arg12.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 n)) := by
  induction n with
  | zero => exact after_zero arg4 arg5 arg6 arg11 arg12 X_arg4 X_arg5 X_arg6 X_arg11 G (i 0).val 0 48
  | succ n ih =>
    obtain ⟨k, rfl⟩ : ∃ k : Fin k0_t3_loop.trips, k.val = n := ⟨⟨n, by rw [trips3]; omega⟩, rfl⟩
    rw [pb_k0_t3_succ, View.writes_append]
    unfold tripL_k0_t3 trip_k0_t3
    exact unit_write arg4 arg5 arg6 arg11 arg12 X_arg4 X_arg5 X_arg6 X_arg11 G _ (i 0).val 0 48 (48 + k.val) (by omega) (by omega) (by omega)
      (fun r => k0_off11 k (BitVec.ofNat 32 (64 * r.val))) (k0_off11_inb k) (offE3 k)
      (fun r => k0_off12 i k (BitVec.ofNat 32 (128 * r.val))) (k0_off12_inb i k) (offW3 i k)
      (fun p => k0_off13 k (BitVec.ofNat 32 (64 * p.val))) (k0_off13_inb k) (offA3 k)
      (k0_off14 i k) (k0_off14_inb i k) (offH3 i k) (ih (by omega))

/-- Loop 4: quarter 1, units 0 to 15. -/
theorem units4 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (c0_i32_89 : BitVec 32) (c16_i32_90 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 1 0 (0 + n)
      (arg12.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 n)) := by
  induction n with
  | zero => exact after_zero arg4 arg5 arg6 arg11 arg12 X_arg4 X_arg5 X_arg6 X_arg11 G (i 0).val 1 0
  | succ n ih =>
    obtain ⟨k, rfl⟩ : ∃ k : Fin k0_t4_loop.trips, k.val = n := ⟨⟨n, by rw [trips4]; omega⟩, rfl⟩
    rw [pb_k0_t4_succ, View.writes_append]
    unfold tripL_k0_t4 trip_k0_t4
    exact unit_write arg4 arg5 arg6 arg11 arg12 X_arg4 X_arg5 X_arg6 X_arg11 G _ (i 0).val 1 0 (0 + k.val) (by omega) (by omega) (by omega)
      (fun r => k0_off15 k (BitVec.ofNat 32 (64 * r.val))) (k0_off15_inb k) (offE4 k)
      (fun r => k0_off16 i k (BitVec.ofNat 32 (128 * r.val))) (k0_off16_inb i k) (offW4 i k)
      (fun p => k0_off17 k (BitVec.ofNat 32 (64 * p.val))) (k0_off17_inb k) (offA4 k)
      (k0_off18 i k) (k0_off18_inb i k) (offH4 i k) (ih (by omega))

/-- Loop 5: quarter 1, units 16 to 31. -/
theorem units5 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (c0_i32_89 : BitVec 32) (c16_i32_90 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 1 16 (16 + n)
      (arg12.view.writes (Elt Ideal) G (pb_k0_t5 (F := Ideal) 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 n)) := by
  induction n with
  | zero => exact after_zero arg4 arg5 arg6 arg11 arg12 X_arg4 X_arg5 X_arg6 X_arg11 G (i 0).val 1 16
  | succ n ih =>
    obtain ⟨k, rfl⟩ : ∃ k : Fin k0_t5_loop.trips, k.val = n := ⟨⟨n, by rw [trips5]; omega⟩, rfl⟩
    rw [pb_k0_t5_succ, View.writes_append]
    unfold tripL_k0_t5 trip_k0_t5
    exact unit_write arg4 arg5 arg6 arg11 arg12 X_arg4 X_arg5 X_arg6 X_arg11 G _ (i 0).val 1 16 (16 + k.val) (by omega) (by omega) (by omega)
      (fun r => k0_off19 k (BitVec.ofNat 32 (64 * r.val))) (k0_off19_inb k) (offE5 k)
      (fun r => k0_off20 i k (BitVec.ofNat 32 (128 * r.val))) (k0_off20_inb i k) (offW5 i k)
      (fun p => k0_off21 k (BitVec.ofNat 32 (64 * p.val))) (k0_off21_inb k) (offA5 k)
      (k0_off22 i k) (k0_off22_inb i k) (offH5 i k) (ih (by omega))

/-- Loop 6: quarter 1, units 32 to 47. -/
theorem units6 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (c32_i32_116 : BitVec 32) (c1_i32_118 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 1 32 (32 + n)
      (arg12.view.writes (Elt Ideal) G (pb_k0_t6 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 n)) := by
  induction n with
  | zero => exact after_zero arg4 arg5 arg6 arg11 arg12 X_arg4 X_arg5 X_arg6 X_arg11 G (i 0).val 1 32
  | succ n ih =>
    obtain ⟨k, rfl⟩ : ∃ k : Fin k0_t6_loop.trips, k.val = n := ⟨⟨n, by rw [trips6]; omega⟩, rfl⟩
    rw [pb_k0_t6_succ, View.writes_append]
    unfold tripL_k0_t6 trip_k0_t6
    exact unit_write arg4 arg5 arg6 arg11 arg12 X_arg4 X_arg5 X_arg6 X_arg11 G _ (i 0).val 1 32 (32 + k.val) (by omega) (by omega) (by omega)
      (fun r => k0_off23 k (BitVec.ofNat 32 (64 * r.val))) (k0_off23_inb k) (offE6 k)
      (fun r => k0_off24 i k (BitVec.ofNat 32 (128 * r.val))) (k0_off24_inb i k) (offW6 i k)
      (fun p => k0_off25 k (BitVec.ofNat 32 (64 * p.val))) (k0_off25_inb k) (offA6 k)
      (k0_off26 i k) (k0_off26_inb i k) (offH6 i k) (ih (by omega))

/-- Loop 7: quarter 1, units 48 to 63. -/
theorem units7 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (c32_i32_116 : BitVec 32) (c1_i32_118 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 1 48 (48 + n)
      (arg12.view.writes (Elt Ideal) G (pb_k0_t7 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 n)) := by
  induction n with
  | zero => exact after_zero arg4 arg5 arg6 arg11 arg12 X_arg4 X_arg5 X_arg6 X_arg11 G (i 0).val 1 48
  | succ n ih =>
    obtain ⟨k, rfl⟩ : ∃ k : Fin k0_t7_loop.trips, k.val = n := ⟨⟨n, by rw [trips7]; omega⟩, rfl⟩
    rw [pb_k0_t7_succ, View.writes_append]
    unfold tripL_k0_t7 trip_k0_t7
    exact unit_write arg4 arg5 arg6 arg11 arg12 X_arg4 X_arg5 X_arg6 X_arg11 G _ (i 0).val 1 48 (48 + k.val) (by omega) (by omega) (by omega)
      (fun r => k0_off27 k (BitVec.ofNat 32 (64 * r.val))) (k0_off27_inb k) (offE7 k)
      (fun r => k0_off28 i k (BitVec.ofNat 32 (128 * r.val))) (k0_off28_inb i k) (offW7 i k)
      (fun p => k0_off29 k (BitVec.ofNat 32 (64 * p.val))) (k0_off29_inb k) (offA7 k)
      (k0_off30 i k) (k0_off30_inb i k) (offH7 i k) (ih (by omega))

/-- Loop 8: quarter 2, units 0 to 15. -/
theorem units8 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (c32_i32_116 : BitVec 32) (c1_i32_118 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 2 0 (0 + n)
      (arg12.view.writes (Elt Ideal) G (pb_k0_t8 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 n)) := by
  induction n with
  | zero => exact after_zero arg4 arg5 arg6 arg11 arg12 X_arg4 X_arg5 X_arg6 X_arg11 G (i 0).val 2 0
  | succ n ih =>
    obtain ⟨k, rfl⟩ : ∃ k : Fin k0_t8_loop.trips, k.val = n := ⟨⟨n, by rw [trips8]; omega⟩, rfl⟩
    rw [pb_k0_t8_succ, View.writes_append]
    unfold tripL_k0_t8 trip_k0_t8
    exact unit_write arg4 arg5 arg6 arg11 arg12 X_arg4 X_arg5 X_arg6 X_arg11 G _ (i 0).val 2 0 (0 + k.val) (by omega) (by omega) (by omega)
      (fun r => k0_off31 k (BitVec.ofNat 32 (64 * r.val))) (k0_off31_inb k) (offE8 k)
      (fun r => k0_off32 i k (BitVec.ofNat 32 (128 * r.val))) (k0_off32_inb i k) (offW8 i k)
      (fun p => k0_off33 k (BitVec.ofNat 32 (64 * p.val))) (k0_off33_inb k) (offA8 k)
      (k0_off34 i k) (k0_off34_inb i k) (offH8 i k) (ih (by omega))

/-- Loop 9: quarter 2, units 16 to 47. -/
theorem units9 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 32) :
    after arg4 arg5 arg6 arg11 arg12 X_arg4 X_arg5 X_arg6 X_arg11 G (i 0).val 2 16 (16 + n)
      (arg12.view.writes (Elt Ideal) G (pb_k0_t9 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 n)) := by
  induction n with
  | zero => exact after_zero arg4 arg5 arg6 arg11 arg12 X_arg4 X_arg5 X_arg6 X_arg11 G (i 0).val 2 16
  | succ n ih =>
    obtain ⟨k, rfl⟩ : ∃ k : Fin k0_t9_loop.trips, k.val = n := ⟨⟨n, by rw [trips9]; omega⟩, rfl⟩
    rw [pb_k0_t9_succ, View.writes_append]
    unfold tripL_k0_t9 trip_k0_t9
    exact unit_write arg4 arg5 arg6 arg11 arg12 X_arg4 X_arg5 X_arg6 X_arg11 G _ (i 0).val 2 16 (16 + k.val) (by omega) (by omega) (by omega)
      (fun r => k0_off36 k (BitVec.ofNat 32 (64 * r.val))) (k0_off36_inb k) (offE9 k)
      (fun r => k0_off37 i k (BitVec.ofNat 32 (128 * r.val))) (k0_off37_inb i k) (offW9 i k)
      (fun p => k0_off38 k (BitVec.ofNat 32 (64 * p.val))) (k0_off38_inb k) (offA9 k)
      (k0_off39 i k) (k0_off39_inb i k) (offH9 i k) (ih (by omega))

/-- Loop 10: quarter 2, units 48 to 63. -/
theorem units10 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (v188 : FVec Ideal S256x1024 .bf16) (v190 : FVec Ideal S1024x256 .bf16) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 2 48 (48 + n)
      (arg12.view.writes (Elt Ideal) G (pb_k0_t10 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 n)) := by
  induction n with
  | zero => exact after_zero arg4 arg5 arg6 arg11 arg12 X_arg4 X_arg5 X_arg6 X_arg11 G (i 0).val 2 48
  | succ n ih =>
    obtain ⟨k, rfl⟩ : ∃ k : Fin k0_t10_loop.trips, k.val = n := ⟨⟨n, by rw [trips10]; omega⟩, rfl⟩
    rw [pb_k0_t10_succ, View.writes_append]
    unfold tripL_k0_t10 trip_k0_t10
    exact unit_write arg4 arg5 arg6 arg11 arg12 X_arg4 X_arg5 X_arg6 X_arg11 G _ (i 0).val 2 48 (48 + k.val) (by omega) (by omega) (by omega)
      (fun r => k0_off40 k (BitVec.ofNat 32 (64 * r.val))) (k0_off40_inb k) (offE10 k)
      (fun r => k0_off41 i k (BitVec.ofNat 32 (128 * r.val))) (k0_off41_inb i k) (offW10 i k)
      (fun p => k0_off42 k (BitVec.ofNat 32 (64 * p.val))) (k0_off42_inb k) (offA10 k)
      (k0_off43 i k) (k0_off43_inb i k) (offH10 i k) (ih (by omega))

/-- Loop 11: quarter 3, units 0 to 15. -/
theorem units11 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (v188 : FVec Ideal S256x1024 .bf16) (v190 : FVec Ideal S1024x256 .bf16) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 3 0 (0 + n)
      (arg12.view.writes (Elt Ideal) G (pb_k0_t11 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 n)) := by
  induction n with
  | zero => exact after_zero arg4 arg5 arg6 arg11 arg12 X_arg4 X_arg5 X_arg6 X_arg11 G (i 0).val 3 0
  | succ n ih =>
    obtain ⟨k, rfl⟩ : ∃ k : Fin k0_t11_loop.trips, k.val = n := ⟨⟨n, by rw [trips11]; omega⟩, rfl⟩
    rw [pb_k0_t11_succ, View.writes_append]
    unfold tripL_k0_t11 trip_k0_t11
    exact unit_write arg4 arg5 arg6 arg11 arg12 X_arg4 X_arg5 X_arg6 X_arg11 G _ (i 0).val 3 0 (0 + k.val) (by omega) (by omega) (by omega)
      (fun r => k0_off44 k (BitVec.ofNat 32 (64 * r.val))) (k0_off44_inb k) (offE11 k)
      (fun r => k0_off45 i k (BitVec.ofNat 32 (128 * r.val))) (k0_off45_inb i k) (offW11 i k)
      (fun p => k0_off46 k (BitVec.ofNat 32 (64 * p.val))) (k0_off46_inb k) (offA11 k)
      (k0_off47 i k) (k0_off47_inb i k) (offH11 i k) (ih (by omega))

/-- Loop 12: quarter 3, units 16 to 47. -/
theorem units12 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (v19 : BitVec 32) (v188 : FVec Ideal S256x1024 .bf16) (v190 : FVec Ideal S1024x256 .bf16) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 32) :
    after arg4 arg5 arg6 arg11 arg12 X_arg4 X_arg5 X_arg6 X_arg11 G (i 0).val 3 16 (16 + n)
      (arg12.view.writes (Elt Ideal) G (pb_k0_t12 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 n)) := by
  induction n with
  | zero => exact after_zero arg4 arg5 arg6 arg11 arg12 X_arg4 X_arg5 X_arg6 X_arg11 G (i 0).val 3 16
  | succ n ih =>
    obtain ⟨k, rfl⟩ : ∃ k : Fin k0_t12_loop.trips, k.val = n := ⟨⟨n, by rw [trips12]; omega⟩, rfl⟩
    rw [pb_k0_t12_succ, View.writes_append]
    unfold tripL_k0_t12 trip_k0_t12
    exact unit_write arg4 arg5 arg6 arg11 arg12 X_arg4 X_arg5 X_arg6 X_arg11 G _ (i 0).val 3 16 (16 + k.val) (by omega) (by omega) (by omega)
      (fun r => k0_off49 k (BitVec.ofNat 32 (64 * r.val))) (k0_off49_inb k) (offE12 k)
      (fun r => k0_off50 i k (BitVec.ofNat 32 (128 * r.val))) (k0_off50_inb i k) (offW12 i k)
      (fun p => k0_off51 k (BitVec.ofNat 32 (64 * p.val))) (k0_off51_inb k) (offA12 k)
      (k0_off52 i k) (k0_off52_inb i k) (offH12 i k) (ih (by omega))

/-- Loop 13: quarter 3, units 48 to 63. -/
theorem units13 (𝒱 : Variants) (c : Dev nD) (bd : Option 𝒱.V) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole) (v9 : BitVec 32) (X_arg4 : BufTy.Contents (Elt Ideal) arg4.view.ty) (X_arg5 : BufTy.Contents (Elt Ideal) arg5.view.ty) (X_arg6 : BufTy.Contents (Elt Ideal) arg6.view.ty) (X_arg11 : BufTy.Contents (Elt Ideal) arg11.view.ty) (G : BufTy.Contents (Elt Ideal) arg12.view.ty) (n : ℕ) (hn : n ≤ 16) :
    after arg4 arg5 arg6 arg11 arg12 X_arg4 X_arg5 X_arg6 X_arg11 G (i 0).val 3 48 (48 + n)
      (arg12.view.writes (Elt Ideal) G (pb_k0_t13 (F := Ideal) 𝒱 c bd i arg1 harg1 arg2 harg2 arg3 harg3 arg4 harg4 arg5 harg5 arg6 harg6 arg7 harg7 arg8 harg8 arg9 harg9 arg10 harg10 arg11 harg11 arg12 harg12 v9 X_arg4 X_arg5 X_arg6 X_arg11 n)) := by
  induction n with
  | zero => exact after_zero arg4 arg5 arg6 arg11 arg12 X_arg4 X_arg5 X_arg6 X_arg11 G (i 0).val 3 48
  | succ n ih =>
    obtain ⟨k, rfl⟩ : ∃ k : Fin k0_t13_loop.trips, k.val = n := ⟨⟨n, by rw [trips13]; omega⟩, rfl⟩
    rw [pb_k0_t13_succ, View.writes_append]
    unfold tripL_k0_t13 trip_k0_t13
    exact unit_write arg4 arg5 arg6 arg11 arg12 X_arg4 X_arg5 X_arg6 X_arg11 G _ (i 0).val 3 48 (48 + k.val) (by omega) (by omega) (by omega)
      (fun r => k0_off53 k (BitVec.ofNat 32 (64 * r.val))) (k0_off53_inb k) (offE13 k)
      (fun r => k0_off54 i k (BitVec.ofNat 32 (128 * r.val))) (k0_off54_inb i k) (offW13 i k)
      (fun p => k0_off55 k (BitVec.ofNat 32 (64 * p.val))) (k0_off55_inb k) (offA13 k)
      (k0_off56 i k) (k0_off56_inb i k) (offH13 i k) (ih (by omega))

end Cert.KernelIdeal.Hand
end
-- ==== Proof.IdealStep.lean ====
/-
  One call of the body at the ideal instance, as functions of the blocks and of the scratch it finds: the down-projection,
  the hidden values, the accumulated up-projection and the block of the result.
-/
module

public import proofs.«01_k».proof.Proof.IdealLoops
public import Idealize.ShloMosaic.Lib.Pointwise

@[expose] public section

set_option maxRecDepth 16384

noncomputable section

namespace Cert.KernelIdeal.Hand

open Cert.KernelIdeal Cert.KernelIdeal.Gen
open Idealize.ShloMosaic

/-- The down-projection of quarter `kb`: expert row `r`, token `c`. -/
def aval (x1 : S512x512.Idx → BitVec 32) (x2 : S512x1024.Idx → BitVec 32) (kb : Fin 4) (r : Fin 256) (c : Fin 512) : Ideal .f32 :=
  ∑ d : Fin 1024, half (x2 (ix2 ⟨128 * kb.val + r.val / 2, by omega⟩ d)) (r.val % 2) * half (x1 (ix2 ⟨d.val / 2, by omega⟩ c)) (d.val % 2)

/-- The hidden value at a place of the buffer, from the blocks. -/
def hid (g : ℕ) (x1 : S512x512.Idx → BitVec 32) (x2 : S512x1024.Idx → BitVec 32) (x4 x5 : S4x1024x128.Idx → BitVec 32) (x6 : S512x512.Idx → BitVec 32) (y : HIdx) : Ideal .bf16 :=
  hv g x4 x5 x6 (fun j => aval x1 x2 ⟨(y 1).val / 128, by have := h1 y; omega⟩ ⟨(j 1).val, (j 1).isLt⟩ ⟨(j 2).val, (j 2).isLt⟩) y

/-- The buffer of hidden values as the body reads it: zero before the first point. -/
def hold (g : ℕ) (d12 : HIdx → Ideal .bf16) (y : HIdx) : Ideal .bf16 := if g = 0 ∧ (y 0).val = 1 then 0 else d12 y

/-- The buffer of hidden values as the body leaves it. -/
def hnext (g : ℕ) (x1 : S512x512.Idx → BitVec 32) (x2 : S512x1024.Idx → BitVec 32) (x4 x5 : S4x1024x128.Idx → BitVec 32) (x6 : S512x512.Idx → BitVec 32)
    (d12 : HIdx → Ideal .bf16) (y : HIdx) : Ideal .bf16 :=
  if (y 0).val = g % 2 then hid g x1 x2 x4 x5 x6 y else hold g d12 y

/-- Half `k` of the up-projection's sum over a block's experts: output row `r`, token `c`, the hidden values of slot `s`. -/
def upval (x3 : S1x512x1024.Idx → BitVec 32) (h : HIdx → Ideal .bf16) (s k : Fin 2) (r : Fin 1024) (c : Fin 512) : Ideal .f32 :=
  ∑ j : Fin 512, half (x3 (ix3 0 ⟨r.val / 2, by omega⟩ ⟨512 * k.val + j.val, by omega⟩)) (r.val % 2)
    * h (ix4 s ⟨256 * k.val + j.val / 2, by omega⟩ ⟨j.val % 2, by omega⟩ c)

theorem a0 (y : S1024x512.Idx) : (y 0).val < 1024 := (y 0).isLt
theorem a1 (y : S1024x512.Idx) : (y 1).val < 512 := (y 1).isLt

/-- The accumulator as the body leaves it. -/
def anext (g : ℕ) (x3 : S1x512x1024.Idx → BitVec 32) (d10 : S1024x512.Idx → Ideal .f32) (d12 : HIdx → Ideal .bf16) (y : S1024x512.Idx) : Ideal .f32 :=
  (if g % 16 = 1 then 0 else d10 y)
    + upval x3 (hold g d12) ⟨1 - g % 2, by omega⟩ 0 ⟨(y 0).val, a0 y⟩ ⟨(y 1).val, a1 y⟩
    + upval x3 (hold g d12) ⟨1 - g % 2, by omega⟩ 1 ⟨(y 0).val, a0 y⟩ ⟨(y 1).val, a1 y⟩

/-- The output block as the body leaves it. -/
def onext (g : ℕ) (x7 : S512x1024.Idx → Ideal .f32) (x8 : S8x1024.Idx → Ideal .f32) (acc : S1024x512.Idx → Ideal .f32)
    (d9 : S512x1024.Idx → Ideal .f32) : S512x1024.Idx → Ideal .f32 :=
  if g % 16 = 0 ∧ g ≠ 0 then k0_pay3 (F := Ideal) x7 acc (fun j => x8 (ix2 0 ⟨(j 1).val, (j 1).isLt⟩)) else d9

/-! ## The three conditions -/

/-- The test for the first point. -/
def firstBit (n : ℕ) : BitVec 1 := Scalar.cmpi .ne (Scalar.extui (Scalar.cmpi .eq (BitVec.ofNat 32 n) 0#32)) 0#32

/-- The test for the point that starts a tile's sum. -/
def resetBit (n : ℕ) : BitVec 1 :=
  let arg0 : BitVec 32 := BitVec.ofNat 32 n
  let c16_i32_8 : BitVec 32 := 16#32
  let v20 : BitVec 32 := Scalar.addi arg0 c16_i32_8
  let c1_i32_9 : BitVec 32 := 1#32
  let v21 : BitVec 32 := Scalar.subi v20 c1_i32_9
  let c16_i32_10 : BitVec 32 := 16#32
  let c0_i32_11 : BitVec 32 := 0#32
  let v22 : BitVec 1 := Scalar.cmpi .eq c16_i32_10 c0_i32_11
  let c1_i32_12 : BitVec 32 := 1#32
  let v23 : BitVec 32 := Scalar.select v22 c1_i32_12 c16_i32_10
  let v24 : BitVec 32 := Scalar.remsi v21 v23
  let c0_i32_13 : BitVec 32 := 0#32
  let v25 : BitVec 1 := Scalar.cmpi .ne v24 c0_i32_13
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let v29 : BitVec 1 := Scalar.andi v28 v25
  let v30 : BitVec 32 := Scalar.addi v24 v23
  let v31 : BitVec 32 := Scalar.select v29 v30 v24
  let c0_i32_16 : BitVec 32 := 0#32
  let v32 : BitVec 1 := Scalar.cmpi .eq v31 c0_i32_16
  Scalar.cmpi .ne (Scalar.extui v32) 0#32

theorem firstBit_iff (n : Fin 2049) : firstBit n.val = 1#1 ↔ n.val = 0 := by revert n; decide +kernel

theorem resetBit_iff (n : Fin 2049) : resetBit n.val = 1#1 ↔ n.val % 16 = 1 := by revert n; decide +kernel

theorem lastBit_iff (i : grid0.Coords) : k0_cond3 i = 1#1 ↔ (i 0).val % 16 = 0 ∧ (i 0).val ≠ 0 := by
  unfold k0_cond3
  generalize hn : i 0 = n
  clear hn i
  change Fin 2049 at n
  revert n
  decide +kernel

/-- The hidden values the body reads, after the store of zeros at the first point. -/
theorem read_first (M : Memref sig .tc .vmem S2x512x2x512 .bf16) (f : BufTy.Contents (Elt Ideal) M.view.ty) (n : Fin 2049)
    (inb : ∀ a, (![1, 0, 0, 0] : Fin 4 → ℕ) a + S1x512x2x512.size a ≤ S2x512x2x512.size a) (y : HIdx) :
    M.view.read (Elt Ideal) (if hc : firstBit n.val = 1#1 then
        M.view.writes (Elt Ideal) f [⟨Rect.unit (s := S2x512x2x512) ![1, 0, 0, 0] S1x512x2x512.size inb, constant (F := Ideal) S1x512x2x512 .bf16 0x0000#16⟩] else f) y
      = hold n.val (M.view.read (Elt Ideal) f) y := by
  unfold hold
  by_cases h : n.val = 0
  · rw [dif_pos ((firstBit_iff n).2 h), View.read_writes_cons_unit _ _ _ _ _ _ rfl]
    by_cases hy : (y 0).val = 1
    · rw [if_pos ⟨h, hy⟩, dif_pos]
      · pointwise []
      · have b0 := h0 y; have b1 := h1 y; have b2 := h2 y; have b3 := h3 y
        intro a; fin_cases a
        · show 1 ≤ (y 0).val ∧ (y 0).val < 1 + 1; omega
        · show 0 ≤ (y 1).val ∧ (y 1).val < 0 + 512; omega
        · show 0 ≤ (y 2).val ∧ (y 2).val < 0 + 2; omega
        · show 0 ≤ (y 3).val ∧ (y 3).val < 0 + 512; omega
    · rw [if_neg (fun k => hy k.2), dif_neg]
      · rfl
      · intro k
        have k0 := k 0
        have b0 := h0 y
        change 1 ≤ (y 0).val ∧ (y 0).val < 1 + 1 at k0
        omega
  · rw [dif_neg (fun k => h ((firstBit_iff n).1 k)), if_neg (fun k => h k.1)]

/-- The accumulator the body reads, after the store of zeros at a tile's start. -/
theorem read_reset (M : Memref sig .tc .vmem S1024x512 .f32) (f : BufTy.Contents (Elt Ideal) M.view.ty) (n : Fin 2049)
    (inb : ∀ a, (![0, 0] : Fin 2 → ℕ) a + S1024x512.size a ≤ S1024x512.size a) (y : S1024x512.Idx) :
    M.view.read (Elt Ideal) (if hc : resetBit n.val = 1#1 then
        M.view.writes (Elt Ideal) f [⟨Rect.unit (s := S1024x512) ![0, 0] S1024x512.size inb, k0_pay225 (F := Ideal)⟩] else f) y
      = if n.val % 16 = 1 then 0 else M.view.read (Elt Ideal) f y := by
  by_cases h : n.val % 16 = 1
  · rw [dif_pos ((resetBit_iff n).2 h), if_pos h, View.read_writes_cons_unit _ _ _ _ _ _ rfl, dif_pos]
    · pointwise [k0_pay225]
    · intro a
      have := (y a).isLt
      fin_cases a
      · show 0 ≤ (y 0).val ∧ (y 0).val < 0 + 1024; exact ⟨by omega, by simpa using this⟩
      · show 0 ≤ (y 1).val ∧ (y 1).val < 0 + 512; exact ⟨by omega, by simpa using this⟩
  · rw [dif_neg (fun k => h ((resetBit_iff n).1 k)), if_neg h]

/-! ## The stores -/

/-- The product of the down-projection, at an index. -/
theorem down_apply (v38 : Vec Ideal S128x1024 .i32) (v40 : Vec Ideal S512x256 .i32) (z : Fin 1) (r c : Fin 256) :
    k0_pay226 (F := Ideal) v38 v40 (ix3 z r c)
      = ∑ d : Fin 1024, half (v38 (ix2 ⟨r.val / 2, by omega⟩ d)) (r.val % 2) * half (v40 (ix2 ⟨d.val / 2, by omega⟩ c)) (d.val % 2) := by
  pointwise [k0_pay226]
  refine Finset.sum_congr rfl fun d _ => ?_
  congr 1
  · refine words_apply (t := S256x1024) (s := S128x1024) v38 _ _ _ ?_
    intro a; fin_cases a <;> rfl
  · refine words_apply (t := S1024x256) (s := S512x256) v40 _ _ _ ?_
    intro a; fin_cases a <;> rfl

/-- The product of the up-projection, at an index. -/
theorem up_apply (v46 : Vec Ideal S512x256 .f32) (v47 : Vec Ideal S1x256x512 .i32) (v52 : Vec Ideal S1x256x2x256 .bf16) (r : Fin 512) (c : Fin 256) :
    k0_pay227 (F := Ideal) v46 v47 v52 (ix2 r c)
      = v46 (ix2 r c) + ∑ j : Fin 512, half (v47 (ix3 0 ⟨r.val / 2, by omega⟩ j)) (r.val % 2) * v52 (ix4 0 ⟨j.val / 2, by omega⟩ ⟨j.val % 2, by omega⟩ c) := by
  pointwise [k0_pay227]
  congr 1
  refine Finset.sum_congr rfl fun j _ => ?_
  congr 1
  · refine (words_apply (t := S512x512) (s := S256x512) _ _ _ (ix2 ⟨r.val / 2, by omega⟩ j) ?_).trans ?_
    · intro a; fin_cases a <;> rfl
    · congr 1
      pointwise []
  · rcases Nat.mod_two_eq_zero_or_one j.val with h | h
    · rw [if_pos h]; congr 2; exact Fin.ext h.symm
    · rw [if_neg (by omega)]; congr 2; exact Fin.ext h.symm

/-- The accumulator after a store of one of its four blocks. -/
theorem read_quad (M : Memref sig .tc .vmem S1024x512 .f32) (f : BufTy.Contents (Elt Ideal) M.view.ty) {R C : ℕ}
    (inb : ∀ a, (![R, C] : Fin 2 → ℕ) a + S512x256.size a ≤ S1024x512.size a) (w : S512x256.Idx → Ideal .f32)
    (L : List (View.Piece (Elt Ideal) S1024x512 .f32)) (r : Fin 1024) (c : Fin 512) :
    M.view.read (Elt Ideal) (M.view.writes (Elt Ideal) f (⟨Rect.unit (s := S1024x512) ![R, C] S512x256.size inb, w⟩ :: L)) (ix2 r c)
      = if h : (R ≤ r.val ∧ r.val < R + 512) ∧ (C ≤ c.val ∧ c.val < C + 256) then w (ix2 ⟨r.val - R, by omega⟩ ⟨c.val - C, by omega⟩)
        else M.view.read (Elt Ideal) (M.view.writes (Elt Ideal) f L) (ix2 r c) := by
  rw [View.read_writes_cons_unit _ _ _ _ _ _ rfl]
  by_cases h : (R ≤ r.val ∧ r.val < R + 512) ∧ (C ≤ c.val ∧ c.val < C + 256)
  · rw [dif_pos h, dif_pos (by intro a; fin_cases a; exacts [h.1, h.2])]
    congr 1
    funext a; apply Fin.ext; fin_cases a <;> rfl
  · rw [dif_neg h, dif_neg (fun k => h ⟨k 0, k 1⟩)]

/-- A load of one of the accumulator's four blocks. -/
theorem load_quad (M : Memref sig .tc .vmem S1024x512 .f32) (X : BufTy.Contents (Elt Ideal) M.view.ty) {R C : ℕ}
    (inb : ∀ a, (![R, C] : Fin 2 → ℕ) a + S512x256.size a ≤ S1024x512.size a) (r : Fin 512) (c : Fin 256) (r' : Fin 1024) (c' : Fin 512)
    (hr : r'.val = R + r.val) (hc : c'.val = C + c.val) :
    View.readAt (Elt Ideal) M.view (Rect.unit (s := S1024x512) ![R, C] S512x256.size inb).toLoadRect X (ix2 r c) = M.view.read (Elt Ideal) X (ix2 r' c') := by
  rw [View.readAt_apply]
  congr 1
  funext a; apply Fin.ext; fin_cases a
  · show R + 1 * r.val = r'.val; omega
  · show C + 1 * c.val = c'.val; omega

/-- A load of a block of the hidden values. -/
theorem load_h (M : Memref sig .tc .vmem S2x512x2x512 .bf16) (X : BufTy.Contents (Elt Ideal) M.view.ty) {S R C : ℕ} {off : Fin 4 → ℕ}
    (inb : ∀ a, off a + S1x256x2x256.size a ≤ S2x512x2x512.size a) (hoff : off = ![S, R, 0, C]) (z : Fin 1) (r : Fin 256) (p : Fin 2) (c : Fin 256)
    (s : Fin 2) (r' : Fin 512) (c' : Fin 512) (hs : s.val = S) (hr : r'.val = R + r.val) (hc : c'.val = C + c.val) :
    View.readAt (Elt Ideal) M.view (Rect.unit (s := S2x512x2x512) off S1x256x2x256.size inb).toLoadRect X (ix4 z r p c) = M.view.read (Elt Ideal) X (ix4 s r' p c') := by
  subst hoff
  rw [View.readAt_apply]
  congr 1
  funext a; apply Fin.ext; fin_cases a
  · show S + 1 * z.val = s.val; omega
  · show R + 1 * r.val = r'.val; omega
  · show 0 + 1 * p.val = p.val; omega
  · show C + 1 * c.val = c'.val; omega

/-- A load of a block of the up-projection's words. -/
theorem load_eut (M : Memref sig .tc .vmem S1x512x1024 .i32) (X : BufTy.Contents (Elt Ideal) M.view.ty) {R C : ℕ}
    (inb : ∀ a, (![0, R, C] : Fin 3 → ℕ) a + S1x256x512.size a ≤ S1x512x1024.size a) (z : Fin 1) (r : Fin 256) (c : Fin 512) (r' : Fin 512) (c' : Fin 1024)
    (hr : r'.val = R + r.val) (hc : c'.val = C + c.val) :
    View.readAt (Elt Ideal) M.view (Rect.unit (s := S1x512x1024) ![0, R, C] S1x256x512.size inb).toLoadRect X (ix3 z r c) = M.view.read (Elt Ideal) X (ix3 0 r' c') := by
  rw [View.readAt_apply]
  congr 1
  funext a; apply Fin.ext; fin_cases a
  · show 0 + 1 * z.val = 0; omega
  · show R + 1 * r.val = r'.val; omega
  · show C + 1 * c.val = c'.val; omega

/-- One block of the accumulator after its store: what it held plus half of the sum. -/
theorem up_store (M3 : Memref sig .tc .vmem S1x512x1024 .i32) (M10 : Memref sig .tc .vmem S1024x512 .f32) (M12 : Memref sig .tc .vmem S2x512x2x512 .bf16)
    (f3 : BufTy.Contents (Elt Ideal) M3.view.ty) (X10 : BufTy.Contents (Elt Ideal) M10.view.ty) (X12 : BufTy.Contents (Elt Ideal) M12.view.ty)
    (s k : Fin 2) (h : HIdx → Ideal .bf16) {R C R3 K : ℕ} {off : Fin 4 → ℕ}
    (inb10 : ∀ a, (![R, C] : Fin 2 → ℕ) a + S512x256.size a ≤ S1024x512.size a)
    (inb3 : ∀ a, (![0, R3, K] : Fin 3 → ℕ) a + S1x256x512.size a ≤ S1x512x1024.size a)
    (inb12 : ∀ a, off a + S1x256x2x256.size a ≤ S2x512x2x512.size a) (hoff : off = ![s.val, 256 * k.val, 0, C])
    (hR : R = 2 * R3) (hK : K = 512 * k.val)
    (hh : ∀ y : HIdx, (y 0).val = s.val → M12.view.read (Elt Ideal) X12 y = h y)
    (r : Fin 1024) (c : Fin 512) (hr : R ≤ r.val ∧ r.val < R + 512) (hc : C ≤ c.val ∧ c.val < C + 256) :
    k0_pay227 (F := Ideal) (View.readAt (Elt Ideal) M10.view (Rect.unit (s := S1024x512) ![R, C] S512x256.size inb10).toLoadRect X10)
        (View.readAt (Elt Ideal) M3.view (Rect.unit (s := S1x512x1024) ![0, R3, K] S1x256x512.size inb3).toLoadRect f3)
        (View.readAt (Elt Ideal) M12.view (Rect.unit (s := S2x512x2x512) off S1x256x2x256.size inb12).toLoadRect X12)
        (ix2 ⟨r.val - R, by omega⟩ ⟨c.val - C, by omega⟩)
      = M10.view.read (Elt Ideal) X10 (ix2 r c) + upval (M3.view.read (Elt Ideal) f3) h s k r c := by
  rw [up_apply]
  congr 1
  · exact load_quad M10 X10 inb10 _ _ r c (by simp only []; omega) (by simp only []; omega)
  · refine Finset.sum_congr rfl fun j _ => ?_
    congr 1
    · rw [load_eut M3 f3 inb3 _ _ _ ⟨r.val / 2, by omega⟩ ⟨512 * k.val + j.val, by omega⟩ (by simp only []; omega) (by simp only []; omega)]
      congr 1
      simp only []; omega
    · rw [load_h M12 X12 inb12 hoff _ _ _ _ s ⟨256 * k.val + j.val / 2, by omega⟩ c rfl (by simp only []) (by simp only []; omega)]
      exact hh _ rfl

/-- The down-projection's buffer after a store of one of its four blocks. -/
theorem read_down (M : Memref sig .tc .vmem S2x256x512 .f32) (f : BufTy.Contents (Elt Ideal) M.view.ty) {S C : ℕ}
    (inb : ∀ a, (![S, 0, C] : Fin 3 → ℕ) a + S1x256x256.size a ≤ S2x256x512.size a) (w : S1x256x256.Idx → Ideal .f32)
    (L : List (View.Piece (Elt Ideal) S2x256x512 .f32)) (s : Fin 2) (r : Fin 256) (c : Fin 512) :
    M.view.read (Elt Ideal) (M.view.writes (Elt Ideal) f (⟨Rect.unit (s := S2x256x512) ![S, 0, C] S1x256x256.size inb, w⟩ :: L)) (ix3 s r c)
      = if h : s.val = S ∧ (C ≤ c.val ∧ c.val < C + 256) then w (ix3 0 r ⟨c.val - C, by omega⟩)
        else M.view.read (Elt Ideal) (M.view.writes (Elt Ideal) f L) (ix3 s r c) := by
  rw [View.read_writes_cons_unit _ _ _ _ _ _ rfl]
  by_cases h : s.val = S ∧ (C ≤ c.val ∧ c.val < C + 256)
  · have e : (0 ≤ r.val ∧ r.val < 0 + 256) := by omega
    have e0 : (S ≤ s.val ∧ s.val < S + 1) := by omega
    rw [dif_pos h, dif_pos (by intro a; fin_cases a; exacts [e0, e, h.2])]
    congr 1
    funext a; apply Fin.ext; fin_cases a
    · show s.val - S = 0; omega
    · rfl
    · rfl
  · rw [dif_neg h, dif_neg]
    intro k
    have k0 := k 0; have k2 := k 2
    change S ≤ s.val ∧ s.val < S + 1 at k0
    exact h ⟨by omega, k2⟩

/-- One block of the down-projection. -/
theorem down_store (M1 : Memref sig .tc .vmem S512x512 .i32) (M2 : Memref sig .tc .vmem S512x1024 .i32)
    (f1 : BufTy.Contents (Elt Ideal) M1.view.ty) (f2 : BufTy.Contents (Elt Ideal) M2.view.ty) (kb : Fin 4) {R C : ℕ}
    (inb1 : ∀ a, (![0, C] : Fin 2 → ℕ) a + S512x256.size a ≤ S512x512.size a)
    (inb2 : ∀ a, (![R, 0] : Fin 2 → ℕ) a + S128x1024.size a ≤ S512x1024.size a) (hR : R = 128 * kb.val)
    (r : Fin 256) (c : Fin 512) (hc : C ≤ c.val ∧ c.val < C + 256) :
    k0_pay226 (F := Ideal) (View.readAt (Elt Ideal) M2.view (Rect.unit (s := S512x1024) ![R, 0] S128x1024.size inb2).toLoadRect f2)
        (View.readAt (Elt Ideal) M1.view (Rect.unit (s := S512x512) ![0, C] S512x256.size inb1).toLoadRect f1)
        (ix3 0 r ⟨c.val - C, by omega⟩)
      = aval (M1.view.read (Elt Ideal) f1) (M2.view.read (Elt Ideal) f2) kb r c := by
  rw [down_apply]
  refine Finset.sum_congr rfl fun d _ => ?_
  congr 2
  · rw [View.readAt_apply]
    congr 1
    funext a; apply Fin.ext; fin_cases a
    · show R + 1 * (r.val / 2) = 128 * kb.val + r.val / 2; omega
    · show 0 + 1 * d.val = d.val; omega
  · rw [View.readAt_apply]
    congr 1
    funext a; apply Fin.ext; fin_cases a
    · show 0 + 1 * (d.val / 2) = d.val / 2; omega
    · show C + 1 * (c.val - C) = c.val; omega

/-- A load of the whole accumulator. -/
theorem load_acc (M : Memref sig .tc .vmem S1024x512 .f32) (X : BufTy.Contents (Elt Ideal) M.view.ty)
    (inb : ∀ a, (![0, 0] : Fin 2 → ℕ) a + S1024x512.size a ≤ S1024x512.size a) (y : S1024x512.Idx) :
    View.readAt (Elt Ideal) M.view (Rect.unit (s := S1024x512) ![0, 0] S1024x512.size inb).toLoadRect X y = M.view.read (Elt Ideal) X y := by
  rw [View.readAt_apply]
  congr 1
  funext a; apply Fin.ext; fin_cases a
  · show 0 + 1 * (y 0).val = (y 0).val; omega
  · show 0 + 1 * (y 1).val = (y 1).val; omega

/-- The block of the result as stored: the residual plus the transposed accumulator, normalised and weighted. -/
theorem out_store (M7 : Memref sig .tc .vmem S512x1024 .f32) (M8 : Memref sig .tc .vmem S8x1024 .f32) (M9 : Memref sig .tc .vmem S512x1024 .f32)
    (f7 : BufTy.Contents (Elt Ideal) M7.view.ty) (f8 : BufTy.Contents (Elt Ideal) M8.view.ty) (f9 : BufTy.Contents (Elt Ideal) M9.view.ty)
    (i : grid0.Coords) (acc acc' : S1024x512.Idx → Ideal .f32) (hacc : acc' = acc)
    (inb : ∀ a, (![0, 0] : Fin 2 → ℕ) a + S512x1024.size a ≤ S512x1024.size a) (inb8 : ∀ a, (![0, 0] : Fin 2 → ℕ) a + S1x1024.size a ≤ S8x1024.size a) :
    M9.view.read (Elt Ideal) (if hc : k0_cond3 i = 1#1 then M9.view.writes (Elt Ideal) f9 [⟨Rect.unit (s := S512x1024) ![0, 0] S512x1024.size inb,
        k0_pay3 (F := Ideal) (View.readAt (Elt Ideal) M7.view (Rect.unit (s := S512x1024) ![0, 0] S512x1024.size inb).toLoadRect f7) acc'
          (View.readAt (Elt Ideal) M8.view (Rect.unit (s := S8x1024) ![0, 0] S1x1024.size inb8).toLoadRect f8)⟩] else f9)
      = onext (i 0).val (M7.view.read (Elt Ideal) f7) (M8.view.read (Elt Ideal) f8) acc (M9.view.read (Elt Ideal) f9) := by
  subst hacc
  unfold onext
  by_cases h : (i 0).val % 16 = 0 ∧ (i 0).val ≠ 0
  · rw [dif_pos ((lastBit_iff i).2 h), if_pos h]
    funext y
    rw [View.read_writes_cons_unit _ _ _ _ _ _ rfl, dif_pos]
    · have e7 : View.readAt (Elt Ideal) M7.view (Rect.unit (s := S512x1024) ![0, 0] S512x1024.size inb).toLoadRect f7 = M7.view.read (Elt Ideal) f7 := by
        funext z
        rw [View.readAt_apply]
        congr 1
        funext a; apply Fin.ext; fin_cases a
        · show 0 + 1 * (z 0).val = (z 0).val; omega
        · show 0 + 1 * (z 1).val = (z 1).val; omega
      have e8 : View.readAt (Elt Ideal) M8.view (Rect.unit (s := S8x1024) ![0, 0] S1x1024.size inb8).toLoadRect f8
          = fun j => M8.view.read (Elt Ideal) f8 (ix2 0 ⟨(j 1).val, (j 1).isLt⟩) := by
        funext z
        rw [View.readAt_apply]
        congr 1
        have hz : (z 0).val < 1 := (z 0).isLt
        funext a; apply Fin.ext; fin_cases a
        · show 0 + 1 * (z 0).val = 0; omega
        · show 0 + 1 * (z 1).val = (z 1).val; omega
      rw [e7, e8]
      congr 1
      funext a; apply Fin.ext; fin_cases a <;> rfl
    · intro a
      have := (y a).isLt
      fin_cases a
      · show 0 ≤ (y 0).val ∧ (y 0).val < 0 + 512; exact ⟨by omega, by simpa using this⟩
      · show 0 ≤ (y 1).val ∧ (y 1).val < 0 + 1024; exact ⟨by omega, by simpa using this⟩
  · rw [dif_neg (fun k => h ((lastBit_iff i).1 k)), if_neg h]

/-- A store into the other slot leaves a slot as it was. -/
theorem down_skip (M : Memref sig .tc .vmem S2x256x512 .f32) (f : BufTy.Contents (Elt Ideal) M.view.ty) {S C : ℕ}
    (inb : ∀ a, (![S, 0, C] : Fin 3 → ℕ) a + S1x256x256.size a ≤ S2x256x512.size a) (w : S1x256x256.Idx → Ideal .f32)
    (L : List (View.Piece (Elt Ideal) S2x256x512 .f32)) (s : Fin 2) (hs : s.val ≠ S) (r : Fin 256) (c : Fin 512) :
    M.view.read (Elt Ideal) (M.view.writes (Elt Ideal) f (⟨Rect.unit (s := S2x256x512) ![S, 0, C] S1x256x256.size inb, w⟩ :: L)) (ix3 s r c)
      = M.view.read (Elt Ideal) (M.view.writes (Elt Ideal) f L) (ix3 s r c) := by
  rw [read_down, dif_neg (fun h => hs h.1)]

/-- A slot after the two stores of a quarter. -/
theorem down_two (M1 : Memref sig .tc .vmem S512x512 .i32) (M2 : Memref sig .tc .vmem S512x1024 .i32)
    (f1 : BufTy.Contents (Elt Ideal) M1.view.ty) (f2 : BufTy.Contents (Elt Ideal) M2.view.ty) (kb : Fin 4) {R : ℕ}
    (inb1 : ∀ a, (![0, 0] : Fin 2 → ℕ) a + S512x256.size a ≤ S512x512.size a)
    (inb1' : ∀ a, (![0, 256] : Fin 2 → ℕ) a + S512x256.size a ≤ S512x512.size a)
    (inb2 : ∀ a, (![R, 0] : Fin 2 → ℕ) a + S128x1024.size a ≤ S512x1024.size a) (hR : R = 128 * kb.val)
    (M : Memref sig .tc .vmem S2x256x512 .f32) (f : BufTy.Contents (Elt Ideal) M.view.ty) {S : ℕ}
    (inb : ∀ a, (![S, 0, 0] : Fin 3 → ℕ) a + S1x256x256.size a ≤ S2x256x512.size a)
    (inb' : ∀ a, (![S, 0, 256] : Fin 3 → ℕ) a + S1x256x256.size a ≤ S2x256x512.size a)
    (L : List (View.Piece (Elt Ideal) S2x256x512 .f32)) (s : Fin 2) (hs : s.val = S) (r : Fin 256) (c : Fin 512) :
    M.view.read (Elt Ideal) (M.view.writes (Elt Ideal) f (
        ⟨Rect.unit (s := S2x256x512) ![S, 0, 256] S1x256x256.size inb', k0_pay226 (F := Ideal)
          (View.readAt (Elt Ideal) M2.view (Rect.unit (s := S512x1024) ![R, 0] S128x1024.size inb2).toLoadRect f2)
          (View.readAt (Elt Ideal) M1.view (Rect.unit (s := S512x512) ![0, 256] S512x256.size inb1').toLoadRect f1)⟩
        :: ⟨Rect.unit (s := S2x256x512) ![S, 0, 0] S1x256x256.size inb, k0_pay226 (F := Ideal)
          (View.readAt (Elt Ideal) M2.view (Rect.unit (s := S512x1024) ![R, 0] S128x1024.size inb2).toLoadRect f2)
          (View.readAt (Elt Ideal) M1.view (Rect.unit (s := S512x512) ![0, 0] S512x256.size inb1).toLoadRect f1)⟩ :: L)) (ix3 s r c)
      = aval (M1.view.read (Elt Ideal) f1) (M2.view.read (Elt Ideal) f2) kb r c := by
  by_cases hc : 256 ≤ c.val
  · rw [read_down, dif_pos ⟨hs, hc, by omega⟩]
    exact down_store M1 M2 f1 f2 kb inb1' inb2 hR r c ⟨hc, by omega⟩
  · rw [read_down, dif_neg (fun h => hc h.2.1), read_down, dif_pos ⟨hs, by omega, by omega⟩]
    exact down_store M1 M2 f1 f2 kb inb1 inb2 hR r c ⟨by omega, by omega⟩

/-- The hidden value reads one entry of the down-projection's buffer. -/
theorem hv_eq (g : ℕ) (x1 : S512x512.Idx → BitVec 32) (x2 : S512x1024.Idx → BitVec 32) (x4 x5 : S4x1024x128.Idx → BitVec 32) (x6 : S512x512.Idx → BitVec 32)
    (a : S2x256x512.Idx → Ideal .f32) (kb : Fin 4) (s : Fin 2) (hs : s.val = kb.val % 2) (ha : ∀ r c, a (ix3 s r c) = aval x1 x2 kb r c)
    (y : HIdx) (hy : (y 1).val / 128 = kb.val) : hv g x4 x5 x6 a y = hid g x1 x2 x4 x5 x6 y := by
  obtain ⟨kb, hkb⟩ := kb
  simp only [] at hy hs
  subst hy
  unfold hid hv
  congr 1
  rw [show (⟨(y 1).val / 128 % 2, by omega⟩ : Fin 2) = s from Fin.ext hs.symm, ha]
  rfl

end Cert.KernelIdeal.Hand
end
-- ==== Proof.IdealReads.lean ====
/-
  The buffer of hidden values read through each loop's stores.
-/
module

public import proofs.«01_k».proof.Proof.IdealStep

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem

/-- What `after` says, with the down-projection's buffer known. -/
theorem after_hid (arg4 arg5 : Memref sig .tc .vmem S4x1024x128 .i32)
    (arg6 : Memref sig .tc .vmem S512x512 .i32) (arg11 : Memref sig .tc .vmem S2x256x512 .f32) (arg12 : Memref sig .tc .vmem S2x512x2x512 .bf16)
    (X4 : BufTy.Contents (Elt Ideal) arg4.view.ty) (X5 : BufTy.Contents (Elt Ideal) arg5.view.ty) (X6 : BufTy.Contents (Elt Ideal) arg6.view.ty)
    (X11 : BufTy.Contents (Elt Ideal) arg11.view.ty) (G f : BufTy.Contents (Elt Ideal) arg12.view.ty) (g lb n : ℕ) (kb : Fin 4)
    (h : after arg4 arg5 arg6 arg11 arg12 X4 X5 X6 X11 G g kb.val lb n f)
    (x1 : S512x512.Idx → BitVec 32) (x2 : S512x1024.Idx → BitVec 32) (s : Fin 2) (hs : s.val = kb.val % 2)
    (hA : ∀ r c, arg11.view.read (Elt Ideal) X11 (ix3 s r c) = aval x1 x2 kb r c) (y : HIdx) :
    arg12.view.read (Elt Ideal) f y
      = if inUnits g kb.val lb n y then hid g x1 x2 (arg4.view.read (Elt Ideal) X4) (arg5.view.read (Elt Ideal) X5) (arg6.view.read (Elt Ideal) X6) y
        else arg12.view.read (Elt Ideal) G y := by
  rw [h y]
  by_cases hy : inUnits g kb.val lb n y
  · rw [if_pos hy, if_pos hy]; exact hv_eq g x1 x2 _ _ _ _ kb s hs hA y hy.2.1
  · rw [if_neg hy, if_neg hy]

theorem read_units1 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v61 : FVec Ideal S256x1024 .bf16} {v63 : FVec Ideal S1024x256 .bf16} {cst_40 : FVec Ideal S256x256 .f32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty)
    (x1 : S512x512.Idx → BitVec 32) (x2 : S512x1024.Idx → BitVec 32)
    (hA : ∀ r c, arg11.view.read (Elt Ideal) X_arg11 (ix3 0 r c) = aval x1 x2 0 r c) (y : HIdx) :
    arg12.view.read (Elt Ideal) (arg12.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v9 v19 v61 v63 cst_40 X_arg4 X_arg5 X_arg6 X_arg11 (Scf.trips k0_t1_loop.lb k0_t1_loop.ub k0_t1_loop.st))) y
      = if inUnits (i 0).val 0 0 16 y then hid (i 0).val x1 x2 (arg4.view.read (Elt Ideal) X_arg4) (arg5.view.read (Elt Ideal) X_arg5) (arg6.view.read (Elt Ideal) X_arg6) y
        else arg12.view.read (Elt Ideal) G y := by

  have ht : Scf.trips k0_t1_loop.lb k0_t1_loop.ub k0_t1_loop.st = 16 := trips1
  rw [ht]
  exact after_hid arg4 arg5 arg6 arg11 arg12 X_arg4 X_arg5 X_arg6 X_arg11 _ _ (i 0).val 0 16 0
    (units1 𝒱 c bd i arg1 harg1 arg2 harg2 arg3 harg3 arg4 harg4 arg5 harg5 arg6 harg6 arg7 harg7 arg8 harg8 arg9 harg9 arg10 harg10 arg11 harg11 arg12 harg12 v9 v19 v61 v63 cst_40 X_arg4 X_arg5 X_arg6 X_arg11 _ 16 le_rfl) x1 x2 0 rfl hA y

theorem read_units2 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 0 r c) = aval x1 x2 0 r c) (y : HIdx) :
    arg12.view.read (Elt Ideal) (arg12.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 (Scf.trips k0_t2_loop.lb k0_t2_loop.ub k0_t2_loop.st) ++ L)) y
      = if inUnits (i 0).val 0 16 48 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t2_loop.lb k0_t2_loop.ub k0_t2_loop.st = 32 := trips2
  rw [ht]
  exact after_hid arg4 arg5 arg6 arg11 arg12 X_arg4 X_arg5 X_arg6 X_arg11 _ _ (i 0).val 16 48 0
    (units2 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 _ 32 le_rfl) x1 x2 0 rfl hA y

theorem read_units3 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 0 r c) = aval x1 x2 0 r c) (y : HIdx) :
    arg12.view.read (Elt Ideal) (arg12.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 (Scf.trips k0_t3_loop.lb k0_t3_loop.ub k0_t3_loop.st) ++ L)) y
      = if inUnits (i 0).val 0 48 64 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t3_loop.lb k0_t3_loop.ub k0_t3_loop.st = 16 := trips3
  rw [ht]
  exact after_hid arg4 arg5 arg6 arg11 arg12 X_arg4 X_arg5 X_arg6 X_arg11 _ _ (i 0).val 48 64 0
    (units3 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 _ 16 le_rfl) x1 x2 0 rfl hA y

theorem read_units4 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c0_i32_89 : BitVec 32} {c16_i32_90 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 1 r c) (y : HIdx) :
    arg12.view.read (Elt Ideal) (arg12.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 (Scf.trips k0_t4_loop.lb k0_t4_loop.ub k0_t4_loop.st) ++ L)) y
      = if inUnits (i 0).val 1 0 16 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t4_loop.lb k0_t4_loop.ub k0_t4_loop.st = 16 := trips4
  rw [ht]
  exact after_hid arg4 arg5 arg6 arg11 arg12 X_arg4 X_arg5 X_arg6 X_arg11 _ _ (i 0).val 0 16 1
    (units4 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 _ 16 le_rfl) x1 x2 1 rfl hA y

theorem read_units5 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c0_i32_89 : BitVec 32} {c16_i32_90 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 1 r c) (y : HIdx) :
    arg12.view.read (Elt Ideal) (arg12.view.writes (Elt Ideal) G (pb_k0_t5 (F := Ideal) 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 (Scf.trips k0_t5_loop.lb k0_t5_loop.ub k0_t5_loop.st) ++ L)) y
      = if inUnits (i 0).val 1 16 32 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t5_loop.lb k0_t5_loop.ub k0_t5_loop.st = 16 := trips5
  rw [ht]
  exact after_hid arg4 arg5 arg6 arg11 arg12 X_arg4 X_arg5 X_arg6 X_arg11 _ _ (i 0).val 16 32 1
    (units5 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 _ 16 le_rfl) x1 x2 1 rfl hA y

theorem read_units6 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c32_i32_116 : BitVec 32} {c1_i32_118 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 1 r c) (y : HIdx) :
    arg12.view.read (Elt Ideal) (arg12.view.writes (Elt Ideal) G (pb_k0_t6 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 (Scf.trips k0_t6_loop.lb k0_t6_loop.ub k0_t6_loop.st) ++ L)) y
      = if inUnits (i 0).val 1 32 48 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t6_loop.lb k0_t6_loop.ub k0_t6_loop.st = 16 := trips6
  rw [ht]
  exact after_hid arg4 arg5 arg6 arg11 arg12 X_arg4 X_arg5 X_arg6 X_arg11 _ _ (i 0).val 32 48 1
    (units6 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 _ 16 le_rfl) x1 x2 1 rfl hA y

theorem read_units7 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c32_i32_116 : BitVec 32} {c1_i32_118 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 1 r c) (y : HIdx) :
    arg12.view.read (Elt Ideal) (arg12.view.writes (Elt Ideal) G (pb_k0_t7 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 (Scf.trips k0_t7_loop.lb k0_t7_loop.ub k0_t7_loop.st) ++ L)) y
      = if inUnits (i 0).val 1 48 64 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t7_loop.lb k0_t7_loop.ub k0_t7_loop.st = 16 := trips7
  rw [ht]
  exact after_hid arg4 arg5 arg6 arg11 arg12 X_arg4 X_arg5 X_arg6 X_arg11 _ _ (i 0).val 48 64 1
    (units7 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 _ 16 le_rfl) x1 x2 1 rfl hA y

theorem read_units8 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c32_i32_116 : BitVec 32} {c1_i32_118 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 0 r c) = aval x1 x2 2 r c) (y : HIdx) :
    arg12.view.read (Elt Ideal) (arg12.view.writes (Elt Ideal) G (pb_k0_t8 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 (Scf.trips k0_t8_loop.lb k0_t8_loop.ub k0_t8_loop.st) ++ L)) y
      = if inUnits (i 0).val 2 0 16 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t8_loop.lb k0_t8_loop.ub k0_t8_loop.st = 16 := trips8
  rw [ht]
  exact after_hid arg4 arg5 arg6 arg11 arg12 X_arg4 X_arg5 X_arg6 X_arg11 _ _ (i 0).val 0 16 2
    (units8 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 _ 16 le_rfl) x1 x2 0 rfl hA y

theorem read_units9 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 0 r c) = aval x1 x2 2 r c) (y : HIdx) :
    arg12.view.read (Elt Ideal) (arg12.view.writes (Elt Ideal) G (pb_k0_t9 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 (Scf.trips k0_t9_loop.lb k0_t9_loop.ub k0_t9_loop.st) ++ L)) y
      = if inUnits (i 0).val 2 16 48 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t9_loop.lb k0_t9_loop.ub k0_t9_loop.st = 32 := trips9
  rw [ht]
  exact after_hid arg4 arg5 arg6 arg11 arg12 X_arg4 X_arg5 X_arg6 X_arg11 _ _ (i 0).val 16 48 2
    (units9 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 _ 32 le_rfl) x1 x2 0 rfl hA y

theorem read_units10 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v188 : FVec Ideal S256x1024 .bf16} {v190 : FVec Ideal S1024x256 .bf16} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 0 r c) = aval x1 x2 2 r c) (y : HIdx) :
    arg12.view.read (Elt Ideal) (arg12.view.writes (Elt Ideal) G (pb_k0_t10 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 (Scf.trips k0_t10_loop.lb k0_t10_loop.ub k0_t10_loop.st) ++ L)) y
      = if inUnits (i 0).val 2 48 64 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t10_loop.lb k0_t10_loop.ub k0_t10_loop.st = 16 := trips10
  rw [ht]
  exact after_hid arg4 arg5 arg6 arg11 arg12 X_arg4 X_arg5 X_arg6 X_arg11 _ _ (i 0).val 48 64 2
    (units10 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 _ 16 le_rfl) x1 x2 0 rfl hA y

theorem read_units11 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v188 : FVec Ideal S256x1024 .bf16} {v190 : FVec Ideal S1024x256 .bf16} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 3 r c) (y : HIdx) :
    arg12.view.read (Elt Ideal) (arg12.view.writes (Elt Ideal) G (pb_k0_t11 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 (Scf.trips k0_t11_loop.lb k0_t11_loop.ub k0_t11_loop.st) ++ L)) y
      = if inUnits (i 0).val 3 0 16 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t11_loop.lb k0_t11_loop.ub k0_t11_loop.st = 16 := trips11
  rw [ht]
  exact after_hid arg4 arg5 arg6 arg11 arg12 X_arg4 X_arg5 X_arg6 X_arg11 _ _ (i 0).val 0 16 3
    (units11 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 _ 16 le_rfl) x1 x2 1 rfl hA y

theorem read_units12 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v188 : FVec Ideal S256x1024 .bf16} {v190 : FVec Ideal S1024x256 .bf16} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 3 r c) (y : HIdx) :
    arg12.view.read (Elt Ideal) (arg12.view.writes (Elt Ideal) G (pb_k0_t12 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 (Scf.trips k0_t12_loop.lb k0_t12_loop.ub k0_t12_loop.st) ++ L)) y
      = if inUnits (i 0).val 3 16 48 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t12_loop.lb k0_t12_loop.ub k0_t12_loop.st = 32 := trips12
  rw [ht]
  exact after_hid arg4 arg5 arg6 arg11 arg12 X_arg4 X_arg5 X_arg6 X_arg11 _ _ (i 0).val 16 48 3
    (units12 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 _ 32 le_rfl) x1 x2 1 rfl hA y

theorem read_units13 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16))
    (x1 : S512x512.Idx → BitVec 32) (x2 : S512x1024.Idx → BitVec 32)
    (hA : ∀ r c, arg11.view.read (Elt Ideal) X_arg11 (ix3 1 r c) = aval x1 x2 3 r c) (y : HIdx) :
    arg12.view.read (Elt Ideal) (arg12.view.writes (Elt Ideal) G (pb_k0_t13 (F := Ideal) 𝒱 c bd i arg1 harg1 arg2 harg2 arg3 harg3 arg4 harg4 arg5 harg5 arg6 harg6 arg7 harg7 arg8 harg8 arg9 harg9 arg10 harg10 arg11 harg11 arg12 harg12 v9 X_arg4 X_arg5 X_arg6 X_arg11 (Scf.trips k0_t13_loop.lb k0_t13_loop.ub k0_t13_loop.st) ++ L)) y
      = if inUnits (i 0).val 3 48 64 y then hid (i 0).val x1 x2 (arg4.view.read (Elt Ideal) X_arg4) (arg5.view.read (Elt Ideal) X_arg5) (arg6.view.read (Elt Ideal) X_arg6) y
        else arg12.view.read (Elt Ideal) (arg12.view.writes (Elt Ideal) G L) y := by
  rw [View.writes_append]
  have ht : Scf.trips k0_t13_loop.lb k0_t13_loop.ub k0_t13_loop.st = 16 := trips13
  rw [ht]
  exact after_hid arg4 arg5 arg6 arg11 arg12 X_arg4 X_arg5 X_arg6 X_arg11 _ _ (i 0).val 48 64 3
    (units13 𝒱 c bd i arg1 harg1 arg2 harg2 arg3 harg3 arg4 harg4 arg5 harg5 arg6 harg6 arg7 harg7 arg8 harg8 arg9 harg9 arg10 harg10 arg11 harg11 arg12 harg12 v9 X_arg4 X_arg5 X_arg6 X_arg11 _ 16 le_rfl) x1 x2 1 rfl hA y

theorem skip_units1 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v61 : FVec Ideal S256x1024 .bf16} {v63 : FVec Ideal S1024x256 .bf16} {cst_40 : FVec Ideal S256x256 .f32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (y : HIdx) (hy : (y 0).val ≠ (i 0).val % 2) :
    arg12.view.read (Elt Ideal) (arg12.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v9 v19 v61 v63 cst_40 X_arg4 X_arg5 X_arg6 X_arg11 (Scf.trips k0_t1_loop.lb k0_t1_loop.ub k0_t1_loop.st))) y
      = arg12.view.read (Elt Ideal) G y := by

  have ht : Scf.trips k0_t1_loop.lb k0_t1_loop.ub k0_t1_loop.st = 16 := trips1
  rw [ht, units1 𝒱 c bd i arg1 harg1 arg2 harg2 arg3 harg3 arg4 harg4 arg5 harg5 arg6 harg6 arg7 harg7 arg8 harg8 arg9 harg9 arg10 harg10 arg11 harg11 arg12 harg12 v9 v19 v61 v63 cst_40 X_arg4 X_arg5 X_arg6 X_arg11 _ 16 le_rfl y, if_neg (fun h => hy h.1)]

theorem skip_units2 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 (Scf.trips k0_t2_loop.lb k0_t2_loop.ub k0_t2_loop.st) ++ L)) y
      = arg12.view.read (Elt Ideal) (arg12.view.writes (Elt Ideal) G L) y := by
  rw [View.writes_append]
  have ht : Scf.trips k0_t2_loop.lb k0_t2_loop.ub k0_t2_loop.st = 32 := trips2
  rw [ht, units2 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 _ 32 le_rfl y, if_neg (fun h => hy h.1)]

theorem skip_units3 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t3 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 (Scf.trips k0_t3_loop.lb k0_t3_loop.ub k0_t3_loop.st) ++ L)) y
      = arg12.view.read (Elt Ideal) (arg12.view.writes (Elt Ideal) G L) y := by
  rw [View.writes_append]
  have ht : Scf.trips k0_t3_loop.lb k0_t3_loop.ub k0_t3_loop.st = 16 := trips3
  rw [ht, units3 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 _ 16 le_rfl y, if_neg (fun h => hy h.1)]

theorem skip_units4 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c0_i32_89 : BitVec 32} {c16_i32_90 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 (Scf.trips k0_t4_loop.lb k0_t4_loop.ub k0_t4_loop.st) ++ L)) y
      = arg12.view.read (Elt Ideal) (arg12.view.writes (Elt Ideal) G L) y := by
  rw [View.writes_append]
  have ht : Scf.trips k0_t4_loop.lb k0_t4_loop.ub k0_t4_loop.st = 16 := trips4
  rw [ht, units4 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 _ 16 le_rfl y, if_neg (fun h => hy h.1)]

theorem skip_units5 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c0_i32_89 : BitVec 32} {c16_i32_90 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t5 (F := Ideal) 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 (Scf.trips k0_t5_loop.lb k0_t5_loop.ub k0_t5_loop.st) ++ L)) y
      = arg12.view.read (Elt Ideal) (arg12.view.writes (Elt Ideal) G L) y := by
  rw [View.writes_append]
  have ht : Scf.trips k0_t5_loop.lb k0_t5_loop.ub k0_t5_loop.st = 16 := trips5
  rw [ht, units5 𝒱 c bd i arg1 harg1 arg2 harg2 arg3 harg3 arg4 harg4 arg5 harg5 arg6 harg6 arg7 harg7 arg8 harg8 arg9 harg9 arg10 harg10 arg11 harg11 arg12 harg12 v9 v19 c0_i32_89 c16_i32_90 X_arg4 X_arg5 X_arg6 X_arg11 _ 16 le_rfl y, if_neg (fun h => hy h.1)]

theorem skip_units6 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c32_i32_116 : BitVec 32} {c1_i32_118 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t6 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 (Scf.trips k0_t6_loop.lb k0_t6_loop.ub k0_t6_loop.st) ++ L)) y
      = arg12.view.read (Elt Ideal) (arg12.view.writes (Elt Ideal) G L) y := by
  rw [View.writes_append]
  have ht : Scf.trips k0_t6_loop.lb k0_t6_loop.ub k0_t6_loop.st = 16 := trips6
  rw [ht, units6 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 _ 16 le_rfl y, if_neg (fun h => hy h.1)]

theorem skip_units7 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c32_i32_116 : BitVec 32} {c1_i32_118 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t7 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 (Scf.trips k0_t7_loop.lb k0_t7_loop.ub k0_t7_loop.st) ++ L)) y
      = arg12.view.read (Elt Ideal) (arg12.view.writes (Elt Ideal) G L) y := by
  rw [View.writes_append]
  have ht : Scf.trips k0_t7_loop.lb k0_t7_loop.ub k0_t7_loop.st = 16 := trips7
  rw [ht, units7 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 _ 16 le_rfl y, if_neg (fun h => hy h.1)]

theorem skip_units8 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {c32_i32_116 : BitVec 32} {c1_i32_118 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t8 (F := Ideal) 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 (Scf.trips k0_t8_loop.lb k0_t8_loop.ub k0_t8_loop.st) ++ L)) y
      = arg12.view.read (Elt Ideal) (arg12.view.writes (Elt Ideal) G L) y := by
  rw [View.writes_append]
  have ht : Scf.trips k0_t8_loop.lb k0_t8_loop.ub k0_t8_loop.st = 16 := trips8
  rw [ht, units8 𝒱 c bd i arg1 harg1 arg2 harg2 arg3 harg3 arg4 harg4 arg5 harg5 arg6 harg6 arg7 harg7 arg8 harg8 arg9 harg9 arg10 harg10 arg11 harg11 arg12 harg12 v9 v19 c32_i32_116 c1_i32_118 X_arg4 X_arg5 X_arg6 X_arg11 _ 16 le_rfl y, if_neg (fun h => hy h.1)]

theorem skip_units9 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t9 (F := Ideal) 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 (Scf.trips k0_t9_loop.lb k0_t9_loop.ub k0_t9_loop.st) ++ L)) y
      = arg12.view.read (Elt Ideal) (arg12.view.writes (Elt Ideal) G L) y := by
  rw [View.writes_append]
  have ht : Scf.trips k0_t9_loop.lb k0_t9_loop.ub k0_t9_loop.st = 32 := trips9
  rw [ht, units9 𝒱 c bd i arg1 harg1 arg2 harg2 arg3 harg3 arg4 harg4 arg5 harg5 arg6 harg6 arg7 harg7 arg8 harg8 arg9 harg9 arg10 harg10 arg11 harg11 arg12 harg12 v9 v19 X_arg4 X_arg5 X_arg6 X_arg11 _ 32 le_rfl y, if_neg (fun h => hy h.1)]

theorem skip_units10 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v188 : FVec Ideal S256x1024 .bf16} {v190 : FVec Ideal S1024x256 .bf16} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t10 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 (Scf.trips k0_t10_loop.lb k0_t10_loop.ub k0_t10_loop.st) ++ L)) y
      = arg12.view.read (Elt Ideal) (arg12.view.writes (Elt Ideal) G L) y := by
  rw [View.writes_append]
  have ht : Scf.trips k0_t10_loop.lb k0_t10_loop.ub k0_t10_loop.st = 16 := trips10
  rw [ht, units10 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 _ 16 le_rfl y, if_neg (fun h => hy h.1)]

theorem skip_units11 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v188 : FVec Ideal S256x1024 .bf16} {v190 : FVec Ideal S1024x256 .bf16} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t11 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 (Scf.trips k0_t11_loop.lb k0_t11_loop.ub k0_t11_loop.st) ++ L)) y
      = arg12.view.read (Elt Ideal) (arg12.view.writes (Elt Ideal) G L) y := by
  rw [View.writes_append]
  have ht : Scf.trips k0_t11_loop.lb k0_t11_loop.ub k0_t11_loop.st = 16 := trips11
  rw [ht, units11 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 _ 16 le_rfl y, if_neg (fun h => hy h.1)]

theorem skip_units12 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {v19 : BitVec 32} {v188 : FVec Ideal S256x1024 .bf16} {v190 : FVec Ideal S1024x256 .bf16} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t12 (F := Ideal) 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 (Scf.trips k0_t12_loop.lb k0_t12_loop.ub k0_t12_loop.st) ++ L)) y
      = arg12.view.read (Elt Ideal) (arg12.view.writes (Elt Ideal) G L) y := by
  rw [View.writes_append]
  have ht : Scf.trips k0_t12_loop.lb k0_t12_loop.ub k0_t12_loop.st = 32 := trips12
  rw [ht, units12 𝒱 c bd i arg1 harg1 arg2 harg2 arg3 harg3 arg4 harg4 arg5 harg5 arg6 harg6 arg7 harg7 arg8 harg8 arg9 harg9 arg10 harg10 arg11 harg11 arg12 harg12 v9 v19 v188 v190 X_arg4 X_arg5 X_arg6 X_arg11 _ 32 le_rfl y, if_neg (fun h => hy h.1)]

theorem skip_units13 {𝒱 : Variants} {c : Dev nD} {bd : Option 𝒱.V} {i : grid0.Coords} {arg1 : Memref sig .tc .vmem S512x512 .i32} {harg1 : arg1.IsWhole} {arg2 : Memref sig .tc .vmem S512x1024 .i32} {harg2 : arg2.IsWhole} {arg3 : Memref sig .tc .vmem S1x512x1024 .i32} {harg3 : arg3.IsWhole} {arg4 : Memref sig .tc .vmem S4x1024x128 .i32} {harg4 : arg4.IsWhole} {arg5 : Memref sig .tc .vmem S4x1024x128 .i32} {harg5 : arg5.IsWhole} {arg6 : Memref sig .tc .vmem S512x512 .i32} {harg6 : arg6.IsWhole} {arg7 : Memref sig .tc .vmem S512x1024 .f32} {harg7 : arg7.IsWhole} {arg8 : Memref sig .tc .vmem S8x1024 .f32} {harg8 : arg8.IsWhole} {arg9 : Memref sig .tc .vmem S512x1024 .f32} {harg9 : arg9.IsWhole} {arg10 : Memref sig .tc .vmem S1024x512 .f32} {harg10 : arg10.IsWhole} {arg11 : Memref sig .tc .vmem S2x256x512 .f32} {harg11 : arg11.IsWhole} {arg12 : Memref sig .tc .vmem S2x512x2x512 .bf16} {harg12 : arg12.IsWhole} {v9 : BitVec 32} {X_arg4 : BufTy.Contents (Elt Ideal) arg4.view.ty} {X_arg5 : BufTy.Contents (Elt Ideal) arg5.view.ty} {X_arg6 : BufTy.Contents (Elt Ideal) arg6.view.ty} {X_arg11 : BufTy.Contents (Elt Ideal) arg11.view.ty} (G : BufTy.Contents (Elt Ideal) arg12.view.ty) (L : List (View.Piece (Elt Ideal) S2x512x2x512 .bf16)) (y : HIdx) (hy : (y 0).val ≠ (i 0).val % 2) :
    arg12.view.read (Elt Ideal) (arg12.view.writes (Elt Ideal) G (pb_k0_t13 (F := Ideal) 𝒱 c bd i arg1 harg1 arg2 harg2 arg3 harg3 arg4 harg4 arg5 harg5 arg6 harg6 arg7 harg7 arg8 harg8 arg9 harg9 arg10 harg10 arg11 harg11 arg12 harg12 v9 X_arg4 X_arg5 X_arg6 X_arg11 (Scf.trips k0_t13_loop.lb k0_t13_loop.ub k0_t13_loop.st) ++ L)) y
      = arg12.view.read (Elt Ideal) (arg12.view.writes (Elt Ideal) G L) y := by
  rw [View.writes_append]
  have ht : Scf.trips k0_t13_loop.lb k0_t13_loop.ub k0_t13_loop.st = 16 := trips13
  rw [ht, units13 𝒱 c bd i arg1 harg1 arg2 harg2 arg3 harg3 arg4 harg4 arg5 harg5 arg6 harg6 arg7 harg7 arg8 harg8 arg9 harg9 arg10 harg10 arg11 harg11 arg12 harg12 v9 X_arg4 X_arg5 X_arg6 X_arg11 _ 16 le_rfl y, if_neg (fun h => hy h.1)]

/-- The thirteen loops' places are a slot of the buffer. -/
theorem units_all {α : Type} (g : ℕ) (y : HIdx) (a b : α) {b' : α} (hb : b' = b) :
    (if inUnits g 3 48 64 y then a else if inUnits g 3 16 48 y then a else if inUnits g 3 0 16 y then a else if inUnits g 2 48 64 y then a else if inUnits g 2 16 48 y then a else if inUnits g 2 0 16 y then a else if inUnits g 1 48 64 y then a else if inUnits g 1 32 48 y then a else if inUnits g 1 16 32 y then a else if inUnits g 1 0 16 y then a else if inUnits g 0 48 64 y then a else if inUnits g 0 16 48 y then a else if inUnits g 0 0 16 y then a else b') = if (y 0).val = g % 2 then a else b := by
  subst hb
  have b1 := h1 y; have b3 := h3 y
  have hu : unitOf y < 64 := by unfold unitOf; omega
  have hk : (y 1).val / 128 < 4 := by omega
  simp only [← ite_or]
  have e : (inUnits g 3 48 64 y ∨ (inUnits g 3 16 48 y ∨ (inUnits g 3 0 16 y ∨ (inUnits g 2 48 64 y ∨ (inUnits g 2 16 48 y ∨ (inUnits g 2 0 16 y ∨ (inUnits g 1 48 64 y ∨ (inUnits g 1 32 48 y ∨ (inUnits g 1 16 32 y ∨ (inUnits g 1 0 16 y ∨ (inUnits g 0 48 64 y ∨ (inUnits g 0 16 48 y ∨ (inUnits g 0 0 16 y))))))))))))) ↔ (y 0).val = g % 2 := by
    unfold inUnits
    generalize unitOf y = u at hu ⊢
    generalize (y 1).val / 128 = k at hk ⊢
    omega
  by_cases hy : (y 0).val = g % 2
  · rw [if_pos hy, if_pos (e.2 hy)]
  · rw [if_neg hy, if_neg (fun h => hy (e.1 h))]

end Cert.KernelIdeal.Hand
end
-- ==== Proof.IdealBody.lean ====
/-
  One call of the body at the ideal instance, in terms of what it finds: the eight inputs come back as they were, the
  scratch and the output as the functions of IdealStep say.
-/
module

public import proofs.«01_k».proof.Proof.Gen.KernelIdeal.Frame
public import proofs.«01_k».proof.Proof.Gen.KernelIdeal.Skeleton
public import proofs.«01_k».proof.Proof.IdealReads
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ
set_option maxHeartbeats 8000000 in
/-- One call of the body, for any continuation: the eight inputs owned at their contents come back as they were, the
    output and the three scratch buffers at some contents. -/
theorem kernelRunV (c : Dev nD) (i : grid0.Coords) (arg1 : Memref sig .tc .vmem S512x512 .i32) (harg1 : arg1.IsWhole) (arg2 : Memref sig .tc .vmem S512x1024 .i32) (harg2 : arg2.IsWhole) (arg3 : Memref sig .tc .vmem S1x512x1024 .i32) (harg3 : arg3.IsWhole) (arg4 : Memref sig .tc .vmem S4x1024x128 .i32) (harg4 : arg4.IsWhole) (arg5 : Memref sig .tc .vmem S4x1024x128 .i32) (harg5 : arg5.IsWhole) (arg6 : Memref sig .tc .vmem S512x512 .i32) (harg6 : arg6.IsWhole) (arg7 : Memref sig .tc .vmem S512x1024 .f32) (harg7 : arg7.IsWhole) (arg8 : Memref sig .tc .vmem S8x1024 .f32) (harg8 : arg8.IsWhole) (arg9 : Memref sig .tc .vmem S512x1024 .f32) (harg9 : arg9.IsWhole) (arg10 : Memref sig .tc .vmem S1024x512 .f32) (harg10 : arg10.IsWhole) (arg11 : Memref sig .tc .vmem S2x256x512 .f32) (harg11 : arg11.IsWhole) (arg12 : Memref sig .tc .vmem S2x512x2x512 .bf16) (harg12 : arg12.IsWhole)
    (x1 : S512x512.Idx → Elt Ideal .i32) (x2 : S512x1024.Idx → Elt Ideal .i32) (x3 : S1x512x1024.Idx → Elt Ideal .i32) (x4 : S4x1024x128.Idx → Elt Ideal .i32) (x5 : S4x1024x128.Idx → Elt Ideal .i32) (x6 : S512x512.Idx → Elt Ideal .i32) (x7 : S512x1024.Idx → Elt Ideal .f32) (x8 : S8x1024.Idx → Elt Ideal .f32) (d9 : S512x1024.Idx → Elt Ideal .f32) (d10 : S1024x512.Idx → Elt Ideal .f32) (d12 : S2x512x2x512.Idx → Elt Ideal .bf16) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare d9
        ∗ owns (c : Thread nD τ) arg10 fullShare d10
        ∗ (∃ d, owns (c : Thread nD τ) arg11 fullShare d)
        ∗ owns (c : Thread nD τ) arg12 fullShare d12
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare (onext (i 0).val x7 x8 (anext (i 0).val x3 d10 d12) d9)
        ∗ owns (c : Thread nD τ) arg10 fullShare (anext (i 0).val x3 d10 d12)
        ∗ (∃ d, owns (c : Thread nD τ) arg11 fullShare d)
        ∗ owns (c : Thread nD τ) arg12 fullShare (hnext (i 0).val x1 x2 x4 x5 x6 d12)) -∗ K ⟨⟩))
      ⊢ wp frame (wpE (defs₀ (F := Ideal)) Variants.none c none) Set.univ
          (cc0_peer_dense i arg1 harg1 arg2 harg2 arg3 harg3 arg4 harg4 arg5 harg5 arg6 harg6 arg7 harg7 arg8 harg8 arg9 harg9 arg10 harg10 arg11 harg11 arg12 harg12) K := by
  simp only [cc0_peer_dense_eq_skeleton]; unfold cc0_peer_dense_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%f12, %e12, H12⟩, Hk⟩
  sl_exec
  sl_step
  have key : kernelRunV.sl.v234 c i arg1 harg1 arg2 harg2 arg3 harg3 arg4 harg4 arg5 harg5 arg6 harg6 arg7 harg7 arg8 harg8 arg9 harg9 arg10 harg10 arg11 harg11 arg12 harg12 f1 f2 f3 f4 f5 f6 f10 f11 f12 = anext (i 0).val x3 d10 d12 := by
    subst e3 e10 e12
    funext y
    obtain ⟨r, c, rfl⟩ : ∃ (r : Fin 1024) (c : Fin 512), y = ix2 r c := ⟨y 0, y 1, by funext a; fin_cases a <;> rfl⟩
    refine (load_acc arg10 _ inb_S1024x512_S1024x512_0_0 _).trans ?_
    have hr := r.isLt; have hc := c.isLt
    by_cases h1 : r.val < 512 <;> by_cases h2 : c.val < 256
    ·
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 1 (hold (i 0).val (arg12.view.read (Elt Ideal) f12)) (R := 0) (C := 0) (R3 := 0) (K := 512) inb_S1024x512_S512x256_0_0 inb_S1x512x1024_S1x256x512_0_0_512 _ (off35_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units8 _ _ z hz).trans ?_
        refine (skip_units7 _ _ z hz).trans ?_
        refine (skip_units6 _ _ z hz).trans ?_
        refine (skip_units5 _ _ z hz).trans ?_
        refine (skip_units4 _ _ z hz).trans ?_
        refine (skip_units3 _ _ z hz).trans ?_
        refine (skip_units2 _ _ z hz).trans ?_
        refine (skip_units1 _ z hz).trans ?_
        rfl
      unfold anext
      congr 1
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 0 (hold (i 0).val (arg12.view.read (Elt Ideal) f12)) (R := 0) (C := 0) (R3 := 0) (K := 0) inb_S1024x512_S512x256_0_0 inb_S1x512x1024_S1x256x512_0_0_0 _ (off1_eq i) rfl rfl ?_ r c ⟨by omega, by omega⟩ ⟨by omega, by omega⟩).trans ?_
      · intro z hz
        exact read_first arg12 f12 (i 0) inb_S2x512x2x512_S1x512x2x512_1_0_0_0 z
      congr 1
      exact read_reset arg10 f10 (i 0) inb_S1024x512_S1024x512_0_0 (ix2 r c)
    ·
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 1 (hold (i 0).val (arg12.view.read (Elt Ideal) f12)) (R := 0) (C := 256) (R3 := 0) (K := 512) inb_S1024x512_S512x256_0_256 inb_S1x512x1024_S1x256x512_0_0_512 _ (off48_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units11 _ _ z hz).trans ?_
        refine (skip_units10 _ _ z hz).trans ?_
        refine (skip_units9 _ _ z hz).trans ?_
        refine (skip_units8 _ _ z hz).trans ?_
        refine (skip_units7 _ _ z hz).trans ?_
        refine (skip_units6 _ _ z hz).trans ?_
        refine (skip_units5 _ _ z hz).trans ?_
        refine (skip_units4 _ _ z hz).trans ?_
        refine (skip_units3 _ _ z hz).trans ?_
        refine (skip_units2 _ _ z hz).trans ?_
        refine (skip_units1 _ z hz).trans ?_
        rfl
      unfold anext
      congr 1
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 0 (hold (i 0).val (arg12.view.read (Elt Ideal) f12)) (R := 0) (C := 256) (R3 := 0) (K := 0) inb_S1024x512_S512x256_0_256 inb_S1x512x1024_S1x256x512_0_0_0 _ (off10_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units2 _ _ z hz).trans ?_
        refine (skip_units1 _ z hz).trans ?_
        rfl
      congr 1
      exact read_reset arg10 f10 (i 0) inb_S1024x512_S1024x512_0_0 (ix2 r c)
    ·
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 1 (hold (i 0).val (arg12.view.read (Elt Ideal) f12)) (R := 512) (C := 0) (R3 := 256) (K := 512) inb_S1024x512_S512x256_512_0 inb_S1x512x1024_S1x256x512_0_256_512 _ (off35_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units9 _ _ z hz).trans ?_
        refine (skip_units8 _ _ z hz).trans ?_
        refine (skip_units7 _ _ z hz).trans ?_
        refine (skip_units6 _ _ z hz).trans ?_
        refine (skip_units5 _ _ z hz).trans ?_
        refine (skip_units4 _ _ z hz).trans ?_
        refine (skip_units3 _ _ z hz).trans ?_
        refine (skip_units2 _ _ z hz).trans ?_
        refine (skip_units1 _ z hz).trans ?_
        rfl
      unfold anext
      congr 1
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 0 (hold (i 0).val (arg12.view.read (Elt Ideal) f12)) (R := 512) (C := 0) (R3 := 256) (K := 0) inb_S1024x512_S512x256_512_0 inb_S1x512x1024_S1x256x512_0_256_0 _ (off1_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units1 _ z hz).trans ?_
        rfl
      congr 1
      exact read_reset arg10 f10 (i 0) inb_S1024x512_S1024x512_0_0 (ix2 r c)
    ·
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 1 (hold (i 0).val (arg12.view.read (Elt Ideal) f12)) (R := 512) (C := 256) (R3 := 256) (K := 512) inb_S1024x512_S512x256_512_256 inb_S1x512x1024_S1x256x512_0_256_512 _ (off48_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units12 _ _ z hz).trans ?_
        refine (skip_units11 _ _ z hz).trans ?_
        refine (skip_units10 _ _ z hz).trans ?_
        refine (skip_units9 _ _ z hz).trans ?_
        refine (skip_units8 _ _ z hz).trans ?_
        refine (skip_units7 _ _ z hz).trans ?_
        refine (skip_units6 _ _ z hz).trans ?_
        refine (skip_units5 _ _ z hz).trans ?_
        refine (skip_units4 _ _ z hz).trans ?_
        refine (skip_units3 _ _ z hz).trans ?_
        refine (skip_units2 _ _ z hz).trans ?_
        refine (skip_units1 _ z hz).trans ?_
        rfl
      unfold anext
      congr 1
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_neg (by omega)]
      refine (read_quad arg10 _ _ _ _ r c).trans ?_
      rw [dif_pos ⟨⟨by omega, by omega⟩, ⟨by omega, by omega⟩⟩]
      refine (up_store arg3 arg10 arg12 f3 _ _ ⟨1 - (i 0).val % 2, by omega⟩ 0 (hold (i 0).val (arg12.view.read (Elt Ideal) f12)) (R := 512) (C := 256) (R3 := 256) (K := 0) inb_S1024x512_S512x256_512_256 inb_S1x512x1024_S1x256x512_0_256_0 _ (off10_eq i) rfl rfl ?_ r c ⟨by omega, by omega⟩ ⟨by omega, by omega⟩).trans ?_
      · intro z hz
        have hz : (z 0).val ≠ (i 0).val % 2 := by rw [hz]; show 1 - (i 0).val % 2 ≠ (i 0).val % 2; omega
        refine Eq.trans ?_ (read_first arg12 f12 (i 0) inb_S2x512x2x512_S1x512x2x512_1_0_0_0 z)
        refine (skip_units5 _ _ z hz).trans ?_
        refine (skip_units4 _ _ z hz).trans ?_
        refine (skip_units3 _ _ z hz).trans ?_
        refine (skip_units2 _ _ z hz).trans ?_
        refine (skip_units1 _ z hz).trans ?_
        rfl
      congr 1
      exact read_reset arg10 f10 (i 0) inb_S1024x512_S1024x512_0_0 (ix2 r c)
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro
    subst e7 e8 e9
    exact out_store arg7 arg8 arg9 f7 f8 f9 i _ _ key inb_S512x1024_S512x1024_0_0 inb_S8x1024_S1x1024_0_0
  isplitl [H10]
  · iexists _; isplitr; swap; · iexact H10
    ipureintro
    rw [← key]
    funext y
    exact (load_acc arg10 _ inb_S1024x512_S1024x512_0_0 y).symm
  isplitl [H11]
  · iexists _, _; isplitr; swap; · iexact H11
    ipureintro; rfl
  iexists _; isplitr; swap; · iexact H12
  ipureintro
  subst e1 e2 e4 e5 e6 e12
  funext y
  rw [read_units13 (x1 := arg1.view.read (Elt Ideal) f1) (x2 := arg2.view.read (Elt Ideal) f2) (hA := ?_), read_units12 (x1 := arg1.view.read (Elt Ideal) f1) (x2 := arg2.view.read (Elt Ideal) f2) (hA := ?_), read_units11 (x1 := arg1.view.read (Elt Ideal) f1) (x2 := arg2.view.read (Elt Ideal) f2) (hA := ?_), read_units10 (x1 := arg1.view.read (Elt Ideal) f1) (x2 := arg2.view.read (Elt Ideal) f2) (hA := ?_), read_units9 (x1 := arg1.view.read (Elt Ideal) f1) (x2 := arg2.view.read (Elt Ideal) f2) (hA := ?_), read_units8 (x1 := arg1.view.read (Elt Ideal) f1) (x2 := arg2.view.read (Elt Ideal) f2) (hA := ?_), read_units7 (x1 := arg1.view.read (Elt Ideal) f1) (x2 := arg2.view.read (Elt Ideal) f2) (hA := ?_), read_units6 (x1 := arg1.view.read (Elt Ideal) f1) (x2 := arg2.view.read (Elt Ideal) f2) (hA := ?_), read_units5 (x1 := arg1.view.read (Elt Ideal) f1) (x2 := arg2.view.read (Elt Ideal) f2) (hA := ?_), read_units4 (x1 := arg1.view.read (Elt Ideal) f1) (x2 := arg2.view.read (Elt Ideal) f2) (hA := ?_), read_units3 (x1 := arg1.view.read (Elt Ideal) f1) (x2 := arg2.view.read (Elt Ideal) f2) (hA := ?_), read_units2 (x1 := arg1.view.read (Elt Ideal) f1) (x2 := arg2.view.read (Elt Ideal) f2) (hA := ?_), read_units1 (x1 := arg1.view.read (Elt Ideal) f1) (x2 := arg2.view.read (Elt Ideal) f2) (hA := ?_)]
  · refine (units_all (i 0).val _ _ _ (read_first arg12 f12 (i 0) inb_S2x512x2x512_S1x512x2x512_1_0_0_0 y)).trans ?_
    rfl
  · intro r c; exact (down_two arg1 arg2 f1 f2 0 (R := 0) inb_S512x512_S512x256_0_0 inb_S512x512_S512x256_0_256 inb_S512x1024_S128x1024_0_0 rfl arg11 _ (S := 0) inb_S2x256x512_S1x256x256_0_0_0 inb_S2x256x512_S1x256x256_0_0_256 _ 0 rfl r c)
  · intro r c; exact ((down_skip arg11 _ (S := 1) _ _ _ 0 (by decide) r c).trans (down_two arg1 arg2 f1 f2 0 (R := 0) inb_S512x512_S512x256_0_0 inb_S512x512_S512x256_0_256 inb_S512x1024_S128x1024_0_0 rfl arg11 _ (S := 0) inb_S2x256x512_S1x256x256_0_0_0 inb_S2x256x512_S1x256x256_0_0_256 _ 0 rfl r c))
  · intro r c; exact ((down_skip arg11 _ (S := 1) _ _ _ 0 (by decide) r c).trans ((down_skip arg11 _ (S := 1) _ _ _ 0 (by decide) r c).trans (down_two arg1 arg2 f1 f2 0 (R := 0) inb_S512x512_S512x256_0_0 inb_S512x512_S512x256_0_256 inb_S512x1024_S128x1024_0_0 rfl arg11 _ (S := 0) inb_S2x256x512_S1x256x256_0_0_0 inb_S2x256x512_S1x256x256_0_0_256 _ 0 rfl r c)))
  · intro r c; exact (down_two arg1 arg2 f1 f2 1 (R := 128) inb_S512x512_S512x256_0_0 inb_S512x512_S512x256_0_256 inb_S512x1024_S128x1024_128_0 rfl arg11 _ (S := 1) inb_S2x256x512_S1x256x256_1_0_0 inb_S2x256x512_S1x256x256_1_0_256 _ 1 rfl r c)
  · intro r c; exact ((down_skip arg11 _ (S := 0) _ _ _ 1 (by decide) r c).trans (down_two arg1 arg2 f1 f2 1 (R := 128) inb_S512x512_S512x256_0_0 inb_S512x512_S512x256_0_256 inb_S512x1024_S128x1024_128_0 rfl arg11 _ (S := 1) inb_S2x256x512_S1x256x256_1_0_0 inb_S2x256x512_S1x256x256_1_0_256 _ 1 rfl r c))
  · intro r c; exact ((down_skip arg11 _ (S := 0) _ _ _ 1 (by decide) r c).trans (down_two arg1 arg2 f1 f2 1 (R := 128) inb_S512x512_S512x256_0_0 inb_S512x512_S512x256_0_256 inb_S512x1024_S128x1024_128_0 rfl arg11 _ (S := 1) inb_S2x256x512_S1x256x256_1_0_0 inb_S2x256x512_S1x256x256_1_0_256 _ 1 rfl r c))
  · intro r c; exact ((down_skip arg11 _ (S := 0) _ _ _ 1 (by decide) r c).trans ((down_skip arg11 _ (S := 0) _ _ _ 1 (by decide) r c).trans (down_two arg1 arg2 f1 f2 1 (R := 128) inb_S512x512_S512x256_0_0 inb_S512x512_S512x256_0_256 inb_S512x1024_S128x1024_128_0 rfl arg11 _ (S := 1) inb_S2x256x512_S1x256x256_1_0_0 inb_S2x256x512_S1x256x256_1_0_256 _ 1 rfl r c)))
  · intro r c; exact (down_two arg1 arg2 f1 f2 2 (R := 256) inb_S512x512_S512x256_0_0 inb_S512x512_S512x256_0_256 inb_S512x1024_S128x1024_256_0 rfl arg11 _ (S := 0) inb_S2x256x512_S1x256x256_0_0_0 inb_S2x256x512_S1x256x256_0_0_256 _ 0 rfl r c)
  · intro r c; exact ((down_skip arg11 _ (S := 1) _ _ _ 0 (by decide) r c).trans (down_two arg1 arg2 f1 f2 2 (R := 256) inb_S512x512_S512x256_0_0 inb_S512x512_S512x256_0_256 inb_S512x1024_S128x1024_256_0 rfl arg11 _ (S := 0) inb_S2x256x512_S1x256x256_0_0_0 inb_S2x256x512_S1x256x256_0_0_256 _ 0 rfl r c))
  · intro r c; exact ((down_skip arg11 _ (S := 1) _ _ _ 0 (by decide) r c).trans ((down_skip arg11 _ (S := 1) _ _ _ 0 (by decide) r c).trans (down_two arg1 arg2 f1 f2 2 (R := 256) inb_S512x512_S512x256_0_0 inb_S512x512_S512x256_0_256 inb_S512x1024_S128x1024_256_0 rfl arg11 _ (S := 0) inb_S2x256x512_S1x256x256_0_0_0 inb_S2x256x512_S1x256x256_0_0_256 _ 0 rfl r c)))
  · intro r c; exact (down_two arg1 arg2 f1 f2 3 (R := 384) inb_S512x512_S512x256_0_0 inb_S512x512_S512x256_0_256 inb_S512x1024_S128x1024_384_0 rfl arg11 _ (S := 1) inb_S2x256x512_S1x256x256_1_0_0 inb_S2x256x512_S1x256x256_1_0_256 _ 1 rfl r c)
  · intro r c; exact (down_two arg1 arg2 f1 f2 3 (R := 384) inb_S512x512_S512x256_0_0 inb_S512x512_S512x256_0_256 inb_S512x1024_S128x1024_384_0 rfl arg11 _ (S := 1) inb_S2x256x512_S1x256x256_1_0_0 inb_S2x256x512_S1x256x256_1_0_256 _ 1 rfl r c)
  · intro r c; exact (down_two arg1 arg2 f1 f2 3 (R := 384) inb_S512x512_S512x256_0_0 inb_S512x512_S512x256_0_256 inb_S512x1024_S128x1024_384_0 rfl arg11 _ (S := 1) inb_S2x256x512_S1x256x256_1_0_0 inb_S2x256x512_S1x256x256_1_0_256 _ 1 rfl r c)

end Cert.KernelIdeal.Hand

end
-- ==== Proof.IdealIndex.lean ====
module

public import proofs.«01_k».proof.Proof.Gen.KernelIdeal.Frame
public import proofs.«01_k».proof.Proof.IdealStep
public import Idealize.ShloMosaic.Lib.Pipeline.ValueKit
public import Idealize.ShloMosaic.Lib.Tactic

/-! Which block each window is on at a grid point, and at which points the result's block is written back. -/

@[expose] public section

noncomputable section

namespace Cert.KernelIdeal.Hand

open Idealize.ShloMosaic Idealize.ShloMosaic.TcCoe
open Cert.KernelIdeal Cert.KernelIdeal.Gen

/-- A point's only coordinate is the point. -/
theorem coord_val : ∀ t : Fin grid0.N, (grid0.coords t 0).val = t.val := by decide +kernel

/-- The result's block is written back at the last block of each tile of tokens. -/
theorem flush_out : ∀ t : Fin grid0.N, win0_8.flush t = decide (t.val % 16 = 0 ∧ t.val ≠ 0) := by decide +kernel

theorem out_covers : win0_8.Covers := by decide +kernel

theorem index_0 : ∀ t : Fin grid0.N, win0_0.index t 0 = 0 ∧ win0_0.index t 1 = min t.val 2047 / 16 := by decide +kernel
theorem index_1 : ∀ t : Fin grid0.N, win0_1.index t 0 = min t.val 2047 % 16 ∧ win0_1.index t 1 = 0 := by decide +kernel
theorem index_2 : ∀ t : Fin grid0.N, win0_2.index t 0 = (t.val - 1) % 16 ∧ win0_2.index t 1 = 0 ∧ win0_2.index t 2 = 0 := by decide +kernel
theorem index_3 : ∀ t : Fin grid0.N, win0_3.index t 0 = min t.val 2047 / 16 ∧ win0_3.index t 1 = 0 ∧ win0_3.index t 2 = 0 := by decide +kernel
theorem index_4 : ∀ t : Fin grid0.N, win0_4.index t 0 = min t.val 2047 / 16 ∧ win0_4.index t 1 = 0 ∧ win0_4.index t 2 = 0 := by decide +kernel
theorem index_5 : ∀ t : Fin grid0.N, win0_5.index t 0 = 0 ∧ win0_5.index t 1 = min t.val 2047 / 16 := by decide +kernel
theorem index_6 : ∀ t : Fin grid0.N, win0_6.index t 0 = (t.val - 1) / 16 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = (t.val - 1) / 16 ∧ win0_8.index t 1 = 0 := by decide +kernel

end Cert.KernelIdeal.Hand

end
-- ==== Proof.IdealRun.lean ====
/-
  The run of `KernelIdeal` at the ideal instance: what its result array holds at the end. The double-buffered hidden values
  and the accumulator are carried from point to point by the launch's invariant; a tile of the result is written back at
  the last of its sixteen blocks.
-/
module

public import proofs.«01_k».proof.Proof.IdealBody
public import proofs.«01_k».proof.Proof.IdealIndex

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The grid point of a number. -/
def pt (g : ℕ) : Fin cfg0.N := ⟨min g 2048, by show min g 2048 < grid0.N; rw [N_0]; omega⟩

theorem pt_val (t : Fin cfg0.N) : pt t.val = t := by
  apply Fin.ext; have := t.isLt; show min t.val 2048 = t.val
  have h : t.val < grid0.N := this
  rw [N_0] at h; omega

/-- The hidden values computed at point `g`. -/
def hAt (c : Dev nD) (g : ℕ) (y : HIdx) : Ideal .bf16 :=
  hid g (iblk m c 0 (pt g)) (iblk m c 1 (pt g)) (iblk m c 3 (pt g)) (iblk m c 4 (pt g)) (iblk m c 5 (pt g)) y

/-- The accumulator after point `g`. -/
def accAt (c : Dev nD) : ℕ → S1024x512.Idx → Ideal .f32
  | 0 => fun _ => 0
  | g + 1 => anext (g + 1) (iblk m c 2 (pt (g + 1))) (accAt c g) (hAt m c g)

/-- The tile written at point `g`. -/
def outAt (c : Dev nD) (g : ℕ) : S512x1024.Idx → Ideal .f32 :=
  k0_pay3 (F := Ideal) (iblk m c 6 (pt g)) (accAt m c g) (fun j => iblk m c 7 (pt g) (ix2 0 ⟨(j 1).val, (j 1).isLt⟩))

/-- What the scratch holds before point `g`: the last point's hidden values in its slot, and the accumulator. -/
def Good (c : Dev nD) (g : ℕ) (d10 : S1024x512.Idx → Ideal .f32) (d12 : HIdx → Ideal .bf16) : Prop :=
  (0 < g → ∀ y : HIdx, (y 0).val = (g - 1) % 2 → d12 y = hAt m c (g - 1) y) ∧ (1 < g → d10 = accAt m c (g - 1))

theorem good_zero (c : Dev nD) (d10 : S1024x512.Idx → Ideal .f32) (d12 : HIdx → Ideal .bf16) : Good m c 0 d10 d12 :=
  ⟨fun h => absurd h (by omega), fun h => absurd h (by omega)⟩

theorem upval_congr (x3 : S1x512x1024.Idx → BitVec 32) (h h' : HIdx → Ideal .bf16) (s k : Fin 2) (r : Fin 1024) (c : Fin 512)
    (e : ∀ y : HIdx, (y 0).val = s.val → h y = h' y) : upval x3 h s k r c = upval x3 h' s k r c := by
  unfold upval
  refine Finset.sum_congr rfl fun j _ => ?_
  rw [e _ rfl]

/-- The accumulator the body leaves. -/
theorem anext_eq (c : Dev nD) (g : ℕ) (hg : 0 < g) (d10 : S1024x512.Idx → Ideal .f32) (d12 : HIdx → Ideal .bf16) (h : Good m c g d10 d12) :
    anext g (iblk m c 2 (pt g)) d10 d12 = accAt m c g := by
  obtain ⟨n, rfl⟩ : ∃ n, g = n + 1 := ⟨g - 1, by omega⟩
  funext y
  show anext (n + 1) _ d10 d12 y = anext (n + 1) _ (accAt m c n) (hAt m c n) y
  unfold anext
  have e (s : Fin 2) (hs : s.val = n % 2) (z : HIdx) (hz : (z 0).val = s.val) : hold (n + 1) d12 z = hold (n + 1) (hAt m c n) z := by
    unfold hold
    rw [if_neg (fun k => absurd k.1 (by omega)), if_neg (fun k => absurd k.1 (by omega))]
    exact h.1 (by omega) z (by rw [hz, hs, Nat.add_sub_cancel])
  rw [upval_congr _ _ _ ⟨1 - (n + 1) % 2, by omega⟩ 0 _ _ (e _ (by show 1 - (n + 1) % 2 = n % 2; omega)),
    upval_congr _ _ _ ⟨1 - (n + 1) % 2, by omega⟩ 1 _ _ (e _ (by show 1 - (n + 1) % 2 = n % 2; omega))]
  by_cases h1 : (n + 1) % 16 = 1
  · rw [if_pos h1, if_pos h1]
  · rw [if_neg h1, if_neg h1, h.2 (by omega), Nat.add_sub_cancel]

/-- The facts at the next point. -/
theorem good_succ (c : Dev nD) (g : ℕ) (d10 : S1024x512.Idx → Ideal .f32) (d12 : HIdx → Ideal .bf16) (h : Good m c g d10 d12) :
    Good m c (g + 1) (anext g (iblk m c 2 (pt g)) d10 d12)
      (hnext g (iblk m c 0 (pt g)) (iblk m c 1 (pt g)) (iblk m c 3 (pt g)) (iblk m c 4 (pt g)) (iblk m c 5 (pt g)) d12) := by
  refine ⟨fun _ y hy => ?_, fun hg => ?_⟩
  · rw [Nat.add_sub_cancel] at hy ⊢
    unfold hnext
    rw [if_pos hy]
    rfl
  · rw [Nat.add_sub_cancel]
    exact anext_eq m c g (by omega) d10 d12 h

/-- The launch's invariant before point `g`. -/
def ΦV (c : Dev nD) (g : ℕ) : sProp 𝕄 :=
  iprop(∃ (d10 : S1024x512.Idx → Elt Ideal .f32) (d12 : S2x512x2x512.Idx → Elt Ideal .bf16), ⌜Good m c g d10 d12⌝
    ∗ ((owns (c : Thread nD τ) (Memref.whole cc0_scratch0) fullShare d10 ∗ (∃ d, owns (c : Thread nD τ) (Memref.whole cc0_scratch1) fullShare d)
        ∗ owns (c : Thread nD τ) (Memref.whole cc0_scratch2) fullShare d12) ∗ (∃ r, prngReg c r)))

/-- The proof data on core `c`: every array as the region finds it, every input block left in place, the result's tiles. -/
def vdats (_ : Fin 1) (c : Dev nD) : Dat τ (Elt Ideal) Unit ℕ (UR sig nD τ) ℕ cfg0 c where
  A w := V m c (Pipeline.arrRef spec0 w)
  after := fun
    | 0, t => iblk m c 0 t
    | 1, t => iblk m c 1 t
    | 2, t => iblk m c 2 t
    | 3, t => iblk m c 3 t
    | 4, t => iblk m c 4 t
    | 5, t => iblk m c 5 t
    | 6, t => iblk m c 6 t
    | 7, t => iblk m c 7 t
    | 8, t => outAt m c t.val
    | ⟨_ + 9, h⟩, _ => absurd h (Nat.not_lt.2 (Nat.le_add_left _ _))
  Φ t := ΦV m c t.val
  q _ := fullShare
  owed _ := 0

theorem vA_eq (c : Dev nD) (w : Fin cfg0.W) : (vdats m 0 c).A w = V m c (Pipeline.arrRef spec0 w) := by dsimp only [vdats]
theorem vafter_8 (c : Dev nD) (t : Fin cfg0.N) : (vdats m 0 c).after 8 t = outAt m c t.val := by dsimp only [vdats]
theorem vbefore_0 (c : Dev nD) (t : Fin cfg0.N) (d) : (vdats m 0 c).before 0 t d = iblk m c 0 t :=
  before0_0_of m (vdats m 0 c) (vA_eq m c 0) (fun _ => rfl) t d
theorem vbefore_1 (c : Dev nD) (t : Fin cfg0.N) (d) : (vdats m 0 c).before 1 t d = iblk m c 1 t :=
  before0_1_of m (vdats m 0 c) (vA_eq m c 1) (fun _ => rfl) t d
theorem vbefore_2 (c : Dev nD) (t : Fin cfg0.N) (d) : (vdats m 0 c).before 2 t d = iblk m c 2 t :=
  before0_2_of m (vdats m 0 c) (vA_eq m c 2) (fun _ => rfl) t d
theorem vbefore_3 (c : Dev nD) (t : Fin cfg0.N) (d) : (vdats m 0 c).before 3 t d = iblk m c 3 t :=
  before0_3_of m (vdats m 0 c) (vA_eq m c 3) (fun _ => rfl) t d
theorem vbefore_4 (c : Dev nD) (t : Fin cfg0.N) (d) : (vdats m 0 c).before 4 t d = iblk m c 4 t :=
  before0_4_of m (vdats m 0 c) (vA_eq m c 4) (fun _ => rfl) t d
theorem vbefore_5 (c : Dev nD) (t : Fin cfg0.N) (d) : (vdats m 0 c).before 5 t d = iblk m c 5 t :=
  before0_5_of m (vdats m 0 c) (vA_eq m c 5) (fun _ => rfl) t d
theorem vbefore_6 (c : Dev nD) (t : Fin cfg0.N) (d) : (vdats m 0 c).before 6 t d = iblk m c 6 t :=
  before0_6_of m (vdats m 0 c) (vA_eq m c 6) (fun _ => rfl) t d
theorem vbefore_7 (c : Dev nD) (t : Fin cfg0.N) (d) : (vdats m 0 c).before 7 t d = iblk m c 7 t :=
  before0_7_of m (vdats m 0 c) (vA_eq m c 7) (fun _ => rfl) t d

/-- What the result's staging buffer is left holding at point `t`. -/
def outPost (c : Dev nD) (t : Fin cfg0.N) : sProp 𝕄 :=
  match cfg0.idle 8 (cfg0.grid.coords t) with
  | true =>
    match (cfg0.win 8).flush t with
    | false => iprop(∃ d, owns (c : Thread nD τ) (win0_8.stage (cfg0.slots t 8)) fullShare ((vdats m 0 c).before 8 t d))
    | true => owns (c : Thread nD τ) (win0_8.stage (cfg0.slots t 8)) fullShare ((vdats m 0 c).after 8 t)
  | false => owns (c : Thread nD τ) (win0_8.stage (cfg0.slots t 8)) fullShare ((vdats m 0 c).after 8 t)

theorem outPost_idle (c : Dev nD) (t : Fin cfg0.N) (h : ¬ (t.val % 16 = 0 ∧ t.val ≠ 0)) :
    outPost m c t = iprop(∃ d, owns (c : Thread nD τ) (win0_8.stage (cfg0.slots t 8)) fullShare ((vdats m 0 c).before 8 t d)) := by
  have h1 : cfg0.idle 8 (cfg0.grid.coords t) = true := by
    show (!(k0_cond3 (grid0.coords t) == 1#1)) = true
    have := fun k => h (by have := (lastBit_iff (grid0.coords t)).1 k; rwa [coord_val] at this)
    simpa using this
  have h2 : (cfg0.win 8).flush t = false := by
    show win0_8.flush t = false
    rw [flush_out t, decide_eq_false h]
  unfold outPost
  rw [h1, h2]

theorem outPost_last (c : Dev nD) (t : Fin cfg0.N) (h : t.val % 16 = 0 ∧ t.val ≠ 0) :
    outPost m c t = owns (c : Thread nD τ) (win0_8.stage (cfg0.slots t 8)) fullShare (outAt m c t.val) := by
  have h1 : cfg0.idle 8 (cfg0.grid.coords t) = false := by
    show (!(k0_cond3 (grid0.coords t) == 1#1)) = false
    rw [(lastBit_iff (grid0.coords t)).2 (by rwa [coord_val])]
    rfl
  unfold outPost
  rw [h1, vafter_8]

/-- What the body is called with at point `t`, and what it returns. -/
def vbodyPre (c : Dev nD) (t : Fin cfg0.N) : sProp 𝕄 :=
  iprop((vdats m 0 c).Φ t.castSucc ∗ (vdats m 0 c).owesAt () t.castSucc
    ∗ (∃ d, owns (c : Thread nD τ) (win0_0.stage (cfg0.slots t 0)) fullShare ((vdats m 0 c).before 0 t d))
    ∗ (∃ d, owns (c : Thread nD τ) (win0_1.stage (cfg0.slots t 1)) fullShare ((vdats m 0 c).before 1 t d))
    ∗ (∃ d, owns (c : Thread nD τ) (win0_2.stage (cfg0.slots t 2)) fullShare ((vdats m 0 c).before 2 t d))
    ∗ (∃ d, owns (c : Thread nD τ) (win0_3.stage (cfg0.slots t 3)) fullShare ((vdats m 0 c).before 3 t d))
    ∗ (∃ d, owns (c : Thread nD τ) (win0_4.stage (cfg0.slots t 4)) fullShare ((vdats m 0 c).before 4 t d))
    ∗ (∃ d, owns (c : Thread nD τ) (win0_5.stage (cfg0.slots t 5)) fullShare ((vdats m 0 c).before 5 t d))
    ∗ (∃ d, owns (c : Thread nD τ) (win0_6.stage (cfg0.slots t 6)) fullShare ((vdats m 0 c).before 6 t d))
    ∗ (∃ d, owns (c : Thread nD τ) (win0_7.stage (cfg0.slots t 7)) fullShare ((vdats m 0 c).before 7 t d))
    ∗ (∃ d, owns (c : Thread nD τ) (win0_8.stage (cfg0.slots t 8)) fullShare ((vdats m 0 c).before 8 t d)))
def vbodyPost (c : Dev nD) (t : Fin cfg0.N) : sProp 𝕄 :=
  iprop((vdats m 0 c).Φ t.succ ∗ (vdats m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ owns (c : Thread nD τ) (win0_6.stage (cfg0.slots t 6)) fullShare (iblk m c 6 t)
    ∗ owns (c : Thread nD τ) (win0_7.stage (cfg0.slots t 7)) fullShare (iblk m c 7 t)
    ∗ outPost m c t)

/-- The body at a point. -/
theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  rw [show (vdats m 0 c).owesAt () t.succ = (vdats m 0 c).owesAt () t.castSucc from rfl,
    show (vdats m 0 c).Φ t.castSucc = ΦV m c t.val from rfl, show (vdats m 0 c).Φ t.succ = ΦV m c (t.val + 1) from rfl]
  unfold ΦV
  simp only [vbefore_0, vbefore_1, vbefore_2, vbefore_3, vbefore_4, vbefore_5, vbefore_6, vbefore_7]
  iintro ⟨⟨%d10, %d12, %hG, ⟨S0, S1, S2⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩⟩
  iapply (kernelRunV c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) (iblk m c 7 t) ((vdats m 0 c).before 8 t d8) d10 d12 _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [S0]; · iexact S0
  isplitl [S1]; · iexact S1
  isplitl [S2]; · iexact S2
  iintro ⟨W0, W1, W2, W3, W4, W5, W6, W7, W8, S0, S1, S2⟩
  isplitl [S0 S1 S2 Hg]
  · iexists (anext (grid0.coords t 0).val (iblk m c 2 t) d10 d12)
    iexists (hnext (grid0.coords t 0).val (iblk m c 0 t) (iblk m c 1 t) (iblk m c 3 t) (iblk m c 4 t) (iblk m c 5 t) d12)
    isplitr
    · ipureintro
      have := good_succ m c t.val d10 d12 hG
      rw [pt_val] at this
      rw [coord_val]
      exact this
    isplitl [S0 S1 S2]
    · isplitl [S0]; · iexact S0
      isplitl [S1]; · iexact S1
      iexact S2
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  by_cases h : t.val % 16 = 0 ∧ t.val ≠ 0
  · rw [outPost_last m c t h]
    have e : onext (grid0.coords t 0).val (iblk m c 6 t) (iblk m c 7 t) (anext (grid0.coords t 0).val (iblk m c 2 t) d10 d12) ((vdats m 0 c).before 8 t d8)
        = outAt m c t.val := by
      have ea := anext_eq m c t.val (by omega) d10 d12 hG
      rw [pt_val] at ea
      rw [coord_val, ea]
      unfold onext outAt
      rw [if_pos h, pt_val]
    rw [← e]
    iexact W8
  · rw [outPost_idle m c t h]
    have e : onext (grid0.coords t 0).val (iblk m c 6 t) (iblk m c 7 t) (anext (grid0.coords t 0).val (iblk m c 2 t) d10 d12) ((vdats m 0 c).before 8 t d8)
        = (vdats m 0 c).before 8 t d8 := by
      unfold onext
      rw [coord_val, if_neg h]
    rw [e]
    iexists d8
    iexact W8

theorem vdefs₀_row (t : Fin cfg0.N) : defs₀ (F := Ideal) .tc cfg0.body (cfg0.bodyArgs t (cfg0.slots t)) = bodyAt0 t := by
  unfold defs₀; rw [Defs.onTc_tc]

/-- The library's body obligation. -/
theorem vbody_obligation (c : Dev nD) :
    BodyObligation (vdats m 0 c) (defs₀ (F := Ideal)) Variants.none () Set.univ := fun t => by
  rw [bigSep_W0, bigSep_W0, vdefs₀_row]
  exact triple_restated (vsound_body m c t) rfl .rfl fun _ => .rfl

theorem phi_in (c : Dev nD) : (Pipeline.ΦA spec0 c : sProp 𝕄) ⊢ ΦV m c 0 := by
  unfold Pipeline.ΦA ΦV; rw [scopedRest0_eq]; simp only [owns_whole]
  iintro ⟨⟨⟨%d0, S0⟩, S1, ⟨%d2, S2⟩⟩, Hg⟩
  iexists d0
  iexists d2
  isplitr
  · ipureintro; exact good_zero m c d0 d2
  isplitl [S0 S1 S2]
  · isplitl [S0]; · iexact S0
    isplitl [S1]; · iexact S1
    iexact S2
  iexact Hg

theorem phi_out (c : Dev nD) (g : ℕ) : ΦV m c g ⊢ (Pipeline.ΦA spec0 c : sProp 𝕄) := by
  unfold Pipeline.ΦA ΦV; rw [scopedRest0_eq]; simp only [owns_whole]
  iintro ⟨%d0, %d2, %hG, ⟨S0, S1, S2⟩, Hg⟩
  isplitl [S0 S1 S2]
  · isplitl [S0]; · iexists d0; iexact S0
    isplitl [S1]; · iexact S1
    iexists d2; iexact S2
  iexact Hg

set_option backward.isDefEq.respectTransparency.types false in
theorem vrun_frame :
    θ_run defs (onTc (τ := τ) (main (F := Ideal))) (s₀ m ρ) (Pipeline.FramePost cfgs (vdats m) 0 (V m)) :=
  Pipeline.θ_run_frame_track cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m)
    (hin := phi_in m) (hout := fun c => phi_out m c _)

/-- The tile and its last point of an element of the result. -/
def outVal (c : Dev nD) (i : S65536x1024.Idx) : Ideal .f32 :=
  outAt m c (16 * ((i 0).val / 512) + 16) (ix2 ⟨(i 0).val % 512, by omega⟩ ⟨(i 1).val, (i 1).isLt⟩)

/-- The result array after the run. -/
theorem final_out (c : Dev nD) : (vdats m 0 c).arrAt 8 cfg0.N = outVal m c := by
  refine (vdats m 0 c).arrAt_eq_of_covers 8 _ out_covers fun t hf y => ?_
  blk_simp
  have hd := (flush_out t).symm.trans hf
  have ht := of_decide_eq_true hd
  have e0 : ((win0_8.blk t).view.emb y 0).val = win0_8.index t 0 * 512 + (y 0).val := by blk_simp
  have e1 : ((win0_8.blk t).view.emb y 1).val = win0_8.index t 1 * 1024 + (y 1).val := by blk_simp
  rw [(index_8 t).1] at e0
  rw [(index_8 t).2] at e1
  have hy : (y 0).val < 512 := (y 0).isLt
  rw [vafter_8]
  unfold outVal
  have eg : 16 * (((win0_8.blk t).view.emb y 0).val / 512) + 16 = t.val := by rw [e0]; omega
  rw [eg]
  refine congrArg _ ?_
  funext a; apply Fin.ext; fin_cases a
  · show (y 0).val = ((win0_8.blk t).view.emb y 0).val % 512
    rw [e0]; omega
  · show (y 1).val = ((win0_8.blk t).view.emb y 1).val
    rw [e1]; omega

/-- From any memory with zero counters every weakly fair run ends with the result array at `outVal` and the arguments as launched. -/
theorem value_run :
    θ_run defs (onTc (τ := τ) (main (F := Ideal))) ⟨m, fun _ => 0, ρ⟩ (fun r => ∀ c : Dev nD,
      r.2.mem ((c.tc : Thread nD τ).loc main_v3) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final_out m c),
      (((h c).1 0).trans (((vdats m 0 c).arrAt_in 0 rfl _).trans (vA_eq m c 0))).trans (V_main_arg0 m c),
      (((h c).1 1).trans (((vdats m 0 c).arrAt_in 1 rfl _).trans (vA_eq m c 1))).trans (V_main_arg1 m c),
      (((h c).1 2).trans (((vdats m 0 c).arrAt_in 2 rfl _).trans (vA_eq m c 2))).trans (V_main_arg2 m c),
      (((h c).1 3).trans (((vdats m 0 c).arrAt_in 3 rfl _).trans (vA_eq m c 3))).trans (V_main_arg3 m c),
      (((h c).1 4).trans (((vdats m 0 c).arrAt_in 4 rfl _).trans (vA_eq m c 4))).trans (V_main_arg4 m c),
      (((h c).1 5).trans (((vdats m 0 c).arrAt_in 5 rfl _).trans (vA_eq m c 5))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (vrun_frame m ρ)

end Cert.KernelIdeal.Hand

end
-- ==== Proof.Blocks.lean ====
/-
  The blocks of the nine windows, read from the arrays as launched: block `n` of tile `T` is `n = 16 T + b`.
-/
module

public import proofs.«01_k».proof.Proof.IdealRun
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem pt_at (n : ℕ) (h : n ≤ 2048) : (pt n).val = n := Nat.min_eq_left h

/-- The residual the region finds, at row `t`. -/
theorem entry_x (t : Fin 65536) (d : Fin 1024) :
    V m c main_v2 (ix2 t d) = m ((c : Thread nD τ).loc main_arg6) (ix3 ⟨t.val / 8192, by omega⟩ ⟨t.val % 8192, by omega⟩ d) := by
  unfold_abbrev_sides
  after_results
  pointwise []
  blk_ext []

/-- The norm's weights the region finds, one row of them repeated. -/
theorem entry_w (r : Fin 8) (d : Fin 1024) : V m c main_v1 (ix2 r d) = m ((c : Thread nD τ).loc main_arg7) (ix1 d) := by
  unfold_abbrev_sides
  after_results
  pointwise []
  blk_ext []

theorem blk_x (T : ℕ) (hT : T < 128) (r : Fin 512) (d : Fin 1024) (t : Fin 65536) (ht : t.val = 512 * T + r.val) :
    iblk m c 6 (pt (16 * T + 16)) (ix2 r d)
      = m ((c : Thread nD τ).loc main_arg6) (ix3 ⟨t.val / 8192, by omega⟩ ⟨t.val % 8192, by omega⟩ d) := by
  have e := index_6 (pt (16 * T + 16))
  have hv := pt_at (16 * T + 16) (by omega)
  have q : (16 * T + 16 - 1) / 16 = T := by omega
  rw [hv, q] at e
  rw [← entry_x m c]
  blk_ext [iblk, e.1, e.2]

theorem blk_w (n : ℕ) (r : Fin 8) (d : Fin 1024) : iblk m c 7 (pt n) (ix2 r d) = m ((c : Thread nD τ).loc main_arg7) (ix1 d) := by
  have e := index_7 (pt n)
  rw [← entry_w m c r d]
  blk_ext [iblk, e.1, e.2]

variable (n T b : ℕ) (hT : T < 128) (hb : b < 16)
include hT hb

theorem blk_tok (hn : n = 16 * T + b) (r l : Fin 512) (t : Fin 65536) (ht : t.val = 512 * T + l.val) :
    iblk m c 0 (pt n) (ix2 r l) = m ((c : Thread nD τ).loc main_arg0) (ix2 r t) := by
  have e := index_0 (pt n)
  have hv := pt_at n (by omega)
  have q : min n 2047 / 16 = T := by omega
  rw [hv, q] at e
  rw [← V_main_arg0 m c]
  blk_ext [iblk, e.1, e.2]

theorem blk_down (hn : n = 16 * T + b) (r : Fin 512) (d : Fin 1024) (R : Fin 8192) (hR : R.val = 512 * b + r.val) :
    iblk m c 1 (pt n) (ix2 r d) = m ((c : Thread nD τ).loc main_arg1) (ix2 R d) := by
  have e := index_1 (pt n)
  have hv := pt_at n (by omega)
  have q : min n 2047 % 16 = b := by omega
  rw [hv, q] at e
  rw [← V_main_arg1 m c]
  blk_ext [iblk, e.1, e.2]

theorem blk_up (hn : n = 16 * T + b) (r : Fin 512) (q : Fin 1024) :
    iblk m c 2 (pt (n + 1)) (ix3 0 r q) = m ((c : Thread nD τ).loc main_arg2) (ix3 ⟨b, hb⟩ r q) := by
  have e := index_2 (pt (n + 1))
  have hv := pt_at (n + 1) (by omega)
  have q : (n + 1 - 1) % 16 = b := by omega
  rw [hv, q] at e
  rw [← V_main_arg2 m c]
  blk_ext [iblk, e.1, e.2.1, e.2.2]

theorem blk_low (hn : n = 16 * T + b) (a : Fin 4) (r : Fin 1024) (l : Fin 128) (A : Fin 512) (hA : A.val = 4 * T + a.val) :
    iblk m c 3 (pt n) (ix3 a r l) = m ((c : Thread nD τ).loc main_arg3) (ix3 A r l) := by
  have e := index_3 (pt n)
  have hv := pt_at n (by omega)
  have q : min n 2047 / 16 = T := by omega
  rw [hv, q] at e
  rw [← V_main_arg3 m c]
  blk_ext [iblk, e.1, e.2.1, e.2.2]

theorem blk_first (hn : n = 16 * T + b) (a : Fin 4) (r : Fin 1024) (l : Fin 128) (A : Fin 512) (hA : A.val = 4 * T + a.val) :
    iblk m c 4 (pt n) (ix3 a r l) = m ((c : Thread nD τ).loc main_arg4) (ix3 A r l) := by
  have e := index_4 (pt n)
  have hv := pt_at n (by omega)
  have q : min n 2047 / 16 = T := by omega
  rw [hv, q] at e
  rw [← V_main_arg4 m c]
  blk_ext [iblk, e.1, e.2.1, e.2.2]

theorem blk_second (hn : n = 16 * T + b) (r l : Fin 512) (t : Fin 65536) (ht : t.val = 512 * T + l.val) :
    iblk m c 5 (pt n) (ix2 r l) = m ((c : Thread nD τ).loc main_arg5) (ix2 r t) := by
  have e := index_5 (pt n)
  have hv := pt_at n (by omega)
  have q : min n 2047 / 16 = T := by omega
  rw [hv, q] at e
  rw [← V_main_arg5 m c]
  blk_ext [iblk, e.1, e.2]

end Cert.KernelIdeal.Hand

end
-- ==== Proof.Target.lean ====
/-
  What both programs compute, element by element, in terms of the argument arrays: the hidden value of an expert at a
  token, the experts' outputs added, the residual, and the final normalisation.
-/
module

public import proofs.«01_k».proof.Proof.UnitValue

@[expose] public section

noncomputable section

namespace Cert.Proof

open Idealize.ShloMosaic
open Cert.KernelIdeal (S512x65536 S8192x1024 S16x512x1024 S512x1024x128 S8x8192x1024 S1024 S65536x1024)
open Cert.KernelIdeal.Hand (half term act gate)

variable (x0 : S512x65536.Idx → BitVec 32) (x1 : S8192x1024.Idx → BitVec 32) (x2 : S16x512x1024.Idx → BitVec 32)
  (x3 x4 : S512x1024x128.Idx → BitVec 32) (x5 : S512x65536.Idx → BitVec 32) (x6 : S8x8192x1024.Idx → Ideal .f32)
  (x7 : S1024.Idx → Ideal .f32)

/-- Coordinate `d` of token `t`. -/
def tokAt (t : Fin 65536) (d : Fin 1024) : Ideal .f32 := half (x0 (ix2 ⟨d.val / 2, by omega⟩ t)) (d.val % 2)

/-- Coordinate `d` of expert `e`'s first vector. -/
def downAt (e : Fin 16384) (d : Fin 1024) : Ideal .f32 := half (x1 (ix2 ⟨e.val / 2, by omega⟩ d)) (e.val % 2)

/-- Where expert `e` lies among the columns of its block of the second table. -/
def place (e : ℕ) : ℕ := e / 128 % 8 * 128 + e / 8 % 8 * 16 + e % 8 * 2 + e / 64 % 2

theorem place_lt (e : ℕ) : place e < 1024 := by unfold place; omega

/-- Coordinate `d` of expert `e`'s second vector. -/
def upAt (e : Fin 16384) (d : Fin 1024) : Ideal .f32 :=
  half (x2 (ix3 ⟨e.val / 1024, by omega⟩ ⟨d.val / 2, by omega⟩ ⟨place e.val, place_lt _⟩)) (d.val % 2)

/-- The activation of expert `e` at token `t`. -/
def actAt (t : Fin 65536) (e : Fin 16384) : Ideal .f32 := act (∑ d : Fin 1024, downAt x1 e d * tokAt x0 t d)

/-- The gate of expert `e` at token `t`. -/
def gateAt (t : Fin 65536) (e : Fin 16384) : Ideal .f32 :=
  gate (fun hd => x5 (ix2 ⟨64 * hd.val + e.val % 64, by omega⟩ t))
    (fun hd => x3 (ix3 ⟨t.val / 128, by omega⟩ ⟨128 * hd.val + e.val / 128, by omega⟩ ⟨t.val % 128, by omega⟩))
    (fun hd => x4 (ix3 ⟨t.val / 128, by omega⟩ ⟨128 * hd.val + e.val / 128, by omega⟩ ⟨t.val % 128, by omega⟩)) (e.val / 64 % 2)

/-- Expert `e`'s share of coordinate `d` at token `t`. -/
def shareAt (t : Fin 65536) (d : Fin 1024) (e : Fin 16384) : Ideal .f32 :=
  upAt x2 e d * (actAt x0 x1 t e * gateAt x3 x4 x5 t e)

/-- The residual with the experts' outputs added. -/
def resAt (t : Fin 65536) (d : Fin 1024) : Ideal .f32 :=
  x6 (ix3 ⟨t.val / 8192, by omega⟩ ⟨t.val % 8192, by omega⟩ d) + ∑ e : Fin 16384, shareAt x0 x1 x2 x3 x4 x5 t d e

/-- The normalisation of a row. -/
def norm (x w : Fin 1024 → Ideal .f32) (d : Fin 1024) : Ideal .f32 :=
  x d * FloatOps.rsqrt (FloatOps.divf (∑ k : Fin 1024, x k * x k) (Ideal.ofBits .f32 0x44800000#32) + Ideal.ofBits .f32 0x358637BD#32) * w d

/-- The result. -/
def resultAt (t : Fin 65536) (d : Fin 1024) : Ideal .f32 :=
  norm (fun k => resAt x0 x1 x2 x3 x4 x5 x6 t k) (fun k => x7 (ix1 k)) d

end Cert.Proof

end
-- ==== Proof.Match.lean ====
/-
  The kernel's result element by element: a block's hidden values, the sums over a block's experts in the order in which
  the second table holds them, their sum over a tile's sixteen blocks, and the row normalised.
-/
module

public import proofs.«01_k».proof.Proof.Blocks
public import proofs.«01_k».proof.Proof.Target

@[expose] public section

set_option maxRecDepth 16384

noncomputable section

namespace Cert.KernelIdeal.Hand

open Cert.KernelIdeal Cert.KernelIdeal.Gen
open Idealize.ShloMosaic Idealize.ShloMosaic.TcCoe
open Cert.Proof

variable (m : (ℓ : Loc nD τ sig) → Buf (Elt Ideal) ℓ) (c : Dev nD)

/-- The hidden value of expert `e` at token `t`, from the arrays as launched. -/
def hidAt (t : Fin 65536) (e : Fin 16384) : Ideal .bf16 :=
  actAt (m ((c : Thread nD τ).loc main_arg0)) (m ((c : Thread nD τ).loc main_arg1)) t e
    * gateAt (m ((c : Thread nD τ).loc main_arg3)) (m ((c : Thread nD τ).loc main_arg4)) (m ((c : Thread nD τ).loc main_arg5)) t e

/-- Expert `e`'s share of coordinate `d` at token `t`, from the arrays as launched. -/
def partAt (t : Fin 65536) (d : Fin 1024) (e : Fin 16384) : Ideal .f32 :=
  upAt (m ((c : Thread nD τ).loc main_arg2)) e d * hidAt m c t e

theorem gate_congr {e e' low low' w w' : Fin 8 → BitVec 32} {p p' : ℕ} (h1 : ∀ i, e i = e' i) (h2 : ∀ i, low i = low' i)
    (h3 : ∀ i, w i = w' i) (hp : p = p') : gate e low w p = gate e' low' w' p' := by
  obtain rfl := funext h1; obtain rfl := funext h2; obtain rfl := funext h3; rw [hp]

theorem half_congr {w w' : BitVec 32} {p p' : ℕ} (hw : w = w') (hp : p = p') : half w p = half w' p' := by rw [hw, hp]

theorem hAt_eq (n T b : ℕ) (hT : T < 128) (hb : b < 16) (hn : n = 16 * T + b) (y : HIdx) (t : Fin 65536) (e : Fin 16384)
    (ht : t.val = 512 * T + (y 3).val) (he : e.val = 1024 * b + (y 1).val / 64 * 128 + (y 2).val * 64 + (y 1).val % 64) :
    hAt m c n y = hidAt m c t e := by
  have b1 := h1 y; have b2 := h2 y; have b3 := h3 y
  unfold hAt hid hv hidden hidAt actAt gateAt aval downAt tokAt
  refine congrArg₂ (· * ·) (congrArg act (Finset.sum_congr rfl fun d _ => congrArg₂ (· * ·) (half_congr ?_ ?_) (half_congr ?_ rfl)))
    (gate_congr (fun hd => ?_) (fun hd => ?_) (fun hd => ?_) ?_)
  · refine blk_down m c n T b hT hb hn _ d _ ?_
    show e.val / 2 = 512 * b + (128 * ((y 1).val / 128) + ((y 1).val / 64 % 2 * 128 + (y 2).val * 64 + (y 1).val % 64) / 2)
    omega
  · show ((y 1).val / 64 % 2 * 128 + (y 2).val * 64 + (y 1).val % 64) % 2 = e.val % 2
    omega
  · exact blk_tok m c n T b hT hb hn _ _ t ht
  · refine (blk_second m c n T b hT hb hn _ _ t ht).trans ?_
    congr 2; apply Fin.ext
    show 64 * hd.val + (y 1).val % 64 = 64 * hd.val + e.val % 64
    omega
  · refine (blk_low m c n T b hT hb hn _ _ _ ⟨t.val / 128, by omega⟩ ?_).trans ?_
    · show t.val / 128 = 4 * T + (y 3).val / 128; omega
    · congr 2 <;> apply Fin.ext
      · show 128 * hd.val + 8 * (n % 16) + (y 1).val / 64 = 128 * hd.val + e.val / 128; omega
      · show (y 3).val % 128 = t.val % 128; omega
  · refine (blk_first m c n T b hT hb hn _ _ _ ⟨t.val / 128, by omega⟩ ?_).trans ?_
    · show t.val / 128 = 4 * T + (y 3).val / 128; omega
    · congr 2 <;> apply Fin.ext
      · show 128 * hd.val + 8 * (n % 16) + (y 1).val / 64 = 128 * hd.val + e.val / 128; omega
      · show (y 3).val % 128 = t.val % 128; omega
  · omega

/-- Column `q` of a block of the second table holds this expert of the block. -/
def unplace (q : ℕ) : ℕ := q / 128 * 128 + q % 2 * 64 + q / 2 % 64

theorem unplace_place : ∀ e : Fin 1024, unplace (place e.val) = e.val := by decide +kernel

theorem place_unplace : ∀ q : Fin 1024, place (unplace q.val) = q.val := by decide +kernel

theorem place_add (b e : ℕ) : place (1024 * b + e) = place e := by unfold place; omega

theorem unplace_lt (q : ℕ) (h : q < 1024) : unplace q < 1024 := by unfold unplace; omega

/-- The experts of a block and the columns. -/
def columns : Fin 1024 ≃ Fin 1024 where
  toFun q := ⟨unplace q.val, unplace_lt _ q.isLt⟩
  invFun e := ⟨place e.val, place_lt _⟩
  left_inv q := Fin.ext (place_unplace q)
  right_inv e := Fin.ext (unplace_place e)

/-- A block's experts' shares added, half of the columns after half. -/
theorem block_sum (n T b : ℕ) (hT : T < 128) (hb : b < 16) (hn : n = 16 * T + b) (s : Fin 2) (d : Fin 1024) (l : Fin 512)
    (t : Fin 65536) (ht : t.val = 512 * T + l.val) :
    upval (iblk m c 2 (pt (n + 1))) (hold (n + 1) (hAt m c n)) s 0 d l + upval (iblk m c 2 (pt (n + 1))) (hold (n + 1) (hAt m c n)) s 1 d l
      = ∑ e : Fin 1024, partAt m c t d ⟨1024 * b + e.val, by omega⟩ := by
  have key (q : Fin 1024) (k : Fin 2) (j : Fin 512) (hq : q.val = 512 * k.val + j.val) :
      half (iblk m c 2 (pt (n + 1)) (ix3 0 ⟨d.val / 2, by omega⟩ ⟨512 * k.val + j.val, by omega⟩)) (d.val % 2)
        * hold (n + 1) (hAt m c n) (ix4 s ⟨256 * k.val + j.val / 2, by omega⟩ ⟨j.val % 2, by omega⟩ l)
      = partAt m c t d ⟨1024 * b + (columns q).val, by have := (columns q).isLt; omega⟩ := by
    have hu : (columns q).val = unplace q.val := rfl
    have hu' := hu
    unfold unplace at hu'
    unfold partAt upAt
    refine congrArg₂ (· * ·) (half_congr ?_ rfl) ?_
    · rw [blk_up m c n T b hT hb hn]
      congr 2 <;> apply Fin.ext
      · show b = (1024 * b + (columns q).val) / 1024
        omega
      · show 512 * k.val + j.val = place (1024 * b + (columns q).val)
        rw [place_add, hu, place_unplace q, hq]
    · unfold hold
      rw [if_neg (fun h => absurd h.1 (by omega))]
      refine hAt_eq m c n T b hT hb hn _ t _ ht ?_
      show 1024 * b + (columns q).val = 1024 * b + (256 * k.val + j.val / 2) / 64 * 128 + j.val % 2 * 64 + (256 * k.val + j.val / 2) % 64
      have q1 : q.val / 2 = 256 * k.val + j.val / 2 := by omega
      have q2 : q.val % 2 = j.val % 2 := by omega
      have q3 : q.val / 128 = q.val / 2 / 64 := by rw [Nat.div_div_eq_div_mul]
      rw [q3, q1, q2] at hu'
      omega
  unfold upval
  refine Eq.trans ?_ (Equiv.sum_comp columns (fun e : Fin 1024 => partAt m c t d ⟨1024 * b + e.val, by omega⟩))
  refine Eq.trans ?_ (Fin.sum_univ_add (a := 512) (b := 512)
    (fun q : Fin (512 + 512) => partAt m c t d ⟨1024 * b + (columns q).val, by have := (columns q).isLt; omega⟩)).symm
  refine congrArg₂ (· + ·) (Finset.sum_congr rfl fun j _ => ?_) (Finset.sum_congr rfl fun j _ => ?_)
  · exact key (Fin.castAdd 512 j) 0 j (by show j.val = 512 * 0 + j.val; omega)
  · exact key (Fin.natAdd 512 j) 1 j (by show 512 + j.val = 512 * 1 + j.val; omega)

/-- The accumulator after block `b` of tile `T`: the shares of the experts so far. -/
theorem acc_eq (T : ℕ) (hT : T < 128) (d : Fin 1024) (l : Fin 512) (t : Fin 65536) (ht : t.val = 512 * T + l.val) :
    ∀ b (hb : b < 16), accAt m c (16 * T + b + 1) (ix2 d l)
      = ∑ k ∈ Finset.range (b + 1), ∑ e : Fin 1024, (if h : 1024 * k + e.val < 16384 then partAt m c t d ⟨1024 * k + e.val, h⟩ else 0) := by
  intro b
  induction b with
  | zero =>
    intro hb
    show anext (16 * T + 0 + 1) _ _ _ _ = _
    unfold anext
    rw [if_pos (by omega), zero_add, Finset.sum_range_one]
    refine (block_sum m c _ T 0 hT hb rfl _ d l t ht).trans (Finset.sum_congr rfl fun e _ => ?_)
    rw [dif_pos (by omega)]
  | succ b ih =>
    intro hb
    show anext (16 * T + (b + 1) + 1) _ _ _ _ = _
    unfold anext
    rw [if_neg (by omega), Finset.sum_range_succ, ← ih (by omega), add_assoc]
    refine congrArg₂ (· + ·) rfl ?_
    refine (block_sum m c _ T (b + 1) hT hb rfl _ d l t ht).trans (Finset.sum_congr rfl fun e _ => ?_)
    rw [dif_pos (by omega)]

/-- The accumulator when a tile is written: the shares of every expert. -/
theorem acc_last (T : ℕ) (hT : T < 128) (d : Fin 1024) (l : Fin 512) (t : Fin 65536) (ht : t.val = 512 * T + l.val) :
    accAt m c (16 * T + 16) (ix2 d l) = ∑ e : Fin 16384, partAt m c t d e := by
  refine (acc_eq m c T hT d l t ht 15 (by omega)).trans ?_
  rw [Finset.sum_fin_eq_sum_range]
  refine Eq.trans ?_ (Finset.sum_range_mul_split 16 1024 _).symm
  refine Finset.sum_congr rfl fun k _ => ?_
  rw [Finset.sum_range]
  refine Finset.sum_congr rfl fun e _ => ?_
  simp only [Nat.mul_comm 1024 k]

/-- A row of the result. -/
theorem pay_apply (v : S512x1024.Idx → Ideal .f32) (acc : S1024x512.Idx → Ideal .f32) (w : S1x1024.Idx → Ideal .f32) (r : Fin 512) (d : Fin 1024) :
    k0_pay3 (F := Ideal) v acc w (ix2 r d)
      = Cert.Proof.norm (fun k => v (ix2 r k) + acc (ix2 k r)) (fun k => w (ix2 0 k)) d := by
  unfold Cert.Proof.norm
  pointwise [k0_pay3]

theorem outVal_eq (t : Fin 65536) (d : Fin 1024) :
    outVal m c (ix2 t d) = resultAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) t d := by
  have hT : t.val / 512 < 128 := by omega
  show outAt m c (16 * (t.val / 512) + 16) (ix2 ⟨t.val % 512, _⟩ ⟨d.val, _⟩) = _
  unfold outAt
  rw [pay_apply]
  unfold resultAt
  refine congrArg₂ (fun f g => Cert.Proof.norm f g d) (funext fun k => ?_) (funext fun k => ?_)
  · unfold resAt
    rw [blk_x m c (t.val / 512) hT ⟨t.val % 512, by omega⟩ k t (by show t.val = 512 * (t.val / 512) + t.val % 512; omega),
      acc_last m c (t.val / 512) hT k ⟨t.val % 512, by omega⟩ t (by show t.val = 512 * (t.val / 512) + t.val % 512; omega)]
    rfl
  · exact blk_w m c _ 0 k

end Cert.KernelIdeal.Hand

end
-- ==== Proof.RefValue.lean ====
/-
  The reference's result, element by element.
-/
module

public import proofs.«01_k».proof.Proof.Gen.ReferenceIdeal.Run
public import proofs.«01_k».proof.Proof.Gen.ReferenceIdeal.Read
public import proofs.«01_k».proof.Proof.Target
public import Idealize.ShloMosaic.Lib.BitcastConvert
public import Idealize.ShloMosaic.Lib.Pointwise
public import Idealize.ShloMosaic.Lib.IdealHost

@[expose] public section

set_option maxRecDepth 16384

noncomputable section

namespace Cert.Proof

open Idealize.ShloMosaic
open Cert.ReferenceIdeal Cert.ReferenceIdeal.Gen Cert.ReferenceIdeal.Read
open Cert.KernelIdeal.Hand (half term act gate)

/-- A word's half read off the pair of bf16 numbers the word is converted to. -/
theorem pair_apply {t s : Shape} (x : IVec s 32) (h : s.SplitsWords 32 t 16) (j : t.Idx) (i : s.Idx) (p : ℕ)
    (hi : ∀ a : Fin s.rank, (h.drop j a).val = (i a).val) (hp : (j h.axis).val = p) :
    bitcastToFloat (F := Ideal) .bf16 (Host.bitcastConvertNarrow t 16 x h) j = half (x i) p := by
  have e : h.drop j = i := funext fun a => Fin.ext (hi a)
  show Ideal.ofBits .bf16 ((x (h.drop j)).extractLsb' ((j h.axis).val * 16) 16) = _
  unfold half
  rw [e, hp, Nat.mul_comm]

variable (x0 : S512x65536.Idx → BitVec 32) (x1 : S8192x1024.Idx → BitVec 32) (x2 : S16x512x1024.Idx → BitVec 32)
  (x3 x4 : S512x1024x128.Idx → BitVec 32) (x5 : S512x65536.Idx → BitVec 32) (x6 : S8x8192x1024.Idx → Ideal .f32)
  (x7 : S1024.Idx → Ideal .f32)

theorem ref_tok (t : Fin 65536) (d : Fin 1024) : val_main_v3 (F := Ideal) x0 (ix2 t d) = tokAt x0 t d := by
  rw [val_main_v3_apply, val_main_v2_apply, val_main_v1_apply]
  show val_main_v0 (F := Ideal) x0 _ = _
  unfold val_main_v0 tokAt
  refine pair_apply x0 _ _ _ _ (fun a => ?_) ?_
  · fin_cases a
    · show (t.val * 1024 + d.val) / 2 % 512 = d.val / 2; omega
    · show (t.val * 1024 + d.val) / 1024 = t.val; omega
  · show (t.val * 1024 + d.val) % 2 = d.val % 2; omega

theorem ref_down (e : Fin 16384) (d : Fin 1024) : val_main_v7 (F := Ideal) x1 (ix2 e d) = downAt x1 e d := by
  rw [val_main_v7_apply, val_main_v6_apply, val_main_v5_apply]
  show val_main_v4 (F := Ideal) x1 _ = _
  unfold val_main_v4 downAt
  refine pair_apply x1 _ _ _ _ (fun a => ?_) ?_
  · fin_cases a
    · show (e.val * 1024 + d.val) / 2048 = e.val / 2; omega
    · show (e.val * 1024 + d.val) % 1024 = d.val; omega
  · show (e.val * 1024 + d.val) / 1024 % 2 = e.val % 2; omega

theorem ref_low (t : Fin 65536) (hd : Fin 8) (k : Fin 128) (p : Fin 2) :
    val_main_v17 (F := Ideal) x3 (ix4 t hd k p)
      = half (x3 (ix3 ⟨t.val / 128, by omega⟩ ⟨128 * hd.val + k.val, by omega⟩ ⟨t.val % 128, by omega⟩)) p.val := by
  have h1 := t.isLt; have h2 := hd.isLt; have h3 := k.isLt; have h4 := p.isLt
  have e17 : idx_main_v17 (ix4 t hd k p) = ix5 ⟨t.val / 128, by omega⟩ ⟨t.val % 128, by omega⟩ hd k p := by
    funext a; apply Fin.ext; fin_cases a
    · show (((t.val * 8 + hd.val) * 128 + k.val) * 2 + p.val) / 262144 = t.val / 128; omega
    · show (((t.val * 8 + hd.val) * 128 + k.val) * 2 + p.val) / 2048 % 128 = t.val % 128; omega
    · show (((t.val * 8 + hd.val) * 128 + k.val) * 2 + p.val) / 256 % 8 = hd.val; omega
    · show (((t.val * 8 + hd.val) * 128 + k.val) * 2 + p.val) / 2 % 128 = k.val; omega
    · show (((t.val * 8 + hd.val) * 128 + k.val) * 2 + p.val) % 2 = p.val; omega
  rw [val_main_v17_apply, e17, val_main_v16_apply, val_main_v15_apply, val_main_v14_apply]
  show val_main_v13 (F := Ideal) x3 _ = _
  unfold val_main_v13
  clear e17
  generalize (⟨t.val / 128, by omega⟩ : Fin 512) = T
  generalize (⟨t.val % 128, by omega⟩ : Fin 128) = L
  have q1 := T.isLt; have q2 := L.isLt
  refine pair_apply x3 _ _ _ _ (fun a => ?_) ?_
  · fin_cases a
    · show ((((T.val * 8 + hd.val) * 128 + k.val) * 128 + L.val) * 2 + p.val) / 262144 = T.val; omega
    · show ((((T.val * 8 + hd.val) * 128 + k.val) * 128 + L.val) * 2 + p.val) / 256 % 1024 = 128 * hd.val + k.val; omega
    · show ((((T.val * 8 + hd.val) * 128 + k.val) * 128 + L.val) * 2 + p.val) / 2 % 128 = L.val; omega
  · show ((((T.val * 8 + hd.val) * 128 + k.val) * 128 + L.val) * 2 + p.val) % 2 = p.val; omega

theorem ref_second (t : Fin 65536) (hd : Fin 8) (p : Fin 2) (k : Fin 64) :
    val_main_v26 (F := Ideal) x5 (ix4 t hd p k) = half (x5 (ix2 ⟨64 * hd.val + k.val, by omega⟩ t)) p.val := by
  rw [val_main_v26_apply, val_main_v25_apply, val_main_v24_apply]
  show val_main_v23 (F := Ideal) x5 _ = _
  unfold val_main_v23
  have h1 := t.isLt; have h2 := hd.isLt; have h3 := k.isLt; have h4 := p.isLt
  refine pair_apply x5 _ _ _ _ (fun a => ?_) ?_
  · fin_cases a
    · simp [idx_main_v25, idx_main_v26]; omega
    · simp [idx_main_v25, idx_main_v26]; omega
  · show (((hd.val * 64 + k.val) * 65536 + t.val) * 2 + p.val) % 2 = p.val
    omega

theorem ref_first (t : Fin 65536) (hd : Fin 8) (k : Fin 128) (p : Fin 2) :
    val_main_v22 (F := Ideal) x4 (ix4 t hd k p)
      = half (x4 (ix3 ⟨t.val / 128, by omega⟩ ⟨128 * hd.val + k.val, by omega⟩ ⟨t.val % 128, by omega⟩)) p.val :=
  ref_low x4 t hd k p

theorem ref_up (e : Fin 16384) (d : Fin 1024) : val_main_v12 (F := Ideal) x2 (ix2 e d) = upAt x2 e d := by
  have he := e.isLt; have hd := d.isLt
  let i7 : S16x8x2x8x8x512x2.Idx := fun a => match a with
    | ⟨0, _⟩ => ⟨e.val / 1024, by show _ < 16; omega⟩
    | ⟨1, _⟩ => ⟨e.val / 128 % 8, by show _ < 8; omega⟩
    | ⟨2, _⟩ => ⟨e.val / 64 % 2, by show _ < 2; omega⟩
    | ⟨3, _⟩ => ⟨e.val / 8 % 8, by show _ < 8; omega⟩
    | ⟨4, _⟩ => ⟨e.val % 8, by show _ < 8; omega⟩
    | ⟨5, _⟩ => ⟨d.val / 2, by show _ < 512; omega⟩
    | ⟨6, _⟩ => ⟨d.val % 2, by show _ < 2; omega⟩
  have h12 : val_main_v12 (F := Ideal) x2 (ix2 e d) = val_main_v11 (F := Ideal) x2 i7 := by
    unfold val_main_v12
    refine shapeCast_apply _ _ _ _ ?_
    rw [rowMajor_val7 (d := ![16, 8, 2, 8, 8, 512, 2]) i7 1048576 131072 65536 8192 1024 2 rfl rfl rfl rfl rfl rfl, Shape.rowMajor_val_two]
    show e.val / 1024 * 1048576 + e.val / 128 % 8 * 131072 + e.val / 64 % 2 * 65536 + e.val / 8 % 8 * 8192 + e.val % 8 * 1024 + d.val / 2 * 2 + d.val % 2
      = e.val * 1024 + d.val
    omega
  have h10 : val_main_v10 (F := Ideal) x2 (idx_main_v11 i7)
      = val_main_v9 (F := Ideal) x2 (ix4 ⟨e.val / 1024, by omega⟩ ⟨d.val / 2, by omega⟩ ⟨place e.val, place_lt _⟩ ⟨d.val % 2, by omega⟩) := by
    unfold val_main_v10
    refine shapeCast_apply _ _ _ _ ?_
    rw [rowMajor_val7 (d := ![16, 512, 8, 8, 8, 2, 2]) (idx_main_v11 i7) 1048576 2048 256 32 4 2 rfl rfl rfl rfl rfl rfl, Shape.rowMajor_val_four]
    show ((e.val / 1024 * 512 + d.val / 2) * 1024 + place e.val) * 2 + d.val % 2
      = e.val / 1024 * 1048576 + d.val / 2 * 2048 + e.val / 128 % 8 * 256 + e.val / 8 % 8 * 32 + e.val % 8 * 4 + e.val / 64 % 2 * 2 + d.val % 2
    unfold place
    omega
  rw [h12, val_main_v11_apply, h10, val_main_v9_apply]
  show val_main_v8 (F := Ideal) x2 _ = _
  unfold val_main_v8 upAt
  refine pair_apply x2 _ _ _ _ (fun a => ?_) rfl
  fin_cases a <;> rfl

theorem ref_act (t : Fin 65536) (e : Fin 16384) : val_main_v33 (F := Ideal) x0 x1 (ix2 t e) = actAt x0 x1 t e := by
  have h27 : val_main_v27 (F := Ideal) x0 x1 (ix2 t e) = ∑ d : Fin 1024, downAt x1 e d * tokAt x0 t d := by
    rw [val_main_v27_apply]
    refine Finset.sum_congr rfl fun d _ => ?_
    rw [mul_comm]
    exact congrArg₂ (· * ·) ((congrArg _ (funext fun a => by fin_cases a <;> rfl)).trans (ref_down x1 e d))
      ((congrArg _ (funext fun a => by fin_cases a <;> rfl)).trans (ref_tok x0 t d))
  rw [val_main_v33_apply, val_main_v32_apply, val_main_v31_apply, val_main_cst_0_apply, val_main_v30_apply, val_main_v29_apply,
    val_main_v28_apply, val_main_cst_apply, h27]
  unfold actAt act
  show _ * (Ideal.ofBits .f32 0x3F800000#32 + _) = _
  rw [Ideal.ofBits_one_f32]
  rfl

/-- One head's term at a token, first key, half and position. -/
theorem ref_term (t : Fin 65536) (hd : Fin 8) (k : Fin 128) (p : Fin 2) (q : Fin 64) :
    val_main_v43 (F := Ideal) x3 x4 x5 (ix5 t hd k p q)
      = term (half (x5 (ix2 ⟨64 * hd.val + q.val, by omega⟩ t)) p.val)
          (half (x3 (ix3 ⟨t.val / 128, by omega⟩ ⟨128 * hd.val + k.val, by omega⟩ ⟨t.val % 128, by omega⟩)) p.val)
          (half (x4 (ix3 ⟨t.val / 128, by omega⟩ ⟨128 * hd.val + k.val, by omega⟩ ⟨t.val % 128, by omega⟩)) p.val) := by
  have e36 : val_main_v36 (F := Ideal) x5 (ix5 t hd k p q) = half (x5 (ix2 ⟨64 * hd.val + q.val, by omega⟩ t)) p.val := by
    rw [val_main_v36_apply, val_main_v34_apply]
    exact (congrArg _ (funext fun a => by fin_cases a <;> rfl)).trans (ref_second x5 t hd p q)
  have e40 : val_main_v40 (F := Ideal) x5 (ix5 t hd k p q) = half (x5 (ix2 ⟨64 * hd.val + q.val, by omega⟩ t)) p.val := by
    rw [val_main_v40_apply, val_main_v34_apply]
    exact (congrArg _ (funext fun a => by fin_cases a <;> rfl)).trans (ref_second x5 t hd p q)
  have e37 : val_main_v37 (F := Ideal) x3 (ix5 t hd k p q)
      = half (x3 (ix3 ⟨t.val / 128, by omega⟩ ⟨128 * hd.val + k.val, by omega⟩ ⟨t.val % 128, by omega⟩)) p.val := by
    rw [val_main_v37_apply, val_main_v35_apply]
    exact (congrArg _ (funext fun a => by fin_cases a <;> rfl)).trans (ref_low x3 t hd k p)
  have e41 : val_main_v41 (F := Ideal) x4 (ix5 t hd k p q)
      = half (x4 (ix3 ⟨t.val / 128, by omega⟩ ⟨128 * hd.val + k.val, by omega⟩ ⟨t.val % 128, by omega⟩)) p.val := by
    rw [val_main_v41_apply, val_main_v39_apply]
    exact (congrArg _ (funext fun a => by fin_cases a <;> rfl)).trans (ref_first x4 t hd k p)
  rw [val_main_v43_apply, val_main_v38_apply, val_main_v42_apply, e36, e37, e40, e41, val_main_call0_v1_apply, val_main_call0_v0_apply, val_main_cst_1_apply]
  generalize half (x5 _) _ = a
  generalize half (x3 _) _ = b
  generalize half (x4 _) _ = c
  unfold term
  by_cases h : b ≤ a
  · rw [if_pos h]
    have : FloatOps.cmpf (F := Ideal) (φ := .f32) .oge a b = 1#1 := by
      show Ideal.cmp .oge a b = 1#1
      simp [Ideal.cmp, h]
    rw [this]; rfl
  · rw [if_neg h]
    have : FloatOps.cmpf (F := Ideal) (φ := .f32) .oge a b = 0#1 := by
      show Ideal.cmp .oge a b = 0#1
      simp [Ideal.cmp, h]
    rw [this]
    show Ideal.ofBits .f32 0x00000000#32 = 0
    exact Ideal.ofBits_zero_f32

theorem ref_gate (t : Fin 65536) (e : Fin 16384) : val_main_v45 (F := Ideal) x3 x4 x5 (ix2 t e) = gateAt x3 x4 x5 t e := by
  have he := e.isLt; have ht := t.isLt
  rw [val_main_v45_apply, val_main_v44_apply, val_main_cst_2_apply]
  have h0 : (FloatOps.ofBits (F := Ideal) .f32 0x00000000#32 : Ideal .f32) = 0 := Ideal.ofBits_zero_f32
  rw [h0, zero_add]
  have hk (hd : Fin 8) : val_main_v43 (F := Ideal) x3 x4 x5 (idx_main_v44 (idx_main_v45 (ix2 t e)) hd)
      = val_main_v43 (F := Ideal) x3 x4 x5 (ix5 t hd ⟨e.val / 128, by omega⟩ ⟨e.val / 64 % 2, by omega⟩ ⟨e.val % 64, by omega⟩) := by
    refine congrArg _ (funext fun a => Fin.ext ?_)
    fin_cases a
    · show (t.val * 16384 + e.val) / 16384 = t.val; omega
    · rfl
    · show (t.val * 16384 + e.val) / 128 % 128 = e.val / 128; omega
    · show (t.val * 16384 + e.val) / 64 % 2 = e.val / 64 % 2; omega
    · show (t.val * 16384 + e.val) % 64 = e.val % 64; omega
  rw [Finset.sum_congr rfl fun hd _ => (hk hd).trans (ref_term x3 x4 x5 t hd _ _ _), Fin.sum_univ_eight]
  rfl

theorem ref_res (t : Fin 65536) (d : Fin 1024) :
    val_main_v49 (F := Ideal) x0 x1 x2 x3 x4 x5 x6 (ix2 t d) = resAt x0 x1 x2 x3 x4 x5 x6 t d := by
  have ht := t.isLt; have hd := d.isLt
  rw [val_main_v49_apply, val_main_v48_apply, val_main_v47_apply]
  unfold resAt
  refine congrArg₂ (· + ·) (congrArg x6 (funext fun a => Fin.ext ?_)) (Finset.sum_congr rfl fun e _ => ?_)
  · fin_cases a
    · show (t.val * 1024 + d.val) / 8388608 = t.val / 8192; omega
    · show (t.val * 1024 + d.val) / 1024 % 8192 = t.val % 8192; omega
    · show (t.val * 1024 + d.val) % 1024 = d.val; omega
  · unfold shareAt
    rw [mul_comm]
    refine congrArg₂ (· * ·) ((congrArg _ (funext fun a => by fin_cases a <;> rfl)).trans (ref_up x2 e d)) ?_
    refine (congrArg _ (show lidx_main_v47 (ix2 t d) e = ix2 t e from funext fun a => by fin_cases a <;> rfl)).trans ?_
    rw [val_main_v46_apply, ref_gate, ref_act]
    exact mul_comm _ _

theorem ref_result (t : Fin 65536) (d : Fin 1024) :
    val_main_v62 (F := Ideal) x0 x1 x2 x3 x4 x5 x6 x7 (ix2 t d) = resultAt x0 x1 x2 x3 x4 x5 x6 x7 t d := by
  rw [val_main_v62_apply, val_main_v61_apply, val_main_v60_apply, val_main_v59_apply, val_main_v58_apply, val_main_v57_apply,
    val_main_v56_apply, val_main_v55_apply, val_main_cst_5_apply, val_main_v54_apply, val_main_v53_apply, val_main_cst_4_apply,
    val_main_v52_apply, val_main_v51_apply, val_main_cst_3_apply, ref_res]
  have h0 : (FloatOps.ofBits (F := Ideal) .f32 0x00000000#32 : Ideal .f32) = 0 := Ideal.ofBits_zero_f32
  rw [h0, zero_add]
  have hs : ∑ k : Fin 1024, val_main_v50 (F := Ideal) x0 x1 x2 x3 x4 x5 x6 (idx_main_v51 (idx_main_v52 (idx_main_v58 (ix2 t d))) k)
      = ∑ k : Fin 1024, resAt x0 x1 x2 x3 x4 x5 x6 t k * resAt x0 x1 x2 x3 x4 x5 x6 t k := by
    refine Finset.sum_congr rfl fun k _ => ?_
    refine (congrArg _ (show idx_main_v51 (idx_main_v52 (idx_main_v58 (ix2 t d))) k = ix2 t k from funext fun a => by fin_cases a <;> rfl)).trans ?_
    rw [val_main_v50_apply, ref_res]
    rfl
  rw [hs]
  unfold resultAt norm
  refine congrArg₂ (· * ·) rfl (congrArg x7 (funext fun a => by fin_cases a; rfl))

end Cert.Proof

end
-- ==== Proof.Equal.lean ====
/- The kernel and the reference compute the same result. -/
module

public import proofs.«01_k».proof.Defs
public import proofs.«01_k».proof.Proof.Match
public import proofs.«01_k».proof.Proof.RefValue

@[expose] public section

noncomputable section

open Idealize.ShloMosaic Idealize.SL.Sem

namespace Cert.Proof

theorem algebraic : Cert.algebraic_KernelIdeal_ReferenceIdeal := by
  intro m g m' g' _ h
  refine ⟨fun c => Cert.KernelIdeal.Hand.outVal m c, Cert.KernelIdeal.Hand.value_run m g, ?_⟩
  refine (θ_run Cert.ReferenceIdeal.defs _ _).mono (fun r hr c => ?_) (Cert.ReferenceIdeal.Value.run (F := Ideal) m' g')
  obtain ⟨h0, h1, h2, h3, h4, h5, h6, h7⟩ := h c
  refine ⟨(hr c).1.trans ?_, (hr c).2⟩
  rw [Cert.ReferenceIdeal.Read.val_main_v62_eq, h0, h1, h2, h3, h4, h5, h6, h7]
  funext i
  obtain ⟨t, d, rfl⟩ : ∃ (t : Fin 65536) (d : Fin 1024), i = ix2 t d := ⟨i 0, i 1, by funext a; fin_cases a <;> rfl⟩
  rw [ref_result]
  exact (Cert.KernelIdeal.Hand.outVal_eq m c t d).symm

end Cert.Proof
-- ==== Proof.InProjPieces.lean ====
/-
  The pieces of the projection's body, element by element: the normalised rows and their projection, the convolution and
  its activation, the heads' unit vectors and the gates. The four sub-blocks of 128 rows compute the same pieces.
-/
module

public import proofs.«01_k».proof.Proof.Gen.Kernel2Ideal.Skeleton
public import Idealize.ShloMosaic.Lib.Pointwise
public import Idealize.ShloMosaic.Lib.IdealHost
public import Idealize.ShloMosaic.Lib.Pipeline.ValueKit
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

/-- The vectors of 128 columns from column `o` on, each brought to length one. -/
def unitCols (o : ℕ) (h : S128x1536.Slices ![0, o] S128x128) (C : FVec Ideal S128x1536 .f32) : FVec Ideal S128x128 .f32 :=
  mulf (extractStridedSlice S128x128 ![0, o] C h)
    (broadcastTo S128x128
      (rsqrt (addf
        (shapeCast S128x1
          (multiReduction .add [1] S128 (mulf (extractStridedSlice S128x128 ![0, o] C h) (extractStridedSlice S128x128 ![0, o] C h))
            0x00000000#32 reduces_S128x128_S128 (.inl rfl) rfl) shapeCasts_S128_S128x1)
        (broadcast S128x1 (Scalar.ofBits .f32 0x358637BD#32)))) broadcasts_S128x1_S128x128)

/-- A head's keys. -/
def keyHead (o : ℕ) (h : S128x1536.Slices ![0, o] S128x128) (C : FVec Ideal S128x1536 .f32) : FVec Ideal S1x128x128 .f32 :=
  shapeCast S1x128x128 (unitCols o h C) shapeCasts_S128x128_S1x128x128

/-- A head's queries. -/
def queryHead (o : ℕ) (h : S128x1536.Slices ![0, o] S128x128) (C : FVec Ideal S128x1536 .f32) : FVec Ideal S1x128x128 .f32 :=
  shapeCast S1x128x128 (mulf (unitCols o h C) (broadcast S128x128 (Scalar.ofBits .f32 0x3DB504F3#32))) shapeCasts_S128x128_S1x128x128

/-- The column numbers of the gates' block. -/
abbrev cols : IVec S128x128 32 := iota Kind.tc S128x128 32 [1] iota_S128x128_d1_w32

/-- The gates' block of normalised rows. -/
def gateBlk (L : FVec Ideal S128x128 .f32) (H : FVec Ideal S128x1024 .bf16) (W : Vec Ideal S1024x128 .bf16)
    (a dt : Vec Ideal S1x128 .f32) : FVec Ideal S1x128x128 .f32 :=
  k0_pay32 L cols (k0_pay29 H W) (k0_pay30 a) (k0_pay31 H W dt)

variable (X : Vec Ideal S1x128x1024 .f32) (n : Vec Ideal S1x1024 .f32) (W : Vec Ideal S1024x2560 .bf16)
  (w : FVec Ideal S4x1536 .f32) (tl : FVec Ideal S8x1536 .f32) (R C B : FVec Ideal S128x1536 .f32) (A : FVec Ideal S136x1536 .f32)
  (L : FVec Ideal S128x128 .f32) (H : FVec Ideal S128x1024 .bf16) (G : Vec Ideal S1024x128 .bf16) (a dt : Vec Ideal S1x128 .f32)

theorem pay15_eq : k0_pay15 w tl R = queryHead 0 slices_S128x1536_o0_0_S128x128 (k0_pay14 w tl R) := rfl
theorem pay16_eq : k0_pay16 C = keyHead 512 slices_S128x1536_o0_512_S128x128 C := rfl
theorem pay17_eq : k0_pay17 C = queryHead 128 slices_S128x1536_o0_128_S128x128 C := rfl
theorem pay18_eq : k0_pay18 C = keyHead 640 slices_S128x1536_o0_640_S128x128 C := rfl
theorem pay21_eq : k0_pay21 (k0_pay19 C) (k0_pay20 C) = queryHead 256 slices_S128x1536_o0_256_S128x128 C := rfl
theorem pay22_eq : k0_pay22 C = keyHead 768 slices_S128x1536_o0_768_S128x128 C := rfl
theorem pay23_eq : k0_pay23 C = queryHead 384 slices_S128x1536_o0_384_S128x128 C := rfl
theorem pay26_eq : k0_pay26 (k0_pay24 C) (k0_pay25 C) = keyHead 896 slices_S128x1536_o0_896_S128x128 C := rfl
theorem pay32_eq : k0_pay32 L cols (k0_pay29 H G) (k0_pay30 a) (k0_pay31 H G dt) = gateBlk L H G a dt := rfl
theorem pay33_eq : k0_pay33 X n = k0_pay8 X n := rfl
theorem pay35_eq : k0_pay35 X n W = k0_pay10 X n W := rfl
theorem pay36_eq : k0_pay36 X n W = k0_pay11 (k0_pay9 X n W) := rfl
theorem pay38_eq : k0_pay38 (k0_pay37 X n W) = k0_pay12 (k0_pay9 X n W) := rfl
theorem pay39_eq : k0_pay39 R = k0_pay13 R := rfl
theorem pay40_eq : k0_pay40 w tl R = k0_pay14 w tl R := rfl
theorem pay41_eq : k0_pay41 w tl R = queryHead 0 slices_S128x1536_o0_0_S128x128 (k0_pay14 w tl R) := rfl
theorem pay43_eq : k0_pay43 (k0_pay42 w tl R) = keyHead 512 slices_S128x1536_o0_512_S128x128 (k0_pay14 w tl R) := rfl
theorem pay44_eq : k0_pay44 C = queryHead 128 slices_S128x1536_o0_128_S128x128 C := rfl
theorem pay45_eq : k0_pay45 C = keyHead 640 slices_S128x1536_o0_640_S128x128 C := rfl
theorem pay47_eq : k0_pay47 (k0_pay46 C) = queryHead 256 slices_S128x1536_o0_256_S128x128 C := rfl
theorem pay48_eq : k0_pay48 C = keyHead 768 slices_S128x1536_o0_768_S128x128 C := rfl
theorem pay49_eq : k0_pay49 C = queryHead 384 slices_S128x1536_o0_384_S128x128 C := rfl
theorem pay51_eq : k0_pay51 (k0_pay50 C) = keyHead 896 slices_S128x1536_o0_896_S128x128 C := rfl
theorem pay52_eq : k0_pay52 C = k0_pay27 C := rfl
theorem pay54_eq : k0_pay54 (k0_pay53 L cols H G a dt) = gateBlk L H G a dt := rfl
theorem pay55_eq : k0_pay55 X n = k0_pay8 X n := rfl
theorem pay57_eq : k0_pay57 X n W = k0_pay10 X n W := rfl
theorem pay58_eq : k0_pay58 X n W = k0_pay11 (k0_pay9 X n W) := rfl
theorem pay59_eq : k0_pay59 X n W = k0_pay12 (k0_pay9 X n W) := rfl
theorem pay62_eq : k0_pay62 R = k0_pay13 R := rfl
theorem pay63_eq : k0_pay63 w (k0_pay60 tl X n W) (k0_pay61 w tl X n W) = k0_pay14 w tl (k0_pay10 X n W) := rfl
theorem pay64_eq : k0_pay64 w A B = queryHead 0 slices_S128x1536_o0_0_S128x128 (k0_pay63 w A B) := rfl
theorem pay65_eq : k0_pay65 w A B = keyHead 512 slices_S128x1536_o0_512_S128x128 (k0_pay63 w A B) := rfl
theorem pay68_eq : k0_pay68 (k0_pay66 w A B) (k0_pay67 w A B) = queryHead 128 slices_S128x1536_o0_128_S128x128 (k0_pay63 w A B) := rfl
theorem pay69_eq : k0_pay69 C = keyHead 640 slices_S128x1536_o0_640_S128x128 C := rfl
theorem pay70_eq : k0_pay70 C = queryHead 256 slices_S128x1536_o0_256_S128x128 C := rfl
theorem pay73_eq : k0_pay73 (k0_pay71 C) (k0_pay72 C) = keyHead 768 slices_S128x1536_o0_768_S128x128 C := rfl
theorem pay74_eq : k0_pay74 C = queryHead 384 slices_S128x1536_o0_384_S128x128 C := rfl
theorem pay75_eq : k0_pay75 C = keyHead 896 slices_S128x1536_o0_896_S128x128 C := rfl
theorem pay76_eq : k0_pay76 C = k0_pay27 C := rfl
theorem pay77_eq : k0_pay77 L cols H G a dt = gateBlk L H G a dt := rfl
theorem pay81_eq : k0_pay81 (k0_pay78 X) (k0_pay79 n) (k0_pay80 X) = k0_pay8 X n := rfl
theorem pay84_eq : k0_pay84 (k0_pay78 X) (k0_pay79 n) (k0_pay80 X) W = k0_pay11 (k0_pay9 X n W) := rfl
theorem pay85_eq : k0_pay85 (k0_pay78 X) (k0_pay79 n) (k0_pay80 X) W = k0_pay12 (k0_pay9 X n W) := rfl
theorem pay86_eq : k0_pay86 (k0_pay78 X) (k0_pay79 n) (k0_pay80 X) W = k0_pay13 (k0_pay10 X n W) := rfl
theorem pay87_eq : k0_pay87 w tl (k0_pay78 X) (k0_pay79 n) (k0_pay80 X) W = k0_pay14 w tl (k0_pay10 X n W) := rfl
theorem pay88_eq : k0_pay88 C = queryHead 0 slices_S128x1536_o0_0_S128x128 C := rfl
theorem pay89_eq : k0_pay89 C = keyHead 512 slices_S128x1536_o0_512_S128x128 C := rfl
theorem pay90_eq : k0_pay90 C = queryHead 128 slices_S128x1536_o0_128_S128x128 C := rfl
theorem pay91_eq : k0_pay91 C = keyHead 640 slices_S128x1536_o0_640_S128x128 C := rfl
theorem pay92_eq : k0_pay92 C = queryHead 256 slices_S128x1536_o0_256_S128x128 C := rfl
theorem pay93_eq : k0_pay93 C = keyHead 768 slices_S128x1536_o0_768_S128x128 C := rfl
theorem pay96_eq : k0_pay96 (k0_pay94 C) (k0_pay95 C) = queryHead 384 slices_S128x1536_o0_384_S128x128 C := rfl
theorem pay97_eq : k0_pay97 C = keyHead 896 slices_S128x1536_o0_896_S128x128 C := rfl
theorem pay98_eq : k0_pay98 C = k0_pay27 C := rfl
theorem pay102_eq : k0_pay102 L cols (k0_pay99 H G) (k0_pay100 H G) (k0_pay101 a) dt = gateBlk L H G a dt := rfl

/-- A column's convolution at a row, from the eight rows before the sub-block and its own rows, with its activation. -/
def silu (v : Ideal .f32) : Ideal .f32 := v * Ideal.logistic v

/-- A vector brought to length one. -/
def unitVec (f : Fin 128 → Ideal .f32) (d : Fin 128) : Ideal .f32 :=
  f d * Ideal.rsqrt (∑ k, f k * f k + Ideal.ofBits .f32 0x358637BD#32)

/-- A row normalised and weighted. -/
def normRow (x v : Fin 1024 → Ideal .f32) (d : Fin 1024) : Ideal .f32 :=
  x d * Ideal.rsqrt (Ideal.div (∑ k, x k * x k) (Ideal.ofBits .f32 0x44800000#32) + Ideal.ofBits .f32 0x358637BD#32) * v d

/-- The logarithm of one plus the exponential. -/
def softplus (y : Ideal .f32) : Ideal .f32 := max y 0 + Ideal.log1p (Ideal.exp (0 - FloatOps.absf (F := Ideal) (φ := .f32) y))

theorem rows_entry (r : Fin 128) (d : Fin 1024) :
    k0_pay8 X n (ix2 r d) = normRow (fun k => X (ix3 0 r k)) (fun k => n (ix2 0 k)) d := by
  pointwise [k0_pay8]
  rfl

theorem proj_entry (r : Fin 128) (d : Fin 2560) :
    k0_pay9 X n W (ix2 r d) = ∑ k : Fin 1024, normRow (fun k => X (ix3 0 r k)) (fun k => n (ix2 0 k)) k * W (ix2 k d) := by
  simp only [← rows_entry]
  pointwise [k0_pay9]

theorem raw_entry (r : Fin 128) (d : Fin 1536) : k0_pay10 X n W (ix2 r d) = k0_pay9 X n W (ix2 r ⟨d.val, by omega⟩) := by
  pointwise [k0_pay10]

theorem z_entry (P : FVec Ideal S128x2560 .f32) (r : Fin 128) (d : Fin 512) :
    k0_pay11 P (ix3 0 r d) = P (ix2 r ⟨1536 + d.val, by omega⟩) := by
  pointwise [k0_pay11]

theorem p_entry (P : FVec Ideal S128x2560 .f32) (r : Fin 128) (d : Fin 512) :
    k0_pay12 P (ix3 0 r d) = P (ix2 r ⟨2048 + d.val, by omega⟩) := by
  pointwise [k0_pay12]

theorem v_entry (r : Fin 128) (d : Fin 512) :
    k0_pay27 C (ix3 0 r d) = C (ix2 r ⟨1024 + d.val, by omega⟩) := by
  pointwise [k0_pay27]

theorem tail_entry (r : Fin 8) (d : Fin 1536) : k0_pay13 R (ix2 r d) = R (ix2 ⟨120 + r.val, by omega⟩ d) := by
  pointwise [k0_pay13]

theorem stored_tail (v : FVec Ideal S8x1536 .f32) : k0_pay1 v = v := by
  funext i
  obtain ⟨r, d, rfl⟩ : ∃ (r : Fin 8) (d : Fin 1536), i = ix2 r d := ⟨i 0, i 1, by funext a; fin_cases a <;> rfl⟩
  pointwise [k0_pay1]

theorem zero_tail (r : Fin 8) (d : Fin 1536) : k0_pay2 (F := Ideal) (ix2 r d) = 0 := by
  pointwise [k0_pay2]

theorem taps_entry (j : Fin 4) (d : Fin 1536) : k0_pay7 w (ix2 j d) = w (ix2 j d) := by
  pointwise [k0_pay7]

/-- The activation, from the rows before: `e i` is the row eight above row `i` of the sub-block. -/
theorem act_entry (e : ℕ → Fin 1536 → Ideal .f32) (h0 : ∀ (i : Fin 8) d, tl (ix2 i d) = e i.val d)
    (h1 : ∀ (i : Fin 128) d, R (ix2 i d) = e (8 + i.val) d) (r : Fin 128) (d : Fin 1536) :
    k0_pay14 w tl R (ix2 r d)
      = silu (e (r.val + 5) d * w (ix2 0 d) + e (r.val + 6) d * w (ix2 1 d) + e (r.val + 7) d * w (ix2 2 d)
          + e (r.val + 8) d * w (ix2 3 d)) := by
  have hr := r.isLt
  have key (j : ℕ) (hj : j < 8) (q : j + r.val < 136) :
      (if h : j + r.val < 8 then tl (ix2 ⟨j + r.val, h⟩ d) else R (ix2 ⟨j + r.val - 8, by omega⟩ d)) = e (r.val + j) d := by
    split
    · rw [h0]; congr 1; show j + r.val = _; omega
    · rw [h1]; congr 1; show 8 + (j + r.val - 8) = _; omega
  pointwise [k0_pay14]
  rw [key 5 (by omega) (by omega), key 6 (by omega) (by omega), key 7 (by omega) (by omega), h1, Nat.add_comm 8]
  rfl

theorem key_entry (o : ℕ) (ho : o + 128 ≤ 1536) (h : S128x1536.Slices ![0, o] S128x128) (r d : Fin 128) :
    keyHead o h C (ix3 0 r d) = unitVec (fun k => C (ix2 r ⟨o + k.val, by omega⟩)) d := by
  pointwise [keyHead, unitCols]
  rfl

theorem query_entry (o : ℕ) (ho : o + 128 ≤ 1536) (h : S128x1536.Slices ![0, o] S128x128) (r d : Fin 128) :
    queryHead o h C (ix3 0 r d) = unitVec (fun k => C (ix2 r ⟨o + k.val, by omega⟩)) d * Ideal.ofBits .f32 0x3DB504F3#32 := by
  pointwise [queryHead, unitCols]
  rfl

theorem gate_entry (r d : Fin 128) :
    gateBlk L H G a dt (ix3 0 r d)
      = if d.val < 4 then Ideal.logistic (∑ k, H (ix2 r k) * G (ix2 k d))
        else ∑ x : Fin 128, L (ix2 r x) * ((0 - Ideal.exp (a (ix2 0 d))) * softplus ((∑ k, H (ix2 x k) * G (ix2 k d)) + dt (ix2 0 d))) := by
  have hc : IntOp.cmpi CmpIPredicate.slt (BitVec.ofNat 32 d.val) 4#32 = if d.val < 4 then 1#1 else 0#1 := by
    revert d; decide +kernel
  pointwise [gateBlk, k0_pay32, k0_pay31, k0_pay30, k0_pay29, k0_pay28]
  rw [hc]
  simp only [ne_eq, not_true_eq_false, if_false]
  split
  · rfl
  · rfl

/-- The lower triangles of the two chunks. -/
theorem lower_entry (r k : Fin 128) :
    k0_pay6 (F := Ideal) (iota Kind.tc S128x128 32 [0] iota_S128x128_d0_w32) cols k0_pay3 (64#32) k0_pay4 k0_pay5 1#32 (ix2 r k)
      = if r.val / 64 = k.val / 64 ∧ k.val ≤ r.val then 1 else 0 := by
  have hq : ∀ i : Fin 128,
      Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32))) 1#32)
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32) = BitVec.ofNat 32 (i.val / 64) := by decide +kernel
  have hc : Scalar.subi (Scalar.extui (Scalar.cmpi CmpIPredicate.sgt 64#32 0#32))
      (Scalar.extui (Scalar.cmpi CmpIPredicate.slt 64#32 0#32)) = 1#32 := by decide +kernel
  have hm : ∀ r k : Fin 128,
      IntOp.andi (IntOp.cmpi CmpIPredicate.eq (BitVec.ofNat 32 (r.val / 64)) (BitVec.ofNat 32 (k.val / 64)))
        (IntOp.cmpi CmpIPredicate.sle (BitVec.ofNat 32 k.val) (BitVec.ofNat 32 r.val))
      = if r.val / 64 = k.val / 64 ∧ k.val ≤ r.val then 1#1 else 0#1 := by decide +kernel
  pointwise [k0_pay6, k0_pay5, k0_pay4, k0_pay3]
  rw [hc, hq, hq, hm]
  split <;> rfl

end Cert.Kernel2Ideal.Hand

end
-- ==== Proof.InProjTarget.lean ====
/-
  What the projection and its reference compute, element by element, in terms of the argument arrays: the projected rows,
  the convolution's activation, the heads' queries and keys, the values, and the gates.
-/
module

public import proofs.«01_k».proof.Proof.InProjPieces

@[expose] public section

noncomputable section

namespace Cert.InProj

open Idealize.ShloMosaic
open Cert.Kernel2Ideal (S8x8192x1024 S1x1024 S1x1024x2568 S1x4x1536 S1x4)
open Cert.Kernel2Ideal.Hand (silu unitVec normRow softplus)

variable (x0 : S8x8192x1024.Idx → Ideal .f32) (x1 : S1x1024.Idx → Ideal .f32) (x2 : S1x1024x2568.Idx → Ideal .f32)
  (x3 : S1x4x1536.Idx → Ideal .f32) (x4 x5 : S1x4.Idx → Ideal .f32)

/-- The projection of row `s` of batch `b`, column `w`. -/
def projAt (b : Fin 8) (s : Fin 8192) (w : Fin 2568) : Ideal .f32 :=
  ∑ k : Fin 1024, normRow (fun k => x0 (ix3 b s k)) (fun k => x1 (ix2 0 k)) k * x2 (ix3 0 k w)

/-- The convolved columns' row `n - 8`: zero before the first row. -/
def rowAt (b : Fin 8) (n : ℕ) (w : Fin 1536) : Ideal .f32 :=
  if h : 8 ≤ n ∧ n < 8200 then projAt x0 x1 x2 b ⟨n - 8, by omega⟩ ⟨w.val, by omega⟩ else 0

/-- The activation of the convolution. -/
def actAt (b : Fin 8) (s : ℕ) (w : Fin 1536) : Ideal .f32 :=
  silu (rowAt x0 x1 x2 b (s + 5) w * x3 (ix3 0 0 w) + rowAt x0 x1 x2 b (s + 6) w * x3 (ix3 0 1 w)
    + rowAt x0 x1 x2 b (s + 7) w * x3 (ix3 0 2 w) + rowAt x0 x1 x2 b (s + 8) w * x3 (ix3 0 3 w))

/-- Column `c` of the unit vectors of the heads that start at column `o`. -/
def unitAt (o : ℕ) (ho : o + 512 ≤ 1536) (b : Fin 8) (s : ℕ) (c : Fin 512) : Ideal .f32 :=
  unitVec (fun k => actAt x0 x1 x2 x3 b s ⟨o + (c.val / 128 * 128 + k.val), by omega⟩) ⟨c.val % 128, by omega⟩

def queryAt (b : Fin 8) (s : ℕ) (c : Fin 512) : Ideal .f32 :=
  unitAt x0 x1 x2 x3 0 (by omega) b s c * Ideal.ofBits .f32 0x3DB504F3#32

def keyAt (b : Fin 8) (s : ℕ) (c : Fin 512) : Ideal .f32 := unitAt x0 x1 x2 x3 512 (by omega) b s c

/-- The gates' column `c`: eight columns of the projection, then zeros. -/
def gateIn (b : Fin 8) (s : Fin 8192) (c : Fin 128) : Ideal .f32 :=
  if h : c.val < 8 then projAt x0 x1 x2 b s ⟨2048 + c.val, by omega⟩ else 0

/-- Four numbers as columns 4 to 7 of 128. -/
def wide (y : S1x4.Idx → Ideal .f32) (c : Fin 128) : Ideal .f32 :=
  if h : 4 ≤ c.val ∧ c.val < 8 then y (ix2 0 ⟨c.val - 4, by omega⟩) else 0

/-- The logarithm of the decay at a row. -/
def decayAt (b : Fin 8) (s : Fin 8192) (c : Fin 128) : Ideal .f32 :=
  (0 - Ideal.exp (wide x4 c)) * softplus (gateIn x0 x1 x2 b s c + wide x5 c)

/-- The gates: the write strengths in columns 0 to 3, then the decays added up within the chunk. -/
def gcolAt (b : Fin 8) (s : Fin 8192) (c : Fin 128) : Ideal .f32 :=
  if c.val < 4 then Ideal.logistic (gateIn x0 x1 x2 b s c)
  else ∑ k : Fin 64, if k.val ≤ s.val % 64 then decayAt x0 x1 x2 x4 x5 b ⟨s.val / 64 * 64 + k.val, by omega⟩ c else 0

end Cert.InProj

end
-- ==== Proof.InProjBlocks.lean ====
/- The blocks of the projection's windows, read from the arguments: point `16 b + j` is tile `j` of batch `b`. -/
module

public import proofs.«01_k».proof.Proof.Gen.Kernel2Ideal.Frame
public import proofs.«01_k».proof.Proof.InProjTarget

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.InProj

variable (m : (ℓ : Loc nD τ sig) → Buf (Elt Ideal) ℓ) (c : Dev nD)

theorem index_0 : ∀ t : Fin cfg0.N, win0_0.index t = ![t.val / 16, t.val % 16, 0] := by decide +kernel
theorem index_const : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] := by decide +kernel

theorem blk_rows (t : Fin cfg0.N) (r : Fin 512) (d : Fin 1024) (b : Fin 8) (s : Fin 8192) (hb : b.val = t.val / 16)
    (hs : s.val = 512 * (t.val % 16) + r.val) :
    iblk m c 0 t (ix3 0 r d) = m ((c : Thread nD τ).loc main_arg0) (ix3 b s d) := by
  have e := index_0 t
  rw [← V_main_arg0 m c]
  blk_ext [iblk, e]

theorem word_zero : (FloatOps.sitofp (F := Ideal) FTy.f32 (0#32) : Ideal .f32) = 0 := by
  show (((0#32 : BitVec 32).toInt : ℝ) : EReal) = 0
  simp

theorem entry_1 (d : Fin 1024) : V m c main_v18 (ix2 0 d) = m ((c : Thread nD τ).loc main_arg1) (ix2 0 d) := by
  unfold_abbrev_sides
  simp only [List.flatten_cons, List.flatten_nil, List.append_nil, List.cons_append, List.nil_append]
  after_results
  pointwise []
  blk_ext []

theorem entry_2 (k : Fin 1024) (w : Fin 2560) :
    V m c main_v4 (ix2 k w)
      = m ((c : Thread nD τ).loc main_arg2) (ix3 0 k ⟨if w.val < 2048 then w.val else w.val + 8, by split <;> omega⟩) := by
  unfold_abbrev_sides
  simp only [List.flatten_cons, List.flatten_nil, List.append_nil, List.cons_append, List.nil_append]
  after_results
  pointwise []
  split <;> blk_ext []

theorem entry_3 (k : Fin 1024) (w : Fin 128) :
    V m c main_v7 (ix2 k w)
      = if h : w.val < 8 then m ((c : Thread nD τ).loc main_arg2) (ix3 0 k ⟨2048 + w.val, by omega⟩) else (0 : Ideal .f32) := by
  unfold_abbrev_sides
  simp only [List.flatten_cons, List.flatten_nil, List.append_nil, List.cons_append, List.nil_append]
  after_results
  simp only [StableHlo.TRef.toBuf, StableHlo.TRef.ofBuf, cast_cast, cast_eq]
  pointwise []
  rw [word_zero]

theorem entry_4 (k : Fin 4) (w : Fin 1536) : V m c main_v19 (ix2 k w) = m ((c : Thread nD τ).loc main_arg3) (ix3 0 k w) := by
  unfold_abbrev_sides
  simp only [List.flatten_cons, List.flatten_nil, List.append_nil, List.cons_append, List.nil_append]
  after_results
  pointwise []
  blk_ext []

theorem entry_5 (w : Fin 128) : V m c main_v14 (ix2 0 w) = wide (m ((c : Thread nD τ).loc main_arg4)) w := by
  unfold_abbrev_sides
  simp only [List.flatten_cons, List.flatten_nil, List.append_nil, List.cons_append, List.nil_append]
  after_results
  simp only [StableHlo.TRef.toBuf, StableHlo.TRef.ofBuf, cast_cast, cast_eq]
  pointwise []
  rw [word_zero]
  unfold wide
  repeat' split
  all_goals first | rfl | omega

theorem entry_6 (w : Fin 128) : V m c main_v16 (ix2 0 w) = wide (m ((c : Thread nD τ).loc main_arg5)) w := by
  unfold_abbrev_sides
  simp only [List.flatten_cons, List.flatten_nil, List.append_nil, List.cons_append, List.nil_append]
  after_results
  simp only [StableHlo.TRef.toBuf, StableHlo.TRef.ofBuf, cast_cast, cast_eq]
  pointwise []
  rw [word_zero]
  unfold wide
  repeat' split
  all_goals first | rfl | omega

variable (t : Fin cfg0.N)

theorem blk_1 (d : Fin 1024) : iblk m c 1 t (ix2 0 d) = m ((c : Thread nD τ).loc main_arg1) (ix2 0 d) := by
  have e := (index_const t).1
  rw [← entry_1 m c]
  blk_ext [iblk, e]

theorem blk_2 (k : Fin 1024) (w : Fin 2560) :
    iblk m c 2 t (ix2 k w)
      = m ((c : Thread nD τ).loc main_arg2) (ix3 0 k ⟨if w.val < 2048 then w.val else w.val + 8, by split <;> omega⟩) := by
  have e := (index_const t).2.1
  rw [← entry_2 m c]
  blk_ext [iblk, e]

theorem blk_3 (k : Fin 1024) (w : Fin 128) :
    iblk m c 3 t (ix2 k w)
      = if h : w.val < 8 then m ((c : Thread nD τ).loc main_arg2) (ix3 0 k ⟨2048 + w.val, by omega⟩) else (0 : Ideal .f32) := by
  have e := (index_const t).2.2.1
  rw [← entry_3 m c]
  blk_ext [iblk, e]

theorem blk_4 (k : Fin 4) (w : Fin 1536) : iblk m c 4 t (ix2 k w) = m ((c : Thread nD τ).loc main_arg3) (ix3 0 k w) := by
  have e := (index_const t).2.2.2.1
  rw [← entry_4 m c]
  blk_ext [iblk, e]

theorem blk_5 (w : Fin 128) : iblk m c 5 t (ix2 0 w) = wide (m ((c : Thread nD τ).loc main_arg4)) w := by
  have e := (index_const t).2.2.2.2.1
  rw [← entry_5 m c]
  blk_ext [iblk, e]

theorem blk_6 (w : Fin 128) : iblk m c 6 t (ix2 0 w) = wide (m ((c : Thread nD τ).loc main_arg5)) w := by
  have e := (index_const t).2.2.2.2.2
  rw [← entry_6 m c]
  blk_ext [iblk, e]

end Cert.Kernel2Ideal.Hand

end
-- ==== Proof.InProjRows.lean ====
/- One point's sub-blocks of 128 rows: their projected rows, the rows carried to the next one, and their activation. -/
module

public import proofs.«01_k».proof.Proof.InProjBlocks

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.InProj

variable (m : (ℓ : Loc nD τ sig) → Buf (Elt Ideal) ℓ) (c : Dev nD)

/-- The arguments. -/
abbrev a0 : S8x8192x1024.Idx → Ideal .f32 := m ((c : Thread nD τ).loc main_arg0)
abbrev a1 : S1x1024.Idx → Ideal .f32 := m ((c : Thread nD τ).loc main_arg1)
abbrev a2 : S1x1024x2568.Idx → Ideal .f32 := m ((c : Thread nD τ).loc main_arg2)
abbrev a3 : S1x4x1536.Idx → Ideal .f32 := m ((c : Thread nD τ).loc main_arg3)
abbrev a4 : S1x4.Idx → Ideal .f32 := m ((c : Thread nD τ).loc main_arg4)
abbrev a5 : S1x4.Idx → Ideal .f32 := m ((c : Thread nD τ).loc main_arg5)

/-- The batch and the first row of point `t`. -/
def batch (t : Fin cfg0.N) : Fin 8 := ⟨t.val / 16, by have h : t.val < 128 := t.isLt; omega⟩
abbrev first (t : Fin cfg0.N) : ℕ := 512 * (t.val % 16)

variable (t : Fin cfg0.N)

/-- The sub-block's rows from row `o` of the block on. -/
abbrev subRows (o : ℕ) (inb : ∀ a, ![0, o, 0] a + ![1, 128, 1024] a ≤ S1x512x1024.size a) : Vec Ideal S1x128x1024 .f32 :=
  View.ld (iblk m c 0 t) (Rect.unit ![0, o, 0] ![1, 128, 1024] inb)

theorem sub_rows (o : ℕ) (inb) (r : Fin 128) (d : Fin 1024) (s : Fin 8192) (hs : s.val = first t + o + r.val) :
    subRows m c t o inb (ix3 0 r d) = a0 m c (ix3 (batch t) s d) := by
  have ho : o + 128 ≤ 512 := inb 1
  have hs' : s.val = 512 * (t.val % 16) + o + r.val := hs
  refine Eq.trans ?_ (blk_rows m c t ⟨o + r.val, by omega⟩ d (batch t) s rfl (by show s.val = 512 * (t.val % 16) + (o + r.val); omega))
  show iblk m c 0 t _ = _
  refine congrArg _ (funext fun a => Fin.ext ?_)
  fin_cases a
  · rfl
  · show o + 1 * r.val = o + r.val; omega
  · show 0 + 1 * d.val = d.val; omega

theorem sub_norm (o : ℕ) (inb) (r : Fin 128) (d : Fin 1024) (s : Fin 8192) (hs : s.val = first t + o + r.val) :
    normRow (fun k => subRows m c t o inb (ix3 0 r k)) (fun k => iblk m c 1 t (ix2 0 k)) d
      = normRow (fun k => a0 m c (ix3 (batch t) s k)) (fun k => a1 m c (ix2 0 k)) d := by
  have e1 : (fun k => subRows m c t o inb (ix3 0 r k)) = fun k => a0 m c (ix3 (batch t) s k) :=
    funext fun k => sub_rows m c t o inb r k s hs
  have e2 : (fun k => iblk m c 1 t (ix2 0 k)) = fun k => a1 m c (ix2 0 k) := funext fun k => blk_1 m c t k
  rw [e1, e2]

theorem sub_proj (o : ℕ) (inb) (r : Fin 128) (w : Fin 2560) (s : Fin 8192) (hs : s.val = first t + o + r.val) (w' : Fin 2568)
    (hw : w'.val = if w.val < 2048 then w.val else w.val + 8) :
    k0_pay9 (subRows m c t o inb) (iblk m c 1 t) (iblk m c 2 t) (ix2 r w)
      = projAt (a0 m c) (a1 m c) (a2 m c) (batch t) s w' := by
  have e : (⟨if w.val < 2048 then w.val else w.val + 8, by split <;> omega⟩ : Fin 2568) = w' := Fin.ext hw.symm
  rw [proj_entry]
  refine Finset.sum_congr rfl fun k _ => ?_
  rw [sub_norm m c t o inb r k s hs, blk_2, e]

/-- The rows of batch `b` with eight rows before the first. -/
abbrev rowsOf (n : ℕ) (w : Fin 1536) : Ideal .f32 := rowAt (a0 m c) (a1 m c) (a2 m c) (batch t) n w

theorem sub_raw (o : ℕ) (inb) (r : Fin 128) (w : Fin 1536) :
    k0_pay10 (subRows m c t o inb) (iblk m c 1 t) (iblk m c 2 t) (ix2 r w) = rowsOf m c t (first t + o + (8 + r.val)) w := by
  have ho : o + 128 ≤ 512 := inb 1
  have hb : first t + o + r.val < 8192 := by show 512 * (t.val % 16) + o + r.val < 8192; omega
  have hw := w.isLt
  rw [raw_entry, sub_proj m c t o inb r ⟨w.val, by omega⟩ ⟨first t + o + r.val, hb⟩ rfl ⟨w.val, by omega⟩ (by
    show w.val = if w.val < 2048 then w.val else w.val + 8; rw [if_pos (by omega)])]
  unfold rowsOf rowAt
  rw [dif_pos ⟨by omega, by omega⟩]
  congr 1
  apply Fin.ext
  show first t + o + r.val = first t + o + (8 + r.val) - 8
  omega

/-- The last eight rows of a sub-block are the eight rows before the next one. -/
theorem sub_tail (o : ℕ) (inb) (r : Fin 8) (w : Fin 1536) :
    k0_pay13 (k0_pay10 (subRows m c t o inb) (iblk m c 1 t) (iblk m c 2 t)) (ix2 r w) = rowsOf m c t (first t + (o + 128) + r.val) w := by
  rw [tail_entry, sub_raw]
  congr 1
  show first t + o + (8 + (120 + r.val)) = first t + (o + 128) + r.val
  omega

theorem sub_act (o : ℕ) (inb) (tl : FVec Ideal S8x1536 .f32)
    (htl : ∀ (i : Fin 8) d, tl (ix2 i d) = rowsOf m c t (first t + o + i.val) d) (r : Fin 128) (d : Fin 1536) :
    k0_pay14 (k0_pay7 (iblk m c 4 t)) tl (k0_pay10 (subRows m c t o inb) (iblk m c 1 t) (iblk m c 2 t)) (ix2 r d)
      = actAt (a0 m c) (a1 m c) (a2 m c) (a3 m c) (batch t) (first t + o + r.val) d := by
  rw [act_entry (e := fun n w => rowsOf m c t (first t + o + n) w) (h0 := htl) (h1 := fun i w => sub_raw m c t o inb i w)]
  simp only [taps_entry, blk_4]
  unfold actAt rowsOf
  simp only [Nat.add_assoc]

section pieces

variable (n : ℕ) (C : FVec Ideal S128x1536 .f32)
  (hC : ∀ (r : Fin 128) (d : Fin 1536), C (ix2 r d) = actAt (a0 m c) (a1 m c) (a2 m c) (a3 m c) (batch t) (n + r.val) d)
include hC

theorem unit_close (o p : ℕ) (hp : p + 512 ≤ 1536) (hd : p % 128 = 0) (hop : p ≤ o ∧ o + 128 ≤ p + 512) (ho : o % 128 = 0) (r d : Fin 128)
    (s : ℕ) (k : Fin 512) (hs : s = n + r.val) (hk : p + k.val = o + d.val) :
    unitVec (fun i => C (ix2 r ⟨o + i.val, by omega⟩)) d = unitAt (a0 m c) (a1 m c) (a2 m c) (a3 m c) p hp (batch t) s k := by
  subst hs
  unfold unitAt
  have hdv : (⟨k.val % 128, by omega⟩ : Fin 128) = d := Fin.ext (by show k.val % 128 = d.val; omega)
  rw [hdv]
  congr 1
  funext i
  rw [hC]
  congr 1
  apply Fin.ext
  show o + i.val = p + (k.val / 128 * 128 + i.val)
  omega

theorem query_close (o : ℕ) (h) (hop : o + 128 ≤ 512) (ho : o % 128 = 0) (x : S1x128x128.Idx) (s : ℕ) (k : Fin 512)
    (hs : s = n + (x 1).val) (hk : k.val = o + (x 2).val) :
    queryHead o h C x = queryAt (a0 m c) (a1 m c) (a2 m c) (a3 m c) (batch t) s k := by
  obtain ⟨r, d, rfl⟩ : ∃ (r : Fin 128) (d : Fin 128), x = ix3 0 r d := ⟨x 1, x 2, by
    funext a; fin_cases a
    · exact Fin.ext (by have : (x 0).val < 1 := (x 0).isLt; show (x 0).val = 0; omega)
    · rfl
    · rfl⟩
  rw [query_entry C o (by omega), unit_close m c t n C hC o 0 (by omega) (by omega) (by omega) ho r d s k hs (by rw [hk]; show 0 + (o + d.val) = _; omega)]
  rfl

theorem key_close (o : ℕ) (h) (hop : 512 ≤ o ∧ o + 128 ≤ 1024) (ho : o % 128 = 0) (x : S1x128x128.Idx) (s : ℕ) (k : Fin 512)
    (hs : s = n + (x 1).val) (hk : 512 + k.val = o + (x 2).val) :
    keyHead o h C x = keyAt (a0 m c) (a1 m c) (a2 m c) (a3 m c) (batch t) s k := by
  obtain ⟨r, d, rfl⟩ : ∃ (r : Fin 128) (d : Fin 128), x = ix3 0 r d := ⟨x 1, x 2, by
    funext a; fin_cases a
    · exact Fin.ext (by have : (x 0).val < 1 := (x 0).isLt; show (x 0).val = 0; omega)
    · rfl
    · rfl⟩
  rw [key_entry C o (by omega), unit_close m c t n C hC o 512 (by omega) (by omega) (by omega) ho r d s k hs hk]
  rfl

theorem value_close (x : S1x128x512.Idx) (s : ℕ) (k : Fin 512) (hs : s = n + (x 1).val) (hk : k.val = (x 2).val) :
    k0_pay27 C x = actAt (a0 m c) (a1 m c) (a2 m c) (a3 m c) (batch t) s ⟨1024 + k.val, by omega⟩ := by
  obtain ⟨r, d, rfl⟩ : ∃ (r : Fin 128) (d : Fin 512), x = ix3 0 r d := ⟨x 1, x 2, by
    funext a; fin_cases a
    · exact Fin.ext (by have : (x 0).val < 1 := (x 0).isLt; show (x 0).val = 0; omega)
    · rfl
    · rfl⟩
  obtain rfl : k = d := Fin.ext hk
  rw [v_entry, hC, hs]
  rfl

end pieces

end Cert.Kernel2Ideal.Hand

end
-- ==== Proof.InProjGates.lean ====
/- One point's gates: the write strengths and the decays added up within each chunk of 64 rows. -/
module

public import proofs.«01_k».proof.Proof.InProjRows

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.InProj

/-- A row of the lower triangles of two chunks of 64 against a vector: the sum within the row's chunk. -/
theorem triangle_sum (f : Fin 128 → Ideal .f32) (r : Fin 128) :
    (∑ x : Fin 128, (if r.val / 64 = x.val / 64 ∧ x.val ≤ r.val then (1 : Ideal .f32) else 0) * f x)
      = ∑ k : Fin 64, if k.val ≤ r.val % 64 then f ⟨r.val / 64 * 64 + k.val, by omega⟩ else 0 := by
  have hr := r.isLt
  refine (Fin.sum_univ_add (a := 64) (b := 64) _).trans ?_
  rcases (by omega : r.val / 64 = 0 ∨ r.val / 64 = 1) with h | h
  · have h2 : (∑ i : Fin 64, (if r.val / 64 = (Fin.natAdd 64 i).val / 64 ∧ (Fin.natAdd 64 i).val ≤ r.val then (1 : Ideal .f32) else 0)
        * f (Fin.natAdd 64 i)) = 0 := Finset.sum_eq_zero fun i _ => by
      rw [if_neg (by show ¬(r.val / 64 = (64 + i.val) / 64 ∧ _); omega), zero_mul]
    refine (congrArg₂ (· + ·) (Finset.sum_congr rfl fun i _ => ?_) h2).trans (add_zero _)
    have hi := i.isLt
    have e : (⟨r.val / 64 * 64 + i.val, by omega⟩ : Fin 128) = Fin.castAdd 64 i := Fin.ext (by show r.val / 64 * 64 + i.val = i.val; omega)
    rw [e]
    by_cases hk : i.val ≤ r.val % 64
    · rw [if_pos hk, if_pos (by show r.val / 64 = i.val / 64 ∧ i.val ≤ r.val; omega), one_mul]
    · rw [if_neg hk, if_neg (by show ¬(r.val / 64 = i.val / 64 ∧ i.val ≤ r.val); omega), zero_mul]
  · have h2 : (∑ i : Fin 64, (if r.val / 64 = (Fin.castAdd 64 i).val / 64 ∧ (Fin.castAdd 64 i).val ≤ r.val then (1 : Ideal .f32) else 0)
        * f (Fin.castAdd 64 i)) = 0 := Finset.sum_eq_zero fun i _ => by
      have hi := i.isLt
      rw [if_neg (by show ¬(r.val / 64 = i.val / 64 ∧ _); omega), zero_mul]
    refine (congrArg₂ (· + ·) h2 (Finset.sum_congr rfl fun i _ => ?_)).trans (zero_add _)
    have hi := i.isLt
    have e : (⟨r.val / 64 * 64 + i.val, by omega⟩ : Fin 128) = Fin.natAdd 64 i := Fin.ext (by show r.val / 64 * 64 + i.val = 64 + i.val; omega)
    rw [e]
    by_cases hk : i.val ≤ r.val % 64
    · rw [if_pos hk, if_pos (by show r.val / 64 = (64 + i.val) / 64 ∧ 64 + i.val ≤ r.val; omega), one_mul]
    · rw [if_neg hk, if_neg (by show ¬(r.val / 64 = (64 + i.val) / 64 ∧ 64 + i.val ≤ r.val); omega), zero_mul]

variable (m : (ℓ : Loc nD τ sig) → Buf (Elt Ideal) ℓ) (c : Dev nD) (t : Fin cfg0.N)

theorem sub_gate (o : ℕ) (inb) (r : Fin 128) (d : Fin 128) (s : Fin 8192) (hs : s.val = first t + o + r.val) :
    (∑ k, k0_pay8 (subRows m c t o inb) (iblk m c 1 t) (ix2 r k) * iblk m c 3 t (ix2 k d))
      = gateIn (a0 m c) (a1 m c) (a2 m c) (batch t) s d := by
  unfold gateIn
  split
  · next h =>
    refine Finset.sum_congr rfl fun k _ => ?_
    rw [rows_entry, sub_norm m c t o inb r k s hs, blk_3, dif_pos h]
  · next h =>
    refine Finset.sum_eq_zero fun k _ => ?_
    rw [blk_3, dif_neg h, mul_zero]

theorem gate_close (o : ℕ) (inb) (ho : o % 128 = 0) (x : S1x128x128.Idx) (s : Fin 8192) (k : Fin 128)
    (hs : s.val = first t + o + (x 1).val) (hk : k.val = (x 2).val) :
    gateBlk
        (k0_pay6 (F := Ideal) (iota Kind.tc S128x128 32 [0] iota_S128x128_d0_w32) cols k0_pay3 (64#32) k0_pay4 k0_pay5 1#32)
        (k0_pay8 (subRows m c t o inb) (iblk m c 1 t)) (iblk m c 3 t) (iblk m c 5 t) (iblk m c 6 t) x
      = gcolAt (a0 m c) (a1 m c) (a2 m c) (a4 m c) (a5 m c) (batch t) s k := by
  obtain ⟨r, d, rfl⟩ : ∃ (r : Fin 128) (d : Fin 128), x = ix3 0 r d := ⟨x 1, x 2, by
    funext a; fin_cases a
    · exact Fin.ext (by have : (x 0).val < 1 := (x 0).isLt; show (x 0).val = 0; omega)
    · rfl
    · rfl⟩
  obtain rfl : k = d := Fin.ext hk
  have ho' : o + 128 ≤ 512 := inb 1
  have hr := r.isLt
  have hs' : s.val = 512 * (t.val % 16) + o + r.val := hs
  rw [gate_entry, sub_gate m c t o inb r k s hs]
  unfold gcolAt
  split
  · rfl
  · refine (Finset.sum_congr rfl fun x _ => congrArg (· * _) (lower_entry r x)).trans ?_
    refine (triangle_sum _ r).trans ?_
    have hm : s.val % 64 = r.val % 64 := by omega
    have hq : s.val / 64 * 64 = 512 * (t.val % 16) + o + r.val / 64 * 64 := by omega
    rw [hm]
    refine Finset.sum_congr rfl fun i _ => ?_
    split
    · rw [sub_gate m c t o inb _ k ⟨s.val / 64 * 64 + i.val, by omega⟩ (by
        show s.val / 64 * 64 + i.val = 512 * (t.val % 16) + o + (r.val / 64 * 64 + i.val); omega), blk_5, blk_6]
      rfl
    · rfl

theorem z_close (o : ℕ) (inb) (x : S1x128x512.Idx) (s : Fin 8192) (k : Fin 512)
    (hs : s.val = first t + o + (x 1).val) (hk : k.val = (x 2).val) :
    k0_pay11 (k0_pay9 (subRows m c t o inb) (iblk m c 1 t) (iblk m c 2 t)) x
      = projAt (a0 m c) (a1 m c) (a2 m c) (batch t) s ⟨1536 + k.val, by omega⟩ := by
  obtain ⟨r, d, rfl⟩ : ∃ (r : Fin 128) (d : Fin 512), x = ix3 0 r d := ⟨x 1, x 2, by
    funext a; fin_cases a
    · exact Fin.ext (by have : (x 0).val < 1 := (x 0).isLt; show (x 0).val = 0; omega)
    · rfl
    · rfl⟩
  obtain rfl : k = d := Fin.ext hk
  have := k.isLt
  rw [z_entry, sub_proj m c t o inb r _ s hs ⟨1536 + k.val, by omega⟩ (by
    show 1536 + k.val = if 1536 + k.val < 2048 then 1536 + k.val else 1536 + k.val + 8; rw [if_pos (by omega)])]

theorem p_close (o : ℕ) (inb) (x : S1x128x512.Idx) (s : Fin 8192) (k : Fin 512)
    (hs : s.val = first t + o + (x 1).val) (hk : k.val = (x 2).val) :
    k0_pay12 (k0_pay9 (subRows m c t o inb) (iblk m c 1 t) (iblk m c 2 t)) x
      = projAt (a0 m c) (a1 m c) (a2 m c) (batch t) s ⟨2056 + k.val, by omega⟩ := by
  obtain ⟨r, d, rfl⟩ : ∃ (r : Fin 128) (d : Fin 512), x = ix3 0 r d := ⟨x 1, x 2, by
    funext a; fin_cases a
    · exact Fin.ext (by have : (x 0).val < 1 := (x 0).isLt; show (x 0).val = 0; omega)
    · rfl
    · rfl⟩
  obtain rfl : k = d := Fin.ext hk
  have := k.isLt
  rw [p_entry, sub_proj m c t o inb r _ s hs ⟨2056 + k.val, by omega⟩ (by
    show 2056 + k.val = if 2048 + k.val < 2048 then 2048 + k.val else 2048 + k.val + 8; rw [if_neg (by omega)]; omega)]

end Cert.Kernel2Ideal.Hand

end
-- ==== Proof.InProjPoint.lean ====
/- One point's six blocks and the rows it carries to the next point. -/
module

public import proofs.«01_k».proof.Proof.InProjGates
public import Idealize.ShloMosaic.Lib.Pipeline.ReadBack

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.InProj

variable (m : (ℓ : Loc nD τ sig) → Buf (Elt Ideal) ℓ) (c : Dev nD) (t : Fin cfg0.N)

/-- What point `t` leaves in the scratch: the last eight rows of its tile. -/
theorem carried (r : Fin 8) (d : Fin 1536) :
    (outsAt0 m c t.val t.isLt).2.2.2.2.2.2 (ix2 r d) = rowsOf m c t (first t + 512 + r.val) d := by
  by_cases h0 : t.val % 16 = 0
  · rw [outsAt0_A m c t h0]
    frame_out
    rw [stored_tail, pay86_eq]
    exact sub_tail m c t 384 _ r d
  · rw [outsAt0_B m c t h0]
    frame_out
    rw [stored_tail, pay86_eq]
    exact sub_tail m c t 384 _ r d

/-- The eight rows before the tile of a batch's first point are zeros. -/
theorem before_first (h0 : t.val % 16 = 0) (i : Fin 8) (d : Fin 1536) :
    k0_pay2 (F := Ideal) (ix2 i d) = rowsOf m c t (first t + 0 + i.val) d := by
  have hi := i.isLt
  rw [zero_tail]
  unfold rowsOf rowAt
  rw [dif_neg (by show ¬(8 ≤ 512 * (t.val % 16) + 0 + i.val ∧ _); omega)]

/-- The rows a later point finds in the scratch. -/
theorem before_next (h0 : ¬ t.val % 16 = 0) (i : Fin 8) (d : Fin 1536) :
    (outsAt0 m c (t.val - 1) (by have := t.isLt; omega)).2.2.2.2.2.2 (ix2 i d) = rowsOf m c t (first t + 0 + i.val) d := by
  have ht := t.isLt
  have e := carried m c ⟨t.val - 1, by omega⟩ i d
  refine e.trans ?_
  have hb : batch ⟨t.val - 1, by omega⟩ = batch t := Fin.ext (by show (t.val - 1) / 16 = t.val / 16; omega)
  unfold rowsOf
  rw [hb]
  congr 1
  show 512 * ((t.val - 1) % 16) + 512 + i.val = 512 * (t.val % 16) + 0 + i.val
  omega

/-- Row `r` of point `t`'s tile. -/
def rowNo (r : Fin 512) : Fin 8192 := ⟨first t + r.val, by have := r.isLt; show 512 * (t.val % 16) + r.val < 8192; omega⟩

/-- The queries of a point. -/
theorem q_point (y : S1x512x512.Idx) :
    (outsAt0 m c t.val t.isLt).1 y
      = queryAt (a0 m c) (a1 m c) (a2 m c) (a3 m c) (batch t) (first t + (y 1).val) (y 2) := by
  by_cases h0 : t.val % 16 = 0
  · rw [outsAt0_A m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq]
    canon_tiles x h
    iterate 4 exact query_close m c t (first t + 384) _ (sub_act m c t 384 _ _ (sub_tail m c t 256 _)) _ _ (by decide) (by decide) x _ _ (by omega) (by omega)
    iterate 4 exact query_close m c t (first t + 256) _ (sub_act m c t 256 _ _ (sub_tail m c t 128 _)) _ _ (by decide) (by decide) x _ _ (by omega) (by omega)
    iterate 4 exact query_close m c t (first t + 128) _ (sub_act m c t 128 _ _ (sub_tail m c t 0 _)) _ _ (by decide) (by decide) x _ _ (by omega) (by omega)
    iterate 4 exact query_close m c t (first t + 0) _ (sub_act m c t 0 _ _ (before_first m c t (by assumption))) _ _ (by decide) (by decide) x _ _ (by omega) (by omega)
  · rw [outsAt0_B m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq, Idealize.ShloMosaic.read_unread_whole]
    canon_tiles x h
    iterate 4 exact query_close m c t (first t + 384) _ (sub_act m c t 384 _ _ (sub_tail m c t 256 _)) _ _ (by decide) (by decide) x _ _ (by omega) (by omega)
    iterate 4 exact query_close m c t (first t + 256) _ (sub_act m c t 256 _ _ (sub_tail m c t 128 _)) _ _ (by decide) (by decide) x _ _ (by omega) (by omega)
    iterate 4 exact query_close m c t (first t + 128) _ (sub_act m c t 128 _ _ (sub_tail m c t 0 _)) _ _ (by decide) (by decide) x _ _ (by omega) (by omega)
    iterate 4 exact query_close m c t (first t + 0) _ (sub_act m c t 0 _ _ (before_next m c t (by assumption))) _ _ (by decide) (by decide) x _ _ (by omega) (by omega)

/-- The keys of a point. -/
theorem k_point (y : S1x512x512.Idx) :
    (outsAt0 m c t.val t.isLt).2.1 y
      = keyAt (a0 m c) (a1 m c) (a2 m c) (a3 m c) (batch t) (first t + (y 1).val) (y 2) := by
  by_cases h0 : t.val % 16 = 0
  · rw [outsAt0_A m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq]
    canon_tiles x h
    iterate 4 exact key_close m c t (first t + 384) _ (sub_act m c t 384 _ _ (sub_tail m c t 256 _)) _ _ (by decide) (by decide) x _ _ (by omega) (by omega)
    iterate 4 exact key_close m c t (first t + 256) _ (sub_act m c t 256 _ _ (sub_tail m c t 128 _)) _ _ (by decide) (by decide) x _ _ (by omega) (by omega)
    iterate 4 exact key_close m c t (first t + 128) _ (sub_act m c t 128 _ _ (sub_tail m c t 0 _)) _ _ (by decide) (by decide) x _ _ (by omega) (by omega)
    iterate 4 exact key_close m c t (first t + 0) _ (sub_act m c t 0 _ _ (before_first m c t (by assumption))) _ _ (by decide) (by decide) x _ _ (by omega) (by omega)
  · rw [outsAt0_B m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq, Idealize.ShloMosaic.read_unread_whole]
    canon_tiles x h
    iterate 4 exact key_close m c t (first t + 384) _ (sub_act m c t 384 _ _ (sub_tail m c t 256 _)) _ _ (by decide) (by decide) x _ _ (by omega) (by omega)
    iterate 4 exact key_close m c t (first t + 256) _ (sub_act m c t 256 _ _ (sub_tail m c t 128 _)) _ _ (by decide) (by decide) x _ _ (by omega) (by omega)
    iterate 4 exact key_close m c t (first t + 128) _ (sub_act m c t 128 _ _ (sub_tail m c t 0 _)) _ _ (by decide) (by decide) x _ _ (by omega) (by omega)
    iterate 4 exact key_close m c t (first t + 0) _ (sub_act m c t 0 _ _ (before_next m c t (by assumption))) _ _ (by decide) (by decide) x _ _ (by omega) (by omega)

/-- The values of a point. -/
theorem v_point (y : S1x512x512.Idx) :
    (outsAt0 m c t.val t.isLt).2.2.1 y
      = actAt (a0 m c) (a1 m c) (a2 m c) (a3 m c) (batch t) (first t + (y 1).val) ⟨1024 + (y 2).val, by idx_bounds y; omega⟩ := by
  by_cases h0 : t.val % 16 = 0
  · rw [outsAt0_A m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq]
    canon_tiles x h
    · exact value_close m c t (first t + 384) _ (sub_act m c t 384 _ _ (sub_tail m c t 256 _)) x _ _ (by omega) (by omega)
    · exact value_close m c t (first t + 256) _ (sub_act m c t 256 _ _ (sub_tail m c t 128 _)) x _ _ (by omega) (by omega)
    · exact value_close m c t (first t + 128) _ (sub_act m c t 128 _ _ (sub_tail m c t 0 _)) x _ _ (by omega) (by omega)
    · exact value_close m c t (first t + 0) _ (sub_act m c t 0 _ _ (before_first m c t (by assumption))) x _ _ (by omega) (by omega)
  · rw [outsAt0_B m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq, Idealize.ShloMosaic.read_unread_whole]
    canon_tiles x h
    · exact value_close m c t (first t + 384) _ (sub_act m c t 384 _ _ (sub_tail m c t 256 _)) x _ _ (by omega) (by omega)
    · exact value_close m c t (first t + 256) _ (sub_act m c t 256 _ _ (sub_tail m c t 128 _)) x _ _ (by omega) (by omega)
    · exact value_close m c t (first t + 128) _ (sub_act m c t 128 _ _ (sub_tail m c t 0 _)) x _ _ (by omega) (by omega)
    · exact value_close m c t (first t + 0) _ (sub_act m c t 0 _ _ (before_next m c t (by assumption))) x _ _ (by omega) (by omega)

/-- The output gates of a point. -/
theorem z_point (y : S1x512x512.Idx) :
    (outsAt0 m c t.val t.isLt).2.2.2.1 y
      = projAt (a0 m c) (a1 m c) (a2 m c) (batch t) (rowNo t (y 1)) ⟨1536 + (y 2).val, by idx_bounds y; omega⟩ := by
  by_cases h0 : t.val % 16 = 0
  · rw [outsAt0_A m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq]
    canon_tiles x h
    · exact z_close m c t 384 _ x _ _ (by show first t + (y 1).val = _; omega) (by omega)
    · exact z_close m c t 256 _ x _ _ (by show first t + (y 1).val = _; omega) (by omega)
    · exact z_close m c t 128 _ x _ _ (by show first t + (y 1).val = _; omega) (by omega)
    · exact z_close m c t 0 _ x _ _ (by show first t + (y 1).val = _; omega) (by omega)
  · rw [outsAt0_B m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq, Idealize.ShloMosaic.read_unread_whole]
    canon_tiles x h
    · exact z_close m c t 384 _ x _ _ (by show first t + (y 1).val = _; omega) (by omega)
    · exact z_close m c t 256 _ x _ _ (by show first t + (y 1).val = _; omega) (by omega)
    · exact z_close m c t 128 _ x _ _ (by show first t + (y 1).val = _; omega) (by omega)
    · exact z_close m c t 0 _ x _ _ (by show first t + (y 1).val = _; omega) (by omega)

/-- The projected rows for the experts of a point. -/
theorem p_point (y : S1x512x512.Idx) :
    (outsAt0 m c t.val t.isLt).2.2.2.2.1 y
      = projAt (a0 m c) (a1 m c) (a2 m c) (batch t) (rowNo t (y 1)) ⟨2056 + (y 2).val, by idx_bounds y; omega⟩ := by
  by_cases h0 : t.val % 16 = 0
  · rw [outsAt0_A m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq]
    canon_tiles x h
    · exact p_close m c t 384 _ x _ _ (by show first t + (y 1).val = _; omega) (by omega)
    · exact p_close m c t 256 _ x _ _ (by show first t + (y 1).val = _; omega) (by omega)
    · exact p_close m c t 128 _ x _ _ (by show first t + (y 1).val = _; omega) (by omega)
    · exact p_close m c t 0 _ x _ _ (by show first t + (y 1).val = _; omega) (by omega)
  · rw [outsAt0_B m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq, Idealize.ShloMosaic.read_unread_whole]
    canon_tiles x h
    · exact p_close m c t 384 _ x _ _ (by show first t + (y 1).val = _; omega) (by omega)
    · exact p_close m c t 256 _ x _ _ (by show first t + (y 1).val = _; omega) (by omega)
    · exact p_close m c t 128 _ x _ _ (by show first t + (y 1).val = _; omega) (by omega)
    · exact p_close m c t 0 _ x _ _ (by show first t + (y 1).val = _; omega) (by omega)

/-- The gates of a point. -/
theorem g_point (y : S1x512x128.Idx) :
    (outsAt0 m c t.val t.isLt).2.2.2.2.2.1 y
      = gcolAt (a0 m c) (a1 m c) (a2 m c) (a4 m c) (a5 m c) (batch t) (rowNo t (y 1)) (y 2) := by
  by_cases h0 : t.val % 16 = 0
  · rw [outsAt0_A m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq]
    canon_tiles x h
    · exact gate_close m c t 384 _ (by decide) x _ _ (by show first t + (y 1).val = _; omega) (by omega)
    · exact gate_close m c t 256 _ (by decide) x _ _ (by show first t + (y 1).val = _; omega) (by omega)
    · exact gate_close m c t 128 _ (by decide) x _ _ (by show first t + (y 1).val = _; omega) (by omega)
    · exact gate_close m c t 0 _ (by decide) x _ _ (by show first t + (y 1).val = _; omega) (by omega)
  · rw [outsAt0_B m c t h0]
    frame_out
    simp only [pay15_eq, pay16_eq, pay17_eq, pay18_eq, pay21_eq, pay22_eq, pay23_eq, pay26_eq, pay32_eq, pay33_eq, pay35_eq, pay36_eq, pay38_eq, pay39_eq, pay40_eq, pay41_eq, pay43_eq, pay44_eq, pay45_eq, pay47_eq, pay48_eq, pay49_eq, pay51_eq, pay52_eq, pay54_eq, pay55_eq, pay57_eq, pay58_eq, pay59_eq, pay62_eq, pay63_eq, pay64_eq, pay65_eq, pay68_eq, pay69_eq, pay70_eq, pay73_eq, pay74_eq, pay75_eq, pay76_eq, pay77_eq, pay81_eq, pay84_eq, pay85_eq, pay86_eq, pay87_eq, pay88_eq, pay89_eq, pay90_eq, pay91_eq, pay92_eq, pay93_eq, pay96_eq, pay97_eq, pay98_eq, pay102_eq, Idealize.ShloMosaic.read_unread_whole]
    canon_tiles x h
    · exact gate_close m c t 384 _ (by decide) x _ _ (by show first t + (y 1).val = _; omega) (by omega)
    · exact gate_close m c t 256 _ (by decide) x _ _ (by show first t + (y 1).val = _; omega) (by omega)
    · exact gate_close m c t 128 _ (by decide) x _ _ (by show first t + (y 1).val = _; omega) (by omega)
    · exact gate_close m c t 0 _ (by decide) x _ _ (by show first t + (y 1).val = _; omega) (by omega)

end Cert.Kernel2Ideal.Hand

end
-- ==== Proof.InProjResult.lean ====
/- The projection's six results, as arrays of its arguments. -/
module

public import proofs.«01_k».proof.Proof.InProjTarget

@[expose] public section

noncomputable section

namespace Cert.InProj

open Idealize.ShloMosaic
open Cert.Kernel2Ideal (S8x8192x1024 S1x1024 S1x1024x2568 S1x4x1536 S1x4 S8x8192x512 S8x8192x128)

variable (x0 : S8x8192x1024.Idx → Ideal .f32) (x1 : S1x1024.Idx → Ideal .f32) (x2 : S1x1024x2568.Idx → Ideal .f32)
  (x3 : S1x4x1536.Idx → Ideal .f32) (x4 x5 : S1x4.Idx → Ideal .f32)

def queries (i : S8x8192x512.Idx) : Ideal .f32 := queryAt x0 x1 x2 x3 (i 0) (i 1).val (i 2)
def keys (i : S8x8192x512.Idx) : Ideal .f32 := keyAt x0 x1 x2 x3 (i 0) (i 1).val (i 2)
def values (i : S8x8192x512.Idx) : Ideal .f32 :=
  actAt x0 x1 x2 x3 (i 0) (i 1).val ⟨1024 + (i 2).val, by have : (i 2).val < 512 := (i 2).isLt; omega⟩
def outGates (i : S8x8192x512.Idx) : Ideal .f32 :=
  projAt x0 x1 x2 (i 0) (i 1) ⟨1536 + (i 2).val, by have : (i 2).val < 512 := (i 2).isLt; omega⟩
def pooled (i : S8x8192x512.Idx) : Ideal .f32 :=
  projAt x0 x1 x2 (i 0) (i 1) ⟨2056 + (i 2).val, by have : (i 2).val < 512 := (i 2).isLt; omega⟩
def gates (i : S8x8192x128.Idx) : Ideal .f32 := gcolAt x0 x1 x2 x4 x5 (i 0) (i 1) (i 2)

end Cert.InProj

end
-- ==== Proof.InProjRun.lean ====
/- The projection's run: its six arrays at the end, and the arguments as launched. -/
module

public import proofs.«01_k».proof.Proof.Gen.Kernel2Ideal.Value
public import proofs.«01_k».proof.Proof.InProjPoint
public import proofs.«01_k».proof.Proof.InProjResult

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.SL.Sem
open Cert.InProj

variable (m : (ℓ : Loc nD τ sig) → Buf (Elt Ideal) ℓ) (ρ : Dev nD → PrngReg) (c : Dev nD)

theorem index_7 : ∀ t : Fin cfg0.N, win0_7.index t = ![t.val / 16, t.val % 16, 0] := by decide +kernel
theorem covers_7 : win0_7.Covers := by decide +kernel
theorem index_8 : ∀ t : Fin cfg0.N, win0_8.index t = ![t.val / 16, t.val % 16, 0] := by decide +kernel
theorem covers_8 : win0_8.Covers := by decide +kernel
theorem index_9 : ∀ t : Fin cfg0.N, win0_9.index t = ![t.val / 16, t.val % 16, 0] := by decide +kernel
theorem covers_9 : win0_9.Covers := by decide +kernel
theorem index_10 : ∀ t : Fin cfg0.N, win0_10.index t = ![t.val / 16, t.val % 16, 0] := by decide +kernel
theorem covers_10 : win0_10.Covers := by decide +kernel
theorem index_11 : ∀ t : Fin cfg0.N, win0_11.index t = ![t.val / 16, t.val % 16, 0] := by decide +kernel
theorem covers_11 : win0_11.Covers := by decide +kernel
theorem index_12 : ∀ t : Fin cfg0.N, win0_12.index t = ![t.val / 16, t.val % 16, 0] := by decide +kernel
theorem covers_12 : win0_12.Covers := by decide +kernel

theorem final_queries : (dats m 0 c).arrAt 7 cfg0.N = queries (a0 m c) (a1 m c) (a2 m c) (a3 m c) := by
  refine (dats m 0 c).arrAt_eq_of_covers 7 _ covers_7 fun t hf y => ?_
  have hy : (y 0).val < 1 := (y 0).isLt
  have e0 : ((win0_7.blk t).view.emb y 0).val = win0_7.index t 0 * 1 + (y 0).val := by blk_simp
  have e1 : ((win0_7.blk t).view.emb y 1).val = win0_7.index t 1 * 512 + (y 1).val := by blk_simp
  have e2 : ((win0_7.blk t).view.emb y 2).val = win0_7.index t 2 * 512 + (y 2).val := by blk_simp
  rw [index_7 t] at e0 e1 e2
  have f0 : (win0_7.blk t).view.emb y 0 = batch t := Fin.ext (by rw [e0]; show t.val / 16 * 1 + _ = t.val / 16; omega)
  have f1 : ((win0_7.blk t).view.emb y 1).val = first t + (y 1).val := by rw [e1]; show t.val % 16 * 512 + _ = 512 * (t.val % 16) + _; omega
  have f2 : (win0_7.blk t).view.emb y 2 = y 2 := Fin.ext (by rw [e2]; show 0 * 512 + _ = _; omega)
  blk_simp
  rw [after0_7, q_point]
  unfold queries
  simp only [f0, f1, f2]

theorem final_keys : (dats m 0 c).arrAt 8 cfg0.N = keys (a0 m c) (a1 m c) (a2 m c) (a3 m c) := by
  refine (dats m 0 c).arrAt_eq_of_covers 8 _ covers_8 fun t hf y => ?_
  have hy : (y 0).val < 1 := (y 0).isLt
  have e0 : ((win0_8.blk t).view.emb y 0).val = win0_8.index t 0 * 1 + (y 0).val := by blk_simp
  have e1 : ((win0_8.blk t).view.emb y 1).val = win0_8.index t 1 * 512 + (y 1).val := by blk_simp
  have e2 : ((win0_8.blk t).view.emb y 2).val = win0_8.index t 2 * 512 + (y 2).val := by blk_simp
  rw [index_8 t] at e0 e1 e2
  have f0 : (win0_8.blk t).view.emb y 0 = batch t := Fin.ext (by rw [e0]; show t.val / 16 * 1 + _ = t.val / 16; omega)
  have f1 : ((win0_8.blk t).view.emb y 1).val = first t + (y 1).val := by rw [e1]; show t.val % 16 * 512 + _ = 512 * (t.val % 16) + _; omega
  have f2 : (win0_8.blk t).view.emb y 2 = y 2 := Fin.ext (by rw [e2]; show 0 * 512 + _ = _; omega)
  blk_simp
  rw [after0_8, k_point]
  unfold keys
  simp only [f0, f1, f2]

theorem final_values : (dats m 0 c).arrAt 9 cfg0.N = values (a0 m c) (a1 m c) (a2 m c) (a3 m c) := by
  refine (dats m 0 c).arrAt_eq_of_covers 9 _ covers_9 fun t hf y => ?_
  have hy : (y 0).val < 1 := (y 0).isLt
  have e0 : ((win0_9.blk t).view.emb y 0).val = win0_9.index t 0 * 1 + (y 0).val := by blk_simp
  have e1 : ((win0_9.blk t).view.emb y 1).val = win0_9.index t 1 * 512 + (y 1).val := by blk_simp
  have e2 : ((win0_9.blk t).view.emb y 2).val = win0_9.index t 2 * 512 + (y 2).val := by blk_simp
  rw [index_9 t] at e0 e1 e2
  have f0 : (win0_9.blk t).view.emb y 0 = batch t := Fin.ext (by rw [e0]; show t.val / 16 * 1 + _ = t.val / 16; omega)
  have f1 : ((win0_9.blk t).view.emb y 1).val = first t + (y 1).val := by rw [e1]; show t.val % 16 * 512 + _ = 512 * (t.val % 16) + _; omega
  have f2 : (win0_9.blk t).view.emb y 2 = y 2 := Fin.ext (by rw [e2]; show 0 * 512 + _ = _; omega)
  blk_simp
  rw [after0_9, v_point]
  unfold values
  simp only [f0, f1, f2]

theorem final_outGates : (dats m 0 c).arrAt 10 cfg0.N = outGates (a0 m c) (a1 m c) (a2 m c) := by
  refine (dats m 0 c).arrAt_eq_of_covers 10 _ covers_10 fun t hf y => ?_
  have hy : (y 0).val < 1 := (y 0).isLt
  have e0 : ((win0_10.blk t).view.emb y 0).val = win0_10.index t 0 * 1 + (y 0).val := by blk_simp
  have e1 : ((win0_10.blk t).view.emb y 1).val = win0_10.index t 1 * 512 + (y 1).val := by blk_simp
  have e2 : ((win0_10.blk t).view.emb y 2).val = win0_10.index t 2 * 512 + (y 2).val := by blk_simp
  rw [index_10 t] at e0 e1 e2
  have f0 : (win0_10.blk t).view.emb y 0 = batch t := Fin.ext (by rw [e0]; show t.val / 16 * 1 + _ = t.val / 16; omega)
  have f1 : (win0_10.blk t).view.emb y 1 = rowNo t (y 1) := Fin.ext (by rw [e1]; show t.val % 16 * 512 + _ = 512 * (t.val % 16) + _; omega)
  have f2 : (win0_10.blk t).view.emb y 2 = y 2 := Fin.ext (by rw [e2]; show 0 * 512 + _ = _; omega)
  blk_simp
  rw [after0_10, z_point]
  unfold outGates
  simp only [f0, f1, f2]

theorem final_pooled : (dats m 0 c).arrAt 11 cfg0.N = pooled (a0 m c) (a1 m c) (a2 m c) := by
  refine (dats m 0 c).arrAt_eq_of_covers 11 _ covers_11 fun t hf y => ?_
  have hy : (y 0).val < 1 := (y 0).isLt
  have e0 : ((win0_11.blk t).view.emb y 0).val = win0_11.index t 0 * 1 + (y 0).val := by blk_simp
  have e1 : ((win0_11.blk t).view.emb y 1).val = win0_11.index t 1 * 512 + (y 1).val := by blk_simp
  have e2 : ((win0_11.blk t).view.emb y 2).val = win0_11.index t 2 * 512 + (y 2).val := by blk_simp
  rw [index_11 t] at e0 e1 e2
  have f0 : (win0_11.blk t).view.emb y 0 = batch t := Fin.ext (by rw [e0]; show t.val / 16 * 1 + _ = t.val / 16; omega)
  have f1 : (win0_11.blk t).view.emb y 1 = rowNo t (y 1) := Fin.ext (by rw [e1]; show t.val % 16 * 512 + _ = 512 * (t.val % 16) + _; omega)
  have f2 : (win0_11.blk t).view.emb y 2 = y 2 := Fin.ext (by rw [e2]; show 0 * 512 + _ = _; omega)
  blk_simp
  rw [after0_11, p_point]
  unfold pooled
  simp only [f0, f1, f2]

theorem final_gates : (dats m 0 c).arrAt 12 cfg0.N = gates (a0 m c) (a1 m c) (a2 m c) (a4 m c) (a5 m c) := by
  refine (dats m 0 c).arrAt_eq_of_covers 12 _ covers_12 fun t hf y => ?_
  have hy : (y 0).val < 1 := (y 0).isLt
  have e0 : ((win0_12.blk t).view.emb y 0).val = win0_12.index t 0 * 1 + (y 0).val := by blk_simp
  have e1 : ((win0_12.blk t).view.emb y 1).val = win0_12.index t 1 * 512 + (y 1).val := by blk_simp
  have e2 : ((win0_12.blk t).view.emb y 2).val = win0_12.index t 2 * 128 + (y 2).val := by blk_simp
  rw [index_12 t] at e0 e1 e2
  have f0 : (win0_12.blk t).view.emb y 0 = batch t := Fin.ext (by rw [e0]; show t.val / 16 * 1 + _ = t.val / 16; omega)
  have f1 : (win0_12.blk t).view.emb y 1 = rowNo t (y 1) := Fin.ext (by rw [e1]; show t.val % 16 * 512 + _ = 512 * (t.val % 16) + _; omega)
  have f2 : (win0_12.blk t).view.emb y 2 = y 2 := Fin.ext (by rw [e2]; show 0 * 128 + _ = _; omega)
  blk_simp
  rw [after0_12, g_point]
  unfold gates
  simp only [f0, f1, f2]

theorem in_proj_run :
    θ_run defs (onTc (τ := τ) (main (F := Ideal))) ⟨m, fun _ => 0, ρ⟩ (fun r => ∀ c : Dev nD,
      r.2.mem ((c : Thread nD τ).loc main_v20_0) = queries (a0 m c) (a1 m c) (a2 m c) (a3 m c)
      ∧ r.2.mem ((c : Thread nD τ).loc main_v20_1) = keys (a0 m c) (a1 m c) (a2 m c) (a3 m c)
      ∧ r.2.mem ((c : Thread nD τ).loc main_v20_2) = values (a0 m c) (a1 m c) (a2 m c) (a3 m c)
      ∧ r.2.mem ((c : Thread nD τ).loc main_v20_3) = outGates (a0 m c) (a1 m c) (a2 m c)
      ∧ r.2.mem ((c : Thread nD τ).loc main_v20_4) = pooled (a0 m c) (a1 m c) (a2 m c)
      ∧ r.2.mem ((c : Thread nD τ).loc main_v20_5) = gates (a0 m c) (a1 m c) (a2 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
    obtain ⟨h7, h8, h9, h10, h11, h12, hk⟩ := h c
    exact ⟨h7.trans (final_queries m c), h8.trans (final_keys m c), h9.trans (final_values m c), h10.trans (final_outGates m c), h11.trans (final_pooled m c), h12.trans (final_gates m c), hk⟩) (Value.run_blocks (F := Ideal) m ρ)

end Cert.Kernel2Ideal.Hand

end
-- ==== Proof.InProjRef.lean ====
/- The projection's reference, element by element: the projected rows, the convolution's activation, queries, keys and values. -/
module

public import proofs.«01_k».proof.Proof.Gen.Reference2Ideal.Run
public import proofs.«01_k».proof.Proof.Gen.Reference2Ideal.Read
public import proofs.«01_k».proof.Proof.InProjResult
public import proofs.«01_k».proof.Proof.InProjBlocks
public import Idealize.ShloMosaic.Lib.KernelVsHost
public import Idealize.ShloMosaic.Lib.Pointwise
public import Idealize.ShloMosaic.Lib.IdealHost

@[expose] public section

set_option maxRecDepth 16384

noncomputable section

namespace Cert.InProj

open Idealize.ShloMosaic
open Cert.Reference2Ideal Cert.Reference2Ideal.Gen Cert.Reference2Ideal.Read
open Cert.Kernel2Ideal.Hand (silu unitVec normRow softplus word_zero)

variable (x0 : S8x8192x1024.Idx → Ideal .f32) (x1 : S1x1024.Idx → Ideal .f32) (x2 : S1x1024x2568.Idx → Ideal .f32)
  (x3 : S1x4x1536.Idx → Ideal .f32)

theorem ref_norm (b : Fin 8) (s : Fin 8192) (k : Fin 1024) :
    val_main_v13 (F := Ideal) x0 x1 (ix3 b s k) = normRow (fun k => x0 (ix3 b s k)) (fun k => x1 (ix2 0 k)) k := by
  rw [val_main_v13_apply, val_main_v9_apply, val_main_v12_apply, val_main_v11_apply, val_main_v10_apply, val_main_v8_apply,
    val_main_v7_apply, val_main_v6_apply, val_main_v4_apply, val_main_v2_apply, val_main_v1_apply, val_main_v3_apply, val_main_v5_apply,
    val_main_cst_apply, val_main_cst_0_apply, val_main_cst_1_apply]
  show x0 _ * Ideal.rsqrt (Ideal.div (Ideal.ofBits .f32 0x00000000#32 + _) (Ideal.ofBits .f32 0x44800000#32) + Ideal.ofBits .f32 0x358637BD#32) * x1 _ = _
  rw [Ideal.ofBits_zero_f32, zero_add]
  unfold normRow
  refine congrArg₂ (· * ·) (congrArg (fun z => x0 (ix3 b s k) * Ideal.rsqrt (Ideal.div z _ + _)) (Finset.sum_congr rfl fun j _ => ?_)) (congrArg x1 ?_)
  · rw [val_main_v0_apply]
    show x0 _ * x0 _ = _
    rw [show idx_main_v1 (idx_main_v2 (idx_main_v8 (ix3 b s k))) j = ix3 b s j from funext fun a => by fin_cases a <;> rfl]
  · funext a
    fin_cases a
    · rfl
    · exact Fin.ext (Nat.mod_eq_of_lt k.isLt)

theorem ref_proj (b : Fin 8) (s : Fin 8192) (w : Fin 2568) :
    val_main_v15 (F := Ideal) x0 x1 x2 (ix3 b s w) = projAt x0 x1 x2 b s w := by
  rw [val_main_v15_apply]
  unfold projAt
  refine Finset.sum_congr rfl fun k _ => ?_
  have hk := k.isLt
  have hw := w.isLt
  rw [show lidx_main_v15 (ix3 b s w) k = ix3 b s k from funext fun a => by fin_cases a <;> rfl, ref_norm, val_main_v14_apply]
  refine congrArg (_ * x2 ·) ?_
  funext a
  apply Fin.ext
  fin_cases a
  · rfl
  · show (k.val * 2568 + w.val) / 2568 % 1024 = k.val; omega
  · show (k.val * 2568 + w.val) % 2568 = w.val; omega

theorem ref_padded (b : Fin 8) (n : Fin 8195) (w : Fin 1536) :
    val_main_v20 (F := Ideal) x0 x1 x2 (ix3 b n w) = rowAt x0 x1 x2 b (n.val + 5) w := by
  have hn := n.isLt
  have hw := w.isLt
  unfold val_main_v20 rowAt
  by_cases h : 3 ≤ n.val
  · rw [dif_pos (by omega)]
    refine (pad_apply_of_inside _ _ _ _ _ _ _ _ (ix3 b (⟨n.val - 3, by omega⟩ : Fin 8192) w) fun a => ?_).trans ?_
    · fin_cases a
      · show b.val = 0 + b.val * 1; omega
      · show n.val = 3 + (n.val - 3) * 1; omega
      · show w.val = 0 + w.val * 1; omega
    · rw [val_main_v16_apply, ← ref_proj]
      refine congrArg _ (funext fun a => Fin.ext ?_)
      fin_cases a
      · rfl
      · show n.val - 3 = n.val + 5 - 8; omega
      · rfl
  · rw [dif_neg (by omega)]
    refine (pad_apply_of_not_inside _ _ _ _ _ _ _ _ 1 fun q => h q.1).trans ?_
    rw [val_main_call0_v0_apply, val_main_c_apply]
    exact word_zero

theorem ref_conv (b : Fin 8) (s : Fin 8192) (w : Fin 1536) :
    val_main_v47 (F := Ideal) x0 x1 x2 x3 (ix3 b s w)
      = rowAt x0 x1 x2 b (s.val + 5) w * x3 (ix3 0 0 w) + rowAt x0 x1 x2 b (s.val + 6) w * x3 (ix3 0 1 w)
        + rowAt x0 x1 x2 b (s.val + 7) w * x3 (ix3 0 2 w) + rowAt x0 x1 x2 b (s.val + 8) w * x3 (ix3 0 3 w) := by
  have hs := s.isLt
  have hw := w.isLt
  have r0 : idx_main_v21 (ix3 b s w) = ix3 b ⟨s.val, by omega⟩ w := funext fun a => by fin_cases a <;> rfl
  have r1 : idx_main_v27 (ix3 b s w) = ix3 b ⟨s.val + 1, by omega⟩ w :=
    funext fun a => by fin_cases a <;> first | rfl | exact Fin.ext (Nat.add_comm 1 _)
  have r2 : idx_main_v34 (ix3 b s w) = ix3 b ⟨s.val + 2, by omega⟩ w :=
    funext fun a => by fin_cases a <;> first | rfl | exact Fin.ext (Nat.add_comm 2 _)
  have r3 : idx_main_v41 (ix3 b s w) = ix3 b ⟨s.val + 3, by omega⟩ w :=
    funext fun a => by fin_cases a <;> first | rfl | exact Fin.ext (Nat.add_comm 3 _)
  rw [val_main_v47_apply, val_main_v40_apply, val_main_v33_apply, val_main_v26_apply, val_main_v32_apply, val_main_v39_apply, val_main_v46_apply,
    val_main_v21_apply, val_main_v27_apply, val_main_v34_apply, val_main_v41_apply, r0, r1, r2, r3, ref_padded, ref_padded, ref_padded, ref_padded,
    val_main_v25_apply, val_main_v24_apply, val_main_v23_apply, val_main_v22_apply,
    val_main_v31_apply, val_main_v30_apply, val_main_v29_apply, val_main_v28_apply,
    val_main_v38_apply, val_main_v37_apply, val_main_v36_apply, val_main_v35_apply,
    val_main_v45_apply, val_main_v44_apply, val_main_v43_apply, val_main_v42_apply]
  refine congrArg₂ (· + ·) (congrArg₂ (· + ·) (congrArg₂ (· + ·) ?_ ?_) ?_) ?_ <;>
  · refine congrArg (_ * x3 ·) (funext fun a => Fin.ext ?_)
    fin_cases a
    · rfl
    · rfl
    · exact Nat.mod_eq_of_lt hw

theorem ref_act (b : Fin 8) (s : Fin 8192) (w : Fin 1536) :
    val_main_v54 (F := Ideal) x0 x1 x2 x3 (ix3 b s w) = actAt x0 x1 x2 x3 b s.val w := by
  rw [val_main_v54_apply, val_main_v53_apply, val_main_v52_apply, val_main_v51_apply, val_main_v50_apply, val_main_v49_apply, val_main_v48_apply,
    val_main_cst_2_apply, val_main_cst_3_apply, ref_conv]
  unfold actAt silu
  show _ * Ideal.div (Ideal.ofBits .f32 0x3F800000#32) (Ideal.ofBits .f32 0x3F800000#32 + _) = _
  rw [Ideal.ofBits_one_f32]
  rfl

end Cert.InProj

end
-- ==== Proof.InProjRefUnit.lean ====
/- The reference's queries, keys, values, output gates and pooled rows. -/
module

public import proofs.«01_k».proof.Proof.InProjRef

@[expose] public section

set_option maxRecDepth 16384

noncomputable section

namespace Cert.InProj

open Idealize.ShloMosaic
open Cert.Reference2Ideal Cert.Reference2Ideal.Gen Cert.Reference2Ideal.Read
open Cert.Kernel2Ideal.Hand (silu unitVec normRow softplus word_zero)

variable (x0 : S8x8192x1024.Idx → Ideal .f32) (x1 : S1x1024.Idx → Ideal .f32) (x2 : S1x1024x2568.Idx → Ideal .f32)
  (x3 : S1x4x1536.Idx → Ideal .f32) (x4 x5 : S1x4.Idx → Ideal .f32)

theorem ref_query_in (b : Fin 8) (s : Fin 8192) (h : Fin 4) (d : Fin 128) :
    val_main_v56 (F := Ideal) x0 x1 x2 x3 (ix4 b s h d) = actAt x0 x1 x2 x3 b s.val ⟨0 + (h.val * 128 + d.val), by omega⟩ := by
  have hb := b.isLt
  have hs := s.isLt
  have hh := h.isLt
  have hd := d.isLt
  rw [val_main_v56_apply, val_main_v55_apply, ← ref_act]
  refine congrArg _ (funext fun a => Fin.ext ?_)
  fin_cases a
  · show (((b.val * 8192 + s.val) * 4 + h.val) * 128 + d.val) / 4194304 = b.val; omega
  · show (((b.val * 8192 + s.val) * 4 + h.val) * 128 + d.val) / 512 % 8192 = s.val; omega
  · show (((b.val * 8192 + s.val) * 4 + h.val) * 128 + d.val) % 512 = 0 + (h.val * 128 + d.val); omega

theorem ref_query_unit (b : Fin 8) (s : Fin 8192) (h : Fin 4) (d : Fin 128) :
    val_main_v64 (F := Ideal) x0 x1 x2 x3 (ix4 b s h d)
      = unitVec (fun k => actAt x0 x1 x2 x3 b s.val ⟨0 + (h.val * 128 + k.val), by omega⟩) d := by
  rw [val_main_v64_apply, val_main_v63_apply, val_main_v62_apply, val_main_v61_apply, val_main_v59_apply, val_main_v58_apply, val_main_v60_apply,
    val_main_cst_4_apply, val_main_cst_5_apply, ref_query_in]
  show _ * Ideal.rsqrt ((Ideal.ofBits .f32 0x00000000#32 + _) + Ideal.ofBits .f32 0x358637BD#32) = _
  rw [Ideal.ofBits_zero_f32]
  unfold unitVec
  refine congrArg (fun z => _ * Ideal.rsqrt (z + _)) ((zero_add _).trans (Finset.sum_congr rfl fun k _ => ?_))
  rw [val_main_v57_apply, show idx_main_v58 (idx_main_v59 (idx_main_v63 (ix4 b s h d))) k = ix4 b s h k from funext fun a => by fin_cases a <;> rfl,
    ref_query_in]
  rfl

theorem ref_key_in (b : Fin 8) (s : Fin 8192) (h : Fin 4) (d : Fin 128) :
    val_main_v69 (F := Ideal) x0 x1 x2 x3 (ix4 b s h d) = actAt x0 x1 x2 x3 b s.val ⟨512 + (h.val * 128 + d.val), by omega⟩ := by
  have hb := b.isLt
  have hs := s.isLt
  have hh := h.isLt
  have hd := d.isLt
  rw [val_main_v69_apply, val_main_v68_apply, ← ref_act]
  refine congrArg _ (funext fun a => Fin.ext ?_)
  fin_cases a
  · show (((b.val * 8192 + s.val) * 4 + h.val) * 128 + d.val) / 4194304 = b.val; omega
  · show (((b.val * 8192 + s.val) * 4 + h.val) * 128 + d.val) / 512 % 8192 = s.val; omega
  · show 512 + (((b.val * 8192 + s.val) * 4 + h.val) * 128 + d.val) % 512 = 512 + (h.val * 128 + d.val); omega

theorem ref_key_unit (b : Fin 8) (s : Fin 8192) (h : Fin 4) (d : Fin 128) :
    val_main_v77 (F := Ideal) x0 x1 x2 x3 (ix4 b s h d)
      = unitVec (fun k => actAt x0 x1 x2 x3 b s.val ⟨512 + (h.val * 128 + k.val), by omega⟩) d := by
  rw [val_main_v77_apply, val_main_v76_apply, val_main_v75_apply, val_main_v74_apply, val_main_v72_apply, val_main_v71_apply, val_main_v73_apply,
    val_main_cst_7_apply, val_main_cst_8_apply, ref_key_in]
  show _ * Ideal.rsqrt ((Ideal.ofBits .f32 0x00000000#32 + _) + Ideal.ofBits .f32 0x358637BD#32) = _
  rw [Ideal.ofBits_zero_f32]
  unfold unitVec
  refine congrArg (fun z => _ * Ideal.rsqrt (z + _)) ((zero_add _).trans (Finset.sum_congr rfl fun k _ => ?_))
  rw [val_main_v70_apply, show idx_main_v71 (idx_main_v72 (idx_main_v76 (ix4 b s h d))) k = ix4 b s h k from funext fun a => by fin_cases a <;> rfl,
    ref_key_in]
  rfl

theorem ref_queries : val_main_v67 (F := Ideal) x0 x1 x2 x3 = queries x0 x1 x2 x3 := by
  funext i
  obtain ⟨b, s, c, rfl⟩ : ∃ (b : Fin 8) (s : Fin 8192) (c : Fin 512), i = ix3 b s c :=
    ⟨i 0, i 1, i 2, by funext a; fin_cases a <;> rfl⟩
  have hb := b.isLt
  have hs := s.isLt
  have hc := c.isLt
  rw [val_main_v67_apply,
    show idx_main_v67 (ix3 b s c) = ix4 b s (⟨c.val / 128, by omega⟩ : Fin 4) (⟨c.val % 128, by omega⟩ : Fin 128) from
      funext fun a => Fin.ext (by
        fin_cases a
        · show ((b.val * 8192 + s.val) * 512 + c.val) / 4194304 = b.val; omega
        · show ((b.val * 8192 + s.val) * 512 + c.val) / 512 % 8192 = s.val; omega
        · show ((b.val * 8192 + s.val) * 512 + c.val) / 128 % 4 = c.val / 128; omega
        · show ((b.val * 8192 + s.val) * 512 + c.val) % 128 = c.val % 128; omega),
    val_main_v66_apply, ref_query_unit, val_main_v65_apply, val_main_cst_6_apply]
  rfl

theorem ref_keys : val_main_v78 (F := Ideal) x0 x1 x2 x3 = keys x0 x1 x2 x3 := by
  funext i
  obtain ⟨b, s, c, rfl⟩ : ∃ (b : Fin 8) (s : Fin 8192) (c : Fin 512), i = ix3 b s c :=
    ⟨i 0, i 1, i 2, by funext a; fin_cases a <;> rfl⟩
  have hb := b.isLt
  have hs := s.isLt
  have hc := c.isLt
  rw [val_main_v78_apply,
    show idx_main_v78 (ix3 b s c) = ix4 b s (⟨c.val / 128, by omega⟩ : Fin 4) (⟨c.val % 128, by omega⟩ : Fin 128) from
      funext fun a => Fin.ext (by
        fin_cases a
        · show ((b.val * 8192 + s.val) * 512 + c.val) / 4194304 = b.val; omega
        · show ((b.val * 8192 + s.val) * 512 + c.val) / 512 % 8192 = s.val; omega
        · show ((b.val * 8192 + s.val) * 512 + c.val) / 128 % 4 = c.val / 128; omega
        · show ((b.val * 8192 + s.val) * 512 + c.val) % 128 = c.val % 128; omega),
    ref_key_unit]
  rfl

theorem ref_values : val_main_v79 (F := Ideal) x0 x1 x2 x3 = values x0 x1 x2 x3 := by
  funext i
  obtain ⟨b, s, c, rfl⟩ : ∃ (b : Fin 8) (s : Fin 8192) (c : Fin 512), i = ix3 b s c :=
    ⟨i 0, i 1, i 2, by funext a; fin_cases a <;> rfl⟩
  have hb := b.isLt
  have hs := s.isLt
  have hc := c.isLt
  rw [val_main_v79_apply]
  exact (congrArg _ (funext fun a => by fin_cases a <;> rfl)).trans (ref_act x0 x1 x2 x3 b s _)

theorem ref_outGates : val_main_v17 (F := Ideal) x0 x1 x2 = outGates x0 x1 x2 := by
  funext i
  obtain ⟨b, s, c, rfl⟩ : ∃ (b : Fin 8) (s : Fin 8192) (c : Fin 512), i = ix3 b s c :=
    ⟨i 0, i 1, i 2, by funext a; fin_cases a <;> rfl⟩
  have hb := b.isLt
  have hs := s.isLt
  have hc := c.isLt
  rw [val_main_v17_apply]
  exact (congrArg _ (funext fun a => by fin_cases a <;> rfl)).trans (ref_proj x0 x1 x2 b s _)

theorem ref_pooled : val_main_v19 (F := Ideal) x0 x1 x2 = pooled x0 x1 x2 := by
  funext i
  obtain ⟨b, s, c, rfl⟩ : ∃ (b : Fin 8) (s : Fin 8192) (c : Fin 512), i = ix3 b s c :=
    ⟨i 0, i 1, i 2, by funext a; fin_cases a <;> rfl⟩
  have hb := b.isLt
  have hs := s.isLt
  have hc := c.isLt
  rw [val_main_v19_apply]
  exact (congrArg _ (funext fun a => by fin_cases a <;> rfl)).trans (ref_proj x0 x1 x2 b s _)

end Cert.InProj

end
-- ==== Proof.InProjRefGates.lean ====
/- The reference's gates. -/
module

public import proofs.«01_k».proof.Proof.InProjRef

@[expose] public section

set_option maxRecDepth 16384

noncomputable section

namespace Cert.InProj

open Idealize.ShloMosaic
open Cert.Reference2Ideal Cert.Reference2Ideal.Gen Cert.Reference2Ideal.Read
open Cert.Kernel2Ideal.Hand (silu unitVec normRow softplus word_zero)

variable (x0 : S8x8192x1024.Idx → Ideal .f32) (x1 : S1x1024.Idx → Ideal .f32) (x2 : S1x1024x2568.Idx → Ideal .f32)
  (x3 : S1x4x1536.Idx → Ideal .f32) (x4 x5 : S1x4.Idx → Ideal .f32)

theorem ref_gateIn (b : Fin 8) (s : Fin 8192) (c : Fin 128) : val_main_v80 (F := Ideal) x0 x1 x2 (ix3 b s c) = gateIn x0 x1 x2 b s c := by
  have hc := c.isLt
  unfold val_main_v80 gateIn
  by_cases h : c.val < 8
  · rw [dif_pos h]
    refine (pad_apply_of_inside _ _ _ _ _ _ _ _ (ix3 b s (⟨c.val, h⟩ : Fin 8)) fun a => ?_).trans ?_
    · fin_cases a
      · show b.val = 0 + b.val * 1; omega
      · show s.val = 0 + s.val * 1; omega
      · show c.val = 0 + c.val * 1; omega
    · rw [val_main_v18_apply, ← ref_proj]
      exact congrArg _ (funext fun a => by fin_cases a <;> rfl)
  · rw [dif_neg h]
    refine (pad_apply_of_not_inside _ _ _ _ _ _ _ _ 2 fun q => h ?_).trans ?_
    · have q2 : (c.val - 0) / 1 < 8 := q.2.2
      omega
    · rw [val_main_call1_v0_apply, val_main_c_9_apply]
      exact word_zero

theorem ref_wide_x4 (c : Fin 128) : val_main_v82 (F := Ideal) x4 (ix1 c) = wide x4 c := by
  have hc := c.isLt
  unfold val_main_v82 wide
  by_cases h : 4 ≤ c.val ∧ c.val < 8
  · rw [dif_pos h]
    refine (pad_apply_of_inside _ _ _ _ _ _ _ _ (ix1 (⟨c.val - 4, by omega⟩ : Fin 4)) fun a => ?_).trans ?_
    · fin_cases a
      show c.val = 4 + (c.val - 4) * 1; omega
    · rw [val_main_v81_apply]
      refine congrArg x4 (funext fun a => Fin.ext ?_)
      fin_cases a
      · rfl
      · show (c.val - 4) % 4 = c.val - 4; omega
  · rw [dif_neg h]
    refine (pad_apply_of_not_inside _ _ _ _ _ _ _ _ 0 fun q => h ?_).trans ?_
    · have q1 : 4 ≤ c.val := q.1
      have q2 : (c.val - 4) / 1 < 4 := q.2.2
      omega
    · rw [val_main_call2_v0_apply, val_main_c_10_apply]
      exact word_zero

theorem ref_wide_x5 (c : Fin 128) : val_main_v84 (F := Ideal) x5 (ix1 c) = wide x5 c := by
  have hc := c.isLt
  unfold val_main_v84 wide
  by_cases h : 4 ≤ c.val ∧ c.val < 8
  · rw [dif_pos h]
    refine (pad_apply_of_inside _ _ _ _ _ _ _ _ (ix1 (⟨c.val - 4, by omega⟩ : Fin 4)) fun a => ?_).trans ?_
    · fin_cases a
      show c.val = 4 + (c.val - 4) * 1; omega
    · rw [val_main_v83_apply]
      refine congrArg x5 (funext fun a => Fin.ext ?_)
      fin_cases a
      · rfl
      · show (c.val - 4) % 4 = c.val - 4; omega
  · rw [dif_neg h]
    refine (pad_apply_of_not_inside _ _ _ _ _ _ _ _ 0 fun q => h ?_).trans ?_
    · have q1 : 4 ≤ c.val := q.1
      have q2 : (c.val - 4) / 1 < 4 := q.2.2
      omega
    · rw [val_main_call3_v0_apply, val_main_c_11_apply]
      exact word_zero

theorem ref_decay (b : Fin 8) (s : Fin 8192) (c : Fin 128) :
    val_main_v93 (F := Ideal) x0 x1 x2 x4 x5 (ix3 b s c) = decayAt x0 x1 x2 x4 x5 b s c := by
  have e4 : val_main_v92 (F := Ideal) x4 (ix3 b s c) = 0 - Ideal.exp (wide x4 c) := by
    rw [val_main_v92_apply, val_main_v91_apply, val_main_v86_apply, val_main_v85_apply, ← ref_wide_x4]
    refine (zero_sub _).symm.trans ?_
    exact congrArg (fun i => 0 - Ideal.exp (val_main_v82 (F := Ideal) x4 i)) (funext fun a => by fin_cases a; rfl)
  have e5 : val_main_v89 (F := Ideal) x0 x1 x2 x5 (ix3 b s c) = gateIn x0 x1 x2 b s c + wide x5 c := by
    rw [val_main_v89_apply, val_main_v88_apply, val_main_v87_apply, ref_gateIn, ← ref_wide_x5]
    exact congrArg (fun i => gateIn x0 x1 x2 b s c + val_main_v84 (F := Ideal) x5 i) (funext fun a => by fin_cases a; rfl)
  rw [val_main_v93_apply, e4, val_main_v90_apply, val_main_call4_v4_apply, val_main_call4_v11_apply, val_main_call4_v1_apply, val_main_call4_v10_apply,
    val_main_call4_v9_apply, val_main_call4_v8_apply, val_main_call4_v7_apply, val_main_call4_v3_apply, val_main_call4_v2_apply, val_main_call4_v0_apply,
    val_main_call4_cst_apply, e5]
  unfold decayAt
  refine congrArg (fun z : Ideal .f32 => (0 - Ideal.exp (wide x4 c)) * z) ?_
  generalize gateIn x0 x1 x2 b s c + wide x5 c = y
  unfold softplus
  have hz : (FloatOps.ofBits (F := Ideal) .f32 0x00000000#32 : Ideal .f32) = 0 := Ideal.ofBits_zero_f32
  have hy : FloatOps.subf (F := Ideal) (φ := .f32) y 0 = y := sub_zero y
  have hc : FloatOps.cmpf (F := Ideal) (φ := .f32) .une y y = 0#1 := by
    show Ideal.cmp .une y y = 0#1
    simp [Ideal.cmp]
  rw [hz, hy, hc]
  show max y 0 + Ideal.log1p (Ideal.exp (-(FloatOps.absf (F := Ideal) (φ := .f32) y))) = _
  rw [zero_sub]

theorem upto_word : ∀ r k : Fin 64, IntOp.cmpi .sge (BitVec.ofNat 32 r.val) (BitVec.ofNat 32 k.val) = if k.val ≤ r.val then 1#1 else 0#1 := by
  decide +kernel

theorem head_word : ∀ c : Fin 128, IntOp.cmpi .slt (BitVec.ofNat 32 c.val) 4#32 = if c.val < 4 then 1#1 else 0#1 := by decide +kernel

theorem ref_masked (b : Fin 8) (n : Fin 128) (r k : Fin 64) (c : Fin 128) :
    val_main_v102 (F := Ideal) x0 x1 x2 x4 x5 (ix5 b n r k c)
      = if k.val ≤ r.val then decayAt x0 x1 x2 x4 x5 b ⟨n.val * 64 + k.val, by omega⟩ c else 0 := by
  have hb := b.isLt
  have hn := n.isLt
  have hk := k.isLt
  have hc := c.isLt
  have e : val_main_call5_v2 (F := Ideal) x0 x1 x2 x4 x5 (ix5 b n r k c) = decayAt x0 x1 x2 x4 x5 b ⟨n.val * 64 + k.val, by omega⟩ c := by
    rw [val_main_call5_v2_apply, val_main_v94_apply, ← ref_decay]
    refine congrArg _ (funext fun a => Fin.ext ?_)
    fin_cases a
    · show ((((b.val * 128 + n.val) * 1 + 0) * 64 + k.val) * 128 + c.val) / 1048576 = b.val; omega
    · show ((((b.val * 128 + n.val) * 1 + 0) * 64 + k.val) * 128 + c.val) / 128 % 8192 = n.val * 64 + k.val; omega
    · show ((((b.val * 128 + n.val) * 1 + 0) * 64 + k.val) * 128 + c.val) % 128 = c.val; omega
  rw [val_main_v102_apply, e, val_main_call5_v3_apply, val_main_call5_v0_apply, val_main_cst_12_apply, val_main_call5_v1_apply, val_main_v101_apply,
    val_main_v100_apply, val_main_v98_apply, val_main_v99_apply, val_main_v96_apply, val_main_v97_apply, val_main_v95_apply, val_main_v95_apply]
  refine (congrArg (Scalar.select · _ _) (upto_word r k)).trans ?_
  split
  · rfl
  · exact Ideal.ofBits_zero_f32

theorem ref_gates : val_main_v114 (F := Ideal) x0 x1 x2 x4 x5 = gates x0 x1 x2 x4 x5 := by
  funext i
  obtain ⟨b, s, c, rfl⟩ : ∃ (b : Fin 8) (s : Fin 8192) (c : Fin 128), i = ix3 b s c :=
    ⟨i 0, i 1, i 2, by funext a; fin_cases a <;> rfl⟩
  have hb := b.isLt
  have hs := s.isLt
  have hc := c.isLt
  rw [val_main_v114_apply, val_main_call6_v0_apply, val_main_v107_apply, val_main_v105_apply, val_main_v106_apply, val_main_c_14_apply]
  refine (congrArg (Scalar.select · _ _) (head_word c)).trans ?_
  show _ = gcolAt x0 x1 x2 x4 x5 b s c
  unfold gcolAt
  by_cases h : c.val < 4
  · rw [if_pos h, if_pos h]
    show val_main_v113 (F := Ideal) x0 x1 x2 (ix3 b s c) = _
    rw [val_main_v113_apply, val_main_v112_apply, val_main_v111_apply, val_main_v110_apply, val_main_v109_apply, val_main_v108_apply,
      val_main_cst_15_apply, val_main_cst_16_apply, ref_gateIn]
    show Ideal.div (Ideal.ofBits .f32 0x3F800000#32) (Ideal.ofBits .f32 0x3F800000#32 + _) = _
    rw [Ideal.ofBits_one_f32]
    rfl
  · rw [if_neg h, if_neg h]
    show val_main_v104 (F := Ideal) x0 x1 x2 x4 x5 (ix3 b s c) = _
    rw [val_main_v104_apply,
      show idx_main_v104 (ix3 b s c) = ix4 b (⟨s.val / 64, by omega⟩ : Fin 128) (⟨s.val % 64, by omega⟩ : Fin 64) c from
        funext fun a => Fin.ext (by
          fin_cases a
          · show ((b.val * 8192 + s.val) * 128 + c.val) / 1048576 = b.val; omega
          · show ((b.val * 8192 + s.val) * 128 + c.val) / 8192 % 128 = s.val / 64; omega
          · show ((b.val * 8192 + s.val) * 128 + c.val) / 128 % 64 = s.val % 64; omega
          · show ((b.val * 8192 + s.val) * 128 + c.val) % 128 = c.val; omega),
      val_main_v103_apply, val_main_cst_13_apply]
    refine (congrArg₂ (· + ·) Ideal.ofBits_zero_f32 (Finset.sum_congr rfl fun k _ => ?_)).trans (zero_add _)
    rw [show idx_main_v103 (ix4 b (⟨s.val / 64, by omega⟩ : Fin 128) (⟨s.val % 64, by omega⟩ : Fin 64) c) k
      = ix5 b (⟨s.val / 64, by omega⟩ : Fin 128) (⟨s.val % 64, by omega⟩ : Fin 64) k c from funext fun a => by fin_cases a <;> rfl, ref_masked]

end Cert.InProj

end
-- ==== Proof.InProjEqual.lean ====
/- The projection: the frames of its three programs, and that the kernel and the reference compute the same six results. -/
module

public import proofs.«01_k».proof.Defs
public import proofs.«01_k».proof.Proof.Gen.Kernel2
public import proofs.«01_k».proof.Proof.Gen.Kernel2.Frame
public import proofs.«01_k».proof.Proof.InProjRun
public import proofs.«01_k».proof.Proof.InProjRefUnit
public import proofs.«01_k».proof.Proof.InProjRefGates
public import Idealize.ShloMosaic.Lib.Quiescent

@[expose] public section

noncomputable section

open Idealize.ShloMosaic Idealize.SL.Sem

namespace Cert.InProj

theorem frame_p : Cert.quiescent_Kernel2 := fun m ρ _ => Cert.Kernel2.Gen.frame (F := Bits) m ρ
theorem frame_pi : Cert.quiescent_Kernel2Ideal := fun m ρ _ => Cert.Kernel2Ideal.Gen.frame (F := Ideal) m ρ
theorem frame_ri : Cert.quiescent_Reference2Ideal := fun m ρ _ =>
  (θ_run Cert.Reference2Ideal.defs _ _).mono
    (fun r h => ⟨fun c => (h c).2.2.2.2.2.2, Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m g m' g' _ h
  refine ⟨_, _, _, _, _, _, Cert.Kernel2Ideal.Hand.in_proj_run m g, ?_⟩
  refine (θ_run Cert.Reference2Ideal.defs _ _).mono (fun r hr c => ?_) (Cert.Reference2Ideal.Value.run (F := Ideal) m' g')
  obtain ⟨h0, h1, h2, h3, h4, h5⟩ := h c
  obtain ⟨r0, r1, r2, r3, r4, r5, hk⟩ := hr c
  refine ⟨r0.trans ?_, r1.trans ?_, r2.trans ?_, r3.trans ?_, r4.trans ?_, r5.trans ?_, hk⟩
  · rw [Cert.Reference2Ideal.Read.val_main_v67_eq, h0, h1, h2, h3, ref_queries]
  · rw [Cert.Reference2Ideal.Read.val_main_v78_eq, h0, h1, h2, h3, ref_keys]
  · rw [Cert.Reference2Ideal.Read.val_main_v79_eq, h0, h1, h2, h3, ref_values]
  · rw [Cert.Reference2Ideal.Read.val_main_v17_eq, h0, h1, h2, ref_outGates]
  · rw [Cert.Reference2Ideal.Read.val_main_v19_eq, h0, h1, h2, ref_pooled]
  · rw [Cert.Reference2Ideal.Read.val_main_v114_eq, h0, h1, h2, h4, h5, ref_gates]

end Cert.InProj

end
-- ==== Proof.OutProjPieces.lean ====
/- The pieces of the output projection's body, element by element: the windows' means, their maps, and the two results. -/
module

public import proofs.«01_k».proof.Proof.Gen.Kernel3Ideal.Skeleton
public import Idealize.ShloMosaic.Lib.Pointwise
public import Idealize.ShloMosaic.Lib.IdealHost
public import Idealize.ShloMosaic.Lib.Pipeline.ValueKit
public import Idealize.ShloMosaic.Lib.Tactic
public import Idealize.ShloMosaic.Lib.WordArith

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

variable (v3 : Vec Ideal S1x512x512 .f32) (v5 : Vec Ideal S16x512 .f32) (i : grid0.Coords)
  (e : ℕ → Fin 512 → Ideal .f32)

theorem ext_entry (h0 : ∀ (i : Fin 16) d, v5 (ix2 i d) = e i.val d) (h1 : ∀ (i : Fin 512) d, v3 (ix3 0 i d) = e (16 + i.val) d)
    (r : Fin 528) (d : Fin 512) : k0_pay4 v3 v5 (ix2 r d) = e r.val d := by
  pointwise [k0_pay4, k0_pay3]
  split
  · rw [h0]
  · rw [h1]; congr 1; show 16 + (r.val - 16) = r.val; omega

theorem tail_entry (r : Fin 16) (d : Fin 512) : k0_pay5 v3 (ix2 r d) = v3 (ix3 0 ⟨496 + r.val, by omega⟩ d) := by
  pointwise [k0_pay5, k0_pay3]

theorem zero_tail (r : Fin 16) (d : Fin 512) : k0_pay2 (F := Ideal) (ix2 r d) = 0 := by
  pointwise [k0_pay2]

/-- The number of positions of a window of length `L` that there are at position `s`. -/
def count (s L : ℕ) : Ideal .f32 := FloatOps.sitofp (F := Ideal) FTy.f32 (BitVec.ofNat 32 (min (s + 1) L))

/-- A row normalised and weighted. -/
def normRow (x v : Fin 1024 → Ideal .f32) (d : Fin 1024) : Ideal .f32 :=
  x d * Ideal.rsqrt (Ideal.div (∑ k, x k * x k) (Ideal.ofBits .f32 0x44800000#32) + Ideal.ofBits .f32 0x358637BD#32) * v d

theorem min_word (a b : ℕ) (ha : a < 2 ^ 31) (hb : b < 2 ^ 31) :
    IntOp.minsi (BitVec.ofNat 32 a) (BitVec.ofNat 32 b) = BitVec.ofNat 32 (min a b) := by
  have e : (BitVec.ofNat 32 a).slt (BitVec.ofNat 32 b) = decide (a < b) := by
    rw [BitVec.slt_eq_decide, WordArith.toInt_ofNat_small a ha, WordArith.toInt_ofNat_small b hb]
    simp
  unfold IntOp.minsi
  rw [e]
  by_cases h : a < b
  · simp [h, Nat.min_eq_left h.le]
  · simp [h, Nat.min_eq_right (not_lt.mp h)]

theorem position (r : Fin 512) : k0_pay6 i (ix2 r 0) = BitVec.ofNat 32 (512 * (i 1).val + r.val + 1) := by
  pointwise [k0_pay6]
  show BitVec.ofNat 32 (i 1).val * BitVec.ofNat 32 512 + BitVec.ofNat 32 r.val + BitVec.ofNat 32 1 = _
  rw [← BitVec.ofNat_mul, ← BitVec.ofNat_add, ← BitVec.ofNat_add, Nat.mul_comm]

theorem count_entry (r : Fin 512) (L : ℕ) (hL : L < 2 ^ 31) :
    FloatOps.sitofp (F := Ideal) FTy.f32 (IntOp.minsi (k0_pay6 i (ix2 r 0)) (BitVec.ofNat 32 L)) = count (512 * (i 1).val + r.val) L := by
  have h : (i 1).val < 16 := (i 1).isLt
  have hr := r.isLt
  rw [position, min_word _ _ (by omega) hL]
  rfl

section windows

variable (f : ℕ → EReal) (r : ℕ)

theorem win2 : f (1 + (15 + r)) + f (15 + r) = ∑ k ∈ Finset.range 2, f (r + (17 - 2) + k) := by
  simp only [Finset.sum_range_succ, Finset.sum_range_zero, zero_add]
  ring_nf
  abel

theorem win4 : f (1 + (2 + (13 + r))) + f (2 + (13 + r)) + (f (1 + (13 + r)) + f (13 + r)) = ∑ k ∈ Finset.range 4, f (r + (17 - 4) + k) := by
  simp only [Finset.sum_range_succ, Finset.sum_range_zero, zero_add]
  ring_nf
  abel

theorem win8 : f (1 + (2 + (4 + (9 + r)))) + f (2 + (4 + (9 + r))) + (f (1 + (4 + (9 + r))) + f (4 + (9 + r)))
    + (f (1 + (2 + (9 + r))) + f (2 + (9 + r)) + (f (1 + (9 + r)) + f (9 + r))) = ∑ k ∈ Finset.range 8, f (r + (17 - 8) + k) := by
  simp only [Finset.sum_range_succ, Finset.sum_range_zero, zero_add]
  ring_nf
  abel

theorem win16 : f (1 + (2 + (4 + (8 + (1 + r))))) + f (2 + (4 + (8 + (1 + r)))) + (f (1 + (4 + (8 + (1 + r)))) + f (4 + (8 + (1 + r))))
    + (f (1 + (2 + (8 + (1 + r)))) + f (2 + (8 + (1 + r))) + (f (1 + (8 + (1 + r))) + f (8 + (1 + r))))
    + (f (1 + (2 + (4 + (1 + r)))) + f (2 + (4 + (1 + r))) + (f (1 + (4 + (1 + r))) + f (4 + (1 + r)))
    + (f (1 + (2 + (1 + r))) + f (2 + (1 + r)) + (f (1 + (1 + r)) + f (1 + r)))) = ∑ k ∈ Finset.range 16, f (r + (17 - 16) + k) := by
  simp only [Finset.sum_range_succ, Finset.sum_range_zero, zero_add]
  ring_nf
  abel

end windows

/-- The mean of a window of length `L` minus the token, from the rows before: `e n` is the row sixteen above row `n` of the tile. -/
def mean (j L : ℕ) (r : Fin 512) (c : Fin 512) : Ideal .f32 :=
  Ideal.div (∑ k ∈ Finset.range L, e (r.val + (17 - L) + k) c) (count (512 * j + r.val) L) - e (16 + r.val) c

theorem pay3_entry (r d : Fin 512) : k0_pay3 v3 (ix2 r d) = v3 (ix3 0 r d) := by
  pointwise [k0_pay3]

/-- Two rows of 512 columns side by side. -/
def catRow (o M : Fin 512 → Ideal .f32) (k : Fin 1024) : Ideal .f32 :=
  if h : k.val < 512 then o ⟨k.val, h⟩ else M ⟨k.val - 512, by omega⟩

section groups

variable (h0 : ∀ (i : Fin 16) d, v5 (ix2 i d) = e i.val d) (h1 : ∀ (i : Fin 512) d, v3 (ix3 0 i d) = e (16 + i.val) d)
  (w : Vec Ideal S1x128x128 .bf16) (r : Fin 512) (d : Fin 128)
include h0 h1

theorem group0 : k0_pay7 i v3 v5 w (ix2 r d) = ∑ x : Fin 128, mean e (i 1).val 2 r ⟨x.val, by omega⟩ * w (ix3 0 x d) := by
  pointwise [k0_pay7, k0_pay3]
  refine Finset.sum_congr rfl fun x _ => congrArg (· * _) ?_
  rw [ext_entry v3 v5 e h0 h1, ext_entry v3 v5 e h0 h1, h1, count_entry i r 2 (by decide), win2 (fun n => e n ⟨x.val, by omega⟩)]
  rfl

theorem group1 : k0_pay9 (k0_pay3 v3) (k0_pay6 i) (k0_pay8 v3 v5) w (ix2 r d)
    = ∑ x : Fin 128, mean e (i 1).val 4 r ⟨128 + x.val, by omega⟩ * w (ix3 0 x d) := by
  pointwise [k0_pay9, k0_pay8, k0_pay3]
  refine Finset.sum_congr rfl fun x _ => congrArg (· * _) ?_
  simp only [ext_entry v3 v5 e h0 h1]
  rw [h1, count_entry i r 4 (by decide), win4 (fun n => e n ⟨128 + x.val, by omega⟩)]
  rfl

theorem group2 : k0_pay10 (k0_pay3 v3) (k0_pay4 v3 v5) (k0_pay6 i) w (ix2 r d)
    = ∑ x : Fin 128, mean e (i 1).val 8 r ⟨256 + x.val, by omega⟩ * w (ix3 0 x d) := by
  pointwise [k0_pay10, k0_pay3]
  refine Finset.sum_congr rfl fun x _ => congrArg (· * _) ?_
  simp only [ext_entry v3 v5 e h0 h1]
  rw [h1, count_entry i r 8 (by decide), win8 (fun n => e n ⟨256 + x.val, by omega⟩)]
  rfl

theorem group3 : k0_pay11 (k0_pay4 v3 v5) (ix2 r d) = ∑ k ∈ Finset.range 16, e (r.val + (17 - 16) + k) ⟨384 + d.val, by omega⟩ := by
  pointwise [k0_pay11]
  simp only [ext_entry v3 v5 e h0 h1]
  exact win16 (fun n => e n ⟨384 + d.val, by omega⟩) r.val

/-- The residual after the mixers at a row of the tile; `M` is what the groups' maps give. -/
theorem sum_entry (w0 w1 w2 w3 : Vec Ideal S1x128x128 .bf16) (ps : Vec Ideal S1x512 .f32) (o : Vec Ideal S1x512x512 .bf16)
    (x : Vec Ideal S1x512x1024 .f32) (W : Vec Ideal S1024x1024 .bf16) (M : Fin 512 → Ideal .f32)
    (m0 : ∀ d : Fin 128, ∑ x : Fin 128, mean e (i 1).val 2 r ⟨x.val, by omega⟩ * w0 (ix3 0 x d) = M ⟨d.val, by omega⟩)
    (m1 : ∀ d : Fin 128, ∑ x : Fin 128, mean e (i 1).val 4 r ⟨128 + x.val, by omega⟩ * w1 (ix3 0 x d) = M ⟨128 + d.val, by omega⟩)
    (m2 : ∀ d : Fin 128, ∑ x : Fin 128, mean e (i 1).val 8 r ⟨256 + x.val, by omega⟩ * w2 (ix3 0 x d) = M ⟨256 + d.val, by omega⟩)
    (m3 : ∀ d : Fin 128, ∑ x : Fin 128, mean e (i 1).val 16 r ⟨384 + x.val, by omega⟩ * w3 (ix3 0 x d) = M ⟨384 + d.val, by omega⟩)
    (d : Fin 1024) :
    k0_pay13 (k0_pay3 v3) (k0_pay6 i) (k0_pay7 i v3 v5 w0) (k0_pay9 (k0_pay3 v3) (k0_pay6 i) (k0_pay8 v3 v5) w1)
        (k0_pay10 (k0_pay3 v3) (k0_pay4 v3 v5) (k0_pay6 i) w2) (k0_pay11 (k0_pay4 v3 v5)) k0_pay12 w3 ps o x W (ix2 r d)
      = x (ix3 0 r d) + ∑ k : Fin 1024, catRow (fun c => o (ix3 0 r c)) (fun c => M c * ps (ix2 0 c)) k * W (ix2 k d) := by
  pointwise [k0_pay13, k0_pay12]
  refine congrArg (_ + ·) (Finset.sum_congr rfl fun k _ => congrArg (· * _) ?_)
  have hk := k.isLt
  unfold catRow
  split
  · rfl
  · refine congrArg (· * _) ?_
    split
    · rw [group0 v3 v5 i e h0 h1, m0]
    split
    · rw [group1 v3 v5 i e h0 h1, m1]; congr 1; apply Fin.ext; show 128 + (k.val - 512 - 128) = k.val - 512; omega
    split
    · rw [group2 v3 v5 i e h0 h1, m2]; congr 1; apply Fin.ext; show 256 + (k.val - 512 - 128 - 128) = k.val - 512; omega
    · refine Eq.trans (Finset.sum_congr rfl fun x _ => ?_) ((m3 ⟨k.val - 512 - 128 - 128 - 128, by omega⟩).trans ?_)
      · rw [group3 v3 v5 e h0 h1, pay3_entry, h1, count_entry i r 16 (by decide)]
        rfl
      · congr 1; apply Fin.ext; show 384 + (k.val - 512 - 128 - 128 - 128) = k.val - 512; omega

end groups

theorem block_entry (P : FVec Ideal S512x512 .f32) (n : IVec S512x1 32) (A B C D : FVec Ideal S512x128 .f32) (b : IVec S512x1 32)
    (w : Vec Ideal S1x128x128 .bf16) (ps : Vec Ideal S1x512 .f32) (o : Vec Ideal S1x512x512 .bf16) (x : Vec Ideal S1x512x1024 .f32)
    (W : Vec Ideal S1024x1024 .bf16) (r : Fin 512) (d : Fin 1024) :
    k0_pay14 P n A B C D b w ps o x W (ix3 0 r d) = k0_pay13 P n A B C D b w ps o x W (ix2 r d) := by
  pointwise [k0_pay14]

theorem norm_entry (P : FVec Ideal S512x512 .f32) (n : IVec S512x1 32) (A B C D : FVec Ideal S512x128 .f32) (b : IVec S512x1 32)
    (w : Vec Ideal S1x128x128 .bf16) (ps : Vec Ideal S1x512 .f32) (o : Vec Ideal S1x512x512 .bf16) (x : Vec Ideal S1x512x1024 .f32)
    (W : Vec Ideal S1024x1024 .bf16) (nf : Vec Ideal S1x1024 .f32) (d : Fin 1024) (r : Fin 512) :
    k0_pay1 (k0_pay13 P n A B C D b w ps o x W) (k0_pay15 nf) (k0_pay16 P n A B C D b w ps o x W)
        k0_pay17 (ix2 d r)
      = normRow (fun k => k0_pay13 P n A B C D b w ps o x W (ix2 r k)) (fun k => nf (ix2 0 k)) d := by
  pointwise [k0_pay1, k0_pay15, k0_pay16, k0_pay17]
  rfl

end Cert.Kernel3Ideal.Hand

end
-- ==== Proof.OutProjTarget.lean ====
/- What the output projection and its reference compute, element by element, in terms of the argument arrays. -/
module

public import proofs.«01_k».proof.Proof.OutProjPieces

@[expose] public section

noncomputable section

namespace Cert.OutProj

open Idealize.ShloMosaic
open Cert.Kernel3Ideal (S8x8192x1024 S8x8192x512 S1x4x128x128 S1x512 S1x1024x1024 S1x1024 S1024x65536)
open Cert.Kernel3Ideal.Hand (count normRow catRow)

variable (x0 : S8x8192x1024.Idx → Ideal .f32) (x1 : S8x8192x512.Idx → Ideal .bf16) (x2 : S8x8192x512.Idx → Ideal .f32) (x3 : S1x4x128x128.Idx → Ideal .f32)
  (x4 : S1x512.Idx → Ideal .f32) (x5 : S1x1024x1024.Idx → Ideal .f32) (x6 : S1x1024.Idx → Ideal .f32)

/-- The pooled columns' row `n - 16`: zero before the first row. -/
def rowAt (b : Fin 8) (n : ℕ) (w : Fin 512) : Ideal .f32 :=
  if h : 16 ≤ n ∧ n < 8208 then x2 (ix3 b ⟨n - 16, by omega⟩ w) else 0

/-- The mean of the last positions of a window of length `L`, minus the token. -/
def meanAt (L : ℕ) (b : Fin 8) (s : Fin 8192) (c : Fin 512) : Ideal .f32 :=
  Ideal.div (∑ k ∈ Finset.range L, rowAt x2 b (s.val + (17 - L) + k) c) (count s.val L) - x2 (ix3 b s c)

/-- The group's linear map of the means. -/
def mapAt (b : Fin 8) (s : Fin 8192) (c : Fin 512) : Ideal .f32 :=
  ∑ k : Fin 128, meanAt x2 (2 * 2 ^ (c.val / 128)) b s ⟨c.val / 128 * 128 + k.val, by omega⟩
    * x3 (ix4 0 ⟨c.val / 128, by omega⟩ k ⟨c.val % 128, by omega⟩)

/-- The two mixers' columns side by side. -/
def catAt (b : Fin 8) (s : Fin 8192) (k : Fin 1024) : Ideal .f32 :=
  catRow (fun c => x1 (ix3 b s c)) (fun c => mapAt x2 x3 b s c * x4 (ix2 0 c)) k

/-- The residual after the mixers. -/
def sumAt (b : Fin 8) (s : Fin 8192) (d : Fin 1024) : Ideal .f32 :=
  x0 (ix3 b s d) + ∑ k : Fin 1024, catAt x1 x2 x3 x4 b s k * x5 (ix3 0 k d)

/-- The residual after the mixers, normalised. -/
def normAt (b : Fin 8) (s : Fin 8192) (d : Fin 1024) : Ideal .f32 :=
  normRow (fun k => sumAt x0 x1 x2 x3 x4 x5 b s k) (fun k => x6 (ix2 0 k)) d

/-- The first result. -/
def residual (i : S8x8192x1024.Idx) : Ideal .f32 := sumAt x0 x1 x2 x3 x4 x5 (i 0) (i 1) (i 2)

/-- The second result: the normalised tokens of all batches as columns. -/
def columns (i : S1024x65536.Idx) : Ideal .f32 :=
  normAt x0 x1 x2 x3 x4 x5 x6 ⟨(i 1).val / 8192, by have : (i 1).val < 65536 := (i 1).isLt; omega⟩
    ⟨(i 1).val % 8192, by omega⟩ (i 0)

end Cert.OutProj

end
-- ==== Proof.OutProjBlocks.lean ====
/- The blocks of the output projection's windows, read from the arguments: point `16 b + j` is tile `j` of batch `b`. -/
module

public import proofs.«01_k».proof.Proof.Gen.Kernel3Ideal.Frame
public import proofs.«01_k».proof.Proof.OutProjTarget

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Cert.OutProj

variable (m : (ℓ : Loc nD τ sig) → Buf (Elt Ideal) ℓ) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

theorem index_tiles : ∀ t : Fin cfg0.N, win0_0.index t = ![t.val / 16, t.val % 16, 0] ∧ win0_1.index t = ![t.val / 16, t.val % 16, 0]
    ∧ win0_2.index t = ![t.val / 16, t.val % 16, 0] := by decide +kernel
theorem index_const : ∀ t : Fin cfg0.N, win0_3.index t = ![0, 0, 0] ∧ win0_4.index t = ![0, 0] ∧ win0_5.index t = ![0, 0]
    ∧ win0_6.index t = ![0, 0] := by decide +kernel
theorem coord_1 : ∀ t : Fin cfg0.N, (grid0.coords t 1).val = t.val % 16 := by decide +kernel

theorem entry_3 (g : Fin 4) (k d : Fin 128) : V m c main_v1 (ix3 g k d) = a3 m c (ix4 0 g k d) := by
  unfold_abbrev_sides
  after_results
  pointwise []
  blk_ext []

theorem entry_4 (w : Fin 512) : V m c main_v3 (ix2 0 w) = a4 m c (ix2 0 w) := by
  unfold_abbrev_sides
  after_results
  pointwise []
  blk_ext []

theorem entry_5 (k d : Fin 1024) : V m c main_v5 (ix2 k d) = a5 m c (ix3 0 k d) := by
  unfold_abbrev_sides
  after_results
  pointwise []
  blk_ext []

theorem entry_6 (w : Fin 1024) : V m c main_v7 (ix2 0 w) = a6 m c (ix2 0 w) := by
  unfold_abbrev_sides
  after_results
  pointwise []
  blk_ext []

variable (t : Fin cfg0.N)

/-- The batch of a point. -/
def batch : Fin 8 := ⟨t.val / 16, by have h : t.val < 128 := t.isLt; omega⟩

/-- Row `r` of a point's tile. -/
def rowNo (r : Fin 512) : Fin 8192 := ⟨512 * (t.val % 16) + r.val, by have := r.isLt; omega⟩

theorem blk_0 (r : Fin 512) (d : Fin 1024) : iblk m c 0 t (ix3 0 r d) = a0 m c (ix3 (batch t) (rowNo t r) d) := by
  have e := (index_tiles t).1
  unfold a0 batch rowNo
  rw [← V_main_arg0 m c]
  blk_ext [iblk, e]

theorem blk_1 (r : Fin 512) (d : Fin 512) : iblk m c 1 t (ix3 0 r d) = a1 m c (ix3 (batch t) (rowNo t r) d) := by
  have e := (index_tiles t).2.1
  unfold a1 batch rowNo
  rw [← V_main_arg1 m c]
  blk_ext [iblk, e]

theorem blk_2 (r : Fin 512) (d : Fin 512) : iblk m c 2 t (ix3 0 r d) = a2 m c (ix3 (batch t) (rowNo t r) d) := by
  have e := (index_tiles t).2.2
  unfold a2 batch rowNo
  rw [← V_main_arg2 m c]
  blk_ext [iblk, e]

theorem blk_3 (g : Fin 4) (k d : Fin 128) : iblk m c 3 t (ix3 g k d) = a3 m c (ix4 0 g k d) := by
  have e := (index_const t).1
  rw [← entry_3 m c]
  blk_ext [iblk, e]

theorem blk_4 (w : Fin 512) : iblk m c 4 t (ix2 0 w) = a4 m c (ix2 0 w) := by
  have e := (index_const t).2.1
  rw [← entry_4 m c]
  blk_ext [iblk, e]

theorem blk_5 (k d : Fin 1024) : iblk m c 5 t (ix2 k d) = a5 m c (ix3 0 k d) := by
  have e := (index_const t).2.2.1
  rw [← entry_5 m c]
  blk_ext [iblk, e]

theorem blk_6 (w : Fin 1024) : iblk m c 6 t (ix2 0 w) = a6 m c (ix2 0 w) := by
  have e := (index_const t).2.2.2
  rw [← entry_6 m c]
  blk_ext [iblk, e]

end Cert.Kernel3Ideal.Hand

end
-- ==== Proof.OutProjPoint.lean ====
/- One point's two blocks and the rows it carries to the next point. -/
module

public import proofs.«01_k».proof.Proof.OutProjBlocks
public import Idealize.ShloMosaic.Lib.Pipeline.ReadBack

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Cert.OutProj

variable (m : (ℓ : Loc nD τ sig) → Buf (Elt Ideal) ℓ) (c : Dev nD) (t : Fin cfg0.N)

/-- The pooled rows around a tile: row 16 is the tile's first. -/
def rowsOf (n : ℕ) (d : Fin 512) : Ideal .f32 := rowAt (a2 m c) (batch t) (512 * (t.val % 16) + n) d

theorem tile_rows (r d : Fin 512) : iblk m c 2 t (ix3 0 r d) = rowsOf m c t (16 + r.val) d := by
  have hr := r.isLt
  rw [blk_2]
  unfold rowsOf rowAt
  rw [dif_pos (by omega)]
  congr 2
  apply Fin.ext
  show 512 * (t.val % 16) + r.val = 512 * (t.val % 16) + (16 + r.val) - 16
  omega

theorem mean_eq (L : ℕ) (r d : Fin 512) : mean (rowsOf m c t) (t.val % 16) L r d = meanAt (a2 m c) L (batch t) (rowNo t r) d := by
  unfold mean meanAt
  rw [← tile_rows, blk_2]
  refine congrArg (fun z => Ideal.div z _ - _) (Finset.sum_congr rfl fun k _ => ?_)
  unfold rowsOf
  congr 1
  show 512 * (t.val % 16) + (r.val + (17 - L) + k) = 512 * (t.val % 16) + r.val + (17 - L) + k
  omega

theorem map_eq (g : Fin 4) (w : Vec Ideal S1x128x128 .bf16) (hw : ∀ x d, w (ix3 0 x d) = a3 m c (ix4 0 g x d)) (r : Fin 512) (d : Fin 128) :
    ∑ x : Fin 128, mean (rowsOf m c t) (t.val % 16) (2 * 2 ^ g.val) r ⟨128 * g.val + x.val, by omega⟩ * w (ix3 0 x d)
      = mapAt (a2 m c) (a3 m c) (batch t) (rowNo t r) ⟨128 * g.val + d.val, by omega⟩ := by
  unfold mapAt
  have hd := d.isLt
  have e : (128 * g.val + d.val) / 128 = g.val := by omega
  refine Finset.sum_congr rfl fun x _ => ?_
  rw [mean_eq, hw]
  refine congrArg₂ (· * ·) ?_ (congrArg (a3 m c) ?_)
  · refine congrArg₂ (fun n (q : Fin 512) => meanAt (a2 m c) (2 * 2 ^ n) (batch t) (rowNo t r) q) e.symm (Fin.ext ?_)
    show 128 * g.val + x.val = (128 * g.val + d.val) / 128 * 128 + x.val
    omega
  · funext a
    apply Fin.ext
    fin_cases a
    · rfl
    · exact e.symm
    · rfl
    · show d.val = (128 * g.val + d.val) % 128; omega

/-- The residual of a point's row, whatever holds the sixteen rows before the tile. -/
theorem sum_point (v5 : Vec Ideal S16x512 .f32) (h0 : ∀ (i : Fin 16) d, v5 (ix2 i d) = rowsOf m c t i.val d)
    (w0 w1 w2 w3 : Vec Ideal S1x128x128 .bf16) (hw0 : ∀ x d, w0 (ix3 0 x d) = a3 m c (ix4 0 0 x d))
    (hw1 : ∀ x d, w1 (ix3 0 x d) = a3 m c (ix4 0 1 x d)) (hw2 : ∀ x d, w2 (ix3 0 x d) = a3 m c (ix4 0 2 x d))
    (hw3 : ∀ x d, w3 (ix3 0 x d) = a3 m c (ix4 0 3 x d)) (r : Fin 512) (d : Fin 1024) :
    k0_pay13 (k0_pay3 (iblk m c 2 t)) (k0_pay6 (grid0.coords t)) (k0_pay7 (grid0.coords t) (iblk m c 2 t) v5 w0)
        (k0_pay9 (k0_pay3 (iblk m c 2 t)) (k0_pay6 (grid0.coords t)) (k0_pay8 (iblk m c 2 t) v5) w1)
        (k0_pay10 (k0_pay3 (iblk m c 2 t)) (k0_pay4 (iblk m c 2 t) v5) (k0_pay6 (grid0.coords t)) w2)
        (k0_pay11 (k0_pay4 (iblk m c 2 t) v5)) k0_pay12 w3 (iblk m c 4 t) (iblk m c 1 t) (iblk m c 0 t) (iblk m c 5 t) (ix2 r d)
      = sumAt (a0 m c) (a1 m c) (a2 m c) (a3 m c) (a4 m c) (a5 m c) (batch t) (rowNo t r) d := by
  have hg : ∀ (g : Fin 4) (w : Vec Ideal S1x128x128 .bf16) (hw : ∀ x d, w (ix3 0 x d) = a3 m c (ix4 0 g x d)) (d : Fin 128),
      ∑ x : Fin 128, mean (rowsOf m c t) (grid0.coords t 1).val (2 * 2 ^ g.val) r ⟨128 * g.val + x.val, by omega⟩ * w (ix3 0 x d)
        = mapAt (a2 m c) (a3 m c) (batch t) (rowNo t r) ⟨128 * g.val + d.val, by omega⟩ := by
    intro g w hw d
    rw [coord_1]
    exact map_eq m c t g w hw r d
  rw [sum_entry (iblk m c 2 t) v5 (grid0.coords t) (rowsOf m c t) h0 (tile_rows m c t) r w0 w1 w2 w3 _ _ _ _
    (fun k => mapAt (a2 m c) (a3 m c) (batch t) (rowNo t r) k)
    (fun d => by simpa only [Fin.val_zero, Nat.mul_zero, Nat.zero_add, pow_zero, Nat.mul_one] using hg 0 w0 hw0 d) (hg 1 w1 hw1) (hg 2 w2 hw2) (hg 3 w3 hw3)]
  unfold sumAt catAt
  refine congrArg₂ (fun p q : Ideal .f32 => p + q) (blk_0 m c t r d) (Finset.sum_congr rfl fun k _ => ?_)
  exact congrArg₂ (fun p q : Ideal .f32 => p * q) (congrArg₂ (fun f g => catRow f g k) (funext fun w => blk_1 m c t r w)
    (funext fun w => congrArg _ (blk_4 m c t w))) (blk_5 m c t k d)

theorem weights (g : Fin 4) (inb : ∀ a, ![g.val, 0, 0] a + ![1, 128, 128] a ≤ S4x128x128.size a) (x d : Fin 128) :
    View.ld (iblk m c 3 t) (Rect.unit ![g.val, 0, 0] ![1, 128, 128] inb) (ix3 0 x d) = a3 m c (ix4 0 g x d) := by
  refine Eq.trans ?_ (blk_3 m c t g x d)
  show iblk m c 3 t _ = _
  refine congrArg _ (funext fun a => Fin.ext ?_)
  fin_cases a
  · rfl
  · show 0 + 1 * x.val = x.val; omega
  · show 0 + 1 * d.val = d.val; omega

/-- What point `t` leaves in the scratch: the last sixteen rows of its tile. -/
theorem carried (r : Fin 16) (d : Fin 512) :
    (outsAt0 m c t.val t.isLt).2.2 (ix2 r d) = rowsOf m c t (512 + r.val) d := by
  have e : ∀ n : ℕ, rowsOf m c t (16 + (496 + n)) d = rowsOf m c t (512 + n) d := fun n => by congr 1; omega
  by_cases h0 : t.val % 16 = 0
  · rw [outsAt0_A m c t h0]
    frame_out
    rw [tail_entry, tile_rows]
    exact e r.val
  · rw [outsAt0_B m c t h0]
    frame_out
    rw [tail_entry, tile_rows]
    exact e r.val

/-- The sixteen rows before the tile of a batch's first point are zeros. -/
theorem before_first (h0 : t.val % 16 = 0) (i : Fin 16) (d : Fin 512) : k0_pay2 (F := Ideal) (ix2 i d) = rowsOf m c t i.val d := by
  have hi := i.isLt
  rw [zero_tail]
  unfold rowsOf rowAt
  rw [dif_neg (by omega)]

/-- The rows a later point finds in the scratch. -/
theorem before_next (h0 : ¬ t.val % 16 = 0) (i : Fin 16) (d : Fin 512) :
    (outsAt0 m c (t.val - 1) (by have := t.isLt; omega)).2.2 (ix2 i d) = rowsOf m c t i.val d := by
  have ht := t.isLt
  refine (carried m c ⟨t.val - 1, by omega⟩ i d).trans ?_
  have hb : batch ⟨t.val - 1, by omega⟩ = batch t := Fin.ext (by show (t.val - 1) / 16 = t.val / 16; omega)
  unfold rowsOf
  rw [hb]
  congr 1
  show 512 * ((t.val - 1) % 16) + (512 + i.val) = 512 * (t.val % 16) + i.val
  omega

/-- The residual block of a point. -/
theorem sum_block (y : S1x512x1024.Idx) :
    (outsAt0 m c t.val t.isLt).1 y
      = sumAt (a0 m c) (a1 m c) (a2 m c) (a3 m c) (a4 m c) (a5 m c) (batch t) (rowNo t (y 1)) (y 2) := by
  by_cases h0 : t.val % 16 = 0
  · rw [outsAt0_A m c t h0]
    frame_out
    refine (congrArg _ (show y = ix3 (0 : Fin 1) (y 1) (y 2) from funext fun a => by fin_cases a <;> first | rfl | exact Fin.ext (Nat.lt_one_iff.mp (y 0).isLt))).trans ?_
    refine (block_entry _ _ _ _ _ _ _ _ _ _ _ _ (y 1) (y 2)).trans ?_
    exact sum_point m c t _ (before_first m c t h0) _ _ _ _ (weights m c t 0 _) (weights m c t 1 _) (weights m c t 2 _) (weights m c t 3 _) (y 1) (y 2)
  · rw [outsAt0_B m c t h0]
    frame_out
    simp only [Idealize.ShloMosaic.read_unread_whole]
    refine (congrArg _ (show y = ix3 (0 : Fin 1) (y 1) (y 2) from funext fun a => by fin_cases a <;> first | rfl | exact Fin.ext (Nat.lt_one_iff.mp (y 0).isLt))).trans ?_
    refine (block_entry _ _ _ _ _ _ _ _ _ _ _ _ (y 1) (y 2)).trans ?_
    exact sum_point m c t _ (before_next m c t h0) _ _ _ _ (weights m c t 0 _) (weights m c t 1 _) (weights m c t 2 _) (weights m c t 3 _) (y 1) (y 2)

/-- The normalised block of a point, as columns. -/
theorem norm_block (y : S1024x512.Idx) :
    (outsAt0 m c t.val t.isLt).2.1 y
      = normAt (a0 m c) (a1 m c) (a2 m c) (a3 m c) (a4 m c) (a5 m c) (a6 m c) (batch t) (rowNo t (y 1)) (y 0) := by
  by_cases h0 : t.val % 16 = 0
  · rw [outsAt0_A m c t h0]
    frame_out
    refine (congrArg _ (show y = ix2 (y 0) (y 1) from funext fun a => by fin_cases a <;> rfl)).trans ?_
    refine (norm_entry _ _ _ _ _ _ _ _ _ _ _ _ _ (y 0) (y 1)).trans ?_
    exact congrArg₂ (fun f g => normRow f g (y 0))
      (funext fun k => sum_point m c t _ (before_first m c t h0) _ _ _ _ (weights m c t 0 _) (weights m c t 1 _) (weights m c t 2 _) (weights m c t 3 _) (y 1) k)
      (funext fun k => blk_6 m c t k)
  · rw [outsAt0_B m c t h0]
    frame_out
    simp only [Idealize.ShloMosaic.read_unread_whole]
    refine (congrArg _ (show y = ix2 (y 0) (y 1) from funext fun a => by fin_cases a <;> rfl)).trans ?_
    refine (norm_entry _ _ _ _ _ _ _ _ _ _ _ _ _ (y 0) (y 1)).trans ?_
    exact congrArg₂ (fun f g => normRow f g (y 0))
      (funext fun k => sum_point m c t _ (before_next m c t h0) _ _ _ _ (weights m c t 0 _) (weights m c t 1 _) (weights m c t 2 _) (weights m c t 3 _) (y 1) k)
      (funext fun k => blk_6 m c t k)

end Cert.Kernel3Ideal.Hand

end
-- ==== Proof.OutProjRun.lean ====
/- The output projection's run: its two arrays at the end, and the arguments as launched. -/
module

public import proofs.«01_k».proof.Proof.Gen.Kernel3Ideal.Value
public import proofs.«01_k».proof.Proof.OutProjPoint

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.SL.Sem
open Cert.OutProj

variable (m : (ℓ : Loc nD τ sig) → Buf (Elt Ideal) ℓ) (ρ : Dev nD → PrngReg) (c : Dev nD)

theorem index_7 : ∀ t : Fin cfg0.N, win0_7.index t = ![t.val / 16, t.val % 16, 0] := by decide +kernel
theorem covers_7 : win0_7.Covers := by decide +kernel
theorem index_8 : ∀ t : Fin cfg0.N, win0_8.index t = ![0, t.val] := by decide +kernel
theorem covers_8 : win0_8.Covers := by decide +kernel

theorem final_residual : (dats m 0 c).arrAt 7 cfg0.N = OutProj.residual (a0 m c) (a1 m c) (a2 m c) (a3 m c) (a4 m c) (a5 m c) := by
  refine (dats m 0 c).arrAt_eq_of_covers 7 _ covers_7 fun t hf y => ?_
  have hy : (y 0).val < 1 := (y 0).isLt
  have e0 : ((win0_7.blk t).view.emb y 0).val = win0_7.index t 0 * 1 + (y 0).val := by blk_simp
  have e1 : ((win0_7.blk t).view.emb y 1).val = win0_7.index t 1 * 512 + (y 1).val := by blk_simp
  have e2 : ((win0_7.blk t).view.emb y 2).val = win0_7.index t 2 * 1024 + (y 2).val := by blk_simp
  rw [index_7 t] at e0 e1 e2
  have f0 : (win0_7.blk t).view.emb y 0 = batch t := Fin.ext (by rw [e0]; show t.val / 16 * 1 + _ = t.val / 16; omega)
  have f1 : (win0_7.blk t).view.emb y 1 = rowNo t (y 1) := Fin.ext (by rw [e1]; show t.val % 16 * 512 + _ = 512 * (t.val % 16) + _; omega)
  have f2 : (win0_7.blk t).view.emb y 2 = y 2 := Fin.ext (by rw [e2]; show 0 * 1024 + _ = _; omega)
  blk_simp
  rw [after0_7, sum_block]
  unfold OutProj.residual
  simp only [f0, f1, f2]

theorem final_columns :
    (dats m 0 c).arrAt 8 cfg0.N = columns (a0 m c) (a1 m c) (a2 m c) (a3 m c) (a4 m c) (a5 m c) (a6 m c) := by
  refine (dats m 0 c).arrAt_eq_of_covers 8 _ covers_8 fun t hf y => ?_
  have hy : (y 1).val < 512 := (y 1).isLt
  have e0 : ((win0_8.blk t).view.emb y 0).val = win0_8.index t 0 * 1024 + (y 0).val := by blk_simp
  have e1 : ((win0_8.blk t).view.emb y 1).val = win0_8.index t 1 * 512 + (y 1).val := by blk_simp
  rw [index_8 t] at e0 e1
  have e1' : ((win0_8.blk t).view.emb y 1).val = t.val * 512 + (y 1).val := e1
  have f0 : (win0_8.blk t).view.emb y 0 = y 0 := Fin.ext (by rw [e0]; show 0 * 1024 + _ = _; omega)
  have f1 : ∀ h, (⟨((win0_8.blk t).view.emb y 1).val / 8192, h⟩ : Fin 8) = batch t :=
    fun h => Fin.ext (by show ((win0_8.blk t).view.emb y 1).val / 8192 = t.val / 16; omega)
  have f2 : ∀ h, (⟨((win0_8.blk t).view.emb y 1).val % 8192, h⟩ : Fin 8192) = rowNo t (y 1) :=
    fun h => Fin.ext (by show ((win0_8.blk t).view.emb y 1).val % 8192 = 512 * (t.val % 16) + (y 1).val; omega)
  blk_simp
  rw [after0_8, norm_block]
  unfold columns
  rw [f0, f1, f2]

theorem out_proj_run :
    θ_run defs (onTc (τ := τ) (main (F := Ideal))) ⟨m, fun _ => 0, ρ⟩ (fun r => ∀ c : Dev nD,
      r.2.mem ((c : Thread nD τ).loc main_v8_0) = OutProj.residual (a0 m c) (a1 m c) (a2 m c) (a3 m c) (a4 m c) (a5 m c)
      ∧ r.2.mem ((c : Thread nD τ).loc main_v8_1) = columns (a0 m c) (a1 m c) (a2 m c) (a3 m c) (a4 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => by
    obtain ⟨h7, h8, hk⟩ := h c
    exact ⟨h7.trans (final_residual m c), h8.trans (final_columns m c), hk⟩) (Value.run_blocks (F := Ideal) m ρ)

end Cert.Kernel3Ideal.Hand

end
-- ==== Proof.OutProjRef.lean ====
/- The output projection's reference, element by element: the windows' means and their maps. -/
module

public import proofs.«01_k».proof.Proof.Gen.Reference3Ideal.Run
public import proofs.«01_k».proof.Proof.Gen.Reference3Ideal.Read
public import proofs.«01_k».proof.Proof.OutProjTarget
public import Idealize.ShloMosaic.Lib.KernelVsHost
public import Idealize.ShloMosaic.Lib.Pointwise
public import Idealize.ShloMosaic.Lib.IdealHost
public import Idealize.ShloMosaic.Lib.WordCmp

@[expose] public section

set_option maxRecDepth 16384

noncomputable section

namespace Cert.OutProj

open Idealize.ShloMosaic
open Cert.Reference3Ideal Cert.Reference3Ideal.Gen Cert.Reference3Ideal.Read
open Cert.Kernel3Ideal.Hand (count normRow catRow min_word)

variable (x0 : S8x8192x1024.Idx → Ideal .f32) (x1 : S8x8192x512.Idx → Ideal .bf16) (x2 : S8x8192x512.Idx → Ideal .f32) (x3 : S1x4x128x128.Idx → Ideal .f32)
  (x4 : S1x512.Idx → Ideal .f32)

theorem word_window (g : Fin 4) : IntOp.shli .host 2#32 (BitVec.ofNat 32 g.val) = BitVec.ofNat 32 (2 * 2 ^ g.val) := by
  fin_cases g <;> rfl

theorem window_le (g : Fin 4) : 1 ≤ 2 * 2 ^ g.val ∧ 2 * 2 ^ g.val ≤ 16 := by
  fin_cases g <;> decide

theorem ref_mask (g : Fin 4) (s t : Fin 8192) :
    val_main_v21 (F := Ideal) (ix3 g s t) = if t.val ≤ s.val ∧ s.val < t.val + 2 * 2 ^ g.val then (1 : Ideal .f32) else 0 := by
  have hs := s.isLt
  have ht := t.isLt
  have hg := window_le g
  rw [val_main_v21_apply, val_main_v20_apply, val_main_v19_apply, val_main_v18_apply, val_main_v9_apply, val_main_v7_apply, val_main_v8_apply,
    val_main_v5_apply, val_main_v6_apply, val_main_v16_apply, val_main_v17_apply, val_main_v10_apply, val_main_v15_apply, val_main_v13_apply,
    val_main_v14_apply, val_main_v11_apply, val_main_v12_apply, val_main_v3_apply, val_main_v1_apply, val_main_v2_apply, val_main_c_apply,
    val_main_v4_apply, val_main_v4_apply, val_main_call0_v0_apply, val_main_call0_v1_apply,
    val_main_cst_apply, val_main_cst_0_apply]
  show Scalar.select (IntOp.andi (IntOp.cmpi .sle (BitVec.ofNat 32 t.val) (BitVec.ofNat 32 s.val))
      (IntOp.cmpi .slt (BitVec.ofNat 32 s.val) (BitVec.ofNat 32 t.val + IntOp.shli .host 2#32 (BitVec.ofNat 32 g.val))))
    (Ideal.ofBits .f32 0x3F800000#32) (Ideal.ofBits .f32 0x00000000#32) = _
  rw [word_window, ← BitVec.ofNat_add, WordCmp.cmpi_sle_eq, WordCmp.cmpi_slt_eq, WordCmp.toInt_ofNat_of_lt (by omega),
    WordCmp.toInt_ofNat_of_lt (by omega), WordCmp.toInt_ofNat_of_lt (by omega), WordCmp.andi_ofBool, Ideal.ofBits_one_f32, Ideal.ofBits_zero_f32]
  unfold Scalar.select
  by_cases h : t.val ≤ s.val ∧ s.val < t.val + 2 * 2 ^ g.val
  · rw [if_pos h, if_pos]
    rw [decide_eq_true (by exact_mod_cast h.1), decide_eq_true (by exact_mod_cast h.2)]
    rfl
  · rw [if_neg h, if_neg]
    intro e
    rw [WordCmp.ofBool_eq_one_iff', Bool.and_eq_true, decide_eq_true_eq, decide_eq_true_eq] at e
    exact h ⟨by exact_mod_cast e.1, by exact_mod_cast e.2⟩

theorem row_pos (b : Fin 8) (t : Fin 8192) (w : Fin 512) : rowAt x2 b (t.val + 16) w = x2 (ix3 b t w) := by
  have ht := t.isLt
  unfold rowAt
  rw [dif_pos (by omega)]
  rfl

/-- The positions of a window, whether counted from its first or picked out of all positions. -/
theorem window_sum (b : Fin 8) (s : Fin 8192) (w : Fin 512) (L : ℕ) (h1 : 1 ≤ L) (h2 : L ≤ 16) :
    ∑ t : Fin 8192, x2 (ix3 b t w) * (if t.val ≤ s.val ∧ s.val < t.val + L then (1 : Ideal .f32) else 0)
      = ∑ k ∈ Finset.range L, rowAt x2 b (s.val + (17 - L) + k) w := by
  have hs := s.isLt
  have e : ∀ t : Fin 8192, x2 (ix3 b t w) * (if t.val ≤ s.val ∧ s.val < t.val + L then (1 : Ideal .f32) else 0)
      = (fun n : ℕ => if n ≤ s.val ∧ s.val < n + L then rowAt x2 b (n + 16) w else 0) t.val := by
    intro t
    show _ = if t.val ≤ s.val ∧ s.val < t.val + L then rowAt x2 b (t.val + 16) w else 0
    split
    · rw [row_pos]; exact mul_one _
    · exact mul_zero _
  refine (Finset.sum_congr rfl fun t _ => e t).trans
    ((Fin.sum_univ_eq_sum_range (α := Ideal .f32) (fun n : ℕ => if n ≤ s.val ∧ s.val < n + L then rowAt x2 b (n + 16) w else 0) 8192).trans ?_)
  rw [← Finset.sum_filter]
  refine Finset.sum_of_injOn (fun n => n + L - s.val - 1) ?_ ?_ ?_ ?_
  · intro a ha c hc hac
    simp only [Finset.coe_filter, Finset.mem_range, Set.mem_setOf_eq] at ha hc
    have hac' : a + L - s.val - 1 = c + L - s.val - 1 := hac
    omega
  · intro a ha
    simp only [Finset.coe_filter, Finset.mem_range, Set.mem_setOf_eq] at ha
    simp only [Finset.coe_range, Set.mem_Iio]
    omega
  · intro k hk hn
    have hk' := Finset.mem_range.mp hk
    unfold rowAt
    rw [dif_neg]
    intro hc
    refine hn ⟨s.val + 1 + k - L, ?_, ?_⟩
    · simp only [Finset.coe_filter, Finset.mem_range, Set.mem_setOf_eq]
      omega
    · show s.val + 1 + k - L + L - s.val - 1 = k
      omega
  · intro n hn
    simp only [Finset.mem_filter, Finset.mem_range] at hn
    congr 1
    show n + 16 = s.val + (17 - L) + (n + L - s.val - 1)
    omega

theorem ref_groups (b : Fin 8) (s : Fin 8192) (g : Fin 4) (k : Fin 128) :
    val_main_v0 (F := Ideal) x2 (ix4 b s g k) = x2 (ix3 b s ⟨g.val * 128 + k.val, by omega⟩) := by
  have hb := b.isLt
  have hs := s.isLt
  have hg := g.isLt
  have hk := k.isLt
  rw [val_main_v0_apply]
  refine congrArg x2 (funext fun a => Fin.ext ?_)
  fin_cases a
  · show (((b.val * 8192 + s.val) * 4 + g.val) * 128 + k.val) / 4194304 = b.val; omega
  · show (((b.val * 8192 + s.val) * 4 + g.val) * 128 + k.val) / 512 % 8192 = s.val; omega
  · show (((b.val * 8192 + s.val) * 4 + g.val) * 128 + k.val) % 512 = g.val * 128 + k.val; omega

theorem ref_count (b : Fin 8) (s : Fin 8192) (g : Fin 4) (k : Fin 128) :
    val_main_v33 (F := Ideal) (ix4 b s g k) = count s.val (2 * 2 ^ g.val) := by
  have hs := s.isLt
  have hg := window_le g
  rw [val_main_v33_apply, val_main_v32_apply, val_main_v31_apply, val_main_v30_apply, val_main_v28_apply, val_main_v29_apply, val_main_v26_apply,
    val_main_v24_apply, val_main_v25_apply, val_main_v27_apply, val_main_v3_apply, val_main_v1_apply, val_main_v2_apply, val_main_c_apply,
    val_main_c_1_apply, val_main_v4_apply]
  show FloatOps.sitofp (F := Ideal) FTy.f32 (IntOp.minsi (BitVec.ofNat 32 s.val + BitVec.ofNat 32 1) (IntOp.shli .host 2#32 (BitVec.ofNat 32 g.val))) = _
  rw [word_window, ← BitVec.ofNat_add, min_word _ _ (by omega) (by omega)]
  rfl

theorem ref_mean (b : Fin 8) (s : Fin 8192) (g : Fin 4) (k : Fin 128) :
    val_main_v35 (F := Ideal) x2 (ix4 b s g k) = meanAt x2 (2 * 2 ^ g.val) b s ⟨g.val * 128 + k.val, by omega⟩ := by
  have hg := window_le g
  rw [val_main_v35_apply, val_main_v34_apply, val_main_v23_apply, val_main_v22_apply, ref_count, ref_groups]
  unfold meanAt
  rw [← window_sum x2 b s _ _ hg.1 hg.2]
  refine congrArg (fun z => Ideal.div z _ - _) (Finset.sum_congr rfl fun t _ => ?_)
  rw [show lidx_main_v22 (idx_main_v23 (ix4 b s g k)) t = ix4 b t g k from funext fun a => by fin_cases a <;> rfl,
    show ridx_main_v22 (idx_main_v23 (ix4 b s g k)) t = ix3 g s t from funext fun a => by fin_cases a <;> rfl, ref_groups, ref_mask]

theorem ref_map (b : Fin 8) (s : Fin 8192) (c : Fin 512) :
    val_main_v39 (F := Ideal) x2 x3 (ix3 b s c) = mapAt x2 x3 b s c := by
  have hb := b.isLt
  have hs := s.isLt
  have hc := c.isLt
  have e : idx_main_v39 (ix3 b s c) = ix4 b s (⟨c.val / 128, by omega⟩ : Fin 4) (⟨c.val % 128, by omega⟩ : Fin 128) := by
    funext a
    apply Fin.ext
    fin_cases a
    · show ((b.val * 8192 + s.val) * 512 + c.val) / 4194304 = b.val; omega
    · show ((b.val * 8192 + s.val) * 512 + c.val) / 512 % 8192 = s.val; omega
    · show ((b.val * 8192 + s.val) * 512 + c.val) / 128 % 4 = c.val / 128; omega
    · show ((b.val * 8192 + s.val) * 512 + c.val) % 128 = c.val % 128; omega
  rw [val_main_v39_apply, e, val_main_v38_apply, val_main_v37_apply]
  unfold mapAt
  refine Finset.sum_congr rfl fun k _ => ?_
  have hk := k.isLt
  rw [show ridx_main_v37 (idx_main_v38 (ix4 b s (⟨c.val / 128, by omega⟩ : Fin 4) (⟨c.val % 128, by omega⟩ : Fin 128))) k
      = ix4 b s (⟨c.val / 128, by omega⟩ : Fin 4) k from funext fun a => by fin_cases a <;> rfl, ref_mean, val_main_v36_apply]
  refine (mul_comm _ _).trans (congrArg (_ * x3 ·) (funext fun a => Fin.ext ?_))
  fin_cases a
  · rfl
  · show ((c.val / 128 * 128 + k.val) * 128 + c.val % 128) / 16384 % 4 = c.val / 128; omega
  · show ((c.val / 128 * 128 + k.val) * 128 + c.val % 128) / 128 % 128 = k.val; omega
  · show ((c.val / 128 * 128 + k.val) * 128 + c.val % 128) % 128 = c.val % 128; omega

theorem ref_scaled (b : Fin 8) (s : Fin 8192) (c : Fin 512) :
    val_main_v43 (F := Ideal) x2 x3 x4 (ix3 b s c) = mapAt x2 x3 b s c * x4 (ix2 0 c) := by
  rw [val_main_v43_apply, ref_map, val_main_v42_apply, val_main_v41_apply, val_main_v40_apply]
  refine congrArg (mapAt x2 x3 b s c * x4 ·) (funext fun a => Fin.ext ?_)
  fin_cases a
  · rfl
  · exact Nat.mod_eq_of_lt c.isLt

theorem ref_cat (b : Fin 8) (s : Fin 8192) (k : Fin 1024) :
    val_main_v45 (F := Ideal) x1 x2 x3 x4 (ix3 b s k) = catAt x1 x2 x3 x4 b s k := by
  unfold val_main_v45 catAt catRow
  generalize hy : val_main_v43 (F := Ideal) x2 x3 x4 = y
  have ho : ∀ i, val_main_v44 (F := Ideal) x1 i = x1 i := fun i => rfl
  generalize val_main_v44 (F := Ideal) x1 = o at ho
  pointwise []
  split
  · exact ho _
  · rw [← hy, ref_scaled]

end Cert.OutProj

end
-- ==== Proof.OutProjRefSum.lean ====
/- The output projection's reference: its two results are the target's. -/
module

public import proofs.«01_k».proof.Proof.OutProjRef

@[expose] public section

set_option maxRecDepth 16384

noncomputable section

namespace Cert.OutProj

open Idealize.ShloMosaic
open Cert.Reference3Ideal Cert.Reference3Ideal.Gen Cert.Reference3Ideal.Read
open Cert.Kernel3Ideal.Hand (normRow)

variable (x0 : S8x8192x1024.Idx → Ideal .f32) (x1 : S8x8192x512.Idx → Ideal .bf16) (x2 : S8x8192x512.Idx → Ideal .f32) (x3 : S1x4x128x128.Idx → Ideal .f32)
  (x4 : S1x512.Idx → Ideal .f32) (x5 : S1x1024x1024.Idx → Ideal .f32) (x6 : S1x1024.Idx → Ideal .f32)

theorem ref_sum (b : Fin 8) (s : Fin 8192) (d : Fin 1024) :
    val_main_v48 (F := Ideal) x0 x1 x2 x3 x4 x5 (ix3 b s d) = sumAt x0 x1 x2 x3 x4 x5 b s d := by
  have hd := d.isLt
  rw [val_main_v48_apply, val_main_v47_apply]
  refine congrArg (x0 (ix3 b s d) + ·) (Finset.sum_congr rfl fun k _ => ?_)
  have hk := k.isLt
  rw [show lidx_main_v47 (ix3 b s d) k = ix3 b s k from funext fun a => by fin_cases a <;> rfl, ref_cat, val_main_v46_apply]
  refine congrArg (_ * x5 ·) (funext fun a => Fin.ext ?_)
  fin_cases a
  · rfl
  · show (k.val * 1024 + d.val) / 1024 % 1024 = k.val; omega
  · show (k.val * 1024 + d.val) % 1024 = d.val; omega

theorem ref_norm (b : Fin 8) (s : Fin 8192) (d : Fin 1024) :
    val_main_v62 (F := Ideal) x0 x1 x2 x3 x4 x5 x6 (ix3 b s d) = normAt x0 x1 x2 x3 x4 x5 x6 b s d := by
  rw [val_main_v62_apply, val_main_v58_apply, val_main_v61_apply, val_main_v60_apply, val_main_v59_apply, val_main_v57_apply,
    val_main_v56_apply, val_main_v55_apply, val_main_v53_apply, val_main_v51_apply, val_main_v50_apply, val_main_v52_apply, val_main_v54_apply,
    val_main_cst_2_apply, val_main_cst_3_apply, val_main_cst_4_apply, ref_sum]
  show _ * Ideal.rsqrt (Ideal.div (Ideal.ofBits .f32 0x00000000#32 + _) (Ideal.ofBits .f32 0x44800000#32) + Ideal.ofBits .f32 0x358637BD#32) * x6 _ = _
  rw [Ideal.ofBits_zero_f32, zero_add]
  unfold normAt normRow
  refine congrArg₂ (· * ·) (congrArg (fun z => sumAt x0 x1 x2 x3 x4 x5 b s d * Ideal.rsqrt (Ideal.div z _ + _)) (Finset.sum_congr rfl fun j _ => ?_))
    (congrArg x6 ?_)
  · rw [val_main_v49_apply, show idx_main_v50 (idx_main_v51 (idx_main_v57 (ix3 b s d))) j = ix3 b s j from funext fun a => by fin_cases a <;> rfl,
      ref_sum]
    rfl
  · funext a
    fin_cases a
    · rfl
    · exact Fin.ext (Nat.mod_eq_of_lt d.isLt)

theorem ref_residual : val_main_v48 (F := Ideal) x0 x1 x2 x3 x4 x5 = residual x0 x1 x2 x3 x4 x5 := by
  funext i
  refine (congrArg _ (show i = ix3 (i 0) (i 1) (i 2) from funext fun a => by fin_cases a <;> rfl)).trans ?_
  exact ref_sum x0 x1 x2 x3 x4 x5 (i 0) (i 1) (i 2)

theorem ref_columns : val_main_v65 (F := Ideal) x0 x1 x2 x3 x4 x5 x6 = columns x0 x1 x2 x3 x4 x5 x6 := by
  funext i
  have h0 : (i 0).val < 1024 := (i 0).isLt
  have h1 : (i 1).val < 65536 := (i 1).isLt
  rw [val_main_v65_apply, val_main_v64_apply, val_main_v63_apply]
  unfold columns
  refine Eq.trans ?_ (ref_norm x0 x1 x2 x3 x4 x5 x6 _ _ _)
  show val_main_v62 (F := Ideal) x0 x1 x2 x3 x4 x5 x6 _ = _
  refine congrArg _ (funext fun a => Fin.ext ?_)
  fin_cases a
  · show ((i 1).val * 1024 + (i 0).val) / 8388608 = (i 1).val / 8192; omega
  · show ((i 1).val * 1024 + (i 0).val) / 1024 % 8192 = (i 1).val % 8192; omega
  · show ((i 1).val * 1024 + (i 0).val) % 1024 = (i 0).val; omega

end Cert.OutProj

end
-- ==== Proof.OutProjEqual.lean ====
/- The output projection: the frames of its three programs, and that the kernel and the reference compute the same two results. -/
module

public import proofs.«01_k».proof.Defs
public import proofs.«01_k».proof.Proof.Gen.Kernel3
public import proofs.«01_k».proof.Proof.Gen.Kernel3.Frame
public import proofs.«01_k».proof.Proof.OutProjRun
public import proofs.«01_k».proof.Proof.OutProjRefSum
public import Idealize.ShloMosaic.Lib.Quiescent

@[expose] public section

noncomputable section

open Idealize.ShloMosaic Idealize.SL.Sem

namespace Cert.OutProj

theorem frame_p : Cert.quiescent_Kernel3 := fun m ρ _ => Cert.Kernel3.Gen.frame (F := Bits) m ρ
theorem frame_pi : Cert.quiescent_Kernel3Ideal := fun m ρ _ => Cert.Kernel3Ideal.Gen.frame (F := Ideal) m ρ
theorem frame_ri : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ h
  refine ⟨_, _, Cert.Kernel3Ideal.Hand.out_proj_run m g, ?_⟩
  refine (θ_run Cert.Reference3Ideal.defs _ _).mono (fun r hr c => ?_) (Cert.Reference3Ideal.Value.run (F := Ideal) m' g')
  obtain ⟨h0, h1, h2, h3, h4, h5, h6⟩ := h c
  obtain ⟨r0, r1, hk⟩ := hr c
  refine ⟨r0.trans ?_, r1.trans ?_, hk⟩
  · rw [Cert.Reference3Ideal.Read.val_main_v48_eq, h0, h1, h2, h3, h4, h5, ref_residual]
  · rw [Cert.Reference3Ideal.Read.val_main_v65_eq, h0, h1, h2, h3, h4, h5, h6, ref_columns]

end Cert.OutProj

end
-- ==== Proof.lean ====
module

public import proofs.«01_k».proof.Proof.Claims
public import proofs.«01_k».proof.Proof.Equal
public import proofs.«01_k».proof.Proof.InProjEqual
public import proofs.«01_k».proof.Proof.OutProjEqual

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    frame_p, frame_pi, frame_ri, InProj.frame_p, InProj.frame_pi, InProj.frame_ri,
    OutProj.frame_p, OutProj.frame_pi, OutProj.frame_ri,
    preserves, algebraic, InProj.preserves, InProj.algebraic, OutProj.preserves, OutProj.algebraic⟩

end Cert.Proof
